-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  IdealRules.named_const.Statement Cert.KernelIdeal.κ "c1" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥
  ∧ IdealRules.named_const.Statement Cert.Kernel7Ideal.κ "c1" .f32 0x3E0293EE#32 (((Real.sqrt 128)⁻¹ * (Real.log 2)⁻¹ : ℝ) : EReal)
  ∧ IdealRules.named_const.Statement Cert.Kernel7Ideal.κ "log2e" .f32 0x3FB8AA3B#32 (((Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v44) = v1 c
          ∧ r.2.mem ((c.tc : Thread Cert.Reference7Ideal.nD Cert.Reference7Ideal.τ).loc Cert.Reference7Ideal.main_v83) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v1) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v37) = v0 c
          ∧ r.2.mem ((c.tc : Thread Cert.Reference10Ideal.nD Cert.Reference10Ideal.τ).loc Cert.Reference10Ideal.main_v38) = v1 c
          ∧ r.2.mem ((c.tc : Thread Cert.Reference10Ideal.nD Cert.Reference10Ideal.τ).loc Cert.Reference10Ideal.main_v40) = v2 c
          ∧ r.2.mem ((c.tc : Thread Cert.Reference10Ideal.nD Cert.Reference10Ideal.τ).loc Cert.Reference10Ideal.main_v22) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v3)) (v4 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v3) = v3 c
          ∧ r.2.mem ((c.tc : Thread Cert.Kernel11Ideal.nD Cert.Kernel11Ideal.τ).loc Cert.Kernel11Ideal.main_v4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v51) = v0 c
          ∧ r.2.mem ((c.tc : Thread Cert.Reference11Ideal.nD Cert.Reference11Ideal.τ).loc Cert.Reference11Ideal.main_v52) = v1 c
          ∧ r.2.mem ((c.tc : Thread Cert.Reference11Ideal.nD Cert.Reference11Ideal.τ).loc Cert.Reference11Ideal.main_v54) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_v37) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x6144 : Shape := ⟨2, ![8192, 6144]⟩
abbrev S8192x16 : Shape := ⟨2, ![8192, 16]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x6144 .bf16) (main_arg1 : FVec F S8192x16 .f32) (main_arg2 : FVec F S8192x2048 .bf16) : IVec S_ 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x2048 .bf16 := Host.absf main_arg2
  let main_cst_2 : FVec F S_ .bf16 := constant S_ .bf16 0x7F80#16
  let main_v10 : FVec F S8192x2048 .bf16 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_finite2.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Pre_finite7.lean ====
abbrev S8192x6144 : Shape := ⟨2, ![8192, 6144]⟩
abbrev S8192x2048 : Shape := ⟨2, ![8192, 2048]⟩
abbrev S8192x16 : Shape := ⟨2, ![8192, 16]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x6144 .bf16) (main_arg1 : FVec F S8192x2048 .f32) (main_arg2 : FVec F S8192x16 .f32) : IVec S_ 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x16 .f32 := Host.absf main_arg2
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== Kernel.lean ====
abbrev S8192x6144 : Shape := ⟨2, ![8192, 6144]⟩
abbrev S8192x16 : Shape := ⟨2, ![8192, 16]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S16x8192 : Shape := ⟨2, ![16, 8192]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192x1 : Shape := ⟨3, ![16, 8192, 1]⟩
abbrev S16x8x1x1024 : Shape := ⟨4, ![16, 8, 1, 1024]⟩
abbrev S16x8x8x1024 : Shape := ⟨4, ![16, 8, 8, 1024]⟩
abbrev S8192x128 : Shape := ⟨2, ![8192, 128]⟩
abbrev S1024x128 : Shape := ⟨2, ![1024, 128]⟩
abbrev S1x8x1x1024 : Shape := ⟨4, ![1, 8, 1, 1024]⟩
abbrev S1x8x8x1024 : Shape := ⟨4, ![1, 8, 8, 1024]⟩
abbrev S1024x1 : Shape := ⟨2, ![1024, 1]⟩
abbrev S1024x1024 : Shape := ⟨2, ![1024, 1024]⟩
abbrev S1x1x1x1024 : Shape := ⟨4, ![1, 1, 1, 1024]⟩
abbrev S1x1024 : Shape := ⟨2, ![1, 1024]⟩
abbrev S1x1x8x1024 : Shape := ⟨4, ![1, 1, 8, 1024]⟩
abbrev S8x1024 : Shape := ⟨2, ![8, 1024]⟩
abbrev S128x8x1024 : Shape := ⟨3, ![128, 8, 1024]⟩
abbrev S1024 : Shape := ⟨1, ![1024]⟩
abbrev S16x8x1024 : Shape := ⟨3, ![16, 8, 1024]⟩

abbrev nBuf : Space → Nat
  | .hbm => 80
  | .vmem => 23
  | .smem => 0
  | _ => 0

abbrev bufTy : (tb : Table) → Fin (tcTables nBuf tb) → BufTy
  | .hbm, ⟨0, _⟩ => ⟨S8192x6144, .bf16⟩
  | .hbm, ⟨1, _⟩ => ⟨S8192x16, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8192x16x128, .f32⟩
  | .hbm, ⟨6, _⟩ => ⟨S16x8192x128, .f32⟩
  | .hbm, ⟨7, _⟩ => ⟨S8192x2048, .bf16⟩
  | .hbm, ⟨8, _⟩ => ⟨S8192x2048, .f32⟩
  | .hbm, ⟨9, _⟩ => ⟨S8192x16x128, .f32⟩
  | .hbm, ⟨10, _⟩ => ⟨S16x8192x128, .f32⟩
  | .hbm, ⟨11, _⟩ => ⟨S8192x2048, .bf16⟩
  | .hbm, ⟨12, _⟩ => ⟨S8192x2048, .f32⟩
  | .hbm, ⟨13, _⟩ => ⟨S8192x16x128, .f32⟩
  | .hbm, ⟨14, _⟩ => ⟨S16x8192x128, .f32⟩
  | .hbm, ⟨15, _⟩ => ⟨S16x8192x8192, .f32⟩
  | .hbm, ⟨16, _⟩ => ⟨S_, .f32⟩
  | .hbm, ⟨17, _⟩ => ⟨S_, .f32⟩
  | .hbm, ⟨18, _⟩ => ⟨S16x8192x8192, .f32⟩
  | .hbm, ⟨19, _⟩ => ⟨S16x8192x8192, .f32⟩
  | .hbm, ⟨20, _⟩ => ⟨S16x8192, .f32⟩
  | .hbm, ⟨21, _⟩ => ⟨S16x1x8192, .f32⟩
  | .hbm, ⟨22, _⟩ => ⟨S16x8192x8192, .f32⟩
  | .hbm, ⟨23, _⟩ => ⟨S16x8192x8192, .f32⟩
  | .hbm, ⟨24, _⟩ => ⟨S8192, .i32⟩
  | .hbm, ⟨25, _⟩ => ⟨S8192x1, .i32⟩
  | .hbm, ⟨26, _⟩ => ⟨S1x8192, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S16x8192x8192, .i1⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S16x8192x1, .f32⟩
  | .hbm, ⟨44, _⟩ => ⟨S16x8192x8192, .f32⟩
  | .hbm, ⟨45, _⟩ => ⟨S16x8192x8192, .f32⟩
  | .hbm, ⟨46, _⟩ => ⟨S16x8192x128, .f32⟩
  | .hbm, ⟨47, _⟩ => ⟨S16x8192x1, .f32⟩
  | .hbm, ⟨48, _⟩ => ⟨S16x8192x1, .f32⟩
  | .hbm, ⟨49, _⟩ => ⟨S_, .f32⟩
  | .hbm, ⟨50, _⟩ => ⟨S_, .f32⟩
  | .hbm, ⟨51, _⟩ => ⟨S16x8192x1, .f32⟩
  | .hbm, ⟨52, _⟩ => ⟨S16x8192x1, .f32⟩
  | .hbm, ⟨53, _⟩ => ⟨S16x8192x128, .f32⟩
  | .hbm, ⟨54, _⟩ => ⟨S8192x16x128, .f32⟩
  | .hbm, ⟨55, _⟩ => ⟨S8192x2048, .f32⟩
  | .hbm, ⟨56, _⟩ => ⟨S8192x2048, .f32⟩
  | .hbm, ⟨57, _⟩ => ⟨S8192x16x128, .f32⟩
  | .hbm, ⟨58, _⟩ => ⟨S16x8192x128, .f32⟩
  | .hbm, ⟨59, _⟩ => ⟨S16x8192x128, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x128, .f32⟩
  | .hbm, ⟨64, _⟩ => ⟨S8192x16x128, .f32⟩
  | .hbm, ⟨65, _⟩ => ⟨S8192x2048, .f32⟩
  | .hbm, ⟨66, _⟩ => ⟨S8192x16, .f32⟩
  | .hbm, ⟨67, _⟩ => ⟨S16x8192, .f32⟩
  | .hbm, ⟨68, _⟩ => ⟨S16x8x1x1024, .f32⟩
  | .hbm, ⟨69, _⟩ => ⟨S8192x2048, .bf16⟩
  | .hbm, ⟨70, _⟩ => ⟨S8192x2048, .bf16⟩
  | .hbm, ⟨71, _⟩ => ⟨S8192x2048, .bf16⟩
  | .hbm, ⟨72, _⟩ => ⟨S16x8x8x1024, .f32⟩
  | .hbm, ⟨73, _⟩ => ⟨S8192x128, .f32⟩
  | .hbm, ⟨74, _⟩ => ⟨S8192x16, .f32⟩
  | .hbm, ⟨75, _⟩ => ⟨S_, .f32⟩
  | .hbm, ⟨76, _⟩ => ⟨S16x8x1024, .f32⟩
  | .hbm, ⟨77, _⟩ => ⟨S16x8192, .f32⟩
  | .hbm, ⟨78, _⟩ => ⟨S8192x16, .f32⟩
  | .hbm, ⟨79, _⟩ => ⟨S8192x16, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S1x8x1x1024, .f32⟩
  | .local _ .vmem, ⟨5, _⟩ => ⟨S1x8x1x1024, .f32⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .bf16⟩
  | .local _ .vmem, ⟨13, _⟩ => ⟨S1024x128, .bf16⟩
  | .local _ .vmem, ⟨14, _⟩ => ⟨S8192x128, .bf16⟩
  | .local _ .vmem, ⟨15, _⟩ => ⟨S8192x128, .bf16⟩
  | .local _ .vmem, ⟨16, _⟩ => ⟨S1x8x8x1024, .f32⟩
  | .local _ .vmem, ⟨17, _⟩ => ⟨S1x8x8x1024, .f32⟩
  | .local _ .vmem, ⟨18, _⟩ => ⟨S8192x128, .f32⟩
  | .local _ .vmem, ⟨19, _⟩ => ⟨S1024x128, .f32⟩
  | .local _ .vmem, ⟨20, _⟩ => ⟨S8192x128, .f32⟩
  | .local _ .vmem, ⟨21, _⟩ => ⟨S8192x128, .f32⟩
  | .local _ .vmem, ⟨22, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57_0 : Ref sig .tc := ⟨.hbm, 69, rfl⟩
abbrev main_v57_1 : Ref sig .tc := ⟨.hbm, 70, rfl⟩
abbrev main_v57_2 : Ref sig .tc := ⟨.hbm, 71, rfl⟩
abbrev main_v57_3 : Ref sig .tc := ⟨.hbm, 72, rfl⟩
abbrev main_v57_4 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_25 : BitVec 32 := 1#32
  ⟨c0_i32_23, v49, c1_i32_25⟩
def k0_mult1 (i : grid0.Coords) (k0_t1 : Fin (k0_t1_loop i).trips) : BitVec 32 :=
  let c4_i32_83 : BitVec 32 := 4#32
  let c0_i32_23 : BitVec 32 := 0#32
  let c1_i32_25 : BitVec 32 := 1#32
  let arg18 : BitVec 32 := Scf.iv c0_i32_23 c1_i32_25 k0_t1
  let v163 : BitVec 32 := Scalar.muli c4_i32_83 arg18
  let c0_i32_84 : BitVec 32 := 0#32
  let v164 : BitVec 32 := Scalar.addi v163 c0_i32_84
  let c1024_i32_85 : BitVec 32 := 1024#32
  let v165 : BitVec 32 := Scalar.muli v164 c1024_i32_85
  v165
def k0_off1 (i : grid0.Coords) (k0_t1 : Fin (k0_t1_loop i).trips) (c0_i32_84 : BitVec 32) : Fin 2 → Nat :=
  let c4_i32_83 : BitVec 32 := 4#32
  let c0_i32_23 : BitVec 32 := 0#32
  let c1_i32_25 : BitVec 32 := 1#32
  let arg18 : BitVec 32 := Scf.iv c0_i32_23 c1_i32_25 k0_t1
  let v163 : BitVec 32 := Scalar.muli c4_i32_83 arg18
  let v164 : BitVec 32 := Scalar.addi v163 c0_i32_84
  let c1024_i32_85 : BitVec 32 := 1024#32
  let v165 : BitVec 32 := Scalar.muli v164 c1024_i32_85
  let v166 : BitVec 32 := v165
  let v167 : Index := Scalar.indexCast v166
  let c0_86 : Index := 0#32
  ![v167.toNat, 0]
def k0_off2 (i : grid0.Coords) (k0_t1 : Fin (k0_t1_loop i).trips) (c0_i32_84 : BitVec 32) : Fin 4 → Nat :=
  let c0_89 : Index := 0#32
  let c4_i32_83 : BitVec 32 := 4#32
  let c0_i32_23 : BitVec 32 := 0#32
  let c1_i32_25 : BitVec 32 := 1#32
  let arg18 : BitVec 32 := Scf.iv c0_i32_23 c1_i32_25 k0_t1
  let v163 : BitVec 32 := Scalar.muli c4_i32_83 arg18
  let v164 : BitVec 32 := Scalar.addi v163 c0_i32_84
  let v172 : Index := Scalar.indexCast v164
  let c0_90 : Index := 0#32
  let c0_91 : Index := 0#32
  ![0, v172.toNat, 0, 0]
def k0_off3 (i : grid0.Coords) (k0_t1 : Fin (k0_t1_loop i).trips) (c0_i32_84 : BitVec 32) : Fin 4 → Nat :=
  let c0_97 : Index := 0#32
  let c4_i32_83 : BitVec 32 := 4#32
  let c0_i32_23 : BitVec 32 := 0#32
  let c1_i32_25 : BitVec 32 := 1#32
  let arg18 : BitVec 32 := Scf.iv c0_i32_23 c1_i32_25 k0_t1
  let v163 : BitVec 32 := Scalar.muli c4_i32_83 arg18
  let v164 : BitVec 32 := Scalar.addi v163 c0_i32_84
  let v195 : Index := Scalar.indexCast v164
  let c0_98 : Index := 0#32
  let c0_99 : Index := 0#32
  ![0, v195.toNat, 0, 0]
def k0_mult2 (i : grid0.Coords) (k0_t1 : Fin (k0_t1_loop i).trips) : BitVec 32 :=
  let c4_i32_118 : BitVec 32 := 4#32
  let c0_i32_23 : BitVec 32 := 0#32
  let c1_i32_25 : BitVec 32 := 1#32
  let arg18 : BitVec 32 := Scf.iv c0_i32_23 c1_i32_25 k0_t1
  let v230 : BitVec 32 := Scalar.muli c4_i32_118 arg18
  let c1_i32_119 : BitVec 32 := 1#32
  let v231 : BitVec 32 := Scalar.addi v230 c1_i32_119
  let c1024_i32_120 : BitVec 32 := 1024#32
  let v232 : BitVec 32 := Scalar.muli v231 c1024_i32_120
  v232
def k0_mult3 (i : grid0.Coords) (k0_t1 : Fin (k0_t1_loop i).trips) : BitVec 32 :=
  let c4_i32_153 : BitVec 32 := 4#32
  let c0_i32_23 : BitVec 32 := 0#32
  let c1_i32_25 : BitVec 32 := 1#32
  let arg18 : BitVec 32 := Scf.iv c0_i32_23 c1_i32_25 k0_t1
  let v297 : BitVec 32 := Scalar.muli c4_i32_153 arg18
  let c2_i32 : BitVec 32 := 2#32
  let v298 : BitVec 32 := Scalar.addi v297 c2_i32
  let c1024_i32_154 : BitVec 32 := 1024#32
  let v299 : BitVec 32 := Scalar.muli v298 c1024_i32_154
  v299
def k0_mult4 (i : grid0.Coords) (k0_t1 : Fin (k0_t1_loop i).trips) : BitVec 32 :=
  let c4_i32_187 : BitVec 32 := 4#32
  let c0_i32_23 : BitVec 32 := 0#32
  let c1_i32_25 : BitVec 32 := 1#32
  let arg18 : BitVec 32 := Scf.iv c0_i32_23 c1_i32_25 k0_t1
  let v364 : BitVec 32 := Scalar.muli c4_i32_187 arg18
  let c3_i32 : BitVec 32 := 3#32
  let v365 : BitVec 32 := Scalar.addi v364 c3_i32
  let c1024_i32_188 : BitVec 32 := 1024#32
  let v366 : BitVec 32 := Scalar.muli v365 c1024_i32_188
  v366
@[reducible] def k0_t2_loop (i : grid0.Coords) : Scf.Loop 32 :=
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let v46 : BitVec 32 := Scalar.addi c0_i32_23 v45
  let c1_i32_26 : BitVec 32 := 1#32
  ⟨v49, v46, c1_i32_26⟩
def k0_mult5 (i : grid0.Coords) (k0_t2 : Fin (k0_t2_loop i).trips) : BitVec 32 :=
  let c4_i32_83 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v163 : BitVec 32 := Scalar.muli c4_i32_83 arg18
  let c0_i32_84 : BitVec 32 := 0#32
  let v164 : BitVec 32 := Scalar.addi v163 c0_i32_84
  let c1024_i32_85 : BitVec 32 := 1024#32
  let v165 : BitVec 32 := Scalar.muli v164 c1024_i32_85
  v165
def k0_off4 (i : grid0.Coords) (k0_t2 : Fin (k0_t2_loop i).trips) (c0_i32_84 : BitVec 32) : Fin 2 → Nat :=
  let c4_i32_83 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v163 : BitVec 32 := Scalar.muli c4_i32_83 arg18
  let v164 : BitVec 32 := Scalar.addi v163 c0_i32_84
  let c1024_i32_85 : BitVec 32 := 1024#32
  let v165 : BitVec 32 := Scalar.muli v164 c1024_i32_85
  let v166 : BitVec 32 := v165
  let v167 : Index := Scalar.indexCast v166
  let c0_86 : Index := 0#32
  ![v167.toNat, 0]
def k0_off5 (i : grid0.Coords) (k0_t2 : Fin (k0_t2_loop i).trips) (c0_i32_84 : BitVec 32) : Fin 4 → Nat :=
  let c0_89 : Index := 0#32
  let c4_i32_83 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v163 : BitVec 32 := Scalar.muli c4_i32_83 arg18
  let v164 : BitVec 32 := Scalar.addi v163 c0_i32_84
  let v172 : Index := Scalar.indexCast v164
  let c0_90 : Index := 0#32
  let c0_91 : Index := 0#32
  ![0, v172.toNat, 0, 0]
def k0_off6 (i : grid0.Coords) (k0_t2 : Fin (k0_t2_loop i).trips) (c0_i32_84 : BitVec 32) : Fin 4 → Nat :=
  let c0_97 : Index := 0#32
  let c4_i32_83 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v163 : BitVec 32 := Scalar.muli c4_i32_83 arg18
  let v164 : BitVec 32 := Scalar.addi v163 c0_i32_84
  let v195 : Index := Scalar.indexCast v164
  let c0_98 : Index := 0#32
  let c0_99 : Index := 0#32
  ![0, v195.toNat, 0, 0]
def k0_mult6 (i : grid0.Coords) (k0_t2 : Fin (k0_t2_loop i).trips) : BitVec 32 :=
  let c4_i32_118 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v230 : BitVec 32 := Scalar.muli c4_i32_118 arg18
  let c1_i32_119 : BitVec 32 := 1#32
  let v231 : BitVec 32 := Scalar.addi v230 c1_i32_119
  let c1024_i32_120 : BitVec 32 := 1024#32
  let v232 : BitVec 32 := Scalar.muli v231 c1024_i32_120
  v232
def k0_mult7 (i : grid0.Coords) (k0_t2 : Fin (k0_t2_loop i).trips) : BitVec 32 :=
  let c4_i32_153 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v297 : BitVec 32 := Scalar.muli c4_i32_153 arg18
  let c2_i32 : BitVec 32 := 2#32
  let v298 : BitVec 32 := Scalar.addi v297 c2_i32
  let c1024_i32_154 : BitVec 32 := 1024#32
  let v299 : BitVec 32 := Scalar.muli v298 c1024_i32_154
  v299
def k0_mult8 (i : grid0.Coords) (k0_t2 : Fin (k0_t2_loop i).trips) : BitVec 32 :=
  let c4_i32_187 : BitVec 32 := 4#32
  let c0_i32_23 : BitVec 32 := 0#32
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .slt arg1 c0_i32_18
  let v32 : BitVec 32 := Scalar.extui v31
  let v33 : BitVec 32 := Scalar.subi v30 v32
  let c4_i32 : BitVec 32 := 4#32
  let c0_i32_19 : BitVec 32 := 0#32
  let v34 : BitVec 1 := Scalar.cmpi .sgt c4_i32 c0_i32_19
  let v35 : BitVec 32 := Scalar.extui v34
  let c0_i32_20 : BitVec 32 := 0#32
  let v36 : BitVec 1 := Scalar.cmpi .slt c4_i32 c0_i32_20
  let v37 : BitVec 32 := Scalar.extui v36
  let v38 : BitVec 32 := Scalar.subi v35 v37
  let v39 : BitVec 1 := Scalar.cmpi .ne v33 v38
  let v40 : BitVec 32 := Scalar.remsi arg1 c4_i32
  let c0_i32_21 : BitVec 32 := 0#32
  let v41 : BitVec 1 := Scalar.cmpi .ne v40 c0_i32_21
  let v42 : BitVec 1 := Scalar.andi v39 v41
  let v28 : BitVec 32 := Scalar.divsi arg1 c4_i32
  let c1_i32 : BitVec 32 := 1#32
  let v43 : BitVec 32 := Scalar.subi v28 c1_i32
  let v44 : BitVec 32 := Scalar.select v42 v43 v28
  let v45 : BitVec 32 := Scalar.subi v44 c0_i32_23
  let c1_i32_24 : BitVec 32 := 1#32
  let v47 : BitVec 32 := Scalar.divsi v45 c1_i32_24
  let v48 : BitVec 32 := Scalar.muli v47 c1_i32_24
  let v49 : BitVec 32 := Scalar.addi c0_i32_23 v48
  let c1_i32_26 : BitVec 32 := 1#32
  let arg18 : BitVec 32 := Scf.iv v49 c1_i32_26 k0_t2
  let v364 : BitVec 32 := Scalar.muli c4_i32_187 arg18
  let c3_i32 : BitVec 32 := 3#32
  let v365 : BitVec 32 := Scalar.addi v364 c3_i32
  let c1024_i32_188 : BitVec 32 := 1024#32
  let v366 : BitVec 32 := Scalar.muli v365 c1024_i32_188
  v366
@[reducible] def k0_t3_loop (i : grid0.Coords) : Scf.Loop 32 :=
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let v68 : BitVec 32 := Scalar.subi arg1 v67
  let c1_i32_36 : BitVec 32 := 1#32
  let v70 : BitVec 32 := Scalar.divsi v68 c1_i32_36
  let v71 : BitVec 32 := Scalar.muli v70 c1_i32_36
  let v72 : BitVec 32 := Scalar.addi v67 v71
  let c1_i32_37 : BitVec 32 := 1#32
  ⟨v67, v72, c1_i32_37⟩
def k0_mult9 (i : grid0.Coords) (k0_t3 : Fin (k0_t3_loop i).trips) : BitVec 32 :=
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let c1_i32_37 : BitVec 32 := 1#32
  let arg18 : BitVec 32 := Scf.iv v67 c1_i32_37 k0_t3
  let c1024_i32_83 : BitVec 32 := 1024#32
  let v163 : BitVec 32 := Scalar.muli arg18 c1024_i32_83
  v163
def k0_off7 (i : grid0.Coords) (k0_t3 : Fin (k0_t3_loop i).trips) : Fin 2 → Nat :=
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let c1_i32_37 : BitVec 32 := 1#32
  let arg18 : BitVec 32 := Scf.iv v67 c1_i32_37 k0_t3
  let c1024_i32_83 : BitVec 32 := 1024#32
  let v163 : BitVec 32 := Scalar.muli arg18 c1024_i32_83
  let v164 : BitVec 32 := v163
  let v165 : Index := Scalar.indexCast v164
  let c0_84 : Index := 0#32
  ![v165.toNat, 0]
def k0_off8 (i : grid0.Coords) (k0_t3 : Fin (k0_t3_loop i).trips) : Fin 4 → Nat :=
  let c0_87 : Index := 0#32
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let c1_i32_37 : BitVec 32 := 1#32
  let arg18 : BitVec 32 := Scf.iv v67 c1_i32_37 k0_t3
  let v170 : Index := Scalar.indexCast arg18
  let c0_88 : Index := 0#32
  let c0_89 : Index := 0#32
  ![0, v170.toNat, 0, 0]
def k0_off9 (i : grid0.Coords) (k0_t3 : Fin (k0_t3_loop i).trips) : Fin 4 → Nat :=
  let c0_95 : Index := 0#32
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let c1_i32_37 : BitVec 32 := 1#32
  let arg18 : BitVec 32 := Scf.iv v67 c1_i32_37 k0_t3
  let v193 : Index := Scalar.indexCast arg18
  let c0_96 : Index := 0#32
  let c0_97 : Index := 0#32
  ![0, v193.toNat, 0, 0]
@[reducible] def k0_t4_loop (i : grid0.Coords) : Scf.Loop 32 :=
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let v68 : BitVec 32 := Scalar.subi arg1 v67
  let c1_i32_36 : BitVec 32 := 1#32
  let v70 : BitVec 32 := Scalar.divsi v68 c1_i32_36
  let v71 : BitVec 32 := Scalar.muli v70 c1_i32_36
  let v72 : BitVec 32 := Scalar.addi v67 v71
  let v69 : BitVec 32 := Scalar.addi v67 v68
  let c1_i32_38 : BitVec 32 := 1#32
  ⟨v72, v69, c1_i32_38⟩
def k0_mult10 (i : grid0.Coords) (k0_t4 : Fin (k0_t4_loop i).trips) : BitVec 32 :=
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let v68 : BitVec 32 := Scalar.subi arg1 v67
  let c1_i32_36 : BitVec 32 := 1#32
  let v70 : BitVec 32 := Scalar.divsi v68 c1_i32_36
  let v71 : BitVec 32 := Scalar.muli v70 c1_i32_36
  let v72 : BitVec 32 := Scalar.addi v67 v71
  let c1_i32_38 : BitVec 32 := 1#32
  let arg18 : BitVec 32 := Scf.iv v72 c1_i32_38 k0_t4
  let c1024_i32_83 : BitVec 32 := 1024#32
  let v163 : BitVec 32 := Scalar.muli arg18 c1024_i32_83
  v163
def k0_off10 (i : grid0.Coords) (k0_t4 : Fin (k0_t4_loop i).trips) : Fin 2 → Nat :=
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let v68 : BitVec 32 := Scalar.subi arg1 v67
  let c1_i32_36 : BitVec 32 := 1#32
  let v70 : BitVec 32 := Scalar.divsi v68 c1_i32_36
  let v71 : BitVec 32 := Scalar.muli v70 c1_i32_36
  let v72 : BitVec 32 := Scalar.addi v67 v71
  let c1_i32_38 : BitVec 32 := 1#32
  let arg18 : BitVec 32 := Scf.iv v72 c1_i32_38 k0_t4
  let c1024_i32_83 : BitVec 32 := 1024#32
  let v163 : BitVec 32 := Scalar.muli arg18 c1024_i32_83
  let v164 : BitVec 32 := v163
  let v165 : Index := Scalar.indexCast v164
  let c0_84 : Index := 0#32
  ![v165.toNat, 0]
def k0_off11 (i : grid0.Coords) (k0_t4 : Fin (k0_t4_loop i).trips) : Fin 4 → Nat :=
  let c0_87 : Index := 0#32
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let v68 : BitVec 32 := Scalar.subi arg1 v67
  let c1_i32_36 : BitVec 32 := 1#32
  let v70 : BitVec 32 := Scalar.divsi v68 c1_i32_36
  let v71 : BitVec 32 := Scalar.muli v70 c1_i32_36
  let v72 : BitVec 32 := Scalar.addi v67 v71
  let c1_i32_38 : BitVec 32 := 1#32
  let arg18 : BitVec 32 := Scf.iv v72 c1_i32_38 k0_t4
  let v170 : Index := Scalar.indexCast arg18
  let c0_88 : Index := 0#32
  let c0_89 : Index := 0#32
  ![0, v170.toNat, 0, 0]
def k0_off12 (i : grid0.Coords) (k0_t4 : Fin (k0_t4_loop i).trips) : Fin 4 → Nat :=
  let c0_95 : Index := 0#32
  let arg1 : BitVec 32 := BitVec.ofNat 32 (i 1).val
  let c0_i32_28 : BitVec 32 := 0#32
  let v51 : BitVec 1 := Scalar.cmpi .sgt arg1 c0_i32_28
  let v52 : BitVec 32 := Scalar.extui v51
  let c0_i32_29 : BitVec 32 := 0#32
  let v53 : BitVec 1 := Scalar.cmpi .slt arg1 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi arg1 c4_i32_27
  let c0_i32_32 : BitVec 32 := 0#32
  let v63 : BitVec 1 := Scalar.cmpi .ne v62 c0_i32_32
  let v64 : BitVec 1 := Scalar.andi v61 v63
  let v50 : BitVec 32 := Scalar.divsi arg1 c4_i32_27
  let c1_i32_33 : BitVec 32 := 1#32
  let v65 : BitVec 32 := Scalar.subi v50 c1_i32_33
  let v66 : BitVec 32 := Scalar.select v64 v65 v50
  let c4_i32_34 : BitVec 32 := 4#32
  let v67 : BitVec 32 := Scalar.muli v66 c4_i32_34
  let v68 : BitVec 32 := Scalar.subi arg1 v67
  let c1_i32_36 : BitVec 32 := 1#32
  let v70 : BitVec 32 := Scalar.divsi v68 c1_i32_36
  let v71 : BitVec 32 := Scalar.muli v70 c1_i32_36
  let v72 : BitVec 32 := Scalar.addi v67 v71
  let c1_i32_38 : BitVec 32 := 1#32
  let arg18 : BitVec 32 := Scf.iv v72 c1_i32_38 k0_t4
  let v193 : Index := Scalar.indexCast arg18
  let c0_96 : Index := 0#32
  let c0_97 : Index := 0#32
  ![0, v193.toNat, 0, 0]
def k0_mult11 (i : grid0.Coords) : BitVec 32 :=
  let arg1 : BitVec 32 := BitVec.ofNat 32 (i 1).val
  let c1024_i32 : BitVec 32 := 1024#32
  let v73 : BitVec 32 := Scalar.muli arg1 c1024_i32
  v73
def k0_off13 (i : grid0.Coords) : Fin 2 → Nat :=
  let arg1 : BitVec 32 := BitVec.ofNat 32 (i 1).val
  let c1024_i32 : BitVec 32 := 1024#32
  let v73 : BitVec 32 := Scalar.muli arg1 c1024_i32
  let v74 : BitVec 32 := v73
  let v75 : Index := Scalar.indexCast v74
  let c0_39 : Index := 0#32
  ![v75.toNat, 0]
def k0_off14 (i : grid0.Coords) : Fin 4 → Nat :=
  let c0_42 : Index := 0#32
  let arg1 : BitVec 32 := BitVec.ofNat 32 (i 1).val
  let v80 : Index := Scalar.indexCast arg1
  let c0_43 : Index := 0#32
  let c0_44 : Index := 0#32
  ![0, v80.toNat, 0, 0]
def k0_off15 (i : grid0.Coords) : Fin 4 → Nat :=
  let c0_51 : Index := 0#32
  let arg1 : BitVec 32 := BitVec.ofNat 32 (i 1).val
  let v108 : Index := Scalar.indexCast arg1
  let c0_52 : Index := 0#32
  let c0_53 : Index := 0#32
  ![0, v108.toNat, 0, 0]
def k0_mult12 (i : grid0.Coords) : BitVec 32 :=
  let arg1 : BitVec 32 := BitVec.ofNat 32 (i 1).val
  let c1024_i32_76 : BitVec 32 := 1024#32
  let v147 : BitVec 32 := Scalar.muli arg1 c1024_i32_76
  v147
def k0_cond3 (i : grid0.Coords) : BitVec 1 :=
  let arg1 : BitVec 32 := BitVec.ofNat 32 (i 1).val
  let c7_i32 : BitVec 32 := 7#32
  let v160 : BitVec 1 := Scalar.cmpi .eq arg1 c7_i32
  let v161 : BitVec 32 := Scalar.extui v160
  let c0_i32_82 : BitVec 32 := 0#32
  let v162 : BitVec 1 := Scalar.cmpi .ne v161 c0_i32_82
  v162

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1x8x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8192x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "c1" => some (((Real.sqrt 128)⁻¹ * (Real.log 2)⁻¹ : ℝ) : EReal)
  | "log2e" => some (((Real.log 2)⁻¹ : ℝ) : EReal)
  | "scale" => some (((Real.sqrt 128)⁻¹ : ℝ) : EReal)
  | _ => none
-- ==== ReferenceIdeal.lean ====
abbrev S8192x6144 : Shape := ⟨2, ![8192, 6144]⟩
abbrev S8192x16 : Shape := ⟨2, ![8192, 16]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192 : Shape := ⟨2, ![16, 8192]⟩
abbrev S_ : Shape := ⟨0, ![]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩

abbrev nBuf : Space → Nat
  | .hbm => 132
  | .vmem => 0
  | .smem => 0
  | _ => 0

abbrev hbmTy0_0 (i : Nat) : BufTy := match i % 128 with
  | 0 => ⟨S8192x6144, .bf16⟩
  | 1 => ⟨S8192x16, .f32⟩
  | 2 => ⟨S8192x2048, .bf16⟩
  | 3 => ⟨S8192x2048, .bf16⟩
  | 4 => ⟨S8192x2048, .bf16⟩
  | 5 => ⟨S8192x2048, .bf16⟩
  | 6 => ⟨S8192x2048, .f32⟩
  | 7 => ⟨S8192x16x128, .f32⟩
  | 8 => ⟨S16x8192x128, .f32⟩
  | 9 => ⟨S8192x2048, .f32⟩
  | 10 => ⟨S8192x16x128, .f32⟩
  | 11 => ⟨S16x8192x128, .f32⟩
  | 12 => ⟨S8192x2048, .f32⟩
  | 13 => ⟨S8192x16x128, .f32⟩
  | 14 => ⟨S16x8192x128, .f32⟩
  | 15 => ⟨S16x8192, .f32⟩
  | 16 => ⟨S_, .f32⟩
  | 17 => ⟨S_, .f32⟩
  | 18 => ⟨S_, .f32⟩
  | 19 => ⟨S_, .f32⟩
  | 20 => ⟨S16x8192x8192, .f32⟩
  | 21 => ⟨S16x8192x8192, .f32⟩
  | 22 => ⟨S16x8192x8192, .f32⟩
  | 23 => ⟨S16x8192x1, .f32⟩
  | 24 => ⟨S16x8192x8192, .f32⟩
  | 25 => ⟨S16x8192x8192, .f32⟩
  | 26 => ⟨S16x1x8192, .f32⟩
  | 27 => ⟨S16x8192x8192, .f32⟩
  | 28 => ⟨S16x8192x8192, .f32⟩
  | 29 => ⟨S8192, .i32⟩
  | 30 => ⟨S8192x1, .i32⟩
  | 31 => ⟨S1x8192, .i32⟩
  | 32 => ⟨S8192x8192, .i32⟩
  | 33 => ⟨S8192x8192, .i32⟩
  | 34 => ⟨S8192x8192, .i1⟩
  | 35 => ⟨S_, .f32⟩
  | 36 => ⟨S_, .f32⟩
  | 37 => ⟨S16x8192x8192, .i1⟩
  | 38 => ⟨S16x8192x8192, .f32⟩
  | 39 => ⟨S16x8192x8192, .f32⟩
  | 40 => ⟨S_, .f32⟩
  | 41 => ⟨S16x8192x8192, .f32⟩
  | 42 => ⟨S_, .f32⟩
  | 43 => ⟨S16x8192, .f32⟩
  | 44 => ⟨S16x8192x1, .f32⟩
  | 45 => ⟨S16x8192x8192, .f32⟩
  | 46 => ⟨S16x8192x8192, .i1⟩
  | 47 => ⟨S16x8192x8192, .f32⟩
  | 48 => ⟨S_, .f32⟩
  | 49 => ⟨S16x8192, .f32⟩
  | 50 => ⟨S_, .f32⟩
  | 51 => ⟨S16x8192, .f32⟩
  | 52 => ⟨S16x8192, .f32⟩
  | 53 => ⟨S_, .f32⟩
  | 54 => ⟨S16x8192, .f32⟩
  | 55 => ⟨S16x8192, .i1⟩
  | 56 => ⟨S_, .f32⟩
  | 57 => ⟨S16x8192, .f32⟩
  | 58 => ⟨S16x8192, .i1⟩
  | 59 => ⟨S_, .f32⟩
  | 60 => ⟨S16x8192, .f32⟩
  | 61 => ⟨S_, .f32⟩
  | 62 => ⟨S16x8192, .f32⟩
  | 63 => ⟨S_, .f32⟩
  | 64 => ⟨S16x8192, .f32⟩
  | 65 => ⟨S16x8192, .f32⟩
  | 66 => ⟨S16x8192, .f32⟩
  | 67 => ⟨S16x8192x1, .f32⟩
  | 68 => ⟨S16x8192x8192, .f32⟩
  | 69 => ⟨S16x8192x8192, .f32⟩
  | 70 => ⟨S16x8192x8192, .f32⟩
  | 71 => ⟨S_, .f32⟩
  | 72 => ⟨S16x8192, .f32⟩
  | 73 => ⟨S16x8192x1, .f32⟩
  | 74 => ⟨S16x8192x8192, .f32⟩
  | 75 => ⟨S16x8192x8192, .f32⟩
  | 76 => ⟨S16x8192x1, .f32⟩
  | 77 => ⟨S_, .f32⟩
  | 78 => ⟨S16x8192x1, .f32⟩
  | 79 => ⟨S16x8192x1, .f32⟩
  | 80 => ⟨S16x8192x128, .f32⟩
  | 81 => ⟨S8192x16x128, .f32⟩
  | 82 => ⟨S8192x2048, .f32⟩
  | 83 => ⟨S8192x2048, .f32⟩
  | 84 => ⟨S8192x16x128, .f32⟩
  | 85 => ⟨S16x8192x128, .f32⟩
  | 86 => ⟨S16x128x8192, .f32⟩
  | 87 => ⟨S16x8192x128, .f32⟩
  | 88 => ⟨S16x8192x8192, .f32⟩
  | 89 => ⟨S16x8192x8192, .f32⟩
  | 90 => ⟨S16x8192x8192, .f32⟩
  | 91 => ⟨S16x8192x8192, .f32⟩
  | 92 => ⟨S_, .f32⟩
  | 93 => ⟨S16x8192, .f32⟩
  | 94 => ⟨S16x8192x1, .f32⟩
  | 95 => ⟨S16x8192x1, .f32⟩
  | 96 => ⟨S16x8192x8192, .f32⟩
  | 97 => ⟨S16x8192x8192, .f32⟩
  | 98 => ⟨S_, .f32⟩
  | 99 => ⟨S16x8192, .f32⟩
  | 100 => ⟨S16x8192x8192, .f32⟩
  | 101 => ⟨S16x8192x8192, .f32⟩
  | 102 => ⟨S16x8192x8192, .f32⟩
  | 103 => ⟨S_, .f32⟩
  | 104 => ⟨S16x8192x8192, .f32⟩
  | 105 => ⟨S16x8192x8192, .f32⟩
  | 106 => ⟨S16x8192x8192, .f32⟩
  | 107 => ⟨S_, .f32⟩
  | 108 => ⟨S16x8192, .f32⟩
  | 109 => ⟨S16x1x8192, .f32⟩
  | 110 => ⟨S_, .f32⟩
  | 111 => ⟨S16x8192, .f32⟩
  | 112 => ⟨S_, .f32⟩
  | 113 => ⟨S16x8192, .f32⟩
  | 114 => ⟨S16x8192x1, .f32⟩
  | 115 => ⟨S_, .f32⟩
  | 116 => ⟨S16x8192, .f32⟩
  | 117 => ⟨S16x8192, .f32⟩
  | 118 => ⟨S16x8192x8192, .f32⟩
  | 119 => ⟨S16x8192x8192, .f32⟩
  | 120 => ⟨S16x8192x128, .f32⟩
  | 121 => ⟨S16x8192x128, .f32⟩
  | 122 => ⟨S8192x16, .f32⟩
  | 123 => ⟨S8192x16x128, .f32⟩
  | 124 => ⟨S8192x2048, .f32⟩
  | 125 => ⟨S8192x2048, .bf16⟩
  | 126 => ⟨S8192x16x128, .f32⟩
  | 127 => ⟨S8192x2048, .f32⟩
  | _ => ⟨S8192x6144, .bf16⟩

abbrev hbmTy0_1 (i : Nat) : BufTy := match i % 128 with
  | 0 => ⟨S8192x2048, .bf16⟩
  | 1 => ⟨S8192x16x128, .f32⟩
  | 2 => ⟨S8192x2048, .f32⟩
  | 3 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call0_v0 : Ref sig .tc := ⟨.hbm, 36, rfl⟩
abbrev main_v30_1 : Ref sig .tc := ⟨.hbm, 37, rfl⟩
abbrev main_call0_v2 : Ref sig .tc := ⟨.hbm, 38, rfl⟩
abbrev main_v30_0 : Ref sig .tc := ⟨.hbm, 39, rfl⟩
abbrev main_call0_cst : Ref sig .tc := ⟨.hbm, 40, rfl⟩
abbrev main_v30_2 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_13 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call1_cst : Ref sig .tc := ⟨.hbm, 103, rfl⟩
abbrev main_call1_v0 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Kernel2.lean ====
abbrev S8192x2048 : Shape := ⟨2, ![8192, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x2048 : Shape := ⟨2, ![8192, 2048]⟩
abbrev S_ : Shape := ⟨0, ![]⟩
abbrev S8192x16x128 : Shape := ⟨3, ![8192, 16, 128]⟩
abbrev S8192x16 : Shape := ⟨2, ![8192, 16]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x16x128, .f32⟩
  | .hbm, ⟨25, _⟩ => ⟨S_, .f32⟩
  | .hbm, ⟨26, _⟩ => ⟨S8192x16, .f32⟩
  | .hbm, ⟨27, _⟩ => ⟨S8192x2048, .bf16⟩
  | .hbm, ⟨28, _⟩ => ⟨S8192x2048, .bf16⟩
  | .hbm, ⟨29, _⟩ => ⟨S8192x16x128, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S2048x2048 : Shape := ⟨2, ![2048, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x8192, .bf16⟩
  | .hbm, ⟨3, _⟩ => ⟨S2048x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x6144 : Shape := ⟨2, ![8192, 6144]⟩
abbrev S2048x6144 : Shape := ⟨2, ![2048, 6144]⟩
abbrev S8192x2048 : Shape := ⟨2, ![8192, 2048]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x6144 : Shape := ⟨2, ![8192, 6144]⟩
abbrev S2048x6144 : Shape := ⟨2, ![2048, 6144]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S_, .f32⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x6144, .f32⟩
  | .hbm, ⟨7, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S8192x6144 : Shape := ⟨2, ![8192, 6144]⟩
abbrev S2048x8192 : Shape := ⟨2, ![2048, 8192]⟩
abbrev S2048x6144 : Shape := ⟨2, ![2048, 6144]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x8192, .bf16⟩
  | .hbm, ⟨3, _⟩ => ⟨S2048x6144, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x6144 : Shape := ⟨2, ![8192, 6144]⟩
abbrev S8192x2048 : Shape := ⟨2, ![8192, 2048]⟩
abbrev S8192x16 : Shape := ⟨2, ![8192, 16]⟩
abbrev S16x8192 : Shape := ⟨2, ![16, 8192]⟩
abbrev S16x8x1x1024 : Shape := ⟨4, ![16, 8, 1, 1024]⟩
abbrev S1024x128 : Shape := ⟨2, ![1024, 128]⟩
abbrev S8192x128 : Shape := ⟨2, ![8192, 128]⟩
abbrev S1x8x1x1024 : Shape := ⟨4, ![1, 8, 1, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .f32⟩
  | .hbm, ⟨2, _⟩ => ⟨S8192x16, .f32⟩
  | .hbm, ⟨3, _⟩ => ⟨S8192x16, .f32⟩
  | .hbm, ⟨4, _⟩ => ⟨S16x8192, .f32⟩
  | .hbm, ⟨5, _⟩ => ⟨S16x8x1x1024, .f32⟩
  | .hbm, ⟨6, _⟩ => ⟨S8192x2048, .bf16⟩
  | .hbm, ⟨7, _⟩ => ⟨S8192x2048, .f32⟩
  | .hbm, ⟨8, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x8x1x1024, .f32⟩
  | .local _ .vmem, ⟨7, _⟩ => ⟨S1x8x1x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_17 : BitVec 32 := 1#32
  ⟨c0_i32_15, v38, c1_i32_17⟩
def k0_mult1 (i : grid0.Coords) (k0_t1 : Fin (k0_t1_loop i).trips) : BitVec 32 :=
  let c4_i32_72 : BitVec 32 := 4#32
  let c0_i32_15 : BitVec 32 := 0#32
  let c1_i32_17 : BitVec 32 := 1#32
  let arg13 : BitVec 32 := Scf.iv c0_i32_15 c1_i32_17 k0_t1
  let v134 : BitVec 32 := Scalar.muli c4_i32_72 arg13
  let c0_i32_73 : BitVec 32 := 0#32
  let v135 : BitVec 32 := Scalar.addi v134 c0_i32_73
  let c1024_i32_74 : BitVec 32 := 1024#32
  let v136 : BitVec 32 := Scalar.muli v135 c1024_i32_74
  v136
def k0_off1 (i : grid0.Coords) (k0_t1 : Fin (k0_t1_loop i).trips) (c0_i32_73 : BitVec 32) : Fin 2 → Nat :=
  let c4_i32_72 : BitVec 32 := 4#32
  let c0_i32_15 : BitVec 32 := 0#32
  let c1_i32_17 : BitVec 32 := 1#32
  let arg13 : BitVec 32 := Scf.iv c0_i32_15 c1_i32_17 k0_t1
  let v134 : BitVec 32 := Scalar.muli c4_i32_72 arg13
  let v135 : BitVec 32 := Scalar.addi v134 c0_i32_73
  let c1024_i32_74 : BitVec 32 := 1024#32
  let v136 : BitVec 32 := Scalar.muli v135 c1024_i32_74
  let v137 : BitVec 32 := v136
  let v138 : Index := Scalar.indexCast v137
  let c0_75 : Index := 0#32
  ![v138.toNat, 0]
def k0_off2 (i : grid0.Coords) (k0_t1 : Fin (k0_t1_loop i).trips) (c0_i32_73 : BitVec 32) : Fin 4 → Nat :=
  let c0_77 : Index := 0#32
  let c4_i32_72 : BitVec 32 := 4#32
  let c0_i32_15 : BitVec 32 := 0#32
  let c1_i32_17 : BitVec 32 := 1#32
  let arg13 : BitVec 32 := Scf.iv c0_i32_15 c1_i32_17 k0_t1
  let v134 : BitVec 32 := Scalar.muli c4_i32_72 arg13
  let v135 : BitVec 32 := Scalar.addi v134 c0_i32_73
  let v141 : Index := Scalar.indexCast v135
  let c0_78 : Index := 0#32
  let c0_79 : Index := 0#32
  ![0, v141.toNat, 0, 0]
def k0_mult2 (i : grid0.Coords) (k0_t1 : Fin (k0_t1_loop i).trips) : BitVec 32 :=
  let c4_i32_97 : BitVec 32 := 4#32
  let c0_i32_15 : BitVec 32 := 0#32
  let c1_i32_17 : BitVec 32 := 1#32
  let arg13 : BitVec 32 := Scf.iv c0_i32_15 c1_i32_17 k0_t1
  let v181 : BitVec 32 := Scalar.muli c4_i32_97 arg13
  let c1_i32_98 : BitVec 32 := 1#32
  let v182 : BitVec 32 := Scalar.addi v181 c1_i32_98
  let c1024_i32_99 : BitVec 32 := 1024#32
  let v183 : BitVec 32 := Scalar.muli v182 c1024_i32_99
  v183
def k0_mult3 (i : grid0.Coords) (k0_t1 : Fin (k0_t1_loop i).trips) : BitVec 32 :=
  let c4_i32_122 : BitVec 32 := 4#32
  let c0_i32_15 : BitVec 32 := 0#32
  let c1_i32_17 : BitVec 32 := 1#32
  let arg13 : BitVec 32 := Scf.iv c0_i32_15 c1_i32_17 k0_t1
  let v228 : BitVec 32 := Scalar.muli c4_i32_122 arg13
  let c2_i32 : BitVec 32 := 2#32
  let v229 : BitVec 32 := Scalar.addi v228 c2_i32
  let c1024_i32_123 : BitVec 32 := 1024#32
  let v230 : BitVec 32 := Scalar.muli v229 c1024_i32_123
  v230
def k0_mult4 (i : grid0.Coords) (k0_t1 : Fin (k0_t1_loop i).trips) : BitVec 32 :=
  let c4_i32_146 : BitVec 32 := 4#32
  let c0_i32_15 : BitVec 32 := 0#32
  let c1_i32_17 : BitVec 32 := 1#32
  let arg13 : BitVec 32 := Scf.iv c0_i32_15 c1_i32_17 k0_t1
  let v275 : BitVec 32 := Scalar.muli c4_i32_146 arg13
  let c3_i32 : BitVec 32 := 3#32
  let v276 : BitVec 32 := Scalar.addi v275 c3_i32
  let c1024_i32_147 : BitVec 32 := 1024#32
  let v277 : BitVec 32 := Scalar.muli v276 c1024_i32_147
  v277
@[reducible] def k0_t2_loop (i : grid0.Coords) : Scf.Loop 32 :=
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let v35 : BitVec 32 := Scalar.addi c0_i32_15 v34
  let c1_i32_18 : BitVec 32 := 1#32
  ⟨v38, v35, c1_i32_18⟩
def k0_mult5 (i : grid0.Coords) (k0_t2 : Fin (k0_t2_loop i).trips) : BitVec 32 :=
  let c4_i32_72 : BitVec 32 := 4#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg13 : BitVec 32 := Scf.iv v38 c1_i32_18 k0_t2
  let v134 : BitVec 32 := Scalar.muli c4_i32_72 arg13
  let c0_i32_73 : BitVec 32 := 0#32
  let v135 : BitVec 32 := Scalar.addi v134 c0_i32_73
  let c1024_i32_74 : BitVec 32 := 1024#32
  let v136 : BitVec 32 := Scalar.muli v135 c1024_i32_74
  v136
def k0_off3 (i : grid0.Coords) (k0_t2 : Fin (k0_t2_loop i).trips) (c0_i32_73 : BitVec 32) : Fin 2 → Nat :=
  let c4_i32_72 : BitVec 32 := 4#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg13 : BitVec 32 := Scf.iv v38 c1_i32_18 k0_t2
  let v134 : BitVec 32 := Scalar.muli c4_i32_72 arg13
  let v135 : BitVec 32 := Scalar.addi v134 c0_i32_73
  let c1024_i32_74 : BitVec 32 := 1024#32
  let v136 : BitVec 32 := Scalar.muli v135 c1024_i32_74
  let v137 : BitVec 32 := v136
  let v138 : Index := Scalar.indexCast v137
  let c0_75 : Index := 0#32
  ![v138.toNat, 0]
def k0_off4 (i : grid0.Coords) (k0_t2 : Fin (k0_t2_loop i).trips) (c0_i32_73 : BitVec 32) : Fin 4 → Nat :=
  let c0_77 : Index := 0#32
  let c4_i32_72 : BitVec 32 := 4#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg13 : BitVec 32 := Scf.iv v38 c1_i32_18 k0_t2
  let v134 : BitVec 32 := Scalar.muli c4_i32_72 arg13
  let v135 : BitVec 32 := Scalar.addi v134 c0_i32_73
  let v141 : Index := Scalar.indexCast v135
  let c0_78 : Index := 0#32
  let c0_79 : Index := 0#32
  ![0, v141.toNat, 0, 0]
def k0_mult6 (i : grid0.Coords) (k0_t2 : Fin (k0_t2_loop i).trips) : BitVec 32 :=
  let c4_i32_97 : BitVec 32 := 4#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg13 : BitVec 32 := Scf.iv v38 c1_i32_18 k0_t2
  let v181 : BitVec 32 := Scalar.muli c4_i32_97 arg13
  let c1_i32_98 : BitVec 32 := 1#32
  let v182 : BitVec 32 := Scalar.addi v181 c1_i32_98
  let c1024_i32_99 : BitVec 32 := 1024#32
  let v183 : BitVec 32 := Scalar.muli v182 c1024_i32_99
  v183
def k0_mult7 (i : grid0.Coords) (k0_t2 : Fin (k0_t2_loop i).trips) : BitVec 32 :=
  let c4_i32_122 : BitVec 32 := 4#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg13 : BitVec 32 := Scf.iv v38 c1_i32_18 k0_t2
  let v228 : BitVec 32 := Scalar.muli c4_i32_122 arg13
  let c2_i32 : BitVec 32 := 2#32
  let v229 : BitVec 32 := Scalar.addi v228 c2_i32
  let c1024_i32_123 : BitVec 32 := 1024#32
  let v230 : BitVec 32 := Scalar.muli v229 c1024_i32_123
  v230
def k0_mult8 (i : grid0.Coords) (k0_t2 : Fin (k0_t2_loop i).trips) : BitVec 32 :=
  let c4_i32_146 : BitVec 32 := 4#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg1 c4_i32
  let c0_i32_13 : BitVec 32 := 0#32
  let v30 : BitVec 1 := Scalar.cmpi .ne v29 c0_i32_13
  let v31 : BitVec 1 := Scalar.andi v28 v30
  let v17 : BitVec 32 := Scalar.divsi arg1 c4_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg13 : BitVec 32 := Scf.iv v38 c1_i32_18 k0_t2
  let v275 : BitVec 32 := Scalar.muli c4_i32_146 arg13
  let c3_i32 : BitVec 32 := 3#32
  let v276 : BitVec 32 := Scalar.addi v275 c3_i32
  let c1024_i32_147 : BitVec 32 := 1024#32
  let v277 : BitVec 32 := Scalar.muli v276 c1024_i32_147
  v277
@[reducible] def k0_t3_loop (i : grid0.Coords) : Scf.Loop 32 :=
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let v57 : BitVec 32 := Scalar.subi arg1 v56
  let c1_i32_28 : BitVec 32 := 1#32
  let v59 : BitVec 32 := Scalar.divsi v57 c1_i32_28
  let v60 : BitVec 32 := Scalar.muli v59 c1_i32_28
  let v61 : BitVec 32 := Scalar.addi v56 v60
  let c1_i32_29 : BitVec 32 := 1#32
  ⟨v56, v61, c1_i32_29⟩
def k0_mult9 (i : grid0.Coords) (k0_t3 : Fin (k0_t3_loop i).trips) : BitVec 32 :=
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let c1_i32_29 : BitVec 32 := 1#32
  let arg13 : BitVec 32 := Scf.iv v56 c1_i32_29 k0_t3
  let c1024_i32_72 : BitVec 32 := 1024#32
  let v134 : BitVec 32 := Scalar.muli arg13 c1024_i32_72
  v134
def k0_off5 (i : grid0.Coords) (k0_t3 : Fin (k0_t3_loop i).trips) : Fin 2 → Nat :=
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let c1_i32_29 : BitVec 32 := 1#32
  let arg13 : BitVec 32 := Scf.iv v56 c1_i32_29 k0_t3
  let c1024_i32_72 : BitVec 32 := 1024#32
  let v134 : BitVec 32 := Scalar.muli arg13 c1024_i32_72
  let v135 : BitVec 32 := v134
  let v136 : Index := Scalar.indexCast v135
  let c0_73 : Index := 0#32
  ![v136.toNat, 0]
def k0_off6 (i : grid0.Coords) (k0_t3 : Fin (k0_t3_loop i).trips) : Fin 4 → Nat :=
  let c0_75 : Index := 0#32
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let c1_i32_29 : BitVec 32 := 1#32
  let arg13 : BitVec 32 := Scf.iv v56 c1_i32_29 k0_t3
  let v139 : Index := Scalar.indexCast arg13
  let c0_76 : Index := 0#32
  let c0_77 : Index := 0#32
  ![0, v139.toNat, 0, 0]
@[reducible] def k0_t4_loop (i : grid0.Coords) : Scf.Loop 32 :=
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let v57 : BitVec 32 := Scalar.subi arg1 v56
  let c1_i32_28 : BitVec 32 := 1#32
  let v59 : BitVec 32 := Scalar.divsi v57 c1_i32_28
  let v60 : BitVec 32 := Scalar.muli v59 c1_i32_28
  let v61 : BitVec 32 := Scalar.addi v56 v60
  let v58 : BitVec 32 := Scalar.addi v56 v57
  let c1_i32_30 : BitVec 32 := 1#32
  ⟨v61, v58, c1_i32_30⟩
def k0_mult10 (i : grid0.Coords) (k0_t4 : Fin (k0_t4_loop i).trips) : BitVec 32 :=
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let v57 : BitVec 32 := Scalar.subi arg1 v56
  let c1_i32_28 : BitVec 32 := 1#32
  let v59 : BitVec 32 := Scalar.divsi v57 c1_i32_28
  let v60 : BitVec 32 := Scalar.muli v59 c1_i32_28
  let v61 : BitVec 32 := Scalar.addi v56 v60
  let c1_i32_30 : BitVec 32 := 1#32
  let arg13 : BitVec 32 := Scf.iv v61 c1_i32_30 k0_t4
  let c1024_i32_72 : BitVec 32 := 1024#32
  let v134 : BitVec 32 := Scalar.muli arg13 c1024_i32_72
  v134
def k0_off7 (i : grid0.Coords) (k0_t4 : Fin (k0_t4_loop i).trips) : Fin 2 → Nat :=
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let v57 : BitVec 32 := Scalar.subi arg1 v56
  let c1_i32_28 : BitVec 32 := 1#32
  let v59 : BitVec 32 := Scalar.divsi v57 c1_i32_28
  let v60 : BitVec 32 := Scalar.muli v59 c1_i32_28
  let v61 : BitVec 32 := Scalar.addi v56 v60
  let c1_i32_30 : BitVec 32 := 1#32
  let arg13 : BitVec 32 := Scf.iv v61 c1_i32_30 k0_t4
  let c1024_i32_72 : BitVec 32 := 1024#32
  let v134 : BitVec 32 := Scalar.muli arg13 c1024_i32_72
  let v135 : BitVec 32 := v134
  let v136 : Index := Scalar.indexCast v135
  let c0_73 : Index := 0#32
  ![v136.toNat, 0]
def k0_off8 (i : grid0.Coords) (k0_t4 : Fin (k0_t4_loop i).trips) : Fin 4 → Nat :=
  let c0_75 : Index := 0#32
  let arg1 : BitVec 32 := BitVec.ofNat 32 (i 1).val
  let c0_i32_20 : BitVec 32 := 0#32
  let v40 : BitVec 1 := Scalar.cmpi .sgt arg1 c0_i32_20
  let v41 : BitVec 32 := Scalar.extui v40
  let c0_i32_21 : BitVec 32 := 0#32
  let v42 : BitVec 1 := Scalar.cmpi .slt arg1 c0_i32_21
  let v43 : BitVec 32 := Scalar.extui v42
  let v44 : BitVec 32 := Scalar.subi v41 v43
  let c4_i32_19 : BitVec 32 := 4#32
  let c0_i32_22 : BitVec 32 := 0#32
  let v45 : BitVec 1 := Scalar.cmpi .sgt c4_i32_19 c0_i32_22
  let v46 : BitVec 32 := Scalar.extui v45
  let c0_i32_23 : BitVec 32 := 0#32
  let v47 : BitVec 1 := Scalar.cmpi .slt c4_i32_19 c0_i32_23
  let v48 : BitVec 32 := Scalar.extui v47
  let v49 : BitVec 32 := Scalar.subi v46 v48
  let v50 : BitVec 1 := Scalar.cmpi .ne v44 v49
  let v51 : BitVec 32 := Scalar.remsi arg1 c4_i32_19
  let c0_i32_24 : BitVec 32 := 0#32
  let v52 : BitVec 1 := Scalar.cmpi .ne v51 c0_i32_24
  let v53 : BitVec 1 := Scalar.andi v50 v52
  let v39 : BitVec 32 := Scalar.divsi arg1 c4_i32_19
  let c1_i32_25 : BitVec 32 := 1#32
  let v54 : BitVec 32 := Scalar.subi v39 c1_i32_25
  let v55 : BitVec 32 := Scalar.select v53 v54 v39
  let c4_i32_26 : BitVec 32 := 4#32
  let v56 : BitVec 32 := Scalar.muli v55 c4_i32_26
  let v57 : BitVec 32 := Scalar.subi arg1 v56
  let c1_i32_28 : BitVec 32 := 1#32
  let v59 : BitVec 32 := Scalar.divsi v57 c1_i32_28
  let v60 : BitVec 32 := Scalar.muli v59 c1_i32_28
  let v61 : BitVec 32 := Scalar.addi v56 v60
  let c1_i32_30 : BitVec 32 := 1#32
  let arg13 : BitVec 32 := Scf.iv v61 c1_i32_30 k0_t4
  let v139 : Index := Scalar.indexCast arg13
  let c0_76 : Index := 0#32
  let c0_77 : Index := 0#32
  ![0, v139.toNat, 0, 0]
def k0_mult11 (i : grid0.Coords) : BitVec 32 :=
  let arg1 : BitVec 32 := BitVec.ofNat 32 (i 1).val
  let c1024_i32 : BitVec 32 := 1024#32
  let v62 : BitVec 32 := Scalar.muli arg1 c1024_i32
  v62
def k0_off9 (i : grid0.Coords) : Fin 2 → Nat :=
  let arg1 : BitVec 32 := BitVec.ofNat 32 (i 1).val
  let c1024_i32 : BitVec 32 := 1024#32
  let v62 : BitVec 32 := Scalar.muli arg1 c1024_i32
  let v63 : BitVec 32 := v62
  let v64 : Index := Scalar.indexCast v63
  let c0_31 : Index := 0#32
  ![v64.toNat, 0]
def k0_off10 (i : grid0.Coords) : Fin 4 → Nat :=
  let c0_33 : Index := 0#32
  let arg1 : BitVec 32 := BitVec.ofNat 32 (i 1).val
  let v67 : Index := Scalar.indexCast arg1
  let c0_34 : Index := 0#32
  let c0_35 : Index := 0#32
  ![0, v67.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "c1" => some (((Real.sqrt 128)⁻¹ * (Real.log 2)⁻¹ : ℝ) : EReal)
  | "log2e" => some (((Real.log 2)⁻¹ : ℝ) : EReal)
  | "mask" => some ⊥
  | _ => none
-- ==== Reference7Ideal.lean ====
abbrev S8192x6144 : Shape := ⟨2, ![8192, 6144]⟩
abbrev S8192x2048 : Shape := ⟨2, ![8192, 2048]⟩
abbrev S8192x16 : Shape := ⟨2, ![8192, 16]⟩
abbrev S8192x16x128 : Shape := ⟨3, ![8192, 16, 128]⟩
abbrev S16x8192x128 : Shape := ⟨3, ![16, 8192, 128]⟩
abbrev S16x8192 : Shape := ⟨2, ![16, 8192]⟩
abbrev S_ : Shape := ⟨0, ![]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 113
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .f32⟩
  | .hbm, ⟨2, _⟩ => ⟨S8192x16, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .f32⟩
  | .hbm, ⟨7, _⟩ => ⟨S8192x16x128, .f32⟩
  | .hbm, ⟨8, _⟩ => ⟨S16x8192x128, .f32⟩
  | .hbm, ⟨9, _⟩ => ⟨S8192x2048, .f32⟩
  | .hbm, ⟨10, _⟩ => ⟨S8192x16x128, .f32⟩
  | .hbm, ⟨11, _⟩ => ⟨S16x8192x128, .f32⟩
  | .hbm, ⟨12, _⟩ => ⟨S8192x2048, .f32⟩
  | .hbm, ⟨13, _⟩ => ⟨S8192x16x128, .f32⟩
  | .hbm, ⟨14, _⟩ => ⟨S16x8192x128, .f32⟩
  | .hbm, ⟨15, _⟩ => ⟨S16x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x1, .f32⟩
  | .hbm, ⟨24, _⟩ => ⟨S16x8192x8192, .f32⟩
  | .hbm, ⟨25, _⟩ => ⟨S16x8192x8192, .f32⟩
  | .hbm, ⟨26, _⟩ => ⟨S16x1x8192, .f32⟩
  | .hbm, ⟨27, _⟩ => ⟨S16x8192x8192, .f32⟩
  | .hbm, ⟨28, _⟩ => ⟨S16x8192x8192, .f32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S16x8192x8192, .i1⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S_, .f32⟩
  | .hbm, ⟨50, _⟩ => ⟨S16x8192, .f32⟩
  | .hbm, ⟨51, _⟩ => ⟨S16x8192x1, .f32⟩
  | .hbm, ⟨52, _⟩ => ⟨S16x8192x8192, .f32⟩
  | .hbm, ⟨53, _⟩ => ⟨S16x8192x8192, .f32⟩
  | .hbm, ⟨54, _⟩ => ⟨S16x8192x128, .f32⟩
  | .hbm, ⟨55, _⟩ => ⟨S8192x16x128, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .bf16⟩
  | .hbm, ⟨68, _⟩ => ⟨S8192x2048, .f32⟩
  | .hbm, ⟨69, _⟩ => ⟨S8192x16x128, .f32⟩
  | .hbm, ⟨70, _⟩ => ⟨S16x8192x128, .f32⟩
  | .hbm, ⟨71, _⟩ => ⟨S8192x2048, .f32⟩
  | .hbm, ⟨72, _⟩ => ⟨S8192x16x128, .f32⟩
  | .hbm, ⟨73, _⟩ => ⟨S16x8192x128, .f32⟩
  | .hbm, ⟨74, _⟩ => ⟨S16x8192, .f32⟩
  | .hbm, ⟨75, _⟩ => ⟨S16x8192x8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16x8192x8192, .f32⟩
  | .hbm, ⟨81, _⟩ => ⟨S16x8192x8192, .f32⟩
  | .hbm, ⟨82, _⟩ => ⟨S16x1x8192, .f32⟩
  | .hbm, ⟨83, _⟩ => ⟨S16x8192x8192, .f32⟩
  | .hbm, ⟨84, _⟩ => ⟨S16x8192x8192, .f32⟩
  | .hbm, ⟨85, _⟩ => ⟨S8192, .i32⟩
  | .hbm, ⟨86, _⟩ => ⟨S8192x1, .i32⟩
  | .hbm, ⟨87, _⟩ => ⟨S1x8192, .i32⟩
  | .hbm, ⟨88, _⟩ => ⟨S8192x8192, .i32⟩
  | .hbm, ⟨89, _⟩ => ⟨S8192x8192, .i32⟩
  | .hbm, ⟨90, _⟩ => ⟨S8192x8192, .i1⟩
  | .hbm, ⟨91, _⟩ => ⟨S_, .f32⟩
  | .hbm, ⟨92, _⟩ => ⟨S_, .f32⟩
  | .hbm, ⟨93, _⟩ => ⟨S16x8192x8192, .i1⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x8192x1, .f32⟩
  | .hbm, ⟨99, _⟩ => ⟨S16x8192x8192, .f32⟩
  | .hbm, ⟨100, _⟩ => ⟨S16x8192x8192, .f32⟩
  | .hbm, ⟨101, _⟩ => ⟨S16x8192x8192, .f32⟩
  | .hbm, ⟨102, _⟩ => ⟨S_, .f32⟩
  | .hbm, ⟨103, _⟩ => ⟨S16x8192, .f32⟩
  | .hbm, ⟨104, _⟩ => ⟨S16x8192, .f32⟩
  | .hbm, ⟨105, _⟩ => ⟨S16x8192, .f32⟩
  | .hbm, ⟨106, _⟩ => ⟨S_, .f32⟩
  | .hbm, ⟨107, _⟩ => ⟨S_, .f32⟩
  | .hbm, ⟨108, _⟩ => ⟨S16x8192, .f32⟩
  | .hbm, ⟨109, _⟩ => ⟨S16x8192, .f32⟩
  | .hbm, ⟨110, _⟩ => ⟨S8192x16, .f32⟩
  | .hbm, ⟨111, _⟩ => ⟨S8192x16x128, .f32⟩
  | .hbm, ⟨112, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_7 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_10 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== Kernel8.lean ====
abbrev S8192x2048 : Shape := ⟨2, ![8192, 2048]⟩
abbrev S2048x6144 : Shape := ⟨2, ![2048, 6144]⟩
abbrev S1x6144 : Shape := ⟨2, ![1, 6144]⟩
abbrev S8192x6144 : Shape := ⟨2, ![8192, 6144]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S1x6144, .f32⟩
  | .hbm, ⟨3, _⟩ => ⟨S8192x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x2048 : Shape := ⟨2, ![8192, 2048]⟩
abbrev S2048x6144 : Shape := ⟨2, ![2048, 6144]⟩
abbrev S1x6144 : Shape := ⟨2, ![1, 6144]⟩
abbrev S8192x6144 : Shape := ⟨2, ![8192, 6144]⟩
abbrev S6144 : Shape := ⟨1, ![6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S1x6144, .f32⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S6144, .f32⟩
  | .hbm, ⟨7, _⟩ => ⟨S1x6144, .f32⟩
  | .hbm, ⟨8, _⟩ => ⟨S8192x6144, .f32⟩
  | .hbm, ⟨9, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S1x2048 : Shape := ⟨2, ![1, 2048]⟩
abbrev S2048x8192 : Shape := ⟨2, ![2048, 8192]⟩
abbrev S8x2048 : Shape := ⟨2, ![8, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S32x8x2048 : Shape := ⟨3, ![32, 8, 2048]⟩
abbrev S_ : Shape := ⟨0, ![]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S2048x8192, .bf16⟩
  | .hbm, ⟨7, _⟩ => ⟨S8x2048, .f32⟩
  | .hbm, ⟨8, _⟩ => ⟨S_, .f32⟩
  | .hbm, ⟨9, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x256, .bf16⟩
  | .local _ .vmem, ⟨12, _⟩ => ⟨S2048x256, .bf16⟩
  | .local _ .vmem, ⟨13, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg0 : BitVec 32 := BitVec.ofNat 32 (i 0).val
  let c0_i32_19 : BitVec 32 := 0#32
  let v39 : BitVec 1 := Scalar.cmpi .sgt arg0 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S2048x8192, .f32⟩
  | .hbm, ⟨53, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel11.lean ====
abbrev S8192x2048 : Shape := ⟨2, ![8192, 2048]⟩
abbrev S1x2048 : Shape := ⟨2, ![1, 2048]⟩
abbrev S2048x8192 : Shape := ⟨2, ![2048, 8192]⟩
abbrev S8x128 : Shape := ⟨2, ![8, 128]⟩
abbrev S8x2048 : Shape := ⟨2, ![8, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S32x8x2048 : Shape := ⟨3, ![32, 8, 2048]⟩
abbrev S256x128 : Shape := ⟨2, ![256, 128]⟩
abbrev S32x8x128 : Shape := ⟨3, ![32, 8, 128]⟩
abbrev S8x1 : Shape := ⟨2, ![8, 1]⟩
abbrev S8 : Shape := ⟨1, ![8]⟩
abbrev S_ : Shape := ⟨0, ![]⟩
abbrev S2048 : Shape := ⟨1, ![2048]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S2048x8192, .bf16⟩
  | .hbm, ⟨6, _⟩ => ⟨S8x128, .f32⟩
  | .hbm, ⟨7, _⟩ => ⟨S8x2048, .f32⟩
  | .hbm, ⟨8, _⟩ => ⟨S8x1, .f32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | .local _ .vmem, ⟨11, _⟩ => ⟨S8x128, .f32⟩
  | .local _ .vmem, ⟨12, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_24 : BitVec 32 := 0#32
  let v62 : BitVec 1 := Scalar.cmpi .ne v61 c0_i32_24
  v62

def k0_cond2 (i : grid0.Coords) : BitVec 1 :=
  let arg0 : BitVec 32 := BitVec.ofNat 32 (i 0).val
  let c0_i32_25 : BitVec 32 := 0#32
  let v63 : BitVec 1 := Scalar.cmpi .sgt arg0 c0_i32_25
  let v64 : BitVec 32 := Scalar.extui v63
  let c0_i32_26 : BitVec 32 := 0#32
  let v65 : BitVec 1 := Scalar.cmpi .ne v64 c0_i32_26
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .bf16⟩
  | .hbm, ⟨73, _⟩ => ⟨S2048x8192, .f32⟩
  | .hbm, ⟨74, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel12.lean ====
abbrev S8x512x2048 : Shape := ⟨3, ![8, 512, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S2048x8192, .f32⟩
  | .hbm, ⟨21, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Offsets.lean ====
/- Where each access of the attention-backward kernel lands, in closed form over all grid points and trips.

A pass of the unrolled loop (`k0_t1`) works on key tiles `4 t`, `4 t + 1`, `4 t + 2`, `4 t + 3`; the loop of single
tiles (`k0_t3`) on tile `4 (q / 4) + t`; the tile on the diagonal is tile `q`, with `q` the second grid coordinate. -/
module

public import proofs.«01_k».proof.Proof.Gen.KernelIdeal.Frame
public import Idealize.ShloMosaic.Lib.LoopRemainder
public import Idealize.ShloMosaic.Lib.WritesUnit
public import Idealize.ShloMosaic.Lib.WholeRead

@[expose] public section

set_option maxRecDepth 16384

namespace Cert.KernelIdeal.Hand

open Idealize.ShloMosaic Idealize.ShloMosaic.TcCoe
open Cert.KernelIdeal

theorem t1_trips : ∀ i : grid0.Coords, (k0_t1_loop i).trips = (i 1).val / 4 := by decide +kernel
theorem t3_trips : ∀ i : grid0.Coords, (k0_t3_loop i).trips = (i 1).val % 4 := by decide +kernel

theorem off1_0 : ∀ (i : grid0.Coords) (t : Fin (k0_t1_loop i).trips), k0_off1 i t 0#32 = ![(4 * t.val + 0) * 1024, 0] := by
  decide +kernel
theorem off1_1 : ∀ (i : grid0.Coords) (t : Fin (k0_t1_loop i).trips), k0_off1 i t 1#32 = ![(4 * t.val + 1) * 1024, 0] := by
  decide +kernel
theorem off1_2 : ∀ (i : grid0.Coords) (t : Fin (k0_t1_loop i).trips), k0_off1 i t 2#32 = ![(4 * t.val + 2) * 1024, 0] := by
  decide +kernel
theorem off1_3 : ∀ (i : grid0.Coords) (t : Fin (k0_t1_loop i).trips), k0_off1 i t 3#32 = ![(4 * t.val + 3) * 1024, 0] := by
  decide +kernel
theorem off2_0 : ∀ (i : grid0.Coords) (t : Fin (k0_t1_loop i).trips), k0_off2 i t 0#32 = ![0, 4 * t.val + 0, 0, 0] := by
  decide +kernel
theorem off2_1 : ∀ (i : grid0.Coords) (t : Fin (k0_t1_loop i).trips), k0_off2 i t 1#32 = ![0, 4 * t.val + 1, 0, 0] := by
  decide +kernel
theorem off2_2 : ∀ (i : grid0.Coords) (t : Fin (k0_t1_loop i).trips), k0_off2 i t 2#32 = ![0, 4 * t.val + 2, 0, 0] := by
  decide +kernel
theorem off2_3 : ∀ (i : grid0.Coords) (t : Fin (k0_t1_loop i).trips), k0_off2 i t 3#32 = ![0, 4 * t.val + 3, 0, 0] := by
  decide +kernel
theorem off3_0 : ∀ (i : grid0.Coords) (t : Fin (k0_t1_loop i).trips), k0_off3 i t 0#32 = ![0, 4 * t.val + 0, 0, 0] := by
  decide +kernel
theorem off3_1 : ∀ (i : grid0.Coords) (t : Fin (k0_t1_loop i).trips), k0_off3 i t 1#32 = ![0, 4 * t.val + 1, 0, 0] := by
  decide +kernel
theorem off3_2 : ∀ (i : grid0.Coords) (t : Fin (k0_t1_loop i).trips), k0_off3 i t 2#32 = ![0, 4 * t.val + 2, 0, 0] := by
  decide +kernel
theorem off3_3 : ∀ (i : grid0.Coords) (t : Fin (k0_t1_loop i).trips), k0_off3 i t 3#32 = ![0, 4 * t.val + 3, 0, 0] := by
  decide +kernel
theorem off7 : ∀ (i : grid0.Coords) (t : Fin (k0_t3_loop i).trips),
    k0_off7 i t = ![(4 * ((i 1).val / 4) + t.val) * 1024, 0] := by decide +kernel
theorem off8 : ∀ (i : grid0.Coords) (t : Fin (k0_t3_loop i).trips),
    k0_off8 i t = ![0, 4 * ((i 1).val / 4) + t.val, 0, 0] := by decide +kernel
theorem off9 : ∀ (i : grid0.Coords) (t : Fin (k0_t3_loop i).trips),
    k0_off9 i t = ![0, 4 * ((i 1).val / 4) + t.val, 0, 0] := by decide +kernel
theorem off13 : ∀ i : grid0.Coords, k0_off13 i = ![(i 1).val * 1024, 0] := by decide +kernel
theorem off14 : ∀ i : grid0.Coords, k0_off14 i = ![0, (i 1).val, 0, 0] := by decide +kernel
theorem off15 : ∀ i : grid0.Coords, k0_off15 i = ![0, (i 1).val, 0, 0] := by decide +kernel

instance (i : grid0.Coords) (t : Fin (k0_t1_loop i).trips) : ClosedOff (k0_off1 i t 0#32) := ⟨_, off1_0 i t⟩
instance (i : grid0.Coords) (t : Fin (k0_t1_loop i).trips) : ClosedOff (k0_off1 i t 1#32) := ⟨_, off1_1 i t⟩
instance (i : grid0.Coords) (t : Fin (k0_t1_loop i).trips) : ClosedOff (k0_off1 i t 2#32) := ⟨_, off1_2 i t⟩
instance (i : grid0.Coords) (t : Fin (k0_t1_loop i).trips) : ClosedOff (k0_off1 i t 3#32) := ⟨_, off1_3 i t⟩
instance (i : grid0.Coords) (t : Fin (k0_t1_loop i).trips) : ClosedOff (k0_off3 i t 0#32) := ⟨_, off3_0 i t⟩
instance (i : grid0.Coords) (t : Fin (k0_t1_loop i).trips) : ClosedOff (k0_off3 i t 1#32) := ⟨_, off3_1 i t⟩
instance (i : grid0.Coords) (t : Fin (k0_t1_loop i).trips) : ClosedOff (k0_off3 i t 2#32) := ⟨_, off3_2 i t⟩
instance (i : grid0.Coords) (t : Fin (k0_t1_loop i).trips) : ClosedOff (k0_off3 i t 3#32) := ⟨_, off3_3 i t⟩
instance (i : grid0.Coords) (t : Fin (k0_t3_loop i).trips) : ClosedOff (k0_off7 i t) := ⟨_, off7 i t⟩
instance (i : grid0.Coords) (t : Fin (k0_t3_loop i).trips) : ClosedOff (k0_off9 i t) := ⟨_, off9 i t⟩
instance (i : grid0.Coords) : ClosedOff (k0_off13 i) := ⟨_, off13 i⟩
instance (i : grid0.Coords) : ClosedOff (k0_off15 i) := ⟨_, off15 i⟩

end Cert.KernelIdeal.Hand
end
-- ==== Proof.Step.lean ====
/- The attention-backward kernel's accumulation as a function of vectors.

A grid point walks the key tiles `0 … q` of its head. Over one tile it adds to five accumulators: the column sums `db`,
the query gradient `dq`, the key and value gradients `dk`, `dv` (whole sequence, one tile of rows each) and the row sums
`rs`. `tile` is that addition at tile `j`, over the payloads of the loop of single tiles; `walk b k` is `k` tiles from
tile `b` on. -/
module

public import proofs.«01_k».proof.Proof.Offsets
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F] [Named F]

/-- The five accumulators. -/
@[ext] structure St (F : FTy → Type) where
  /-- column sums, eight partial rows per key tile -/
  db : Vec F S1x8x8x1024 .f32
  /-- query gradient of the point's rows -/
  dq : Vec F S1024x128 .f32
  /-- key gradient of the head -/
  dk : Vec F S8192x128 .f32
  /-- value gradient of the head -/
  dv : Vec F S8192x128 .f32
  /-- row sums of the point's rows -/
  rs : Vec F S1024x128 .f32

/-- What a point reads: its query rows, their upstream gradient, the scaled queries, the row normaliser, the row
correction, and the head's keys, values and key bias. -/
structure Inp (F : FTy → Type) where
  q : Vec F S1024x128 .bf16
  ct : Vec F S1024x128 .bf16
  qs : FVec F S1024x128 .bf16
  lse : FVec F S1024x1 .f32
  delta : FVec F S1024x1 .f32
  k : Vec F S8192x128 .bf16
  v : Vec F S8192x128 .bf16
  b : Vec F S1x8x1x1024 .f32

theorem rows_in (j : ℕ) (h : j < 8) : ∀ a, (![j * 1024, 0] : Fin 2 → ℕ) a + S1024x128.size a ≤ S8192x128.size a :=
  Fin.forall_fin_two.mpr ⟨show j * 1024 + 1024 ≤ 8192 by omega, show 0 + 128 ≤ 128 by omega⟩

theorem forall_fin_four {P : Fin 4 → Prop} (h0 : P 0) (h1 : P 1) (h2 : P 2) (h3 : P 3) : ∀ a, P a := fun a =>
  match a with
  | 0 => h0
  | 1 => h1
  | 2 => h2
  | 3 => h3

theorem bias_in (j : ℕ) (h : j < 8) : ∀ a, (![0, j, 0, 0] : Fin 4 → ℕ) a + S1x1x1x1024.size a ≤ S1x8x1x1024.size a :=
  forall_fin_four (show 0 + 1 ≤ 1 by omega) (show j + 1 ≤ 8 by omega) (show 0 + 1 ≤ 1 by omega) (show 0 + 1024 ≤ 1024 by omega)

theorem cols_in (j : ℕ) (h : j < 8) : ∀ a, (![0, j, 0, 0] : Fin 4 → ℕ) a + S1x1x8x1024.size a ≤ S1x8x8x1024.size a :=
  forall_fin_four (show 0 + 1 ≤ 1 by omega) (show j + 1 ≤ 8 by omega) (show 0 + 8 ≤ 8 by omega) (show 0 + 1024 ≤ 1024 by omega)

section Windows

variable {α : Type}

/-- Tile `j`'s rows of a whole-sequence array. -/
abbrev rows (x : S8192x128.Idx → α) (j : ℕ) (h : j < 8) : S1024x128.Idx → α :=
  VecWindow.window x ![j * 1024, 0] S1024x128.size (rows_in j h)
/-- Tile `j`'s key bias. -/
abbrev bias (x : S1x8x1x1024.Idx → α) (j : ℕ) (h : j < 8) : S1x1x1x1024.Idx → α :=
  VecWindow.window x ![0, j, 0, 0] S1x1x1x1024.size (bias_in j h)
/-- Tile `j`'s column sums. -/
abbrev cols (x : S1x8x8x1024.Idx → α) (j : ℕ) (h : j < 8) : S1x1x8x1024.Idx → α :=
  VecWindow.window x ![0, j, 0, 0] S1x1x8x1024.size (cols_in j h)
/-- Tile `j`'s rows replaced. -/
abbrev putRows (x : S8192x128.Idx → α) (j : ℕ) (w : S1024x128.Idx → α) : S8192x128.Idx → α :=
  VecWindow.put x ![j * 1024, 0] S1024x128.size w
/-- Tile `j`'s column sums replaced. -/
abbrev putCols (x : S1x8x8x1024.Idx → α) (j : ℕ) (w : S1x1x8x1024.Idx → α) : S1x8x8x1024.Idx → α :=
  VecWindow.put x ![0, j, 0, 0] S1x1x8x1024.size w

/-- Another tile's rows are as they were. -/
theorem rows_putRows_ne (x : S8192x128.Idx → α) (j j' : ℕ) (h : j < 8) (w : S1024x128.Idx → α) (hj : j ≠ j') :
    rows (putRows x j' w) j h = rows x j h :=
  VecWindow.window_put_of_disjoint x _ _ _ _ _ w 0 (by
    show j * 1024 + 1024 ≤ j' * 1024 ∨ j' * 1024 + 1024 ≤ j * 1024
    omega)

/-- Another tile's column sums are as they were. -/
theorem cols_putCols_ne (x : S1x8x8x1024.Idx → α) (j j' : ℕ) (h : j < 8) (w : S1x1x8x1024.Idx → α) (hj : j ≠ j') :
    cols (putCols x j' w) j h = cols x j h :=
  VecWindow.window_put_of_disjoint x _ _ _ _ _ w 1 (by
    show j + 1 ≤ j' ∨ j' + 1 ≤ j
    omega)

end Windows

/-- The tile's score gradient before scaling. -/
abbrev dsT (I : Inp F) (j : ℕ) (h : j < 8) : FVec F S1024x1024 .f32 :=
  k0_pay77 I.ct I.qs I.lse I.delta (rows I.k j h) (rows I.v j h) (bias I.b j h)

/-- The additions of a whole tile below the diagonal. -/
def tileAt (I : Inp F) (j : ℕ) (h : j < 8) (s : St F) : St F where
  db := putCols s.db j (k0_pay95 (k0_pay79 I.ct I.qs I.lse I.delta (rows I.k j h) (rows I.v j h) (bias I.b j h) (cols s.db j h)))
  dq := k0_pay98 (rows I.k j h) (dsT I j h) s.dq
  dk := putRows s.dk j (k0_pay97 I.q (dsT I j h) (rows s.dk j h))
  dv := putRows s.dv j (k0_pay78 I.ct I.qs I.lse (rows I.k j h) (bias I.b j h) (rows s.dv j h))
  rs := k0_pay99 (dsT I j h) s.rs

/-- The same at any number, nothing beyond the last tile. -/
def tile (I : Inp F) (j : ℕ) (s : St F) : St F := if h : j < 8 then tileAt I j h s else s

theorem tile_of_lt (I : Inp F) {j : ℕ} (h : j < 8) (s : St F) : tile I j s = tileAt I j h s := dif_pos h

/-- `k` tiles from tile `b` on. -/
def walk (I : Inp F) (b : ℕ) : ℕ → St F → St F
  | 0, s => s
  | k + 1, s => tile I (b + k) (walk I b k s)

@[simp] theorem walk_zero (I : Inp F) (b : ℕ) (s : St F) : walk I b 0 s = s := rfl
theorem walk_succ (I : Inp F) (b k : ℕ) (s : St F) : walk I b (k + 1) s = tile I (b + k) (walk I b k s) := rfl

theorem walk_four (I : Inp F) (b : ℕ) (s : St F) :
    walk I b 4 s = tile I (b + 3) (tile I (b + 2) (tile I (b + 1) (tile I (b + 0) s))) := rfl

theorem walk_add (I : Inp F) (b k l : ℕ) (s : St F) : walk I b (k + l) s = walk I (b + k) l (walk I b k s) := by
  induction l with
  | zero => rfl
  | succ l ih => rw [← Nat.add_assoc, walk_succ, ih, walk_succ, Nat.add_assoc]

/-- The diagonal tile's masked score gradient. -/
abbrev dsD (I : Inp F) (j : ℕ) (h : j < 8) : FVec F S1024x1024 .f32 :=
  k0_pay106 I.ct I.qs I.lse I.delta (rows I.k j h) (rows I.v j h) (bias I.b j h)

/-- The additions of the tile on the diagonal. -/
def diagAt (I : Inp F) (j : ℕ) (h : j < 8) (s : St F) : St F where
  db := putCols s.db j (k0_pay108 (dsD I j h) (cols s.db j h))
  dq := k0_pay111 (rows I.k j h) (dsD I j h) s.dq
  dk := putRows s.dk j (k0_pay110 I.q (dsD I j h) (rows s.dk j h))
  dv := putRows s.dv j (k0_pay107 I.ct I.qs I.lse (rows I.k j h) (bias I.b j h) (rows s.dv j h))
  rs := k0_pay112 (dsD I j h) s.rs

end Cert.KernelIdeal.Hand
end
end
-- ==== Proof.Trip.lean ====
/- One pass of each tile loop of the attention-backward kernel, as `tile`s over the accumulators. -/
module

public import proofs.«01_k».proof.Proof.Step
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

/-- A block whose contents read `x`. -/
abbrev Holds (c : Dev nD) {S : Shape} {e : EltTy} (m : Memref sig .tc .vmem S e) (x : Vec F S e) : sProp 𝕄G :=
  iprop(∃ f, (m.view.loc (c : Thread nD τ) ↦[m.view.set]{fullShare} f) ∗ ⌜m.view.read (Elt F) f = x⌝)

/-- What a tile reads and the five accumulators at `s`. -/
abbrev Res (c : Dev nD) (arg3 arg4 : Memref sig .tc .vmem S8192x128 .bf16) (arg5 : Memref sig .tc .vmem S1x8x1x1024 .f32)
    (arg12 : Memref sig .tc .vmem S1x8x8x1024 .f32) (arg14 : Memref sig .tc .vmem S1024x128 .f32)
    (arg15 arg16 : Memref sig .tc .vmem S8192x128 .f32) (arg17 : Memref sig .tc .vmem S1024x128 .f32)
    (I : Inp F) (s : St F) : sProp 𝕄G :=
  iprop(Holds c arg3 I.k ∗ Holds c arg4 I.v ∗ Holds c arg5 I.b ∗ Holds c arg12 s.db ∗ Holds c arg14 s.dq
    ∗ Holds c arg15 s.dk ∗ Holds c arg16 s.dv ∗ Holds c arg17 s.rs)

variable (𝒱 : Variants) (c : Dev nD) (bd : Option 𝒱.V) (E : Set ℕ) (i : grid0.Coords)
  (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x8x1x1024 .f32) (harg5 : arg5.IsWhole)
  (arg6 : Memref sig .tc .vmem S1024x128 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x8x8x1024 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S8192x128 .f32) (harg15 : arg15.IsWhole)
  (arg16 : Memref sig .tc .vmem S8192x128 .f32) (harg16 : arg16.IsWhole)
  (arg17 : Memref sig .tc .vmem S1024x128 .f32) (harg17 : arg17.IsWhole)

/-- A pass of the loop of single tiles is `tile` at its tile. -/
theorem trip3 (arg1 v67 v68 c1_i32_36 : BitVec 32) (I : Inp F) (s : St F) (k : Fin (k0_t3_loop i).trips) :
    Res c arg3 arg4 arg5 arg12 arg14 arg15 arg16 arg17 I s
      ⊢ wp frame (wpE (defs₀ (F := F)) 𝒱 (c : Thread nD τ) bd) E
          (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q I.ct I.qs I.lse I.delta v67 v68 c1_i32_36 k PUnit.unit)
          (fun _ => Res c arg3 arg4 arg5 arg12 arg14 arg15 arg16 arg17 I (tile I (4 * ((i 1).val / 4) + k.val) s)) := by
  unfold k0_t3_body
  iintro ⟨⟨%f3, H3, %h3⟩, ⟨%f4, H4, %h4⟩, ⟨%f5, H5, %h5⟩, ⟨%f12, H12, %h12⟩, ⟨%f14, H14, %h14⟩, ⟨%f15, H15, %h15⟩, ⟨%f16, H16, %h16⟩, ⟨%f17, H17, %h17⟩⟩
  sl_exec
  sl_step
  have hj : 4 * ((i 1).val / 4) + k.val < 8 := by
    have h1 := k.isLt
    have h2 := t3_trips i
    have h3 : (i 1).val < 8 := (i 1).isLt
    omega
  rw [tile_of_lt I hj]
  isplitl [H3]; · iexists _; isplitl [H3]; · iexact H3
                  ipureintro; exact h3
  isplitl [H4]; · iexists _; isplitl [H4]; · iexact H4
                  ipureintro; exact h4
  isplitl [H5]; · iexists _; isplitl [H5]; · iexact H5
                  ipureintro; exact h5
  have e3 := (View.readAt_unit arg3.view f3 (k0_off7_inb i k) (off7 i k) (rows_in _ hj)).trans (by rw [h3])
  have e4 := (View.readAt_unit arg4.view f4 (k0_off7_inb i k) (off7 i k) (rows_in _ hj)).trans (by rw [h4])
  have e5 := (View.readAt_unit arg5.view f5 (k0_off8_inb i k) (off8 i k) (bias_in _ hj)).trans (by rw [h5])
  have e12 := (View.readAt_unit arg12.view f12 (k0_off9_inb i k) (off9 i k) (cols_in _ hj)).trans (by rw [h12])
  have e15 := (View.readAt_unit arg15.view f15 (k0_off7_inb i k) (off7 i k) (rows_in _ hj)).trans (by rw [h15])
  have e16 := (View.readAt_unit arg16.view f16 (k0_off7_inb i k) (off7 i k) (rows_in _ hj)).trans (by rw [h16])
  have e14 := (View.readAt_full arg14.view f14 inb_S1024x128_S1024x128_0_0).trans h14
  have e17 := (View.readAt_full arg17.view f17 inb_S1024x128_S1024x128_0_0).trans h17
  have q3 : trip3.sl.r c i arg3 k f3 = rows I.k _ hj := by unfold trip3.sl.r; exact e3
  have q4 : trip3.sl.r_1 c i arg3 arg4 arg5 I k f3 f4 f5 = dsT I _ hj := by unfold trip3.sl.r_1; rw [e3, e4, e5]
  isplitl [H12]
  · iexists _; isplitl [H12]; · iexact H12
    ipureintro
    refine (View.read_writes_cons_put arg12.view f12 (k0_off9_inb i k) _ [] (off9 i k)).trans ?_
    unfold trip3.sl.r_2
    rw [e3, e4, e5, e12, View.writes_nil, h12]; rfl
  isplitl [H14]
  · iexists _; isplitl [H14]; · iexact H14
    ipureintro
    refine (View.read_writes_full arg14.view f14 inb_S1024x128_S1024x128_0_0 _ []).trans ?_
    rw [e14, q3, q4]; rfl
  isplitl [H15]
  · iexists _; isplitl [H15]; · iexact H15
    ipureintro
    refine (View.read_writes_cons_put arg15.view f15 (k0_off7_inb i k) _ [] (off7 i k)).trans ?_
    rw [e15, q4, View.writes_nil, h15]; rfl
  isplitl [H16]
  · iexists _; isplitl [H16]; · iexact H16
    ipureintro
    refine (View.read_writes_cons_put arg16.view f16 (k0_off7_inb i k) _ [] (off7 i k)).trans ?_
    rw [e3, e5, e16, View.writes_nil, h16]; rfl
  iexists _; isplitl [H17]; · iexact H17
  ipureintro
  refine (View.read_writes_full arg17.view f17 inb_S1024x128_S1024x128_0_0 _ []).trans ?_
  rw [e17, q4]; rfl

set_option maxHeartbeats 2000000 in
/-- A pass of the unrolled loop is four `tile`s. -/
theorem trip1 (arg1 c4_i32 v28 v30 c0_i32_18 : BitVec 32) (I : Inp F) (s : St F) (k : Fin (k0_t1_loop i).trips) :
    Res c arg3 arg4 arg5 arg12 arg14 arg15 arg16 arg17 I s
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q I.ct I.qs I.lse I.delta c4_i32 v28 v30 c0_i32_18 k PUnit.unit)
          (fun _ => Res c arg3 arg4 arg5 arg12 arg14 arg15 arg16 arg17 I (walk I (4 * k.val) 4 s)) := by
  unfold k0_t1_body
  iintro ⟨⟨%f3, H3, %h3⟩, ⟨%f4, H4, %h4⟩, ⟨%f5, H5, %h5⟩, ⟨%f12, H12, %h12⟩, ⟨%f14, H14, %h14⟩, ⟨%f15, H15, %h15⟩, ⟨%f16, H16, %h16⟩, ⟨%f17, H17, %h17⟩⟩
  sl_exec
  sl_step
  isplitl [H3]; · iexists _; isplitl [H3]; · iexact H3
                  ipureintro; exact h3
  isplitl [H4]; · iexists _; isplitl [H4]; · iexact H4
                  ipureintro; exact h4
  isplitl [H5]; · iexists _; isplitl [H5]; · iexact H5
                  ipureintro; exact h5
  have hk := k.isLt
  have ht := t1_trips i
  have hq : (i 1).val < 8 := (i 1).isLt
  have j0 : 4 * k.val + 0 < 8 := by omega
  have o10 : ∀ a, k0_off1 i k 0#32 a + S1024x128.size a ≤ S8192x128.size a := k0_off1_inb i k 0
  have o20 : ∀ a, k0_off2 i k 0#32 a + S1x1x1x1024.size a ≤ S1x8x1x1024.size a := k0_off2_inb i k 0
  have o30 : ∀ a, k0_off3 i k 0#32 a + S1x1x8x1024.size a ≤ S1x8x8x1024.size a := k0_off3_inb i k 0
  have a30 := (View.readAt_unit arg3.view f3 o10 (off1_0 i k) (rows_in _ j0)).trans (by rw [h3])
  have a40 := (View.readAt_unit arg4.view f4 o10 (off1_0 i k) (rows_in _ j0)).trans (by rw [h4])
  have a50 := (View.readAt_unit arg5.view f5 o20 (off2_0 i k) (bias_in _ j0)).trans (by rw [h5])
  have a120 := (View.readAt_unit arg12.view f12 o30 (off3_0 i k) (cols_in _ j0)).trans (by rw [h12])
  have a150 := (View.readAt_unit arg15.view f15 o10 (off1_0 i k) (rows_in _ j0)).trans (by rw [h15])
  have a160 := (View.readAt_unit arg16.view f16 o10 (off1_0 i k) (rows_in _ j0)).trans (by rw [h16])
  have j1 : 4 * k.val + 1 < 8 := by omega
  have o11 : ∀ a, k0_off1 i k 1#32 a + S1024x128.size a ≤ S8192x128.size a := k0_off1_inb i k 1
  have o21 : ∀ a, k0_off2 i k 1#32 a + S1x1x1x1024.size a ≤ S1x8x1x1024.size a := k0_off2_inb i k 1
  have o31 : ∀ a, k0_off3 i k 1#32 a + S1x1x8x1024.size a ≤ S1x8x8x1024.size a := k0_off3_inb i k 1
  have a31 := (View.readAt_unit arg3.view f3 o11 (off1_1 i k) (rows_in _ j1)).trans (by rw [h3])
  have a41 := (View.readAt_unit arg4.view f4 o11 (off1_1 i k) (rows_in _ j1)).trans (by rw [h4])
  have a51 := (View.readAt_unit arg5.view f5 o21 (off2_1 i k) (bias_in _ j1)).trans (by rw [h5])
  have a121 := (View.readAt_unit arg12.view f12 o31 (off3_1 i k) (cols_in _ j1)).trans (by rw [h12])
  have a151 := (View.readAt_unit arg15.view f15 o11 (off1_1 i k) (rows_in _ j1)).trans (by rw [h15])
  have a161 := (View.readAt_unit arg16.view f16 o11 (off1_1 i k) (rows_in _ j1)).trans (by rw [h16])
  have j2 : 4 * k.val + 2 < 8 := by omega
  have o12 : ∀ a, k0_off1 i k 2#32 a + S1024x128.size a ≤ S8192x128.size a := k0_off1_inb i k 2
  have o22 : ∀ a, k0_off2 i k 2#32 a + S1x1x1x1024.size a ≤ S1x8x1x1024.size a := k0_off2_inb i k 2
  have o32 : ∀ a, k0_off3 i k 2#32 a + S1x1x8x1024.size a ≤ S1x8x8x1024.size a := k0_off3_inb i k 2
  have a32 := (View.readAt_unit arg3.view f3 o12 (off1_2 i k) (rows_in _ j2)).trans (by rw [h3])
  have a42 := (View.readAt_unit arg4.view f4 o12 (off1_2 i k) (rows_in _ j2)).trans (by rw [h4])
  have a52 := (View.readAt_unit arg5.view f5 o22 (off2_2 i k) (bias_in _ j2)).trans (by rw [h5])
  have a122 := (View.readAt_unit arg12.view f12 o32 (off3_2 i k) (cols_in _ j2)).trans (by rw [h12])
  have a152 := (View.readAt_unit arg15.view f15 o12 (off1_2 i k) (rows_in _ j2)).trans (by rw [h15])
  have a162 := (View.readAt_unit arg16.view f16 o12 (off1_2 i k) (rows_in _ j2)).trans (by rw [h16])
  have j3 : 4 * k.val + 3 < 8 := by omega
  have o13 : ∀ a, k0_off1 i k 3#32 a + S1024x128.size a ≤ S8192x128.size a := k0_off1_inb i k 3
  have o23 : ∀ a, k0_off2 i k 3#32 a + S1x1x1x1024.size a ≤ S1x8x1x1024.size a := k0_off2_inb i k 3
  have o33 : ∀ a, k0_off3 i k 3#32 a + S1x1x8x1024.size a ≤ S1x8x8x1024.size a := k0_off3_inb i k 3
  have a33 := (View.readAt_unit arg3.view f3 o13 (off1_3 i k) (rows_in _ j3)).trans (by rw [h3])
  have a43 := (View.readAt_unit arg4.view f4 o13 (off1_3 i k) (rows_in _ j3)).trans (by rw [h4])
  have a53 := (View.readAt_unit arg5.view f5 o23 (off2_3 i k) (bias_in _ j3)).trans (by rw [h5])
  have a123 := (View.readAt_unit arg12.view f12 o33 (off3_3 i k) (cols_in _ j3)).trans (by rw [h12])
  have a153 := (View.readAt_unit arg15.view f15 o13 (off1_3 i k) (rows_in _ j3)).trans (by rw [h15])
  have a163 := (View.readAt_unit arg16.view f16 o13 (off1_3 i k) (rows_in _ j3)).trans (by rw [h16])
  have a14 := (View.readAt_full arg14.view f14 inb_S1024x128_S1024x128_0_0).trans h14
  have a17 := (View.readAt_full arg17.view f17 inb_S1024x128_S1024x128_0_0).trans h17
  have r0 : trip1.sl.r c i arg3 k f3 = rows I.k _ j0 := by unfold trip1.sl.r; exact a30
  have r1 : trip1.sl.r_1 c i arg3 arg4 arg5 I k f3 f4 f5 = dsT I _ j0 := by unfold trip1.sl.r_1; rw [a30, a40, a50]; rfl
  have r3 : trip1.sl.r_3 c i arg3 k f3 = rows I.k _ j1 := by unfold trip1.sl.r_3; exact a31
  have r4 : trip1.sl.r_4 c i arg3 arg4 arg5 I k f3 f4 f5 = dsT I _ j1 := by unfold trip1.sl.r_4; rw [r3, a41, a51]; rfl
  have r5 : trip1.sl.r_5 c i arg3 arg4 arg5 I k f3 f4 f5 = k0_pay96 (dsT I _ j1) := by unfold trip1.sl.r_5; rw [r3, a41, a51]; rfl
  have r6 : trip1.sl.r_6 c i arg3 k f3 = rows I.k _ j2 := by unfold trip1.sl.r_6; exact a32
  have r7 : trip1.sl.r_7 c i arg4 k f4 = rows I.v _ j2 := by unfold trip1.sl.r_7; exact a42
  have r8 : trip1.sl.r_8 c i arg3 I k f3 = k0_pay21 I.qs (rows I.k _ j2) := by unfold trip1.sl.r_8; rw [a32]
  have r9 : trip1.sl.r_9 c i arg5 k f5 = k0_pay22 (bias I.b _ j2) := by unfold trip1.sl.r_9; rw [a52]
  have r10 : trip1.sl.r_10 c i arg3 arg4 arg5 I k f3 f4 f5 = dsT I _ j2 := by unfold trip1.sl.r_10; rw [r7, r8, r9]; rfl
  have r11 : trip1.sl.r_11 c i arg3 arg4 arg5 I k f3 f4 f5 = k0_pay96 (dsT I _ j2) := by unfold trip1.sl.r_11; rw [r7, r8, r9]; rfl
  have r12 : trip1.sl.r_12 c i arg3 k f3 = rows I.k _ j3 := by unfold trip1.sl.r_12; exact a33
  have r13 : trip1.sl.r_13 c i arg3 arg4 arg5 I k f3 f4 f5 = dsT I _ j3 := by unfold trip1.sl.r_13; rw [a33, a43, a53]; rfl
  rw [walk_four, tile_of_lt I j3, tile_of_lt I j2, tile_of_lt I j1, tile_of_lt I j0]
  isplitl [H12]
  · iexists _; isplitl [H12]; · iexact H12
    ipureintro
    refine (View.read_writes_cons_put arg12.view f12 o33 _ _ (off3_3 i k)).trans ?_
    rw [View.read_writes_cons_put arg12.view f12 o32 _ _ (off3_2 i k),
      View.read_writes_cons_put arg12.view f12 o31 _ _ (off3_1 i k),
      View.read_writes_cons_put arg12.view f12 o30 _ _ (off3_0 i k), View.writes_nil, h12]
    unfold trip1.sl.r_2 trip1.sl.v397 trip1.sl.v330 trip1.sl.v263
    rw [r13, r7, r8, r9, r3, a41, a51, a30, a40, a50, a120, a121, a122, a123]
    dsimp only [tileAt]
    rw [cols_putCols_ne _ _ _ j3 _ (by omega), cols_putCols_ne _ _ _ j3 _ (by omega), cols_putCols_ne _ _ _ j3 _ (by omega),
      cols_putCols_ne _ _ _ j2 _ (by omega), cols_putCols_ne _ _ _ j2 _ (by omega), cols_putCols_ne _ _ _ j1 _ (by omega)]
    rfl
  isplitl [H14]
  · iexists _; isplitl [H14]; · iexact H14
    ipureintro
    refine (View.read_writes_full arg14.view f14 inb_S1024x128_S1024x128_0_0 _ _).trans ?_
    unfold trip1.sl.v417 trip1.sl.H14_3 trip1.sl.v350 trip1.sl.H14_2 trip1.sl.v283 trip1.sl.H14_1
    rw [View.readCov_full, View.readCov_full, View.readCov_full, r13, r12, r11, r6, r5, r3, r1, r0, a14]
    rfl
  isplitl [H15]
  · iexists _; isplitl [H15]; · iexact H15
    ipureintro
    refine (View.read_writes_cons_put arg15.view f15 o13 _ _ (off1_3 i k)).trans ?_
    rw [View.read_writes_cons_put arg15.view f15 o12 _ _ (off1_2 i k),
      View.read_writes_cons_put arg15.view f15 o11 _ _ (off1_1 i k),
      View.read_writes_cons_put arg15.view f15 o10 _ _ (off1_0 i k), View.writes_nil, h15,
      r1, r5, r7, r8, r9, r13, a150]
    unfold trip1.sl.v410 trip1.sl.v343 trip1.sl.v276
    rw [a151, a152, a153]
    dsimp only [tileAt]
    rw [rows_putRows_ne _ _ _ j3 _ (by omega), rows_putRows_ne _ _ _ j3 _ (by omega), rows_putRows_ne _ _ _ j3 _ (by omega),
      rows_putRows_ne _ _ _ j2 _ (by omega), rows_putRows_ne _ _ _ j2 _ (by omega), rows_putRows_ne _ _ _ j1 _ (by omega)]
    rfl
  isplitl [H16]
  · iexists _; isplitl [H16]; · iexact H16
    ipureintro
    refine (View.read_writes_cons_put arg16.view f16 o13 _ _ (off1_3 i k)).trans ?_
    rw [View.read_writes_cons_put arg16.view f16 o12 _ _ (off1_2 i k),
      View.read_writes_cons_put arg16.view f16 o11 _ _ (off1_1 i k),
      View.read_writes_cons_put arg16.view f16 o10 _ _ (off1_0 i k), View.writes_nil, h16,
      r8, r9, r3, a51, a30, a50, a160]
    unfold trip1.sl.v388 trip1.sl.v321 trip1.sl.v254 trip1.sl.r_14
    rw [a161, a162, a163, a33, a53]
    dsimp only [tileAt]
    rw [rows_putRows_ne _ _ _ j3 _ (by omega), rows_putRows_ne _ _ _ j3 _ (by omega), rows_putRows_ne _ _ _ j3 _ (by omega),
      rows_putRows_ne _ _ _ j2 _ (by omega), rows_putRows_ne _ _ _ j2 _ (by omega), rows_putRows_ne _ _ _ j1 _ (by omega)]
    rfl
  iexists _; isplitl [H17]; · iexact H17
  ipureintro
  refine (View.read_writes_full arg17.view f17 inb_S1024x128_S1024x128_0_0 _ _).trans ?_
  unfold trip1.sl.v423 trip1.sl.r_15 trip1.sl.H17_3 trip1.sl.v356 trip1.sl.H17_2 trip1.sl.v289 trip1.sl.H17_1
  rw [View.readCov_full, View.readCov_full, View.readCov_full, r13, r10, r4, r1, a17]
  rfl

end Cert.KernelIdeal.Hand
end
end
-- ==== Proof.Parts.lean ====
/- The stretches of the attention-backward kernel's body: the two tile loops, the diagonal tile, the resets. -/
module

public import proofs.«01_k».proof.Proof.Trip
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x8x1x1024 .f32) (harg5 : arg5.IsWhole)
  (arg6 : Memref sig .tc .vmem S1024x128 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x8x8x1024 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S8192x128 .f32) (harg15 : arg15.IsWhole)
  (arg16 : Memref sig .tc .vmem S8192x128 .f32) (harg16 : arg16.IsWhole)
  (arg17 : Memref sig .tc .vmem S1024x128 .f32) (harg17 : arg17.IsWhole)

theorem t2_trips (i : grid0.Coords) : (k0_t2_loop i).trips = 0 := by
  have h : ∀ i : grid0.Coords, (k0_t2_loop i).trips = 0 := by decide +kernel
  exact h i

theorem t4_trips (i : grid0.Coords) : (k0_t4_loop i).trips = 0 := by
  have h : ∀ i : grid0.Coords, (k0_t4_loop i).trips = 0 := by decide +kernel
  exact h i

/-- The unrolled loop takes the tiles before the last multiple of four. -/
theorem loop1 (arg1 c4_i32 v28 v30 c0_i32_18 : BitVec 32) (I : Inp F) (s : St F) :
    Res c arg3 arg4 arg5 arg12 arg14 arg15 arg16 arg17 I s
      ⊢ wp frame (wpE (defs₀ (F := F)) 𝒱 (c : Thread nD τ) bd) E (Scf.Loop.for (k0_t1_loop i) (k0_t1_ok i) ⟨⟩
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q I.ct I.qs I.lse I.delta c4_i32 v28 v30 c0_i32_18))
          (fun _ => Res c arg3 arg4 arg5 arg12 arg14 arg15 arg16 arg17 I (walk I 0 (4 * ((i 1).val / 4)) s)) := by
  iintro H
  iapply (Scf.wp_for frame (wpE (defs₀ (F := F)) 𝒱 (c : Thread nD τ) bd) E _ _ _ (k0_t1_ok i) _ _
    (fun k _ => Res c arg3 arg4 arg5 arg12 arg14 arg15 arg16 arg17 I (walk I 0 (4 * k) s))
    (fun k acc => (trip1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 c4_i32 v28 v30 c0_i32_18 I (walk I 0 (4 * k.val) s) k).trans
      (wp_mono _ _ _ fun _ => by
        rw [show 4 * (k.val + 1) = 4 * k.val + 4 by omega, walk_add, Nat.zero_add])))
  isplitl [H]
  · iexact H
  · iintro %_ H
    rw [show Scf.trips (k0_t1_loop i).lb (k0_t1_loop i).ub (k0_t1_loop i).st = (i 1).val / 4 from t1_trips i]
    iexact H

/-- The loop of single tiles takes the rest of the tiles before the diagonal one. -/
theorem loop3 (arg1 v67 v68 c1_i32_36 : BitVec 32) (I : Inp F) (s : St F) :
    Res c arg3 arg4 arg5 arg12 arg14 arg15 arg16 arg17 I s
      ⊢ wp frame (wpE (defs₀ (F := F)) 𝒱 (c : Thread nD τ) bd) E (Scf.Loop.for (k0_t3_loop i) (k0_t3_ok i) ⟨⟩
          (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q I.ct I.qs I.lse I.delta v67 v68 c1_i32_36))
          (fun _ => Res c arg3 arg4 arg5 arg12 arg14 arg15 arg16 arg17 I (walk I (4 * ((i 1).val / 4)) ((i 1).val % 4) s)) := by
  iintro H
  iapply (Scf.wp_for frame (wpE (defs₀ (F := F)) 𝒱 (c : Thread nD τ) bd) E _ _ _ (k0_t3_ok i) _ _
    (fun k _ => Res c arg3 arg4 arg5 arg12 arg14 arg15 arg16 arg17 I (walk I (4 * ((i 1).val / 4)) k s))
    (fun k acc => (trip3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v67 v68 c1_i32_36 I (walk I (4 * ((i 1).val / 4)) k.val s) k).trans
      (wp_mono _ _ _ fun _ => by rw [walk_succ])))
  isplitl [H]
  · iexact H
  · iintro %_ H
    rw [show Scf.trips (k0_t3_loop i).lb (k0_t3_loop i).ub (k0_t3_loop i).st = (i 1).val % 4 from t3_trips i]
    iexact H

theorem loop2 (arg1 c4_i32 v28 v30 c0_i32_18 v49 : BitVec 32) (v16 v17 : Vec F S1024x128 .bf16) (v21 : FVec F S1024x128 .bf16) (v24 v27 : FVec F S1024x1 .f32) (P : sProp 𝕄G) :
    P ⊢ wp frame (wpE (defs₀ (F := F)) 𝒱 (c : Thread nD τ) bd) E (Scf.Loop.for (k0_t2_loop i) (k0_t2_ok i) ⟨⟩
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v16 v17 v21 v24 v27 c4_i32 v28 v30 c0_i32_18 v49))
          (fun _ => P) := by
  iintro H
  iapply (Scf.wp_for frame (wpE (defs₀ (F := F)) 𝒱 (c : Thread nD τ) bd) E _ _ _ (k0_t2_ok i) _ _
    (fun _ _ => P) (fun k _ => absurd k.isLt (by have h : Scf.trips (k0_t2_loop i).lb (k0_t2_loop i).ub (k0_t2_loop i).st = 0 := t2_trips i
                                                 omega)))
  isplitl [H]
  · iexact H
  · iintro %_ H; iexact H

theorem loop4 (arg1 v67 v68 c1_i32_36 v72 : BitVec 32) (v16 v17 : Vec F S1024x128 .bf16) (v21 : FVec F S1024x128 .bf16) (v24 v27 : FVec F S1024x1 .f32) (P : sProp 𝕄G) :
    P ⊢ wp frame (wpE (defs₀ (F := F)) 𝒱 (c : Thread nD τ) bd) E (Scf.Loop.for (k0_t4_loop i) (k0_t4_ok i) ⟨⟩
          (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v16 v17 v21 v24 v27 v67 v68 c1_i32_36 v72))
          (fun _ => P) := by
  iintro H
  iapply (Scf.wp_for frame (wpE (defs₀ (F := F)) 𝒱 (c : Thread nD τ) bd) E _ _ _ (k0_t4_ok i) _ _
    (fun _ _ => P) (fun k _ => absurd k.isLt (by have h : Scf.trips (k0_t4_loop i).lb (k0_t4_loop i).ub (k0_t4_loop i).st = 0 := t4_trips i
                                                 omega)))
  isplitl [H]
  · iexact H
  · iintro %_ H; iexact H

/-- The stretch with the unrolled loop. -/
theorem part18 (arg1 c4_i32 v28 v30 c0_i32_18 : BitVec 32) (I : Inp F) (s : St F) :
    Res c arg3 arg4 arg5 arg12 arg14 arg15 arg16 arg17 I s
      ⊢ wp frame (wpE (defs₀ (F := F)) 𝒱 (c : Thread nD τ) bd) E (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q I.ct I.qs I.lse I.delta c4_i32 v28 v30 c0_i32_18)
          (fun _ => Res c arg3 arg4 arg5 arg12 arg14 arg15 arg16 arg17 I (walk I 0 (4 * ((i 1).val / 4)) s)) := by
  rw [k0_part18_eq_skeleton]; unfold k0_part18_skel
  rw [wp_bind]
  refine (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 c4_i32 v28 v30 c0_i32_18 I s).trans (wp_mono _ _ _ fun _ => ?_)
  rw [wp_bind]
  refine (loop2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 c4_i32 v28 v30 c0_i32_18 _ I.q I.ct I.qs I.lse I.delta _).trans (wp_mono _ _ _ fun _ => ?_)
  iintro H; sl_exec; sl_step; iexact H

set_option maxHeartbeats 2000000 in
/-- The stretch with the loop of single tiles and the diagonal tile's value gradient. -/
theorem part19 (arg1 v67 v68 c1_i32_36 : BitVec 32) (I : Inp F) (s : St F) :
    Res c arg3 arg4 arg5 arg12 arg14 arg15 arg16 arg17 I s
      ⊢ wp frame (wpE (defs₀ (F := F)) 𝒱 (c : Thread nD τ) bd) E (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q I.ct I.qs I.lse I.delta v67 v68 c1_i32_36)
          (fun r => iprop(⌜r.2.1 = rows I.k _ (i 1).isLt⌝ ∗ ⌜r.2.2 = dsD I _ (i 1).isLt⌝
            ∗ Res c arg3 arg4 arg5 arg12 arg14 arg15 arg16 arg17 I { walk I (4 * ((i 1).val / 4)) ((i 1).val % 4) s with
                dv := (diagAt I _ (i 1).isLt (walk I (4 * ((i 1).val / 4)) ((i 1).val % 4) s)).dv })) := by
  rw [k0_part19_eq_skeleton]; unfold k0_part19_skel
  rw [wp_bind]
  refine (loop3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v67 v68 c1_i32_36 I s).trans (wp_mono _ _ _ fun _ => ?_)
  rw [wp_bind]
  refine (loop4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v67 v68 c1_i32_36 _ I.q I.ct I.qs I.lse I.delta _).trans (wp_mono _ _ _ fun _ => ?_)
  generalize walk I (4 * ((i 1).val / 4)) ((i 1).val % 4) s = s'
  iintro ⟨⟨%f3, H3, %h3⟩, ⟨%f4, H4, %h4⟩, ⟨%f5, H5, %h5⟩, H12, H14, H15, ⟨%f16, H16, %h16⟩, H17⟩
  sl_exec
  sl_step
  have e3 := (View.readAt_unit arg3.view f3 (k0_off13_inb i) (off13 i) (rows_in _ (i 1).isLt)).trans (by rw [h3])
  have e4 := (View.readAt_unit arg4.view f4 (k0_off13_inb i) (off13 i) (rows_in _ (i 1).isLt)).trans (by rw [h4])
  have e5 := (View.readAt_unit arg5.view f5 (k0_off14_inb i) (off14 i) (bias_in _ (i 1).isLt)).trans (by rw [h5])
  have e16 := (View.readAt_unit arg16.view f16 (k0_off13_inb i) (off13 i) (rows_in _ (i 1).isLt)).trans (by rw [h16])
  isplitr
  · ipureintro; exact e3
  isplitr
  · ipureintro; show k0_pay106 _ _ _ _ _ _ _ = _; rw [e3, e4, e5]
  isplitl [H3]; · iexists _; isplitl [H3]; · iexact H3
                  ipureintro; exact h3
  isplitl [H4]; · iexists _; isplitl [H4]; · iexact H4
                  ipureintro; exact h4
  isplitl [H5]; · iexists _; isplitl [H5]; · iexact H5
                  ipureintro; exact h5
  isplitl [H12]; · iexact H12
  isplitl [H14]; · iexact H14
  isplitl [H15]; · iexact H15
  isplitl [H16]
  · iexists _; isplitl [H16]; · iexact H16
    ipureintro
    refine (View.read_writes_cons_put arg16.view f16 (k0_off13_inb i) _ [] (off13 i)).trans ?_
    rw [e3, e5, e16, View.writes_nil, h16]; rfl
  iexact H17

set_option maxHeartbeats 2000000 in
/-- The rest of the diagonal tile. -/
theorem part20 (arg1 v74 : BitVec 32) (I : Inp F) (s : St F) :
    Res c arg3 arg4 arg5 arg12 arg14 arg15 arg16 arg17 I { s with dv := (diagAt I _ (i 1).isLt s).dv }
      ⊢ wp frame (wpE (defs₀ (F := F)) 𝒱 (c : Thread nD τ) bd) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 I.q v74 (rows I.k _ (i 1).isLt) (dsD I _ (i 1).isLt))
          (fun r => iprop(⌜r = k0_pay113 (diagAt I _ (i 1).isLt s).dq⌝
            ∗ Res c arg3 arg4 arg5 arg12 arg14 arg15 arg16 arg17 I (diagAt I _ (i 1).isLt s))) := by
  rw [k0_part20_eq_skeleton]; unfold k0_part20_skel
  iintro ⟨H3, H4, H5, ⟨%f12, H12, %h12⟩, ⟨%f14, H14, %h14⟩, ⟨%f15, H15, %h15⟩, H16, ⟨%f17, H17, %h17⟩⟩
  sl_exec
  sl_step
  have e12 := (View.readAt_unit arg12.view f12 (k0_off15_inb i) (off15 i) (cols_in _ (i 1).isLt)).trans (by rw [h12])
  have e15 := (View.readAt_unit arg15.view f15 (k0_off13_inb i) (off13 i) (rows_in _ (i 1).isLt)).trans (by rw [h15])
  have e14 := (View.readAt_full arg14.view f14 inb_S1024x128_S1024x128_0_0).trans h14
  have e17 := (View.readAt_full arg17.view f17 inb_S1024x128_S1024x128_0_0).trans h17
  isplitr
  · ipureintro
    unfold part20.sl.v143 part20.sl.H14_1
    rw [View.readCov_full, e14]; rfl
  isplitl [H3]; · iexact H3
  isplitl [H4]; · iexact H4
  isplitl [H5]; · iexact H5
  isplitl [H12]
  · iexists _; isplitl [H12]; · iexact H12
    ipureintro
    refine (View.read_writes_cons_put arg12.view f12 (k0_off15_inb i) _ [] (off15 i)).trans ?_
    rw [e12, View.writes_nil, h12]; rfl
  isplitl [H14]
  · iexists _; isplitl [H14]; · iexact H14
    ipureintro
    refine (View.read_writes_full arg14.view f14 inb_S1024x128_S1024x128_0_0 _ []).trans ?_
    rw [e14]; rfl
  isplitl [H15]
  · iexists _; isplitl [H15]; · iexact H15
    ipureintro
    refine (View.read_writes_cons_put arg15.view f15 (k0_off13_inb i) _ [] (off13 i)).trans ?_
    rw [e15, View.writes_nil, h15]; rfl
  isplitl [H16]; · iexact H16
  iexists _; isplitl [H17]; · iexact H17
  ipureintro
  refine (View.read_writes_full arg17.view f17 inb_S1024x128_S1024x128_0_0 _ []).trans ?_
  rw [e17]; rfl

/-- The tail of the row sums, cleared at the grid's first point. -/
def start13 (i : grid0.Coords) (x : Vec F S8192x128 .f32) : Vec F S8192x128 .f32 :=
  if (i 0).val = 0 ∧ (i 1).val = 0 then k0_pay84 else x

/-- The accumulators a point starts from: those of the head cleared at its first point, those of the rows always. -/
def start (i : grid0.Coords) (s : St F) : St F where
  db := if (i 1).val = 0 then k0_pay87 else s.db
  dq := k0_pay88
  dk := if (i 1).val = 0 then k0_pay85 else s.dk
  dv := if (i 1).val = 0 then k0_pay86 else s.dv
  rs := k0_pay89

theorem cond1_iff (i : grid0.Coords) : (Scalar.cmpi .ne (Scalar.extui (Scalar.andi (Scalar.cmpi .eq (BitVec.ofNat 32 (i 0).val) 0#32) (Scalar.cmpi .eq (BitVec.ofNat 32 (i 1).val) 0#32))) 0#32 = 1#1) ↔ ((i 0).val = 0 ∧ (i 1).val = 0) := by
  have h : ∀ i : grid0.Coords, (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) ↔ ((i 0).val = 0 ∧ (i 1).val = 0) := by decide +kernel
  exact h i

theorem cond2_iff (i : grid0.Coords) : (Scalar.cmpi .ne (Scalar.extui (Scalar.cmpi .eq (BitVec.ofNat 32 (i 1).val) 0#32)) 0#32 = 1#1) ↔ (i 1).val = 0 := by
  have h : ∀ i : grid0.Coords, (Scalar.cmpi .ne (Scalar.extui (Scalar.cmpi .eq (BitVec.ofNat 32 (i 1).val) 0#32) : BitVec 32) 0#32 = 1#1) ↔ (i 1).val = 0 := by decide +kernel
  exact h i

theorem cond3_iff (i : grid0.Coords) : k0_cond3 i = 1#1 ↔ (i 1).val = 7 := by
  have h : ∀ i : grid0.Coords, k0_cond3 i = 1#1 ↔ (i 1).val = 7 := by decide +kernel
  exact h i

/-- What a point reads, from the blocks it loads. -/
abbrev inp (q ct : Vec F S1024x128 .bf16) (lse delta : Vec F S1024x128 .f32) (k v : Vec F S8192x128 .bf16) (b : Vec F S1x8x1x1024 .f32) : Inp F :=
  ⟨q, ct, k0_pay90 q, k0_pay91 lse, k0_pay92 delta, k, v, b⟩

/-- The query-side blocks. -/
abbrev ResQ (c : Dev nD) (arg2 arg6 : Memref sig .tc .vmem S1024x128 .bf16) (arg7 arg8 : Memref sig .tc .vmem S1024x128 .f32)
    (q ct : Vec F S1024x128 .bf16) (lse delta : Vec F S1024x128 .f32) : sProp 𝕄G :=
  iprop(Holds c arg2 q ∗ Holds c arg6 ct ∗ Holds c arg7 delta ∗ Holds c arg8 lse)

/-- The stretch of resets and query-side loads. -/
theorem part17 (q ct : Vec F S1024x128 .bf16) (lse delta : Vec F S1024x128 .f32) (k v : Vec F S8192x128 .bf16) (b : Vec F S1x8x1x1024 .f32)
    (x13 : Vec F S8192x128 .f32) (s : St F) :
    iprop(ResQ c arg2 arg6 arg7 arg8 q ct lse delta ∗ Holds c arg13 x13 ∗ Res c arg3 arg4 arg5 arg12 arg14 arg15 arg16 arg17 (inp q ct lse delta k v b) s)
      ⊢ wp frame (wpE (defs₀ (F := F)) 𝒱 (c : Thread nD τ) bd) E (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop((∃ v28 v30 : BitVec 32, ⌜r = ⟨BitVec.ofNat 32 (i 0).val, BitVec.ofNat 32 (i 1).val, q, ct, k0_pay90 q, k0_pay91 lse, k0_pay92 delta, 4#32, v28, v30, 0#32⟩⌝)
            ∗ ResQ c arg2 arg6 arg7 arg8 q ct lse delta ∗ Holds c arg13 (start13 i x13) ∗ Res c arg3 arg4 arg5 arg12 arg14 arg15 arg16 arg17 (inp q ct lse delta k v b) (start i s))) := by
  rw [k0_part17_eq_skeleton]; unfold k0_part17_skel
  iintro ⟨⟨⟨%f2, H2, %h2⟩, ⟨%f6, H6, %h6⟩, ⟨%f7, H7, %h7⟩, ⟨%f8, H8, %h8⟩⟩, ⟨%f13, H13, %h13⟩, H3, H4, H5, ⟨%f12, H12, %h12⟩, ⟨%f14, H14, %h14⟩, ⟨%f15, H15, %h15⟩, ⟨%f16, H16, %h16⟩, ⟨%f17, H17, %h17⟩⟩
  have c1 := cond1_iff i
  have c2 := cond2_iff i
  have e2 := (View.readAt_full arg2.view f2 inb_S1024x128_S1024x128_0_0).trans h2
  have e6 := (View.readAt_full arg6.view f6 inb_S1024x128_S1024x128_0_0).trans h6
  have e7 := (View.readAt_full arg7.view f7 inb_S1024x128_S1024x128_0_0).trans h7
  have e8 := (View.readAt_full arg8.view f8 inb_S1024x128_S1024x128_0_0).trans h8
  have d13 : (start13 i x13 : Vec F S8192x128 .f32) = if (i 0).val = 0 ∧ (i 1).val = 0 then k0_pay84 else x13 := rfl
  have d12 : (start i s).db = if (i 1).val = 0 then k0_pay87 else s.db := rfl
  have d15 : (start i s).dk = if (i 1).val = 0 then k0_pay85 else s.dk := rfl
  have d16 : (start i s).dv = if (i 1).val = 0 then k0_pay86 else s.dv := rfl
  by_cases hq : (i 1).val = 0
  · have g2 := c2.mpr hq
    rw [if_pos hq] at d12 d15 d16
    by_cases hh : (i 0).val = 0
    · have g1 := c1.mpr ⟨hh, hq⟩
      rw [if_pos ⟨hh, hq⟩] at d13
      sl_exec
      sl_step
      isplitr
      · iexists _, _; ipureintro; rfl
      isplitl [H2 H6 H7 H8]
      · isplitl [H2]; · iexists _; isplitl [H2]; · iexact H2
                        ipureintro; exact h2
        isplitl [H6]; · iexists _; isplitl [H6]; · iexact H6
                        ipureintro; exact h6
        isplitl [H7]; · iexists _; isplitl [H7]; · iexact H7
                        ipureintro; exact h7
        iexists _; isplitl [H8]; · iexact H8
        ipureintro; exact h8
      isplitl [H13]
      · iexists _; isplitl [H13]; · iexact H13
        ipureintro
        exact (View.read_writes_full arg13.view f13 inb_S8192x128_S8192x128_0_0 _ []).trans d13.symm
      isplitl [H3]; · iexact H3
      isplitl [H4]; · iexact H4
      isplitl [H5]; · iexact H5
      isplitl [H12]
      · iexists _; isplitl [H12]; · iexact H12
        ipureintro
        exact (View.read_writes_full arg12.view f12 inb_S1x8x8x1024_S1x8x8x1024_0_0_0_0 _ []).trans d12.symm
      isplitl [H14]
      · iexists _; isplitl [H14]; · iexact H14
        ipureintro
        exact View.read_writes_full arg14.view f14 inb_S1024x128_S1024x128_0_0 _ []
      isplitl [H15]
      · iexists _; isplitl [H15]; · iexact H15
        ipureintro
        exact (View.read_writes_full arg15.view f15 inb_S8192x128_S8192x128_0_0 _ []).trans d15.symm
      isplitl [H16]
      · iexists _; isplitl [H16]; · iexact H16
        ipureintro
        exact (View.read_writes_full arg16.view f16 inb_S8192x128_S8192x128_0_0 _ []).trans d16.symm
      iexists _; isplitl [H17]; · iexact H17
      ipureintro
      exact View.read_writes_full arg17.view f17 inb_S1024x128_S1024x128_0_0 _ []
    · have g1 := mt c1.mp (fun h => hh h.1)
      rw [if_neg (fun h => hh h.1)] at d13
      sl_exec
      sl_step
      isplitr
      · iexists _, _; ipureintro; rfl
      isplitl [H2 H6 H7 H8]
      · isplitl [H2]; · iexists _; isplitl [H2]; · iexact H2
                        ipureintro; exact h2
        isplitl [H6]; · iexists _; isplitl [H6]; · iexact H6
                        ipureintro; exact h6
        isplitl [H7]; · iexists _; isplitl [H7]; · iexact H7
                        ipureintro; exact h7
        iexists _; isplitl [H8]; · iexact H8
        ipureintro; exact h8
      isplitl [H13]
      · iexists _; isplitl [H13]; · iexact H13
        ipureintro
        exact h13.trans d13.symm
      isplitl [H3]; · iexact H3
      isplitl [H4]; · iexact H4
      isplitl [H5]; · iexact H5
      isplitl [H12]
      · iexists _; isplitl [H12]; · iexact H12
        ipureintro
        exact (View.read_writes_full arg12.view f12 inb_S1x8x8x1024_S1x8x8x1024_0_0_0_0 _ []).trans d12.symm
      isplitl [H14]
      · iexists _; isplitl [H14]; · iexact H14
        ipureintro
        exact View.read_writes_full arg14.view f14 inb_S1024x128_S1024x128_0_0 _ []
      isplitl [H15]
      · iexists _; isplitl [H15]; · iexact H15
        ipureintro
        exact (View.read_writes_full arg15.view f15 inb_S8192x128_S8192x128_0_0 _ []).trans d15.symm
      isplitl [H16]
      · iexists _; isplitl [H16]; · iexact H16
        ipureintro
        exact (View.read_writes_full arg16.view f16 inb_S8192x128_S8192x128_0_0 _ []).trans d16.symm
      iexists _; isplitl [H17]; · iexact H17
      ipureintro
      exact View.read_writes_full arg17.view f17 inb_S1024x128_S1024x128_0_0 _ []
  · have g2 := mt c2.mp hq
    have g1 := mt c1.mp (fun h => hq h.2)
    rw [if_neg hq] at d12 d15 d16
    rw [if_neg (fun h => hq h.2)] at d13
    sl_exec
    sl_step
    isplitr
    · iexists _, _; ipureintro; rfl
    isplitl [H2 H6 H7 H8]
    · isplitl [H2]; · iexists _; isplitl [H2]; · iexact H2
                      ipureintro; exact h2
      isplitl [H6]; · iexists _; isplitl [H6]; · iexact H6
                      ipureintro; exact h6
      isplitl [H7]; · iexists _; isplitl [H7]; · iexact H7
                      ipureintro; exact h7
      iexists _; isplitl [H8]; · iexact H8
      ipureintro; exact h8
    isplitl [H13]
    · iexists _; isplitl [H13]; · iexact H13
      ipureintro
      exact h13.trans d13.symm
    isplitl [H3]; · iexact H3
    isplitl [H4]; · iexact H4
    isplitl [H5]; · iexact H5
    isplitl [H12]
    · iexists _; isplitl [H12]; · iexact H12
      ipureintro
      exact h12.trans d12.symm
    isplitl [H14]
    · iexists _; isplitl [H14]; · iexact H14
      ipureintro
      exact View.read_writes_full arg14.view f14 inb_S1024x128_S1024x128_0_0 _ []
    isplitl [H15]
    · iexists _; isplitl [H15]; · iexact H15
      ipureintro
      exact h15.trans d15.symm
    isplitl [H16]
    · iexists _; isplitl [H16]; · iexact H16
      ipureintro
      exact h16.trans d16.symm
    iexists _; isplitl [H17]; · iexact H17
    ipureintro
    exact View.read_writes_full arg17.view f17 inb_S1024x128_S1024x128_0_0 _ []

end Cert.KernelIdeal.Hand

end
-- ==== Proof.Body.lean ====
/- The attention-backward kernel's body at a point of its grid. -/
module

public import proofs.«01_k».proof.Proof.Parts
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x8x1x1024 .f32) (harg5 : arg5.IsWhole)
  (arg6 : Memref sig .tc .vmem S1024x128 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x8x8x1024 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S8192x128 .f32) (harg15 : arg15.IsWhole)
  (arg16 : Memref sig .tc .vmem S8192x128 .f32) (harg16 : arg16.IsWhole)
  (arg17 : Memref sig .tc .vmem S1024x128 .f32) (harg17 : arg17.IsWhole)

/-- The accumulators after a point: cleared where the head begins, then the tiles below the diagonal, then the one on it. -/
def point (i : grid0.Coords) (I : Inp F) (s : St F) : St F :=
  diagAt I _ (i 1).isLt (walk I 0 (i 1).val (start i s))

/-- The row sums of all heads after a point. -/
def point13 (i : grid0.Coords) (I : Inp F) (s : St F) (x : Vec F S8192x128 .f32) : Vec F S8192x128 .f32 :=
  putRows (start13 i x) (i 1).val (k0_pay1 (BitVec.ofNat 32 (i 0).val) (rows (start13 i x) _ (i 1).isLt) (point i I s).rs)

set_option maxHeartbeats 2000000 in
/-- The body at a point. -/
theorem body (q ct : Vec F S1024x128 .bf16) (lse delta : Vec F S1024x128 .f32) (k v : Vec F S8192x128 .bf16) (b : Vec F S1x8x1x1024 .f32)
    (x13 : Vec F S8192x128 .f32) (s : St F) (f10 : Buf (Elt F) (arg10.view.loc (c : Thread nD τ))) (f11 : Buf (Elt F) (arg11.view.loc (c : Thread nD τ))) :
    iprop((ResQ c arg2 arg6 arg7 arg8 q ct lse delta ∗ Holds c arg13 x13 ∗ Res c arg3 arg4 arg5 arg12 arg14 arg15 arg16 arg17 (inp q ct lse delta k v b) s)
        ∗ (∃ x9, Holds c arg9 x9) ∗ (arg10.view.loc (c : Thread nD τ) ↦[arg10.view.set]{fullShare} f10) ∗ (arg11.view.loc (c : Thread nD τ) ↦[arg11.view.set]{fullShare} f11))
      ⊢ wp frame (wpE (defs₀ (F := F)) 𝒱 (c : Thread nD τ) bd) E (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((ResQ c arg2 arg6 arg7 arg8 q ct lse delta ∗ Holds c arg13 (point13 i (inp q ct lse delta k v b) s x13)
              ∗ Res c arg3 arg4 arg5 arg12 arg14 arg15 arg16 arg17 (inp q ct lse delta k v b) (point i (inp q ct lse delta k v b) s))
            ∗ Holds c arg9 (k0_pay113 (point i (inp q ct lse delta k v b) s).dq)
            ∗ (if (i 1).val = 7 then Holds c arg10 (k0_pay2 (point i (inp q ct lse delta k v b) s).dk) else (arg10.view.loc (c : Thread nD τ) ↦[arg10.view.set]{fullShare} f10))
            ∗ (if (i 1).val = 7 then Holds c arg11 (k0_pay3 (point i (inp q ct lse delta k v b) s).dv) else (arg11.view.loc (c : Thread nD τ) ↦[arg11.view.set]{fullShare} f11)))) := by
  rw [cc0_flash_bwd_eq_skeleton]; unfold cc0_flash_bwd_skel
  iintro ⟨H, Ho⟩
  rw [wp_bind]
  iapply (wp_wand_r frame (wpE (defs₀ (F := F)) 𝒱 (c : Thread nD τ) bd) E)
  isplitl [H]
  · iapply (part17 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q ct lse delta k v b x13 s); iexact H
  iintro %r ⟨⟨%v28, %v30, %hr⟩, HQ, H13, H⟩
  subst hr
  dsimp only
  rw [wp_bind]
  iapply (wp_wand_r frame (wpE (defs₀ (F := F)) 𝒱 (c : Thread nD τ) bd) E)
  isplitl [H]
  · iapply (part18 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ (inp q ct lse delta k v b) (start i s)); iexact H
  iintro %r H
  obtain ⟨v67, v68, c1_i32_36⟩ := r
  dsimp only
  rw [wp_bind]
  iapply (wp_wand_r frame (wpE (defs₀ (F := F)) 𝒱 (c : Thread nD τ) bd) E)
  isplitl [H]
  · iapply (part19 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ (inp q ct lse delta k v b) _); iexact H
  rw [show walk (inp q ct lse delta k v b) (4 * ((i 1).val / 4)) ((i 1).val % 4) (walk (inp q ct lse delta k v b) 0 (4 * ((i 1).val / 4)) (start i s))
      = walk (inp q ct lse delta k v b) 0 (i 1).val (start i s) by
    have h := walk_add (inp q ct lse delta k v b) 0 (4 * ((i 1).val / 4)) ((i 1).val % 4) (start i s)
    rw [Nat.zero_add] at h
    rw [← h, Nat.div_add_mod]]
  iintro %r ⟨%h76, %h98, H⟩
  obtain ⟨v74, v76, v98⟩ := r
  dsimp only at h76 h98 ⊢
  subst h76 h98
  rw [wp_bind]
  iapply (wp_wand_r frame (wpE (defs₀ (F := F)) 𝒱 (c : Thread nD τ) bd) E)
  isplitl [H]
  · iapply (part20 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) v74 (inp q ct lse delta k v b) (walk (inp q ct lse delta k v b) 0 (i 1).val (start i s))); iexact H
  iintro %r ⟨%hr, H⟩
  subst hr
  rw [show diagAt (inp q ct lse delta k v b) _ (i 1).isLt (walk (inp q ct lse delta k v b) 0 (i 1).val (start i s)) = point i (inp q ct lse delta k v b) s from rfl]
  unfold point13
  generalize point i (inp q ct lse delta k v b) s = s'
  generalize start13 i x13 = x13'
  icases Ho with ⟨⟨%x9, %f9, H9, %h9⟩, H10, H11⟩
  icases H13 with ⟨%f13, H13, %h13⟩
  icases H with ⟨H3, H4, H5, H12, H14, ⟨%f15, H15, %h15⟩, ⟨%f16, H16, %h16⟩, ⟨%f17, H17, %h17⟩⟩
  have e13 := (View.readAt_unit arg13.view f13 (k0_off13_inb i) (off13 i) (rows_in _ (i 1).isLt)).trans (by rw [h13])
  have e17 := (View.readAt_full arg17.view f17 inb_S1024x128_S1024x128_0_0).trans h17
  have e15 := (View.readAt_full arg15.view f15 inb_S8192x128_S8192x128_0_0).trans h15
  have e16 := (View.readAt_full arg16.view f16 inb_S8192x128_S8192x128_0_0).trans h16
  by_cases h7 : (i 1).val = 7
  · have hc := (cond3_iff i).mpr h7
    rw [if_pos h7, if_pos h7]
    sl_exec
    sl_step
    isplitr [H9 H10 H11]
    · isplitl [HQ]; · iexact HQ
      isplitl [H13]
      · iexists _; isplitl [H13]; · iexact H13
        ipureintro
        refine (View.read_writes_cons_put arg13.view f13 (k0_off13_inb i) _ [] (off13 i)).trans ?_
        rw [View.writes_nil, h13]
      isplitl [H3]; · iexact H3
      isplitl [H4]; · iexact H4
      isplitl [H5]; · iexact H5
      isplitl [H12]; · iexact H12
      isplitl [H14]; · iexact H14
      isplitl [H15]; · iexists _; isplitl [H15]; · iexact H15
                       ipureintro; exact h15
      isplitl [H16]; · iexists _; isplitl [H16]; · iexact H16
                       ipureintro; exact h16
      iexists _; isplitl [H17]; · iexact H17
      ipureintro; exact h17
    isplitl [H9]
    · iexists _; isplitl [H9]; · iexact H9
      ipureintro
      exact View.read_writes_full arg9.view f9 inb_S1024x128_S1024x128_0_0 _ []
    isplitl [H10]
    · iexists _; isplitl [H10]; · iexact H10
      ipureintro
      exact View.read_writes_full arg10.view f10 inb_S8192x128_S8192x128_0_0 _ []
    iexists _; isplitl [H11]; · iexact H11
    ipureintro
    exact View.read_writes_full arg11.view f11 inb_S8192x128_S8192x128_0_0 _ []
  · have hc := mt (cond3_iff i).mp h7
    rw [if_neg h7, if_neg h7]
    sl_exec
    sl_step
    isplitr [H9 H10 H11]
    · isplitl [HQ]; · iexact HQ
      isplitl [H13]
      · iexists _; isplitl [H13]; · iexact H13
        ipureintro
        refine (View.read_writes_cons_put arg13.view f13 (k0_off13_inb i) _ [] (off13 i)).trans ?_
        rw [View.writes_nil, h13]
      isplitl [H3]; · iexact H3
      isplitl [H4]; · iexact H4
      isplitl [H5]; · iexact H5
      isplitl [H12]; · iexact H12
      isplitl [H14]; · iexact H14
      isplitl [H15]; · iexists _; isplitl [H15]; · iexact H15
                       ipureintro; exact h15
      isplitl [H16]; · iexists _; isplitl [H16]; · iexact H16
                       ipureintro; exact h16
      iexists _; isplitl [H17]; · iexact H17
      ipureintro; exact h17
    isplitl [H9]
    · iexists _; isplitl [H9]; · iexact H9
      ipureintro
      exact View.read_writes_full arg9.view f9 inb_S1024x128_S1024x128_0_0 _ []
    isplitl [H10]
    · iexact H10
    iexact H11

end Cert.KernelIdeal.Hand

end
-- ==== Proof.Dats.lean ====
/- What the attention-backward kernel holds between the points of its grid. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄G" => MT nD τ sig Unit (Elt F) ℕ (UR sig nD τ) ℕ

variable (m : (ℓ : Loc nD τ sig) → Buf (Elt F) ℓ)

theorem coord1 (t : Fin cfg0.N) : ((grid0.coords t) 1).val = t.val % 8 := by
  have h : ∀ t : Fin grid0.N, ((grid0.coords t) 1).val = t.val % 8 := by decide +kernel
  exact h t

theorem coord0 (t : Fin cfg0.N) : ((grid0.coords t) 0).val = t.val / 8 := by
  have h : ∀ t : Fin grid0.N, ((grid0.coords t) 0).val = t.val / 8 := by decide +kernel
  exact h t

/-- What point `t` reads, from the blocks of its windows. -/
def inpAt (c : Dev nD) (t : Fin cfg0.N) : Inp F :=
  inp (iblk m c 0 t : Vec F S1024x128 .bf16) (iblk m c 4 t : Vec F S1024x128 .bf16) (iblk m c 6 t : Vec F S1024x128 .f32)
    (iblk m c 5 t : Vec F S1024x128 .f32) (iblk m c 1 t : Vec F S8192x128 .bf16) (iblk m c 2 t : Vec F S8192x128 .bf16)
    (iblk m c 3 t : Vec F S1x8x1x1024 .f32)

/-- The accumulators before point `n` (before the first one, any). -/
def stAt (c : Dev nD) : ℕ → St F
  | 0 => ⟨k0_pay87, k0_pay88, k0_pay85, k0_pay86, k0_pay89⟩
  | n + 1 => if h : n < cfg0.N then point (grid0.coords ⟨n, h⟩) (inpAt m c ⟨n, h⟩) (stAt c n) else stAt c n

/-- The row sums before point `n` (before the first one, any). -/
def rsAt (c : Dev nD) : ℕ → Vec F S8192x128 .f32
  | 0 => k0_pay84
  | n + 1 => if h : n < cfg0.N then point13 (grid0.coords ⟨n, h⟩) (inpAt m c ⟨n, h⟩) (stAt m c n) (rsAt c n) else rsAt c n

theorem stAt_succ (c : Dev nD) (t : Fin cfg0.N) :
    stAt m c (t.val + 1) = point (grid0.coords t) (inpAt m c t) (stAt m c t.val) := by
  rw [stAt, dif_pos t.isLt]

theorem rsAt_succ (c : Dev nD) (t : Fin cfg0.N) :
    rsAt m c (t.val + 1) = point13 (grid0.coords t) (inpAt m c t) (stAt m c t.val) (rsAt m c t.val) := by
  rw [rsAt, dif_pos t.isLt]

/-- A point reads of the accumulators only the head's, and those only after the head's first point. -/
theorem point_congr (i : grid0.Coords) (I : Inp F) (s s' : St F) (h : (i 1).val ≠ 0 → s.db = s'.db ∧ s.dk = s'.dk ∧ s.dv = s'.dv) :
    point i I s = point i I s' := by
  have e : start i s = start i s' := by
    unfold start
    by_cases h0 : (i 1).val = 0
    · rw [if_pos h0, if_pos h0, if_pos h0, if_pos h0, if_pos h0, if_pos h0]
    · obtain ⟨h1, h2, h3⟩ := h h0
      rw [h1, h2, h3]
  unfold point; rw [e]

/-- And of the row sums only after the grid's first point. -/
theorem point13_congr (i : grid0.Coords) (I : Inp F) (s s' : St F) (x x' : Vec F S8192x128 .f32)
    (h : (i 1).val ≠ 0 → s.db = s'.db ∧ s.dk = s'.dk ∧ s.dv = s'.dv) (hx : ¬((i 0).val = 0 ∧ (i 1).val = 0) → x = x') :
    point13 i I s x = point13 i I s' x' := by
  have e : start13 i x = start13 i x' := by
    unfold start13
    by_cases h0 : (i 0).val = 0 ∧ (i 1).val = 0
    · rw [if_pos h0, if_pos h0]
    · rw [hx h0]
  unfold point13; rw [e, point_congr i I s s' h]

/-- Between points: the key and value gradients of the head so far, and the rest of the scratch. -/
def PhiS (c : Dev nD) (n : ℕ) (_ : n ≤ cfg0.N) : sProp 𝕄G :=
  iprop((∃ x, Holds c (Memref.whole cc0_scratch0) x)
    ∗ (∃ x, ⌜n % 8 ≠ 0 → x = (stAt m c n).dk⌝ ∗ Holds c (Memref.whole cc0_scratch1) x)
    ∗ (∃ x, ⌜n % 8 ≠ 0 → x = (stAt m c n).dv⌝ ∗ Holds c (Memref.whole cc0_scratch2) x)
    ∗ (∃ x, Holds c (Memref.whole cc0_scratch3) x)
    ∗ ∃ r, prngReg c r)

/-- The proof data: the arrays as launched, what each window's block holds after a point, the scratch between points. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => k0_pay113 (stAt m c (t.val + 1)).dq
    | 8 => fun t => k0_pay2 (stAt m c (t.val + 1)).dk
    | 9 => fun t => k0_pay3 (stAt m c (t.val + 1)).dv
    | 10 => fun t => (stAt m c (t.val + 1)).db
    | 11 => fun t => rsAt m c (t.val + 1)
  Φ t := PhiS m c t.val (Nat.le_of_lt_succ t.isLt)
  q w := Pipeline.shareOf spec0 w
  owed _ := 0

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem before_db (c : Dev nD) (t : Fin cfg0.N) (h : t.val % 8 ≠ 0) (d) :
    (dats m 0 c).before 10 t d = (stAt m c t.val).db := by
  have ht : t.val ≠ 0 := fun h0 => h (by rw [h0])
  rw [(dats m 0 c).before_of_pos 10 t ht rfl d, if_neg (by
    rw [flush0_10]
    show ¬(t.val - 1) % 8 = 7
    omega)]
  have e : t.val - 1 + 1 = t.val := by omega
  show (stAt m c (t.val - 1 + 1)).db = _
  rw [e]

theorem before_rs (c : Dev nD) (t : Fin cfg0.N) (ht : t.val ≠ 0) (d) :
    (dats m 0 c).before 11 t d = rsAt m c t.val := by
  have hN : t.val < 128 := t.isLt
  rw [(dats m 0 c).before_of_pos 11 t ht rfl d, if_neg (by
    rw [flush0_11]
    show ¬(t.val - 1) % 128 = 127
    omega)]
  have e : t.val - 1 + 1 = t.val := by omega
  show rsAt m c (t.val - 1 + 1) = _
  rw [e]

theorem before0 (c : Dev nD) (t : Fin cfg0.N) (d) : (dats m 0 c).before 0 t d = iblk m c 0 t :=
  before0_0_of m (dats m 0 c) rfl (fun _ => by dsimp only [dats]) t d
theorem before1 (c : Dev nD) (t : Fin cfg0.N) (d) : (dats m 0 c).before 1 t d = iblk m c 1 t :=
  before0_1_of m (dats m 0 c) rfl (fun _ => by dsimp only [dats]) t d
theorem before2 (c : Dev nD) (t : Fin cfg0.N) (d) : (dats m 0 c).before 2 t d = iblk m c 2 t :=
  before0_2_of m (dats m 0 c) rfl (fun _ => by dsimp only [dats]) t d
theorem before3 (c : Dev nD) (t : Fin cfg0.N) (d) : (dats m 0 c).before 3 t d = iblk m c 3 t :=
  before0_3_of m (dats m 0 c) rfl (fun _ => by dsimp only [dats]) t d
theorem before4 (c : Dev nD) (t : Fin cfg0.N) (d) : (dats m 0 c).before 4 t d = iblk m c 4 t :=
  before0_4_of m (dats m 0 c) rfl (fun _ => by dsimp only [dats]) t d
theorem before5 (c : Dev nD) (t : Fin cfg0.N) (d) : (dats m 0 c).before 5 t d = iblk m c 5 t :=
  before0_5_of m (dats m 0 c) rfl (fun _ => by dsimp only [dats]) t d
theorem before6 (c : Dev nD) (t : Fin cfg0.N) (d) : (dats m 0 c).before 6 t d = iblk m c 6 t :=
  before0_6_of m (dats m 0 c) rfl (fun _ => by dsimp only [dats]) t d

end Cert.KernelIdeal.Hand

end
-- ==== Proof.Oblig.lean ====
/- The attention-backward kernel's body at a point, over the blocks of its windows. -/
module

public import proofs.«01_k».proof.Proof.Dats

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]

local notation "𝕄G" => MT nD τ sig Unit (Elt F) ℕ (UR sig nD τ) ℕ

variable (m : (ℓ : Loc nD τ sig) → Buf (Elt F) ℓ)

/-- A block held reads its contents: the two ways round. -/
theorem holds_of_owns (c : Dev nD) {S : Shape} {e : EltTy} (a : Memref sig .tc .vmem S e) (x : Vec F S e) :
    owns (c : Thread nD τ) a fullShare x ⊢ (Holds c a x : sProp 𝕄G) := by
  unfold owns
  iintro ⟨%f, %h, H⟩
  iexists f; isplitl [H]; · iexact H
  ipureintro; exact h

theorem owns_of_holds (c : Dev nD) {S : Shape} {e : EltTy} (a : Memref sig .tc .vmem S e) (x : Vec F S e) :
    (Holds c a x : sProp 𝕄G) ⊢ owns (c : Thread nD τ) a fullShare x := by
  unfold owns
  iintro ⟨%f, H, %h⟩
  iexists f; isplitr; · ipureintro; exact h
  iexact H

/-- The gradients of a head's keys and values are written where the head ends, and left alone before. -/
theorem idle_8 (t : Fin cfg0.N) : cfg0.idle 8 (cfg0.grid.coords t) = !(k0_cond3 (grid0.coords t) == 1#1) := rfl
theorem idle_9 (t : Fin cfg0.N) : cfg0.idle 9 (cfg0.grid.coords t) = !(k0_cond3 (grid0.coords t) == 1#1) := rfl

/-- What a point hands back of the key-gradient block. -/
theorem leaves_8 (c : Dev nD) (t : Fin cfg0.N) (d) (f : Buf (Elt F) ((st0_8 t).view.loc (c : Thread nD τ)))
    (hf : (st0_8 t).view.read (Elt F) f = (dats m 0 c).before 8 t d) :
    (if ((grid0.coords t) 1).val = 7 then Holds c (st0_8 t) (k0_pay2 (stAt m c (t.val + 1)).dk)
      else ((st0_8 t).view.loc (c : Thread nD τ) ↦[(st0_8 t).view.set]{fullShare} f)) ⊢ ((dats m 0 c).leavesExact 8 t : sProp 𝕄G) := by
  by_cases h7 : ((grid0.coords t) 1).val = 7
  · rw [if_pos h7]
    have hi : cfg0.idle 8 (cfg0.grid.coords t) = false := by
      rw [idle_8, (cond3_iff _).mpr h7]; rfl
    unfold Dat.leavesExact; rw [hi]
    exact owns_of_holds c _ _
  · rw [if_neg h7]
    have hi : cfg0.idle 8 (cfg0.grid.coords t) = true := by
      rw [idle_8]
      have h := mt (cond3_iff _).mp h7
      rw [beq_eq_false_iff_ne.mpr h]; rfl
    have hfl : (cfg0.win 8).flush t = false := by
      rw [Bool.eq_false_iff]; intro h
      rw [flush0_8] at h; rw [coord1] at h7; exact h7 h
    rw [(dats m 0 c).leavesExact_idle 8 t hi hfl]
    iintro H
    iexists d
    unfold owns
    iexists f; isplitr; · ipureintro; exact hf
    iexact H

/-- And of the value-gradient block. -/
theorem leaves_9 (c : Dev nD) (t : Fin cfg0.N) (d) (f : Buf (Elt F) ((st0_9 t).view.loc (c : Thread nD τ)))
    (hf : (st0_9 t).view.read (Elt F) f = (dats m 0 c).before 9 t d) :
    (if ((grid0.coords t) 1).val = 7 then Holds c (st0_9 t) (k0_pay3 (stAt m c (t.val + 1)).dv)
      else ((st0_9 t).view.loc (c : Thread nD τ) ↦[(st0_9 t).view.set]{fullShare} f)) ⊢ ((dats m 0 c).leavesExact 9 t : sProp 𝕄G) := by
  by_cases h7 : ((grid0.coords t) 1).val = 7
  · rw [if_pos h7]
    have hi : cfg0.idle 9 (cfg0.grid.coords t) = false := by
      rw [idle_9, (cond3_iff _).mpr h7]; rfl
    unfold Dat.leavesExact; rw [hi]
    exact owns_of_holds c _ _
  · rw [if_neg h7]
    have hi : cfg0.idle 9 (cfg0.grid.coords t) = true := by
      rw [idle_9]
      have h := mt (cond3_iff _).mp h7
      rw [beq_eq_false_iff_ne.mpr h]; rfl
    have hfl : (cfg0.win 9).flush t = false := by
      rw [Bool.eq_false_iff]; intro h
      rw [flush0_9] at h; rw [coord1] at h7; exact h7 h
    rw [(dats m 0 c).leavesExact_idle 9 t hi hfl]
    iintro H
    iexists d
    unfold owns
    iexists f; isplitr; · ipureintro; exact hf
    iexact H

/-- A window that is never idle is handed back at what the body leaves. -/
theorem leaves_of (c : Dev nD) (t : Fin cfg0.N) (w : Fin cfg0.W) (hi : cfg0.idle w (cfg0.grid.coords t) = false) :
    owns (c : Thread nD τ) ((cfg0.win w).stage (cfg0.slots t w)) fullShare ((dats m 0 c).after w t) ⊢ ((dats m 0 c).leavesExact w t : sProp 𝕄G) := by
  unfold Dat.leavesExact; rw [hi]

set_option maxHeartbeats 1000000 in
/-- The body over the blocks it is handed. -/
theorem body_obligation (c : Dev nD) : BodyObligation (dats m 0 c) (defs₀ (F := F)) Variants.none () Set.univ := fun t => by
  rw [bigSep_W0]
  rw [show (dats m 0 c).owesAt () t.succ = (dats m 0 c).owesAt () t.castSucc from rfl, Phi_castSucc,
    show (dats m 0 c).Φ t.succ = PhiS m c (t.val + 1) t.isLt by dsimp only [dats]; rfl]
  rw [show (defs₀ (F := F)) .tc cfg0.body (cfg0.bodyArgs t (cfg0.slots t)) = bodyAt0 t from rfl]
  unfold PhiS
  iintro ⟨⟨⟨%x14, H14⟩, ⟨%x15, %h15, H15⟩, ⟨%x16, %h16, H16⟩, ⟨%x17, H17⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0, before1, before2, before3, before4, before5, before6]
  have hst : point (grid0.coords t) (inpAt m c t) ⟨(dats m 0 c).before 10 t d10, x14, x15, x16, x17⟩ = stAt m c (t.val + 1) := by
    rw [stAt_succ]
    refine point_congr _ _ _ _ fun h => ?_
    rw [coord1] at h
    exact ⟨before_db m c t h d10, h15 h, h16 h⟩
  have hrs : point13 (grid0.coords t) (inpAt m c t) ⟨(dats m 0 c).before 10 t d10, x14, x15, x16, x17⟩ ((dats m 0 c).before 11 t d11) = rsAt m c (t.val + 1) := by
    rw [rsAt_succ]
    refine point13_congr _ _ _ _ _ _ (fun h => ?_) (fun h => ?_)
    · rw [coord1] at h
      exact ⟨before_db m c t h d10, h15 h, h16 h⟩
    · rw [coord0, coord1] at h
      exact before_rs m c t (fun h0 => h (by rw [h0]; exact ⟨rfl, rfl⟩)) d11
  have hb := body (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 4 t) (iblk m c 6 t) (iblk m c 5 t) (iblk m c 1 t) (iblk m c 2 t) (iblk m c 3 t)
    ((dats m 0 c).before 11 t d11) ⟨(dats m 0 c).before 10 t d10, x14, x15, x16, x17⟩
  change ∀ f10 f11, _ ⊢ wp _ _ _ (bodyAt0 t) _ at hb
  unfold inpAt at hst hrs
  rw [hst, hrs] at hb
  dsimp only [inp] at hb
  ihave H8 := holds_of_owns c (st0_8 t) _ $$ H8
  icases H8 with ⟨%f8, H8, %h8⟩
  ihave H9 := holds_of_owns c (st0_9 t) _ $$ H9
  icases H9 with ⟨%f9, H9, %h9⟩
  have l8 := leaves_8 m c t d8 f8 h8
  have l9 := leaves_9 m c t d9 f9 h9
  have hb := hb f8 f9
  iapply (wp_wand_r Idealize.ShloMosaic.frame (wpE (defs₀ (F := F)) Variants.none (c : Thread nD τ) none) Set.univ)
  isplitl [H0 H1 H2 H3 H4 H5 H6 H7 H8 H9 H10 H11 H14 H15 H16 H17]
  · iapply hb
    isplitr [H7 H8 H9]
    · isplitl [H0 H4 H5 H6]
      · isplitl [H0]; · iapply holds_of_owns c (st0_0 t); iexact H0
        isplitl [H4]; · iapply holds_of_owns c (st0_4 t); iexact H4
        isplitl [H5]; · iapply holds_of_owns c (st0_5 t); iexact H5
        iapply holds_of_owns c (st0_6 t); iexact H6
      isplitl [H11]; · iapply holds_of_owns c (st0_11 t); iexact H11
      isplitl [H1]; · iapply holds_of_owns c (st0_1 t); iexact H1
      isplitl [H2]; · iapply holds_of_owns c (st0_2 t); iexact H2
      isplitl [H3]; · iapply holds_of_owns c (st0_3 t); iexact H3
      isplitl [H10]; · iapply holds_of_owns c (st0_10 t); iexact H10
      isplitl [H14]; · iexact H14
      isplitl [H15]; · iexact H15
      isplitl [H16]; · iexact H16
      iexact H17
    isplitl [H7]
    · iexists _; iapply holds_of_owns c (st0_7 t); iexact H7
    isplitl [H8]; · iexact H8
    iexact H9
  iintro %_ ⟨⟨⟨H0, H4, H5, H6⟩, H11, H1, H2, H3, H10, H14, H15, H16, H17⟩, H7, H8, H9⟩
  isplitl [H14 H15 H16 H17 Hr]
  · isplitl [H14]; · iexists _; iexact H14
    isplitl [H15]
    · iexists _; isplitr; swap; (· iexact H15); ipureintro; exact fun _ => rfl
    isplitl [H16]
    · iexists _; isplitr; swap; (· iexact H16); ipureintro; exact fun _ => rfl
    isplitl [H17]; · iexists _; iexact H17
    iexact Hr
  isplitl [Ho]; · iexact Ho
  iapply (show (bigSep Finset.univ fun w : Fin cfg0.W => (dats m 0 c).leavesExact w t) ⊢ _ from .rfl)
  rw [bigSep_W0]
  isplitl [H0]
  · iapply leaves_of m c t 0 rfl; dsimp only [dats]; iapply owns_of_holds c (st0_0 t); iexact H0
  isplitl [H1]
  · iapply leaves_of m c t 1 rfl; dsimp only [dats]; iapply owns_of_holds c (st0_1 t); iexact H1
  isplitl [H2]
  · iapply leaves_of m c t 2 rfl; dsimp only [dats]; iapply owns_of_holds c (st0_2 t); iexact H2
  isplitl [H3]
  · iapply leaves_of m c t 3 rfl; dsimp only [dats]; iapply owns_of_holds c (st0_3 t); iexact H3
  isplitl [H4]
  · iapply leaves_of m c t 4 rfl; dsimp only [dats]; iapply owns_of_holds c (st0_4 t); iexact H4
  isplitl [H5]
  · iapply leaves_of m c t 5 rfl; dsimp only [dats]; iapply owns_of_holds c (st0_5 t); iexact H5
  isplitl [H6]
  · iapply leaves_of m c t 6 rfl; dsimp only [dats]; iapply owns_of_holds c (st0_6 t); iexact H6
  isplitl [H7]
  · iapply leaves_of m c t 7 rfl; dsimp only [dats]; iapply owns_of_holds c (st0_7 t); iexact H7
  isplitl [H8]; · iapply l8; iexact H8
  isplitl [H9]; · iapply l9; iexact H9
  isplitl [H10]
  · iapply leaves_of m c t 10 rfl; dsimp only [dats]; iapply owns_of_holds c (st0_10 t); iexact H10
  iapply leaves_of m c t 11 rfl; dsimp only [dats]; iapply owns_of_holds c (st0_11 t); iexact H11

end Cert.KernelIdeal.Hand

end
-- ==== Proof.Run.lean ====
/- The attention-backward program runs, from any memory: the blocks it writes, the arguments unchanged. -/
module

public import proofs.«01_k».proof.Proof.Oblig

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The scratch at launch, whatever it holds. -/
theorem Phi_in (c : Dev nD) : Pipeline.ΦA spec0 c ⊢ (dats m 0 c).Φ 0 := by
  rw [show (dats m 0 c).Φ 0 = PhiS m c 0 (Nat.zero_le _) by dsimp only [dats]; rfl]
  unfold Pipeline.ΦA PhiS
  rw [scopedRest0_eq]
  unfold Holds
  simp only [owns, Memref.view_whole, View.read_whole, View.set_whole]
  iintro ⟨⟨⟨%f0, H0⟩, ⟨%f1, H1⟩, ⟨%f2, H2⟩, ⟨%f3, H3⟩⟩, Hr⟩
  isplitl [H0]; · iexists f0, f0; isplitl [H0]; · iexact H0
                  ipureintro; rfl
  isplitl [H1]; · iexists f1; isplitr; · ipureintro; exact fun h => absurd rfl h
                  iexists f1; isplitl [H1]; · iexact H1
                  ipureintro; rfl
  isplitl [H2]; · iexists f2; isplitr; · ipureintro; exact fun h => absurd rfl h
                  iexists f2; isplitl [H2]; · iexact H2
                  ipureintro; rfl
  isplitl [H3]; · iexists f3, f3; isplitl [H3]; · iexact H3
                  ipureintro; rfl
  iexact Hr

/-- The scratch at the end, its contents forgotten. -/
theorem Phi_out (c : Dev nD) : (dats m 0 c).Φ (Fin.last cfg0.N) ⊢ Pipeline.ΦA spec0 c := by
  rw [show (dats m 0 c).Φ (Fin.last cfg0.N) = PhiS m c cfg0.N (Nat.le_refl _) by dsimp only [dats]; rfl]
  unfold Pipeline.ΦA PhiS
  rw [scopedRest0_eq]
  unfold Holds
  simp only [owns, Memref.view_whole, View.read_whole, View.set_whole]
  iintro ⟨⟨%x0, %f0, H0, -⟩, ⟨%x1, -, %f1, H1, -⟩, ⟨%x2, -, %f2, H2, -⟩, ⟨%x3, %f3, H3, -⟩, Hr⟩
  isplitr [Hr]
  · isplitl [H0]; · iexists f0; iexact H0
    isplitl [H1]; · iexists f1; iexact H1
    isplitl [H2]; · iexists f2; iexact H2
    iexists f3; iexact H3
  iexact Hr

/-- The program's run: every window's array at what the points wrote, every other buffer as the lines of @main leave it,
    every semaphore counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (fun c => (body_obligation m c).loose) (fun c w h => by dsimp only [dats]) (fun c t => rfl) (V0 m) [hostOps1] sfx_sub sfx_fresh sfx_keeps
    (hmain m Variants.none) (fun c w => rfl) (Phi_in m) (Phi_out m) _ (fun _ h => h)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨((h.1 c).1 2).trans (((dats m 0 c).arrAt_in 2 rfl _).trans (V_main_arg0 m c)),
        ((h.1 c).2 main_arg1 (Pipeline.mem_restRefs_of main_arg1 (by decide) (by decide))).trans (W_main_arg1 m (dats m) c),
        ((h.1 c).1 4).trans (((dats m 0 c).arrAt_in 4 rfl _).trans (V_main_arg2 m c))⟩, h.2⟩) (run m ρ)

end Cert.KernelIdeal.Hand

end
-- ==== Proof.Frames.lean ====
/- The kernel's frames: the run of Run.lean read at the ideal instance, and the same run of the traced program at bits. -/
module

public import proofs.«01_k».proof.Defs
public import proofs.«01_k».proof.Proof.Run
public import proofs.«01_k».proof.Proof.Traced.Run

@[expose] public section

set_option maxRecDepth 16384

noncomputable section

namespace Cert.Proof.Frames

open Idealize.ShloMosaic Idealize.SL.Sem

theorem frame_pi : Cert.quiescent_KernelIdeal := fun m ρ _ => Cert.KernelIdeal.Hand.frame m ρ

/-- The same run of the program as it was traced (Traced/: the same text over its operations), at bits. -/
theorem frame_p : Cert.quiescent_Kernel := fun m ρ _ => Cert.Kernel.Hand.frame m ρ

/-- The three constants' names, by the certificate's table. -/
theorem preserves : Cert.preserves_Kernel_KernelIdeal :=
  ⟨IdealRules.named_const.statement Cert.KernelIdeal.κ "c1" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "scale" .f32 0x3DB504F3#32 (((Real.sqrt 128)⁻¹ : ℝ) : EReal) rfl⟩

end Cert.Proof.Frames

end
-- ==== Proof.Ref.lean ====
/- The reference program's run. -/
module

public import proofs.«01_k».proof.Defs
public import Idealize.ShloMosaic.Lib.Claim
public import Idealize.ShloMosaic.Lib.Quiescent

@[expose] public section

set_option maxRecDepth 16384

noncomputable section

namespace Cert.ReferenceIdeal.Hand

/-- The shape facts that the reference states. -/
instance facts₀ : Cert.ReferenceIdeal.Facts₀ := by constructor <;> decide
instance facts : Cert.ReferenceIdeal.Facts where

open Idealize.ShloMosaic Idealize.ShloMosaic.TcCoe Idealize.SL.Sem

set_option maxHeartbeats 4000000 in
/-- The reference runs and leaves its arguments; it has no semaphore. -/
theorem frame_ri : Cert.quiescent_ReferenceIdeal := by
  intro m g _
  have h : θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
    hlo_run
  exact (θ_run Cert.ReferenceIdeal.defs _ _).mono (fun r h => ⟨fun c => h c,
      Idealize.ShloMosaic.sem_eq_zero_of_no_sems (by decide) r.2⟩) h

end Cert.ReferenceIdeal.Hand

end
-- ==== Proof.Spec.lean ====
/- The attention gradient over the real numbers.

`A`, `C`, `D` are the packed queries, keys and values, the key bias and the upstream gradient, as numbers at natural
positions. `w` is the unnormalised attention weight, `y` the weight, `ds` the score gradient, and `DQ`, `DK`, `DV`, `DC`
the four gradients both programs are shown to hold. -/
module

public import Mathlib.Analysis.SpecialFunctions.Pow.Real
public import Idealize.ShloMosaic.PureOps.Ideal
public import Mathlib.Tactic.Ring
public import Mathlib.Tactic.FieldSimp

@[expose] public section

noncomputable section

namespace Cert.Proof.Fox

open Finset

/-- The inputs as numbers. -/
structure Data where
  /-- packed queries, keys, values: position, column -/
  A : ℕ → ℕ → ℝ
  /-- cumulated gate: position, head -/
  C : ℕ → ℕ → ℝ
  /-- upstream gradient: position, column -/
  D : ℕ → ℕ → ℝ

variable (x : Data)

/-- The score scale. -/
def σ : ℝ := (Real.sqrt 128)⁻¹

def q (h s d : ℕ) : ℝ := x.A s (h * 128 + d)
def k (h s d : ℕ) : ℝ := x.A s (2048 + (h * 128 + d))
def v (h s d : ℕ) : ℝ := x.A s (4096 + (h * 128 + d))
def g (h s d : ℕ) : ℝ := x.D s (h * 128 + d)
def c (h s : ℕ) : ℝ := x.C s h

/-- Query times key. -/
def X (h s t : ℕ) : ℝ := ∑ d : Fin 128, q x h s d * k x h t d
/-- Upstream gradient times value. -/
def dp (h s t : ℕ) : ℝ := ∑ d : Fin 128, g x h s d * v x h t d
/-- The attention weight before normalising. -/
def w (h s t : ℕ) : ℝ := if t ≤ s then Real.exp (X x h s t * σ - c x h t) else 0
def W (h s : ℕ) : ℝ := ∑ t ∈ range 8192, w x h s t
/-- The attention weight. -/
def y (h s t : ℕ) : ℝ := w x h s t / W x h s
/-- The row correction. -/
def del (h s : ℕ) : ℝ := ∑ t ∈ range 8192, y x h s t * dp x h s t
/-- The score gradient. -/
def ds (h s t : ℕ) : ℝ := y x h s t * (dp x h s t - del x h s)

def DQ (h s d : ℕ) : ℝ := ∑ t ∈ range 8192, ds x h s t * σ * k x h t d
def DK (h t d : ℕ) : ℝ := ∑ s ∈ range 8192, ds x h s t * σ * q x h s d
def DV (h t d : ℕ) : ℝ := ∑ s ∈ range 8192, y x h s t * g x h s d
def RS (h s : ℕ) : ℝ := ∑ t ∈ range 8192, ds x h s t
def CS (h t : ℕ) : ℝ := ∑ s ∈ range 8192, ds x h s t
def DC (h s : ℕ) : ℝ := RS x h s - CS x h s

theorem w_nonneg (h s t : ℕ) : 0 ≤ w x h s t := by
  unfold w; split
  · exact (Real.exp_pos _).le
  · exact le_rfl

theorem w_zero {h s t : ℕ} (ht : s < t) : w x h s t = 0 := if_neg (by omega)

theorem W_pos (h s : ℕ) : 0 < W x h s := by
  refine Finset.sum_pos' (fun t _ => w_nonneg x h s t) ⟨0, by simp, ?_⟩
  unfold w; rw [if_pos (Nat.zero_le _)]; exact Real.exp_pos _

theorem y_zero {h s t : ℕ} (ht : s < t) : y x h s t = 0 := by unfold y; rw [w_zero x ht, zero_div]
theorem ds_zero {h s t : ℕ} (ht : s < t) : ds x h s t = 0 := by unfold ds; rw [y_zero x ht, zero_mul]

/-- Exponentials shifted by a row constant sum to the shifted normaliser. -/
theorem sum_scaled (h s : ℕ) (a : ℝ) : ∑ t ∈ range 8192, w x h s t * a = W x h s * a := by
  unfold W; rw [Finset.sum_mul]

/-- Shifted weights over their sum are the weights. -/
theorem y_scaled (h s t : ℕ) {a : ℝ} (ha : a ≠ 0) : w x h s t * a / (W x h s * a) = y x h s t := by
  unfold y; exact mul_div_mul_right _ _ ha

/-- The power of two the kernel takes is the weight. -/
theorem y_exp2 {h s t : ℕ} (ht : t ≤ s) (M : ℝ) :
    (2 : ℝ) ^ (∑ d : Fin 128, q x h s d * (σ * (Real.log 2)⁻¹) * k x h t d + -c x h t * (Real.log 2)⁻¹
      - (M + Real.log (W x h s * Real.exp (-M))) * (Real.log 2)⁻¹) = y x h s t := by
  have h2 : Real.log 2 ≠ 0 := (Real.log_pos (by norm_num)).ne'
  have e : ∑ d : Fin 128, q x h s d * (σ * (Real.log 2)⁻¹) * k x h t d = X x h s t * σ * (Real.log 2)⁻¹ := by
    unfold X; rw [Finset.sum_mul, Finset.sum_mul]
    exact Finset.sum_congr rfl fun d _ => by ring
  rw [e, Real.rpow_def_of_pos (by norm_num)]
  have e2 : Real.log 2 * (X x h s t * σ * (Real.log 2)⁻¹ + -c x h t * (Real.log 2)⁻¹
      - (M + Real.log (W x h s * Real.exp (-M))) * (Real.log 2)⁻¹)
      = (X x h s t * σ - c x h t) - Real.log (W x h s) := by
    rw [Real.log_mul (W_pos x h s).ne' (Real.exp_pos _).ne', Real.log_exp]
    field_simp; ring
  rw [e2, Real.exp_sub, Real.exp_log (W_pos x h s)]
  unfold y w; rw [if_pos ht]

/-- The row correction as the upstream gradient times the attention output. -/
theorem del_eq (h s : ℕ) :
    ∑ d : Fin 128, g x h s d * ∑ t ∈ range 8192, y x h s t * v x h t d = del x h s := by
  unfold del dp
  simp only [Finset.mul_sum]
  rw [Finset.sum_comm]
  exact Finset.sum_congr rfl fun t _ => Finset.sum_congr rfl fun d _ => by ring

/-- The softmax gradient as its quotient form. -/
theorem ds_quot (h s t : ℕ) {a : ℝ} (ha : a ≠ 0) :
    (dp x h s t / (W x h s * a)
      + -∑ t' ∈ range 8192, dp x h s t' * (1 / (W x h s * a * (W x h s * a))) * (w x h s t' * a)) * (w x h s t * a) = ds x h s t := by
  have hW := (W_pos x h s).ne'
  unfold ds
  have e : ∑ t' ∈ range 8192, dp x h s t' * (1 / (W x h s * a * (W x h s * a))) * (w x h s t' * a)
      = del x h s * (1 / (W x h s * a)) := by
    unfold del; rw [Finset.sum_mul]
    exact Finset.sum_congr rfl fun t' _ => by unfold y; field_simp
  rw [e]; unfold y; field_simp; ring

/-- A sum over all keys is the sum up to the query's tile. -/
theorem sum_ds_upto {h s n : ℕ} (hs : s < n) (hn : n ≤ 8192) (f : ℕ → ℝ) :
    ∑ t ∈ range n, ds x h s t * f t = ∑ t ∈ range 8192, ds x h s t * f t := by
  refine Finset.sum_subset (fun t ht => by simp only [Finset.mem_range] at ht ⊢; omega) fun t _ ht => ?_
  rw [ds_zero x (by simp only [Finset.mem_range] at ht; omega), zero_mul]

/-- A sum over the next block of positions. -/
theorem sum_range_tile (f : ℕ → ℝ) (n b : ℕ) :
    ∑ t ∈ range (b * (n + 1)), f t = ∑ t ∈ range (b * n), f t + ∑ u : Fin b, f (n * b + u) := by
  rw [Nat.mul_succ, Finset.sum_range_add, ← Finset.sum_range (fun u => f (n * b + u)), Nat.mul_comm n b]

/-- A finite sum of numbers, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type} (s : Finset ι) (f : ι → ℝ) : ∑ i ∈ s, (f i : EReal) = ((∑ i ∈ s, f i : ℝ) : EReal) := (coe_sum s f).symm

end Cert.Proof.Fox
end
end
-- ==== Proof.Facts.lean ====
/- Facts about the extended reals the host operations of both programs are read with. -/
module

public import proofs.«01_k».proof.Proof.Spec

@[expose] public section

noncomputable section

namespace Cert.Proof.Fox

open Idealize.ShloMosaic Finset

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_ninf : Ideal.ofBits .f32 0xFF800000#32 = ⊥ := by
  simp [Ideal.ofBits, Ideal.ieee]

theorem sqrt_128 : Ideal.sqrt ((128 : ℝ) : EReal) = ((Real.sqrt 128 : ℝ) : EReal) := by
  rw [Ideal.sqrt_coe, if_neg (by norm_num)]

theorem log_two : Ideal.log ((2 : ℝ) : EReal) = ((Real.log 2 : ℝ) : EReal) := by
  rw [Ideal.log_coe, if_neg (by norm_num)]

theorem div_coe_coe (a : ℝ) {b : ℝ} (hb : b ≠ 0) : Ideal.div (a : EReal) (b : EReal) = ((a / b : ℝ) : EReal) := by
  rw [Ideal.div_coe hb, ← EReal.coe_mul, mul_one_div]

/-- The maximum of finitely many values below `⊤`, one of them a number, is a number. -/
theorem fold_max_real {n : ℕ} (f : Fin n → EReal) (hT : ∀ k, f k ≠ ⊤) (k₀ : Fin n) (hB : f k₀ ≠ ⊥) :
    ∃ M : ℝ, Finset.univ.fold max ⊥ f = (M : EReal) := by
  have h1 : Finset.univ.fold max ⊥ f ≠ ⊤ :=
    (Finset.fold_max_lt _ |>.mpr ⟨bot_lt_top, fun k _ => lt_top_iff_ne_top.mpr (hT k)⟩).ne
  have h2 : Finset.univ.fold max ⊥ f ≠ ⊥ :=
    (Finset.lt_fold_max _ |>.mpr (Or.inr ⟨k₀, Finset.mem_univ _, bot_lt_iff_ne_bot.mpr hB⟩)).ne'
  exact ⟨_, (EReal.coe_toReal h1 h2).symm⟩

/-- The exponential of a masked score less a row constant. -/
theorem exp_masked (x : Data) (h s t : ℕ) (b M : ℝ) :
    Ideal.exp ((if t ≤ s then ((X x h s t * σ + b - c x h t : ℝ) : EReal) else ⊥) - (M : EReal))
      = ((w x h s t * Real.exp (b - M) : ℝ) : EReal) := by
  unfold w
  by_cases hts : t ≤ s
  · rw [if_pos hts, if_pos hts, ← EReal.coe_sub, Ideal.exp_coe, ← Real.exp_add]
    congr 2; ring
  · rw [if_neg hts, if_neg hts, zero_mul, EReal.bot_sub, Ideal.exp_bot, EReal.coe_zero]

/-- A sum over all positions, as a sum of numbers. -/
theorem sum_fin (f : ℕ → ℝ) : ∑ t : Fin 8192, ((f t.val : ℝ) : EReal) = ((∑ t ∈ range 8192, f t : ℝ) : EReal) := by
  rw [← coe_sum, Finset.sum_range]

end Cert.Proof.Fox
end
end
-- ==== Proof.Finite.lean ====
/- What the finiteness precondition says: every argument element is a number. -/
module

public import proofs.«01_k».proof.Pre_finite
public import proofs.«01_k».proof.Proof.Facts
public import Idealize.ShloMosaic.Lib.Pointwise

@[expose] public section

set_option maxRecDepth 16384

noncomputable section

namespace Cert.Proof.Finite

open Idealize.ShloMosaic Cert.Pre_finite Finset

instance facts : Cert.Pre_finite.Facts := by constructor <;> decide
open Cert.Pre_finite.Facts

theorem and_one {a b : BitVec 1} : IntOp.andi a b = 1#1 ↔ a = 1#1 ∧ b = 1#1 := by
  revert a b; decide

/-- A conjunction that is one has every member one. -/
theorem fold_one {ι : Type} (s : Finset ι) (f : ι → BitVec 1) (h : s.fold IntOp.andi 1#1 f = 1#1) : ∀ k ∈ s, f k = 1#1 := by
  classical
  induction s using Finset.induction_on with
  | empty => simp
  | insert a s ha ih =>
    rw [Finset.fold_insert ha, and_one] at h
    intro k hk
    rcases Finset.mem_insert.mp hk with rfl | hk
    · exact h.1
    · exact ih h.2 k hk

theorem fold_univ {ι : Type} {_ : Fintype ι} {f : ι → BitVec 1} (h : (Finset.univ : Finset ι).fold IntOp.andi 1#1 f = 1#1) (k : ι) : f k = 1#1 :=
  fold_one _ _ h k (Finset.mem_univ k)

theorem top_bf16 : Ideal.ofBits .bf16 0x7F80#16 = ⊤ := by
  simp [Ideal.ofBits, Ideal.ieee]

theorem top_f32 : Ideal.ofBits .f32 0x7F800000#32 = ⊤ := by
  simp [Ideal.ofBits, Ideal.ieee]

/-- A value of magnitude below `⊤` is a number. -/
theorem real_of {e : EReal} {_ : Decidable (max e (-e) < ⊤)} (h : BitVec.ofBool (decide (max e (-e) < ⊤)) = 1#1) : e = ((e.toReal : ℝ) : EReal) := by
  have h' : max e (-e) < ⊤ := by
    by_contra hn
    rw [decide_eq_false hn] at h
    exact absurd h (by decide)
  refine (EReal.coe_toReal ?_ ?_).symm
  · rintro rfl; simp at h'
  · rintro rfl; simp at h'

theorem fn_at {a0 : FVec Ideal S8192x6144 .bf16} {a1 : FVec Ideal S8192x16 .f32} {a2 : FVec Ideal S8192x2048 .bf16}
    (h : Cert.Pre_finite.fn (F := Ideal) a0 a1 a2 = fun _ => 1#1) :
    (∀ (s : Fin 8192) (l : Fin 6144), a0 (ix2 s l) = (((a0 (ix2 s l) : EReal).toReal : ℝ) : EReal))
    ∧ (∀ (s : Fin 8192) (l : Fin 16), a1 (ix2 s l) = (((a1 (ix2 s l) : EReal).toReal : ℝ) : EReal))
    ∧ (∀ (s : Fin 8192) (l : Fin 2048), a2 (ix2 s l) = (((a2 (ix2 s l) : EReal).toReal : ℝ) : EReal)) := by
  have h0 := congrFun h ix0
  unfold Cert.Pre_finite.fn at h0
  dsimp only at h0
  pointwise at h0
  rw [top_bf16, top_f32] at h0
  obtain ⟨h12, h3⟩ := and_one.mp h0
  obtain ⟨h1, h2⟩ := and_one.mp h12
  refine ⟨fun s l => ?_, fun s l => ?_, fun s l => ?_⟩
  · have h := fold_univ h1 (s, l)
    exact real_of h
  · have h := fold_univ h2 (s, l)
    exact real_of h
  · have h := fold_univ h3 (s, l)
    exact real_of h

end Cert.Proof.Finite
end
end
-- ==== Proof.Host.lean ====
/- What the kernel's host operations leave in the call's inputs, over the ideal numbers. -/
module

public import proofs.«01_k».proof.Proof.Facts
public import proofs.«01_k».proof.Proof.Dats
public import Idealize.ShloMosaic.Lib.Pointwise
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe
open Cert.KernelIdeal Cert.KernelIdeal.Gen
open Cert.Proof Finset

section Terms

variable (a0 : FVec Ideal S8192x6144 .bf16) (a1 : FVec Ideal S8192x16 .f32) (a2 : FVec Ideal S8192x2048 .bf16)

/-- A packed array's heads. -/
def hHeads (a : FVec Ideal S8192x2048 .bf16) : FVec Ideal S16x8192x128 .f32 :=
  transpose S16x8192x128 [1, 0, 2] (shapeCast S8192x16x128 (extf .f32 a bitsLt_bf16_f32) shapeCasts_S8192x2048_S8192x16x128)
    transposes_S8192x16x128_S16x8192x128_1_0_2
def hQ : FVec Ideal S16x8192x128 .f32 := hHeads (extractStridedSlice S8192x2048 ![0, 0] a0 slices_S8192x6144_S8192x2048_0_0)
def hK : FVec Ideal S16x8192x128 .f32 := hHeads (extractStridedSlice S8192x2048 ![0, 2048] a0 slices_S8192x6144_S8192x2048_0_2048)
def hV : FVec Ideal S16x8192x128 .f32 := hHeads (extractStridedSlice S8192x2048 ![0, 4096] a0 slices_S8192x6144_S8192x2048_0_4096)
/-- Masked scores. -/
def hZ : FVec Ideal S16x8192x8192 .f32 :=
  select (broadcastInDim S16x8192x8192 ![1, 2] bcast_S8192x8192_S16x8192x8192_1_2
      (cmpi .sge (broadcastInDim S8192x8192 ![0, 1] bcast_S8192x1_S8192x8192_0_1 (broadcastInDim S8192x1 ![0] bcast_S8192_S8192x1_0 (iotaInDim S8192 32 0)))
        (broadcastInDim S8192x8192 ![0, 1] bcast_S1x8192_S8192x8192_0_1 (broadcastInDim S1x8192 ![1] bcast_S8192_S1x8192_1 (iotaInDim S8192 32 0)))))
    (subf (Host.divf (Host.dotGeneral dot_S16x8192x128_S16x8192x128_S16x8192x8192_2_2_1_1_0_0 none (hQ a0) (hK a0))
        (broadcastInDim S16x8192x8192 ![] bcast_S_S16x8192x8192 (Host.sqrt (constant S_ .f32 0x43000000#32))))
      (broadcastInDim S16x8192x8192 ![0, 1, 2] bcast_S16x1x8192_S16x8192x8192_0_1_2
        (broadcastInDim S16x1x8192 ![0, 2] bcast_S16x8192_S16x1x8192_0_2 (transpose S16x8192 [1, 0] a1 transposes_S8192x16_S16x8192_1_0))))
    (broadcastInDim S16x8192x8192 ![] bcast_S_S16x8192x8192 (constant S_ .f32 0xFF800000#32))
/-- Row maxima. -/
def hM : FVec Ideal S16x8192 .f32 :=
  Host.reduce FloatOps.maximumf (hZ a0 a1) (constant S_ .f32 0xFF800000#32) reducesTo_S16x8192x8192_S16x8192_d2 h_S_
def hM1 : FVec Ideal S16x8192x1 .f32 := broadcastInDim S16x8192x1 ![0, 1] bcast_S16x8192_S16x8192x1_0_1 (hM a0 a1)
/-- Exponentials. -/
def hE : FVec Ideal S16x8192x8192 .f32 :=
  Host.exp (subf (hZ a0 a1) (broadcastInDim S16x8192x8192 ![0, 1, 2] bcast_S16x8192x1_S16x8192x8192_0_1_2 (hM1 a0 a1)))
/-- Row sums. -/
def hL1 : FVec Ideal S16x8192x1 .f32 :=
  broadcastInDim S16x8192x1 ![0, 1] bcast_S16x8192_S16x8192x1_0_1
    (Host.reduceAdd (hE a0 a1) (constant S_ .f32 0x00000000#32) reducesTo_S16x8192x8192_S16x8192_d2 h_S_)
/-- A row value laid out over the packed columns. -/
def hLanes (a : FVec Ideal S16x8192x1 .f32) : FVec Ideal S8192x2048 .f32 :=
  shapeCast S8192x2048 (transpose S8192x16x128 [1, 0, 2]
    (broadcastInDim S16x8192x128 ![0, 1, 2] bcast_S16x8192x1_S16x8192x128_0_1_2 a) transposes_S16x8192x128_S8192x16x128_1_0_2)
    shapeCasts_S8192x16x128_S8192x2048
/-- The row normaliser of row maxima and row sums. -/
def hLse (M L : FVec Ideal S16x8192x1 .f32) : FVec Ideal S16x8192x1 .f32 :=
  Host.divf (addf M (Host.log L)) (broadcastInDim S16x8192x1 ![] bcast_S_S16x8192x1 (Host.log (constant S_ .f32 0x40000000#32)))
/-- The attention output. -/
def hO : FVec Ideal S16x8192x128 .f32 :=
  Host.dotGeneral dot_S16x8192x8192_S16x8192x128_S16x8192x128_2_1_1_2_0_0 none
    (Host.divf (hE a0 a1) (broadcastInDim S16x8192x8192 ![0, 1, 2] bcast_S16x8192x1_S16x8192x8192_0_1_2 (hL1 a0 a1))) (hV a0)
/-- The row correction. -/
def hDelta : FVec Ideal S16x8192x1 .f32 :=
  broadcastInDim S16x8192x1 ![0, 1] bcast_S16x8192_S16x8192x1_0_1
    (Host.reduceAdd (mulf (hHeads a2) (hO a0 a1)) (constant S_ .f32 0x00000000#32) reducesTo_S16x8192x128_S16x8192_d2 h_S_)
/-- The key bias. -/
def hBias : FVec Ideal S16x8x1x1024 .f32 :=
  shapeCast S16x8x1x1024 (transpose S16x8192 [1, 0] (Host.negf a1) transposes_S8192x16_S16x8192_1_0) shapeCasts_S16x8192_S16x8x1x1024

end Terms

section Entry

variable (m : (ℓ : Loc nD τ sig) → Buf (Elt Ideal) ℓ) (c : Dev nD)

set_option maxHeartbeats 4000000 in
theorem V_v44 : V m c main_v44 = hLanes (hLse (hM1 (m ((c : Thread nD τ).loc main_arg0)) (m ((c : Thread nD τ).loc main_arg1))) (hL1 (m ((c : Thread nD τ).loc main_arg0)) (m ((c : Thread nD τ).loc main_arg1)))) := by
  entry_read
  simp only [hostOps0, hostOps0_1, hostOps0_2, List.flatten_cons, List.flatten_nil, List.cons_append, List.nil_append, List.append_nil]
  after_results
  rfl

set_option maxHeartbeats 4000000 in
theorem V_v53 : V m c main_v53 = hLanes (hDelta (m ((c : Thread nD τ).loc main_arg0)) (m ((c : Thread nD τ).loc main_arg1)) (m ((c : Thread nD τ).loc main_arg2))) := by
  entry_read
  simp only [hostOps0, hostOps0_1, hostOps0_2, List.flatten_cons, List.flatten_nil, List.cons_append, List.nil_append, List.append_nil]
  after_results
  rfl

theorem V_v56 : V m c main_v56 = hBias (m ((c : Thread nD τ).loc main_arg1)) := by
  entry_read
  simp only [hostOps0, hostOps0_1, hostOps0_2, List.flatten_cons, List.flatten_nil, List.cons_append, List.nil_append, List.append_nil]
  after_results
  rfl

end Entry

section Readings

theorem hHeads_at (a : FVec Ideal S8192x2048 .bf16) (h : Fin 16) (s : Fin 8192) (d : Fin 128) :
    hHeads a (ix3 h s d) = a (ix2 s ⟨h.val * 128 + d.val, by omega⟩) := by
  pointwise [hHeads]

theorem hLanes_at (a : FVec Ideal S16x8192x1 .f32) (s : Fin 8192) (l : Fin 2048) :
    hLanes a (ix2 s l) = a (ix3 ⟨l.val / 128, by omega⟩ s 0) := by
  pointwise [hLanes]

theorem hLse_at (M L : FVec Ideal S16x8192x1 .f32) (h : Fin 16) (s : Fin 8192) :
    hLse M L (ix3 h s 0) = Ideal.div (M (ix3 h s 0) + Ideal.log (L (ix3 h s 0))) (Ideal.log (Ideal.ofBits .f32 0x40000000#32)) := by
  pointwise [hLse]

variable {a0 : FVec Ideal S8192x6144 .bf16} {a1 : FVec Ideal S8192x16 .f32} {a2 : FVec Ideal S8192x2048 .bf16}

/-- The call's arguments hold numbers. -/
structure Args (x : Fox.Data) (a0 : FVec Ideal S8192x6144 .bf16) (a1 : FVec Ideal S8192x16 .f32) (a2 : FVec Ideal S8192x2048 .bf16) : Prop where
  a : ∀ (s : Fin 8192) (l : Fin 6144), a0 (ix2 s l) = ((x.A s l : ℝ) : EReal)
  c : ∀ (s : Fin 8192) (h : Fin 16), a1 (ix2 s h) = ((x.C s h : ℝ) : EReal)
  g : ∀ (s : Fin 8192) (l : Fin 2048), a2 (ix2 s l) = ((x.D s l : ℝ) : EReal)

variable {x : Fox.Data} (A : Args x a0 a1 a2) (h : Fin 16) (s t : Fin 8192) (d : Fin 128)
include A

theorem hQ_at : hQ a0 (ix3 h s d) = ((Fox.q x h s d : ℝ) : EReal) := by
  pointwise [hQ, hHeads_at]
  rw [A.a]; simp only [Fox.q, Nat.zero_add]

theorem hK_at : hK a0 (ix3 h s d) = ((Fox.k x h s d : ℝ) : EReal) := by
  pointwise [hK, hHeads_at]
  rw [A.a]; rfl

theorem hV_at : hV a0 (ix3 h s d) = ((Fox.v x h s d : ℝ) : EReal) := by
  pointwise [hV, hHeads_at]
  rw [A.a]; rfl

theorem hG_at : hHeads a2 (ix3 h s d) = ((Fox.g x h s d : ℝ) : EReal) := by
  rw [hHeads_at, A.g]; rfl

theorem hZ_at : hZ a0 a1 (ix3 h s t)
    = if t.val ≤ s.val then ((Fox.X x h s t * Fox.σ + 0 - Fox.c x h t : ℝ) : EReal) else ⊥ := by
  pointwise [hZ, hQ_at A, hK_at A]
  word_cmp
  rw [A.c, Fox.ofBits_128, Fox.sqrt_128, Fox.ofBits_ninf]
  simp only [← EReal.coe_mul, Fox.sum_coe]
  rw [Fox.div_coe_coe _ (by positivity), ← EReal.coe_sub]
  simp only [Fox.X, Fox.σ, Fox.c, div_eq_mul_inv, add_zero]

theorem hM_at : ∃ M : ℝ, hM1 a0 a1 (ix3 h s 0) = (M : EReal) := by
  pointwise [hM1, hM]
  rw [Fox.ofBits_ninf]
  refine Fox.fold_max_real _ (fun t => ?_) s ?_
  · rw [hZ_at A]; split
    · exact EReal.coe_ne_top _
    · exact bot_ne_top
  · rw [hZ_at A, if_pos le_rfl]; exact EReal.coe_ne_bot _

theorem hE_at {M : ℝ} (hM : hM1 a0 a1 (ix3 h s 0) = (M : EReal)) :
    hE a0 a1 (ix3 h s t) = ((Fox.w x h s t * Real.exp (0 - M) : ℝ) : EReal) := by
  pointwise [hE]
  rw [hM, hZ_at A, Fox.exp_masked]

theorem hL_at {M : ℝ} (hM : hM1 a0 a1 (ix3 h s 0) = (M : EReal)) :
    hL1 a0 a1 (ix3 h s 0) = ((Fox.W x h s * Real.exp (0 - M) : ℝ) : EReal) := by
  pointwise [hL1]
  simp only [hE_at A h s _ hM]
  rw [Fox.sum_fin fun t => Fox.w x h s t * Real.exp (0 - M), Fox.sum_scaled]

/-- The row normaliser is that of the row shifted by its maximum. -/
theorem lse_val : ∃ M : ℝ, hLse (hM1 a0 a1) (hL1 a0 a1) (ix3 h s 0)
    = (((M + Real.log (Fox.W x h s * Real.exp (-M))) * (Real.log 2)⁻¹ : ℝ) : EReal) := by
  obtain ⟨M, hM⟩ := hM_at A h s
  have hp : 0 < Fox.W x h s * Real.exp (-M) := mul_pos (Fox.W_pos x h s) (Real.exp_pos _)
  refine ⟨M, ?_⟩
  rw [hLse_at, hM, hL_at A h s hM, Fox.ofBits_2, Fox.log_two, zero_sub, Ideal.log_coe, if_neg hp.not_ge, ← EReal.coe_add,
    Fox.div_coe_coe _ (Real.log_pos (by norm_num)).ne', div_eq_mul_inv]

theorem o_val : hO a0 a1 (ix3 h s d) = ((∑ t ∈ range 8192, Fox.y x h s t * Fox.v x h t d : ℝ) : EReal) := by
  obtain ⟨M, hM⟩ := hM_at A h s
  have hp : Fox.W x h s * Real.exp (0 - M) ≠ 0 := (mul_pos (Fox.W_pos x h s) (Real.exp_pos _)).ne'
  pointwise [hO]
  simp only [hE_at A h s _ hM, hL_at A h s hM, hV_at A, Fox.div_coe_coe _ hp, Fox.y_scaled x h s _ (Real.exp_pos (0 - M)).ne', ← EReal.coe_mul]
  rw [Fox.sum_fin fun t => Fox.y x h s t * Fox.v x h t d]

theorem delta_val : hDelta a0 a1 a2 (ix3 h s 0) = ((Fox.del x h s : ℝ) : EReal) := by
  pointwise [hDelta]
  simp only [hG_at A, o_val A, ← EReal.coe_mul]
  rw [Fox.sum_coe, Fox.del_eq]

theorem bias_val (j : Fin 8) (u : Fin 1024) : hBias a1 (ix4 h j 0 u) = ((-Fox.c x h (j * 1024 + u) : ℝ) : EReal) := by
  pointwise [hBias]
  rw [A.c, ← EReal.coe_neg]; rfl

end Readings

end Cert.KernelIdeal.Hand
end
end
-- ==== Proof.Pay.lean ====
/- What the kernel's payloads hold at an index, over the ideal numbers. -/
module

public import proofs.«01_k».proof.Proof.Step
public import proofs.«01_k».proof.Proof.Spec
public import Idealize.ShloMosaic.Lib.Pointwise
public import Idealize.ShloMosaic.Lib.WordCmp

@[expose] public section

set_option maxRecDepth 16384

noncomputable section

namespace Cert.KernelIdeal.Hand

open Idealize.ShloMosaic Idealize.ShloMosaic.TcCoe
open Cert.KernelIdeal Cert.KernelIdeal.Gen

theorem log2e_val : Named.named (F := Ideal) κ "log2e" (φ := .f32) 0x3FB8AA3B#32 = (((Real.log 2)⁻¹ : ℝ) : EReal) :=
  IdealRules.named_const.ideal_named_scalar _ _ _ _ rfl
theorem scale_val : Named.named (F := Ideal) κ "scale" (φ := .f32) 0x3DB504F3#32 = (((Real.sqrt 128)⁻¹ : ℝ) : EReal) :=
  IdealRules.named_const.ideal_named_scalar _ _ _ _ rfl
theorem c1_val : Named.named (F := Ideal) κ "c1" (φ := .f32) 0x3E0293EE#32 = (((Real.sqrt 128)⁻¹ * (Real.log 2)⁻¹ : ℝ) : EReal) :=
  IdealRules.named_const.ideal_named_scalar _ _ _ _ rfl

theorem pay76_at (qs : FVec Ideal S1024x128 .bf16) (lse : FVec Ideal S1024x1 .f32) (kt : FVec Ideal S1024x128 .bf16) (b : FVec Ideal S1x1x1x1024 .f32)
    (r u : Fin 1024) :
    k0_pay76 (F := Ideal) qs lse kt b (ix2 r u)
      = Ideal.exp2 ((∑ d : Fin 128, qs (ix2 r d) * kt (ix2 u d)) + b (ix4 0 0 0 u) * (((Real.log 2)⁻¹ : ℝ) : EReal) - lse (ix2 r 0)) := by
  pointwise [k0_pay76, log2e_val]
  rfl

theorem pay77_at (ct qs : FVec Ideal S1024x128 .bf16) (lse de : FVec Ideal S1024x1 .f32) (kt vt : FVec Ideal S1024x128 .bf16) (b : FVec Ideal S1x1x1x1024 .f32)
    (r u : Fin 1024) :
    k0_pay77 (F := Ideal) ct qs lse de kt vt b (ix2 r u)
      = k0_pay76 (F := Ideal) qs lse kt b (ix2 r u) * ((∑ d : Fin 128, ct (ix2 r d) * vt (ix2 u d)) - de (ix2 r 0)) := by
  pointwise [k0_pay77]

theorem pay105_at (qs : FVec Ideal S1024x128 .bf16) (lse : FVec Ideal S1024x1 .f32) (kt : FVec Ideal S1024x128 .bf16) (b : FVec Ideal S1x1x1x1024 .f32)
    (r u : Fin 1024) :
    k0_pay105 (F := Ideal) qs lse kt b (ix2 r u)
      = if u.val ≤ r.val then k0_pay76 (F := Ideal) qs lse kt b (ix2 r u) else 0 := by
  pointwise [k0_pay105, k0_pay76, log2e_val]
  word_cmp

theorem pay79_at (ct qs : FVec Ideal S1024x128 .bf16) (lse de : FVec Ideal S1024x1 .f32) (kt vt : FVec Ideal S1024x128 .bf16) (b : FVec Ideal S1x1x1x1024 .f32)
    (a : FVec Ideal S1x1x8x1024 .f32) (ρ : Fin 8) (u : Fin 1024) :
    k0_pay95 (F := Ideal) (k0_pay79 ct qs lse de kt vt b a) (ix4 0 0 ρ u)
      = a (ix4 0 0 ρ u) + ∑ z : Fin 128, k0_pay77 (F := Ideal) ct qs lse de kt vt b (ix2 ⟨z.val * 8 + ρ.val, by omega⟩ u) := by
  pointwise [k0_pay95, k0_pay79]

theorem pay78_at (ct qs : FVec Ideal S1024x128 .bf16) (lse : FVec Ideal S1024x1 .f32) (kt : FVec Ideal S1024x128 .bf16) (b : FVec Ideal S1x1x1x1024 .f32)
    (a : FVec Ideal S1024x128 .f32) (u : Fin 1024) (d : Fin 128) :
    k0_pay78 (F := Ideal) ct qs lse kt b a (ix2 u d)
      = a (ix2 u d) + ∑ r : Fin 1024, k0_pay76 (F := Ideal) qs lse kt b (ix2 r u) * ct (ix2 r d) := by
  pointwise [k0_pay78]

theorem pay97_at (q : FVec Ideal S1024x128 .bf16) (e : FVec Ideal S1024x1024 .f32) (a : FVec Ideal S1024x128 .f32) (u : Fin 1024) (d : Fin 128) :
    k0_pay97 (F := Ideal) q e a (ix2 u d) = a (ix2 u d) + ∑ r : Fin 1024, e (ix2 r u) * (((Real.sqrt 128)⁻¹ : ℝ) : EReal) * q (ix2 r d) := by
  pointwise [k0_pay97, k0_pay96, scale_val]

theorem pay98_at (kt : FVec Ideal S1024x128 .bf16) (e : FVec Ideal S1024x1024 .f32) (a : FVec Ideal S1024x128 .f32) (r : Fin 1024) (d : Fin 128) :
    k0_pay98 (F := Ideal) kt e a (ix2 r d) = a (ix2 r d) + ∑ u : Fin 1024, e (ix2 r u) * (((Real.sqrt 128)⁻¹ : ℝ) : EReal) * kt (ix2 u d) := by
  pointwise [k0_pay98, k0_pay96, scale_val]

theorem pay99_at (e : FVec Ideal S1024x1024 .f32) (a : FVec Ideal S1024x128 .f32) (r : Fin 1024) (l : Fin 128) :
    k0_pay99 (F := Ideal) e a (ix2 r l) = a (ix2 r l) + ∑ u : Fin 1024, e (ix2 r u) := by
  pointwise [k0_pay99]

theorem pay1_at (h : Fin 16) (a e : FVec Ideal S1024x128 .f32) (r : Fin 1024) (l : Fin 128) :
    k0_pay1 (F := Ideal) (BitVec.ofNat 32 h.val) a e (ix2 r l) = a (ix2 r l) + if l.val = h.val then e (ix2 r l) else 0 := by
  pointwise [k0_pay1]
  word_cmp

theorem pay90_at (q : FVec Ideal S1024x128 .bf16) (r : Fin 1024) (d : Fin 128) :
    k0_pay90 (F := Ideal) q (ix2 r d) = q (ix2 r d) * (((Real.sqrt 128)⁻¹ * (Real.log 2)⁻¹ : ℝ) : EReal) := by
  pointwise [k0_pay90, c1_val]
theorem pay91_at (a : FVec Ideal S1024x128 .f32) (r : Fin 1024) : k0_pay91 (F := Ideal) a (ix2 r 0) = a (ix2 r 0) := by
  pointwise [k0_pay91]
theorem pay92_at (a : FVec Ideal S1024x128 .f32) (r : Fin 1024) : k0_pay92 (F := Ideal) a (ix2 r 0) = a (ix2 r 0) := by
  pointwise [k0_pay92]

theorem pay106_at (ct qs : FVec Ideal S1024x128 .bf16) (lse de : FVec Ideal S1024x1 .f32) (kt vt : FVec Ideal S1024x128 .bf16) (b : FVec Ideal S1x1x1x1024 .f32)
    (r u : Fin 1024) :
    k0_pay106 (F := Ideal) ct qs lse de kt vt b (ix2 r u)
      = k0_pay105 (F := Ideal) qs lse kt b (ix2 r u) * ((∑ d : Fin 128, ct (ix2 r d) * vt (ix2 u d)) - de (ix2 r 0)) := by
  pointwise [k0_pay106]

theorem pay107_at (ct qs : FVec Ideal S1024x128 .bf16) (lse : FVec Ideal S1024x1 .f32) (kt : FVec Ideal S1024x128 .bf16) (b : FVec Ideal S1x1x1x1024 .f32)
    (a : FVec Ideal S1024x128 .f32) (u : Fin 1024) (d : Fin 128) :
    k0_pay107 (F := Ideal) ct qs lse kt b a (ix2 u d)
      = a (ix2 u d) + ∑ r : Fin 1024, k0_pay105 (F := Ideal) qs lse kt b (ix2 r u) * ct (ix2 r d) := by
  pointwise [k0_pay107]

theorem pay108_at (e : FVec Ideal S1024x1024 .f32) (a : FVec Ideal S1x1x8x1024 .f32) (ρ : Fin 8) (u : Fin 1024) :
    k0_pay108 (F := Ideal) e a (ix4 0 0 ρ u) = a (ix4 0 0 ρ u) + ∑ z : Fin 128, e (ix2 ⟨z.val * 8 + ρ.val, by omega⟩ u) := by
  pointwise [k0_pay108]

theorem pay110_eq (q : FVec Ideal S1024x128 .bf16) (e : FVec Ideal S1024x1024 .f32) (a : FVec Ideal S1024x128 .f32) :
    k0_pay110 (F := Ideal) q e a = k0_pay97 q e a := rfl
theorem pay111_eq (k : FVec Ideal S1024x128 .bf16) (e : FVec Ideal S1024x1024 .f32) (a : FVec Ideal S1024x128 .f32) :
    k0_pay111 (F := Ideal) k e a = k0_pay98 k e a := rfl
theorem pay112_eq (e : FVec Ideal S1024x1024 .f32) (a : FVec Ideal S1024x128 .f32) : k0_pay112 (F := Ideal) e a = k0_pay99 e a := rfl

/-- The zero fillings. -/
theorem zero_tile (r : Fin 1024) (d : Fin 128) : k0_pay88 (F := Ideal) (ix2 r d) = 0 ∧ k0_pay89 (F := Ideal) (ix2 r d) = 0 :=
  ⟨by pointwise [k0_pay88], by pointwise [k0_pay89]⟩
theorem zero_rows (r : Fin 8192) (d : Fin 128) :
    k0_pay84 (F := Ideal) (ix2 r d) = 0 ∧ k0_pay85 (F := Ideal) (ix2 r d) = 0 ∧ k0_pay86 (F := Ideal) (ix2 r d) = 0 :=
  ⟨by pointwise [k0_pay84], by pointwise [k0_pay85], by pointwise [k0_pay86]⟩
theorem zero_cols (j ρ : Fin 8) (u : Fin 1024) : k0_pay87 (F := Ideal) (ix4 0 j ρ u) = 0 := by pointwise [k0_pay87]

end Cert.KernelIdeal.Hand
end
end
-- ==== Proof.Tile.lean ====
/- One tile of keys, over the ideal numbers: what the accumulators hold after it. -/
module

public import proofs.«01_k».proof.Proof.Pay

@[expose] public section

set_option maxRecDepth 16384

noncomputable section

namespace Cert.KernelIdeal.Hand

open Idealize.ShloMosaic Idealize.ShloMosaic.TcCoe
open Cert.KernelIdeal Cert.KernelIdeal.Gen
open Cert.Proof Finset

/-- A point's inputs hold the numbers of head `h`, query tile `i`; the row normaliser is one of a row shifted by `M`. -/
structure Reads (x : Fox.Data) (h i : ℕ) (I : Inp Ideal) : Prop where
  q : ∀ (r : Fin 1024) (d : Fin 128), I.q (ix2 r d) = ((Fox.q x h (i * 1024 + r) d : ℝ) : EReal)
  ct : ∀ (r : Fin 1024) (d : Fin 128), I.ct (ix2 r d) = ((Fox.g x h (i * 1024 + r) d : ℝ) : EReal)
  qs : ∀ (r : Fin 1024) (d : Fin 128), I.qs (ix2 r d) = ((Fox.q x h (i * 1024 + r) d * (Fox.σ * (Real.log 2)⁻¹) : ℝ) : EReal)
  lse : ∀ r : Fin 1024, ∃ M : ℝ, I.lse (ix2 r 0)
    = (((M + Real.log (Fox.W x h (i * 1024 + r) * Real.exp (-M))) * (Real.log 2)⁻¹ : ℝ) : EReal)
  delta : ∀ r : Fin 1024, I.delta (ix2 r 0) = ((Fox.del x h (i * 1024 + r) : ℝ) : EReal)
  k : ∀ (t : Fin 8192) (d : Fin 128), I.k (ix2 t d) = ((Fox.k x h t d : ℝ) : EReal)
  v : ∀ (t : Fin 8192) (d : Fin 128), I.v (ix2 t d) = ((Fox.v x h t d : ℝ) : EReal)
  b : ∀ (j : Fin 8) (u : Fin 1024), I.b (ix4 0 j 0 u) = ((-Fox.c x h (j * 1024 + u) : ℝ) : EReal)

section Windows

variable {α : Type}

theorem rows_at (x : S8192x128.Idx → α) (j : ℕ) (h : j < 8) (r : Fin 1024) (d : Fin 128) :
    rows x j h (ix2 r d) = x (ix2 ⟨j * 1024 + r.val, by omega⟩ d) := by
  show x _ = x _
  congr 1
  funext a
  match a with
  | 0 => exact Fin.ext (show j * 1024 + 1 * r.val = j * 1024 + r.val by omega)
  | 1 => exact Fin.ext (show 0 + 1 * d.val = d.val by omega)

theorem bias_at (x : S1x8x1x1024.Idx → α) (j : ℕ) (h : j < 8) (u : Fin 1024) :
    bias x j h (ix4 0 0 0 u) = x (ix4 0 ⟨j, h⟩ 0 u) := by
  show x _ = x _
  congr 1
  funext a
  match a with
  | 0 => exact Fin.ext (show 0 + 1 * 0 = 0 by omega)
  | 1 => exact Fin.ext (show j + 1 * 0 = j by omega)
  | 2 => exact Fin.ext (show 0 + 1 * 0 = 0 by omega)
  | 3 => exact Fin.ext (show 0 + 1 * u.val = u.val by omega)

theorem cols_at (x : S1x8x8x1024.Idx → α) (j : ℕ) (h : j < 8) (ρ : Fin 8) (u : Fin 1024) :
    cols x j h (ix4 0 0 ρ u) = x (ix4 0 ⟨j, h⟩ ρ u) := by
  show x _ = x _
  congr 1
  funext a
  match a with
  | 0 => exact Fin.ext (show 0 + 1 * 0 = 0 by omega)
  | 1 => exact Fin.ext (show j + 1 * 0 = j by omega)
  | 2 => exact Fin.ext (show 0 + 1 * ρ.val = ρ.val by omega)
  | 3 => exact Fin.ext (show 0 + 1 * u.val = u.val by omega)

theorem putRows_in (x : S8192x128.Idx → α) (j : ℕ) (w : S1024x128.Idx → α) (t : Fin 8192) (d : Fin 128) (u : Fin 1024)
    (h : t.val = j * 1024 + u.val) : putRows x j w (ix2 t d) = w (ix2 u d) := by
  have hm : ∀ a, (![j * 1024, 0] : Fin 2 → ℕ) a ≤ ((ix2 t d : S8192x128.Idx) a).val
      ∧ ((ix2 t d : S8192x128.Idx) a).val < (![j * 1024, 0] : Fin 2 → ℕ) a + S1024x128.size a :=
    Fin.forall_fin_two.mpr ⟨⟨show j * 1024 ≤ t.val by omega, show t.val < j * 1024 + 1024 by omega⟩,
      ⟨Nat.zero_le _, show d.val < 0 + 128 by omega⟩⟩
  refine (dif_pos hm).trans ?_
  congr 1
  funext a
  match a with
  | 0 => exact Fin.ext (show t.val - j * 1024 = u.val by omega)
  | 1 => exact Fin.ext (show d.val - 0 = d.val by omega)

theorem putRows_out (x : S8192x128.Idx → α) (j : ℕ) (w : S1024x128.Idx → α) (t : Fin 8192) (d : Fin 128)
    (h : ¬(j * 1024 ≤ t.val ∧ t.val < j * 1024 + 1024)) : putRows x j w (ix2 t d) = x (ix2 t d) :=
  dif_neg fun hm => h (hm 0)

theorem putCols_in (x : S1x8x8x1024.Idx → α) (j : Fin 8) (w : S1x1x8x1024.Idx → α) (ρ : Fin 8) (u : Fin 1024) :
    putCols x j.val w (ix4 0 j ρ u) = w (ix4 0 0 ρ u) := by
  have hm : ∀ a, (![0, j.val, 0, 0] : Fin 4 → ℕ) a ≤ ((ix4 0 j ρ u : S1x8x8x1024.Idx) a).val
      ∧ ((ix4 0 j ρ u : S1x8x8x1024.Idx) a).val < (![0, j.val, 0, 0] : Fin 4 → ℕ) a + S1x1x8x1024.size a :=
    forall_fin_four ⟨Nat.zero_le _, show 0 < 0 + 1 by omega⟩ ⟨show j.val ≤ j.val by omega, show j.val < j.val + 1 by omega⟩
      ⟨Nat.zero_le _, show ρ.val < 0 + 8 by omega⟩ ⟨Nat.zero_le _, show u.val < 0 + 1024 by omega⟩
  refine (dif_pos hm).trans ?_
  congr 1
  funext a
  match a with
  | 0 => exact Fin.ext (show 0 - 0 = 0 by omega)
  | 1 => exact Fin.ext (show j.val - j.val = 0 by omega)
  | 2 => exact Fin.ext (show ρ.val - 0 = ρ.val by omega)
  | 3 => exact Fin.ext (show u.val - 0 = u.val by omega)

theorem putCols_out (x : S1x8x8x1024.Idx → α) (j : ℕ) (w : S1x1x8x1024.Idx → α) (j' ρ : Fin 8) (u : Fin 1024)
    (h : j'.val ≠ j) : putCols x j w (ix4 0 j' ρ u) = x (ix4 0 j' ρ u) :=
  dif_neg fun hm => h (by have := hm 1; exact Nat.le_antisymm (Nat.le_of_lt_succ this.2) this.1)

end Windows

section Tiles

variable {x : Fox.Data} {h i : ℕ} {I : Inp Ideal} (R : Reads x h i I)
include R

/-- The weight the kernel computes, where the key is not after the query. -/
theorem p_at (j : ℕ) (hj : j < 8) (r u : Fin 1024) (hle : j * 1024 + u.val ≤ i * 1024 + r.val) :
    k0_pay76 (F := Ideal) I.qs I.lse (rows I.k j hj) (bias I.b j hj) (ix2 r u)
      = ((Fox.y x h (i * 1024 + r) (j * 1024 + u) : ℝ) : EReal) := by
  obtain ⟨M, hM⟩ := R.lse r
  rw [pay76_at, hM, bias_at, R.b]
  have e : ∑ d : Fin 128, I.qs (ix2 r d) * rows I.k j hj (ix2 u d)
      = ((∑ d : Fin 128, Fox.q x h (i * 1024 + r) d * (Fox.σ * (Real.log 2)⁻¹) * Fox.k x h (j * 1024 + u) d : ℝ) : EReal) := by
    rw [Fox.coe_sum]
    refine Finset.sum_congr rfl fun d _ => ?_
    rw [R.qs, rows_at, R.k, ← EReal.coe_mul]
  rw [e, ← EReal.coe_mul, ← EReal.coe_add, ← EReal.coe_sub, Ideal.exp2_coe]
  exact congrArg _ (Fox.y_exp2 x hle M)

theorem dp_at (j : ℕ) (hj : j < 8) (r u : Fin 1024) :
    (∑ d : Fin 128, I.ct (ix2 r d) * rows I.v j hj (ix2 u d)) - I.delta (ix2 r 0)
      = ((Fox.dp x h (i * 1024 + r) (j * 1024 + u) - Fox.del x h (i * 1024 + r) : ℝ) : EReal) := by
  rw [R.delta, EReal.coe_sub]
  unfold Fox.dp
  rw [Fox.coe_sum]
  refine congrArg (· - _) (Finset.sum_congr rfl fun d _ => ?_)
  rw [R.ct, rows_at, R.v, ← EReal.coe_mul]

/-- Below the diagonal. -/
theorem ds_at (j : ℕ) (hj : j < 8) (hi : j < i) (r u : Fin 1024) :
    dsT I j hj (ix2 r u) = ((Fox.ds x h (i * 1024 + r) (j * 1024 + u) : ℝ) : EReal) := by
  rw [dsT, pay77_at, dp_at R, p_at R j hj r u (by omega), ← EReal.coe_mul]; rfl

/-- On the diagonal. -/
theorem pd_at (hi : i < 8) (r u : Fin 1024) :
    k0_pay105 (F := Ideal) I.qs I.lse (rows I.k i hi) (bias I.b i hi) (ix2 r u)
      = ((Fox.y x h (i * 1024 + r) (i * 1024 + u) : ℝ) : EReal) := by
  rw [pay105_at]
  by_cases hru : u.val ≤ r.val
  · rw [if_pos hru, p_at R i hi r u (by omega)]
  · rw [if_neg hru, Fox.y_zero x (by omega)]; rfl

theorem dd_at (hi : i < 8) (r u : Fin 1024) :
    dsD I i hi (ix2 r u) = ((Fox.ds x h (i * 1024 + r) (i * 1024 + u) : ℝ) : EReal) := by
  rw [dsD, pay106_at, dp_at R, pd_at R, ← EReal.coe_mul]; rfl

end Tiles

/-- The accumulators over the head: key position `t` has had the query tiles before `N t`. -/
structure Acc (x : Fox.Data) (h : ℕ) (N : ℕ → ℕ) (s : St Ideal) : Prop where
  dk : ∀ (t : Fin 8192) (d : Fin 128), s.dk (ix2 t d)
    = ((∑ a ∈ range (1024 * N t), Fox.ds x h a t * Fox.σ * Fox.q x h a d : ℝ) : EReal)
  dv : ∀ (t : Fin 8192) (d : Fin 128), s.dv (ix2 t d)
    = ((∑ a ∈ range (1024 * N t), Fox.y x h a t * Fox.g x h a d : ℝ) : EReal)
  db : ∀ (j ρ : Fin 8) (u : Fin 1024), s.db (ix4 0 j ρ u)
    = ((∑ a ∈ range (128 * N (j * 1024 + u)), Fox.ds x h (a * 8 + ρ) (j * 1024 + u) : ℝ) : EReal)

/-- The accumulators of the query tile `i`, over the first `k` tiles of keys. -/
structure Row (x : Fox.Data) (h i k : ℕ) (s : St Ideal) : Prop where
  dq : ∀ (r : Fin 1024) (d : Fin 128), s.dq (ix2 r d)
    = ((∑ t ∈ range (1024 * k), Fox.ds x h (i * 1024 + r) t * Fox.σ * Fox.k x h t d : ℝ) : EReal)
  rs : ∀ (r : Fin 1024) (l : Fin 128), s.rs (ix2 r l) = ((∑ t ∈ range (1024 * k), Fox.ds x h (i * 1024 + r) t : ℝ) : EReal)

/-- Key tiles before `k` have had query tile `i`, the others not yet. -/
def upto (i k t : ℕ) : ℕ := if t < 1024 * k then i + 1 else i

theorem upto_lt {i k t : ℕ} (h : t < 1024 * k) : upto i k t = i + 1 := if_pos h
theorem upto_ge {i k t : ℕ} (h : 1024 * k ≤ t) : upto i k t = i := if_neg (by omega)

/-- One tile: given its weights `P` and score gradients `E`. -/
theorem step {x : Fox.Data} {h i : ℕ} {I : Inp Ideal} (R : Reads x h i I) (j : ℕ) (hj : j < 8) (s : St Ideal)
    (A : Acc x h (upto i j) s) (B : Row x h i j s) (P E : FVec Ideal S1024x1024 .f32)
    (hP : ∀ r u, P (ix2 r u) = ((Fox.y x h (i * 1024 + r) (j * 1024 + u) : ℝ) : EReal))
    (hE : ∀ r u, E (ix2 r u) = ((Fox.ds x h (i * 1024 + r) (j * 1024 + u) : ℝ) : EReal))
    (wb : FVec Ideal S1x1x8x1024 .f32) (wv : FVec Ideal S1024x128 .f32)
    (hb : ∀ ρ u, wb (ix4 0 0 ρ u) = cols s.db j hj (ix4 0 0 ρ u) + ∑ z : Fin 128, E (ix2 ⟨z.val * 8 + ρ.val, by omega⟩ u))
    (hv : ∀ u d, wv (ix2 u d) = rows s.dv j hj (ix2 u d) + ∑ r : Fin 1024, P (ix2 r u) * I.ct (ix2 r d)) :
    Acc x h (upto i (j + 1)) ⟨putCols s.db j wb, k0_pay98 (rows I.k j hj) E s.dq, putRows s.dk j (k0_pay97 I.q E (rows s.dk j hj)),
        putRows s.dv j wv, k0_pay99 E s.rs⟩
      ∧ Row x h i (j + 1) ⟨putCols s.db j wb, k0_pay98 (rows I.k j hj) E s.dq, putRows s.dk j (k0_pay97 I.q E (rows s.dk j hj)),
        putRows s.dv j wv, k0_pay99 E s.rs⟩ := by
  have hout : ∀ t : ℕ, ¬(j * 1024 ≤ t ∧ t < j * 1024 + 1024) → upto i (j + 1) t = upto i j t := fun t ht => by
    unfold upto
    by_cases h1 : t < 1024 * j
    · rw [if_pos h1, if_pos (by omega)]
    · rw [if_neg h1, if_neg (by omega)]
  refine ⟨⟨fun t d => ?_, fun t d => ?_, fun j' ρ u => ?_⟩, ⟨fun r d => ?_, fun r l => ?_⟩⟩
  · by_cases ht : j * 1024 ≤ t.val ∧ t.val < j * 1024 + 1024
    · obtain ⟨u, hu⟩ : ∃ u : Fin 1024, t.val = j * 1024 + u.val := ⟨⟨t.val - j * 1024, by omega⟩, by dsimp only; omega⟩
      dsimp only
      rw [putRows_in _ _ _ t d u hu, pay97_at, rows_at, show (⟨j * 1024 + u.val, by omega⟩ : Fin 8192) = t from Fin.ext hu.symm, A.dk,
        upto_lt (i := i) (k := j + 1) (t := t.val) (by omega), upto_ge (i := i) (k := j) (t := t.val) (by omega), Fox.sum_range_tile,
        EReal.coe_add, Fox.coe_sum univ]
      refine congrArg₂ (· + ·) rfl (Finset.sum_congr rfl fun r _ => ?_)
      rw [hE, R.q, hu, ← EReal.coe_mul, ← EReal.coe_mul]; rfl
    · dsimp only
      rw [putRows_out _ _ _ t d ht, A.dk, hout _ ht]
  · by_cases ht : j * 1024 ≤ t.val ∧ t.val < j * 1024 + 1024
    · obtain ⟨u, hu⟩ : ∃ u : Fin 1024, t.val = j * 1024 + u.val := ⟨⟨t.val - j * 1024, by omega⟩, by dsimp only; omega⟩
      dsimp only
      rw [putRows_in _ _ _ t d u hu, hv, rows_at, show (⟨j * 1024 + u.val, by omega⟩ : Fin 8192) = t from Fin.ext hu.symm, A.dv,
        upto_lt (i := i) (k := j + 1) (t := t.val) (by omega), upto_ge (i := i) (k := j) (t := t.val) (by omega), Fox.sum_range_tile,
        EReal.coe_add, Fox.coe_sum univ]
      refine congrArg₂ (· + ·) rfl (Finset.sum_congr rfl fun r _ => ?_)
      rw [hP, R.ct, hu, ← EReal.coe_mul]
    · dsimp only
      rw [putRows_out _ _ _ t d ht, A.dv, hout _ ht]
  · by_cases ht : j'.val = j
    · subst ht
      dsimp only
      rw [putCols_in, hb, cols_at, A.db, upto_lt (i := i) (k := j'.val + 1) (t := j'.val * 1024 + u.val) (by omega),
        upto_ge (i := i) (k := j'.val) (t := j'.val * 1024 + u.val) (by omega), Fox.sum_range_tile,
        EReal.coe_add, Fox.coe_sum univ]
      refine congrArg₂ (· + ·) rfl (Finset.sum_congr rfl fun z _ => ?_)
      rw [hE]
      dsimp only
      rw [show i * 1024 + (z.val * 8 + ρ.val) = (i * 128 + z.val) * 8 + ρ.val by omega]
    · dsimp only
      rw [putCols_out _ _ _ j' ρ u ht, A.db, hout _ (by omega)]
  · dsimp only
    rw [pay98_at, B.dq, Fox.sum_range_tile, EReal.coe_add, Fox.coe_sum univ]
    refine congrArg₂ (· + ·) rfl (Finset.sum_congr rfl fun u _ => ?_)
    rw [hE, rows_at, R.k, ← EReal.coe_mul, ← EReal.coe_mul]; rfl
  · dsimp only
    rw [pay99_at, B.rs, Fox.sum_range_tile, EReal.coe_add, Fox.coe_sum univ]
    refine congrArg₂ (· + ·) rfl (Finset.sum_congr rfl fun u _ => ?_)
    rw [hE]

/-- The tiles below the diagonal. -/
theorem walked {x : Fox.Data} {h i : ℕ} {I : Inp Ideal} (R : Reads x h i I) (hi : i < 8) (s : St Ideal)
    (A : Acc x h (fun _ => i) s) (B : Row x h i 0 s) (k : ℕ) (hk : k ≤ i) :
    Acc x h (upto i k) (walk I 0 k s) ∧ Row x h i k (walk I 0 k s) := by
  induction k with
  | zero => exact ⟨by rw [show upto i 0 = fun _ => i from funext fun t => upto_ge (by omega)]; exact A, B⟩
  | succ k ih =>
    obtain ⟨A', B'⟩ := ih (by omega)
    rw [walk_succ, Nat.zero_add, tile_of_lt I (show k < 8 by omega)]
    exact step R k (by omega) _ A' B' (k0_pay76 I.qs I.lse (rows I.k k (by omega)) (bias I.b k (by omega))) (dsT I k (by omega))
      (fun r u => p_at R k _ r u (by omega)) (fun r u => ds_at R k _ (by omega) r u) _ _
      (fun ρ u => pay79_at _ _ _ _ _ _ _ _ ρ u) (fun u d => pay78_at _ _ _ _ _ _ u d)

/-- All tiles of a query tile. -/
theorem tiled {x : Fox.Data} {h i : ℕ} {I : Inp Ideal} (R : Reads x h i I) (hi : i < 8) (s : St Ideal)
    (A : Acc x h (fun _ => i) s) (B : Row x h i 0 s) :
    Acc x h (fun _ => i + 1) (diagAt I i hi (walk I 0 i s)) ∧ Row x h i (i + 1) (diagAt I i hi (walk I 0 i s)) := by
  obtain ⟨A', B'⟩ := walked R hi s A B i le_rfl
  have H := step R i hi _ A' B' (k0_pay105 I.qs I.lse (rows I.k i hi) (bias I.b i hi)) (dsD I i hi)
      (fun r u => pd_at R hi r u) (fun r u => dd_at R hi r u) _ _
      (fun ρ u => pay108_at _ _ ρ u) (fun u d => pay107_at _ _ _ _ _ _ u d)
  refine ⟨⟨fun t d => ?_, fun t d => ?_, fun j ρ u => ?_⟩, H.2⟩
  · refine (H.1.dk t d).trans (congrArg _ ?_)
    by_cases ht : t.val < 1024 * (i + 1)
    · rw [upto_lt ht]
    · rw [upto_ge (by omega), Fox.sum_range_tile]
      exact (add_eq_left.mpr (Finset.sum_eq_zero fun r _ => by rw [Fox.ds_zero x (by omega), zero_mul, zero_mul])).symm
  · refine (H.1.dv t d).trans (congrArg _ ?_)
    by_cases ht : t.val < 1024 * (i + 1)
    · rw [upto_lt ht]
    · rw [upto_ge (by omega), Fox.sum_range_tile]
      exact (add_eq_left.mpr (Finset.sum_eq_zero fun r _ => by rw [Fox.y_zero x (by omega), zero_mul])).symm
  · refine (H.1.db j ρ u).trans (congrArg _ ?_)
    by_cases ht : j.val * 1024 + u.val < 1024 * (i + 1)
    · rw [upto_lt ht]
    · rw [upto_ge (by omega), Fox.sum_range_tile]
      exact (add_eq_left.mpr (Finset.sum_eq_zero fun r _ => by rw [Fox.ds_zero x (by omega)])).symm

end Cert.KernelIdeal.Hand
end
end
-- ==== Proof.Head.lean ====
/- The accumulators after each grid point, over the ideal numbers. -/
module

public import proofs.«01_k».proof.Proof.Tile
public import proofs.«01_k».proof.Proof.Dats

@[expose] public section

set_option maxRecDepth 16384

noncomputable section

namespace Cert.KernelIdeal.Hand

open Idealize.ShloMosaic Idealize.ShloMosaic.TcCoe
open Cert.KernelIdeal Cert.KernelIdeal.Gen
open Cert.Proof Finset

/-- A point, from what the head has had before it. -/
theorem pointed {x : Fox.Data} {h : ℕ} (i : grid0.Coords) {I : Inp Ideal} (R : Reads x h (i 1).val I) (s : St Ideal)
    (A : (i 1).val ≠ 0 → Acc x h (fun _ => (i 1).val) s) :
    Acc x h (fun _ => (i 1).val + 1) (point i I s) ∧ Row x h (i 1).val ((i 1).val + 1) (point i I s) := by
  refine tiled R (i 1).isLt _ ?_ ⟨fun r d => ?_, fun r l => ?_⟩
  · by_cases h0 : (i 1).val = 0
    · refine ⟨fun t d => ?_, fun t d => ?_, fun j ρ u => ?_⟩
      · rw [h0]; dsimp only [start]; rw [if_pos h0, (zero_rows t d).2.1]; simp
      · rw [h0]; dsimp only [start]; rw [if_pos h0, (zero_rows t d).2.2]; simp
      · rw [h0]; dsimp only [start]; rw [if_pos h0, zero_cols j ρ u]; simp
    · obtain ⟨a, b, e⟩ := A h0
      refine ⟨fun t d => ?_, fun t d => ?_, fun j ρ u => ?_⟩
      · dsimp only [start]; rw [if_neg h0]; exact a t d
      · dsimp only [start]; rw [if_neg h0]; exact b t d
      · dsimp only [start]; rw [if_neg h0]; exact e j ρ u
  · dsimp only [start]; rw [(zero_tile r d).1]; simp
  · dsimp only [start]; rw [(zero_tile r l).2]; simp

theorem point13_eq (i : grid0.Coords) (h : Fin 16) (j : ℕ) (hj : j < 8) (e0 : (i 0).val = h.val) (e1 : (i 1).val = j) (I : Inp Ideal) (s : St Ideal)
    (x : FVec Ideal S8192x128 .f32) :
    point13 i I s x = putRows (start13 i x) j (k0_pay1 (BitVec.ofNat 32 h.val) (rows (start13 i x) j hj) (point i I s).rs) := by
  subst e1; rw [← e0]; rfl

variable (m : (ℓ : Loc nD τ sig) → Buf (Elt Ideal) ℓ) (c : Dev nD) {x : Fox.Data}
  (R : ∀ t : Fin cfg0.N, Reads x (t.val / 8) (t.val % 8) (inpAt m c t))
include R

/-- The accumulators after point `t`. -/
theorem accAt (n : ℕ) (hn : n < cfg0.N) :
    Acc x (n / 8) (fun _ => n % 8 + 1) (stAt m c (n + 1)) ∧ Row x (n / 8) (n % 8) (n % 8 + 1) (stAt m c (n + 1)) := by
  induction n with
  | zero =>
    have H := stAt_succ m c ⟨0, hn⟩
    have c1 := coord1 ⟨0, hn⟩
    have P := pointed (x := x) (h := (⟨0, hn⟩ : Fin cfg0.N).val / 8) (grid0.coords ⟨0, hn⟩) (I := inpAt m c ⟨0, hn⟩) (by rw [c1]; exact R ⟨0, hn⟩) (stAt m c 0)
      (fun h0 => absurd c1 h0)
    rw [c1] at P
    rw [H]; exact P
  | succ n ih =>
    have H := stAt_succ m c ⟨n + 1, hn⟩
    have c1 := coord1 ⟨n + 1, hn⟩
    have P := pointed (x := x) (h := (n + 1) / 8) (grid0.coords ⟨n + 1, hn⟩) (I := inpAt m c ⟨n + 1, hn⟩) (by rw [c1]; exact R ⟨n + 1, hn⟩)
      (stAt m c (n + 1)) (fun h0 => by
        rw [c1] at h0 ⊢
        dsimp only at h0 ⊢
        have A := (ih (by omega)).1
        rw [show n / 8 = (n + 1) / 8 by omega, show n % 8 + 1 = (n + 1) % 8 by omega] at A
        exact A)
    rw [c1] at P
    rw [H]; exact P

/-- The query gradient a point writes. -/
theorem dq_at (t : Fin cfg0.N) (r : Fin 1024) (d : Fin 128) :
    (stAt m c (t.val + 1)).dq (ix2 r d) = ((Fox.DQ x (t.val / 8) (t.val % 8 * 1024 + r) d : ℝ) : EReal) := by
  rw [(accAt m c R t.val t.isLt).2.dq]
  unfold Fox.DQ
  simp only [mul_assoc]
  rw [Fox.sum_ds_upto x (by omega) (by omega) fun t' => Fox.σ * Fox.k x (t.val / 8) t' d]

/-- The row sums of a point. -/
theorem rs_at (t : Fin cfg0.N) (r : Fin 1024) (l : Fin 128) :
    (stAt m c (t.val + 1)).rs (ix2 r l) = ((Fox.RS x (t.val / 8) (t.val % 8 * 1024 + r) : ℝ) : EReal) := by
  rw [(accAt m c R t.val t.isLt).2.rs]
  unfold Fox.RS
  have e := Fox.sum_ds_upto x (h := t.val / 8) (s := t.val % 8 * 1024 + r) (n := 1024 * (t.val % 8 + 1)) (by omega) (by omega) fun _ => 1
  simp only [mul_one] at e
  rw [e]

/-- The key gradient at the head's last point. -/
theorem dk_at (t : Fin cfg0.N) (h7 : t.val % 8 = 7) (s : Fin 8192) (d : Fin 128) :
    (stAt m c (t.val + 1)).dk (ix2 s d) = ((Fox.DK x (t.val / 8) s d : ℝ) : EReal) := by
  rw [(accAt m c R t.val t.isLt).1.dk, h7]; rfl

/-- The value gradient at the head's last point. -/
theorem dv_at (t : Fin cfg0.N) (h7 : t.val % 8 = 7) (s : Fin 8192) (d : Fin 128) :
    (stAt m c (t.val + 1)).dv (ix2 s d) = ((Fox.DV x (t.val / 8) s d : ℝ) : EReal) := by
  rw [(accAt m c R t.val t.isLt).1.dv, h7]; rfl

/-- The column sums at the head's last point, eight partial ones. -/
theorem db_at (t : Fin cfg0.N) (h7 : t.val % 8 = 7) (j ρ : Fin 8) (u : Fin 1024) :
    (stAt m c (t.val + 1)).db (ix4 0 j ρ u)
      = ((∑ a ∈ range 1024, Fox.ds x (t.val / 8) (a * 8 + ρ) (j * 1024 + u) : ℝ) : EReal) := by
  rw [(accAt m c R t.val t.isLt).1.db, h7]

/-- The row sums of all heads: a lane's rows are there from its point on. -/
theorem rsAt_at (n : ℕ) (hn : n ≤ cfg0.N) (s : Fin 8192) (l : Fin 128) :
    rsAt m c n (ix2 s l) = ((if 8 * l.val + s.val / 1024 < n then Fox.RS x l s else 0 : ℝ) : EReal) := by
  induction n generalizing s l with
  | zero => rw [if_neg (by omega), rsAt, (zero_rows s l).1]; rfl
  | succ n ih =>
    have hn' : n < cfg0.N := hn
    have hN : n < 128 := hn
    have H := rsAt_succ m c ⟨n, hn'⟩
    have c0 := coord0 ⟨n, hn'⟩
    have c1 := coord1 ⟨n, hn'⟩
    dsimp only at H c0 c1
    have e : start13 (grid0.coords ⟨n, hn'⟩) (rsAt m c n) = rsAt m c n := by
      unfold start13
      by_cases h0 : ((grid0.coords ⟨n, hn'⟩) 0).val = 0 ∧ ((grid0.coords ⟨n, hn'⟩) 1).val = 0
      · rw [if_pos h0, show n = 0 by omega]; rfl
      · rw [if_neg h0]
    have hr := rs_at m c R ⟨n, hn'⟩
    rw [stAt_succ m c ⟨n, hn'⟩] at hr
    obtain ⟨i, hi⟩ : ∃ i, i = n % 8 := ⟨_, rfl⟩
    rw [H, point13_eq _ ⟨n / 8, by omega⟩ i (by omega) c0 (by rw [c1, hi]), e]
    by_cases ht : i * 1024 ≤ s.val ∧ s.val < i * 1024 + 1024
    · obtain ⟨u, hu⟩ : ∃ u : Fin 1024, s.val = i * 1024 + u.val := ⟨⟨s.val - i * 1024, by omega⟩, by dsimp only; omega⟩
      rw [putRows_in _ _ _ s l u hu, pay1_at, rows_at, show (⟨i * 1024 + u.val, by omega⟩ : Fin 8192) = s from Fin.ext hu.symm,
        ih (by omega), hr]
      dsimp only
      rw [← hi, ← hu]
      by_cases hl : l.val = n / 8
      · rw [if_pos hl, if_neg (by omega), if_pos (by omega), hl, EReal.coe_zero, zero_add]
      · rw [if_neg hl, add_zero]
        by_cases hl' : 8 * l.val + s.val / 1024 < n
        · rw [if_pos hl', if_pos (by omega)]
        · rw [if_neg hl', if_neg (by omega)]
    · rw [putRows_out _ _ _ s l ht, ih (by omega)]
      by_cases hl' : 8 * l.val + s.val / 1024 < n
      · rw [if_pos hl', if_pos (by omega)]
      · rw [if_neg hl', if_neg (by omega)]

end Cert.KernelIdeal.Hand
end
end
-- ==== Proof.Arrays.lean ====
/- The result arrays after the grid, over the ideal numbers. -/
module

public import proofs.«01_k».proof.Proof.Head
public import Idealize.ShloMosaic.Lib.Pipeline.ValueKit

@[expose] public section

set_option maxRecDepth 16384

noncomputable section

namespace Cert.KernelIdeal.Hand

open Idealize.ShloMosaic Idealize.ShloMosaic.TcCoe
open Idealize.ShloMosaic.Pipeline (Dat)
open Cert.KernelIdeal Cert.KernelIdeal.Gen
open Cert.Proof Finset

theorem idx : ∀ t : Fin cfg0.N, win0_0.index t = ![t.val % 8, t.val / 8] ∧ win0_1.index t = ![0, 16 + t.val / 8] ∧ win0_2.index t = ![0, 32 + t.val / 8]
    ∧ win0_3.index t = ![t.val / 8, 0, 0, 0] ∧ win0_4.index t = ![t.val % 8, t.val / 8] ∧ win0_5.index t = ![t.val % 8, t.val / 8]
    ∧ win0_6.index t = ![t.val % 8, t.val / 8] ∧ win0_7.index t = ![t.val % 8, t.val / 8] ∧ win0_8.index t = ![0, t.val / 8]
    ∧ win0_9.index t = ![0, t.val / 8] ∧ win0_10.index t = ![t.val / 8, 0, 0, 0] ∧ win0_11.index t = ![0, 0] :=
  (by decide +kernel : ∀ t : Fin grid0.N, _)

/-- The four results as arrays. -/
def dqArr (x : Fox.Data) : FVec Ideal S8192x2048 .bf16 := fun i => ((Fox.DQ x ((i 1).val / 128) (i 0).val ((i 1).val % 128) : ℝ) : EReal)
def dkArr (x : Fox.Data) : FVec Ideal S8192x2048 .bf16 := fun i => ((Fox.DK x ((i 1).val / 128) (i 0).val ((i 1).val % 128) : ℝ) : EReal)
def dvArr (x : Fox.Data) : FVec Ideal S8192x2048 .bf16 := fun i => ((Fox.DV x ((i 1).val / 128) (i 0).val ((i 1).val % 128) : ℝ) : EReal)
/-- Eight partial column sums per tile. -/
def dbArr (x : Fox.Data) : FVec Ideal S16x8x8x1024 .f32 := fun i =>
  ((∑ a ∈ range 1024, Fox.ds x (i 0).val (a * 8 + (i 2).val) ((i 1).val * 1024 + (i 3).val) : ℝ) : EReal)
/-- Row sums, one lane per head. -/
def rsArr (x : Fox.Data) : FVec Ideal S8192x128 .f32 := fun i =>
  ((if 8 * (i 1).val + (i 0).val / 1024 < 128 then Fox.RS x (i 1).val (i 0).val else 0 : ℝ) : EReal)

variable (m : (ℓ : Loc nD τ sig) → Buf (Elt Ideal) ℓ) (c : Dev nD) {x : Fox.Data}
  (R : ∀ t : Fin cfg0.N, Reads x (t.val / 8) (t.val % 8) (inpAt m c t))
include R

theorem final7 : (dats m 0 c).arrAt 7 (cfgs 0).N = dqArr x := by
  refine (dats m 0 c).arrAt_eq_of_covers 7 _ (by decide +kernel) fun t hf y => ?_
  have hN : t.val < 128 := t.isLt
  blk_simp
  dsimp only [dats]
  obtain ⟨r, d, rfl⟩ : ∃ (r : Fin 1024) (d : Fin 128), y = (ix2 r d : S1024x128.Idx) := ⟨y 0, y 1, eq_ix2 y⟩
  refine (dq_at m c R t r d).trans ?_
  unfold dqArr
  have e0 : ((((View.whole main_v57_0).slice (win0_7.rect t)).emb (ix2 r d : S1024x128.Idx)) 0).val = t.val % 8 * 1024 + r.val := by blk_simp [idx t]
  have e1 : ((((View.whole main_v57_0).slice (win0_7.rect t)).emb (ix2 r d : S1024x128.Idx)) 1).val = t.val / 8 * 128 + d.val := by blk_simp [idx t]
  dsimp only
  rw [e0, e1, show (t.val / 8 * 128 + d.val) / 128 = t.val / 8 by omega, show (t.val / 8 * 128 + d.val) % 128 = d.val by omega]

theorem final8 : (dats m 0 c).arrAt 8 (cfgs 0).N = dkArr x := by
  refine (dats m 0 c).arrAt_eq_of_covers 8 _ (by decide +kernel) fun t hf y => ?_
  have hN : t.val < 128 := t.isLt
  blk_simp
  dsimp only [dats]
  obtain ⟨r, d, rfl⟩ : ∃ (r : Fin 8192) (d : Fin 128), y = (ix2 r d : S8192x128.Idx) := ⟨y 0, y 1, eq_ix2 y⟩
  refine (dk_at m c R t ((flush0_8 t).mp hf) r d).trans ?_
  unfold dkArr
  have e0 : ((((View.whole main_v57_1).slice (win0_8.rect t)).emb (ix2 r d : S8192x128.Idx)) 0).val = r.val := by blk_simp [idx t]
  have e1 : ((((View.whole main_v57_1).slice (win0_8.rect t)).emb (ix2 r d : S8192x128.Idx)) 1).val = t.val / 8 * 128 + d.val := by blk_simp [idx t]
  dsimp only
  rw [e0, e1, show (t.val / 8 * 128 + d.val) / 128 = t.val / 8 by omega, show (t.val / 8 * 128 + d.val) % 128 = d.val by omega]

theorem final9 : (dats m 0 c).arrAt 9 (cfgs 0).N = dvArr x := by
  refine (dats m 0 c).arrAt_eq_of_covers 9 _ (by decide +kernel) fun t hf y => ?_
  have hN : t.val < 128 := t.isLt
  blk_simp
  dsimp only [dats]
  obtain ⟨r, d, rfl⟩ : ∃ (r : Fin 8192) (d : Fin 128), y = (ix2 r d : S8192x128.Idx) := ⟨y 0, y 1, eq_ix2 y⟩
  refine (dv_at m c R t ((flush0_9 t).mp hf) r d).trans ?_
  unfold dvArr
  have e0 : ((((View.whole main_v57_2).slice (win0_9.rect t)).emb (ix2 r d : S8192x128.Idx)) 0).val = r.val := by blk_simp [idx t]
  have e1 : ((((View.whole main_v57_2).slice (win0_9.rect t)).emb (ix2 r d : S8192x128.Idx)) 1).val = t.val / 8 * 128 + d.val := by blk_simp [idx t]
  dsimp only
  rw [e0, e1, show (t.val / 8 * 128 + d.val) / 128 = t.val / 8 by omega, show (t.val / 8 * 128 + d.val) % 128 = d.val by omega]

theorem final10 : (dats m 0 c).arrAt 10 (cfgs 0).N = dbArr x := by
  refine (dats m 0 c).arrAt_eq_of_covers 10 _ (by decide +kernel) fun t hf y => ?_
  have hN : t.val < 128 := t.isLt
  blk_simp
  dsimp only [dats]
  obtain ⟨z, j, ρ, u, rfl⟩ : ∃ (z : Fin 1) (j ρ : Fin 8) (u : Fin 1024), y = (ix4 z j ρ u : S1x8x8x1024.Idx) := ⟨y 0, y 1, y 2, y 3, eq_ix4 y⟩
  obtain rfl : z = 0 := Subsingleton.elim _ _
  refine (db_at m c R t ((flush0_10 t).mp hf) j ρ u).trans ?_
  unfold dbArr
  have e0 : ((((View.whole main_v57_3).slice (win0_10.rect t)).emb (ix4 0 j ρ u : S1x8x8x1024.Idx)) 0).val = t.val / 8 := by
    blk_simp [idx t]; exact Nat.add_zero _
  have e1 : ((((View.whole main_v57_3).slice (win0_10.rect t)).emb (ix4 0 j ρ u : S1x8x8x1024.Idx)) 1).val = j.val := by blk_simp [idx t]
  have e2 : ((((View.whole main_v57_3).slice (win0_10.rect t)).emb (ix4 0 j ρ u : S1x8x8x1024.Idx)) 2).val = ρ.val := by blk_simp [idx t]
  have e3 : ((((View.whole main_v57_3).slice (win0_10.rect t)).emb (ix4 0 j ρ u : S1x8x8x1024.Idx)) 3).val = u.val := by blk_simp [idx t]
  dsimp only
  rw [e0, e1, e2, e3]

theorem final11 : (dats m 0 c).arrAt 11 (cfgs 0).N = rsArr x := by
  refine (dats m 0 c).arrAt_eq_of_covers 11 _ (by decide +kernel) fun t hf y => ?_
  have hN : t.val < 128 := t.isLt
  have h127 : t.val = 127 := by have := (flush0_11 t).mp hf; omega
  blk_simp
  dsimp only [dats]
  obtain ⟨r, d, rfl⟩ : ∃ (r : Fin 8192) (d : Fin 128), y = (ix2 r d : S8192x128.Idx) := ⟨y 0, y 1, eq_ix2 y⟩
  refine (rsAt_at m c R (t.val + 1) t.isLt r d).trans ?_
  unfold rsArr
  have e0 : ((((View.whole main_v57_4).slice (win0_11.rect t)).emb (ix2 r d : S8192x128.Idx)) 0).val = r.val := by blk_simp [idx t]
  have e1 : ((((View.whole main_v57_4).slice (win0_11.rect t)).emb (ix2 r d : S8192x128.Idx)) 1).val = d.val := by blk_simp [idx t]
  dsimp only
  rw [e0, e1, h127]

end Cert.KernelIdeal.Hand
end
end
-- ==== Proof.Blocks.lean ====
/- The blocks a point reads hold the numbers of its head and query tile. -/
module

public import proofs.«01_k».proof.Proof.Host
public import proofs.«01_k».proof.Proof.Arrays

@[expose] public section

set_option maxRecDepth 16384

noncomputable section

namespace Cert.KernelIdeal.Hand

open Idealize.ShloMosaic Idealize.ShloMosaic.TcCoe
open Cert.KernelIdeal Cert.KernelIdeal.Gen
open Cert.Proof Finset

variable (m : (ℓ : Loc nD τ sig) → Buf (Elt Ideal) ℓ) (c : Dev nD) (t : Fin cfg0.N)

theorem blk0 (r : Fin 1024) (d : Fin 128) : (iblk m c 0 t : FVec Ideal S1024x128 .bf16) (ix2 r d)
    = (m ((c : Thread nD τ).loc main_arg0) : FVec Ideal S8192x6144 .bf16) (ix2 ⟨t.val % 8 * 1024 + r.val, by omega⟩ ⟨t.val / 8 * 128 + d.val, by have : t.val < 128 := t.isLt; omega⟩) := by
  blk_ext [iblk, V, idx t]
theorem blk1 (r : Fin 8192) (d : Fin 128) : (iblk m c 1 t : FVec Ideal S8192x128 .bf16) (ix2 r d)
    = (m ((c : Thread nD τ).loc main_arg0) : FVec Ideal S8192x6144 .bf16) (ix2 r ⟨(16 + t.val / 8) * 128 + d.val, by have : t.val < 128 := t.isLt; omega⟩) := by
  blk_ext [iblk, V, idx t]
theorem blk2 (r : Fin 8192) (d : Fin 128) : (iblk m c 2 t : FVec Ideal S8192x128 .bf16) (ix2 r d)
    = (m ((c : Thread nD τ).loc main_arg0) : FVec Ideal S8192x6144 .bf16) (ix2 r ⟨(32 + t.val / 8) * 128 + d.val, by have : t.val < 128 := t.isLt; omega⟩) := by
  blk_ext [iblk, V, idx t]
theorem blk3 (j : Fin 8) (u : Fin 1024) : (iblk m c 3 t : FVec Ideal S1x8x1x1024 .f32) (ix4 0 j 0 u)
    = (V m c main_v56 : FVec Ideal S16x8x1x1024 .f32) (ix4 ⟨t.val / 8, by have : t.val < 128 := t.isLt; omega⟩ j 0 u) := by
  blk_ext [iblk, V, idx t]
theorem blk4 (r : Fin 1024) (d : Fin 128) : (iblk m c 4 t : FVec Ideal S1024x128 .bf16) (ix2 r d)
    = (m ((c : Thread nD τ).loc main_arg2) : FVec Ideal S8192x2048 .bf16) (ix2 ⟨t.val % 8 * 1024 + r.val, by omega⟩ ⟨t.val / 8 * 128 + d.val, by have : t.val < 128 := t.isLt; omega⟩) := by
  blk_ext [iblk, V, idx t]
theorem blk5 (r : Fin 1024) (d : Fin 128) : (iblk m c 5 t : FVec Ideal S1024x128 .f32) (ix2 r d)
    = (V m c main_v53 : FVec Ideal S8192x2048 .f32) (ix2 ⟨t.val % 8 * 1024 + r.val, by omega⟩ ⟨t.val / 8 * 128 + d.val, by have : t.val < 128 := t.isLt; omega⟩) := by
  blk_ext [iblk, V, idx t]
theorem blk6 (r : Fin 1024) (d : Fin 128) : (iblk m c 6 t : FVec Ideal S1024x128 .f32) (ix2 r d)
    = (V m c main_v44 : FVec Ideal S8192x2048 .f32) (ix2 ⟨t.val % 8 * 1024 + r.val, by omega⟩ ⟨t.val / 8 * 128 + d.val, by have : t.val < 128 := t.isLt; omega⟩) := by
  blk_ext [iblk, V, idx t]

/-- A point's inputs from its blocks. -/
theorem reads_inp {x : Fox.Data} {h i : ℕ} {q ct : FVec Ideal S1024x128 .bf16} {lse de : FVec Ideal S1024x128 .f32}
    {k v : FVec Ideal S8192x128 .bf16} {b : FVec Ideal S1x8x1x1024 .f32}
    (hq : ∀ (r : Fin 1024) (d : Fin 128), q (ix2 r d) = ((Fox.q x h (i * 1024 + r) d : ℝ) : EReal))
    (hct : ∀ (r : Fin 1024) (d : Fin 128), ct (ix2 r d) = ((Fox.g x h (i * 1024 + r) d : ℝ) : EReal))
    (hl : ∀ r : Fin 1024, ∃ M : ℝ, lse (ix2 r 0)
      = (((M + Real.log (Fox.W x h (i * 1024 + r) * Real.exp (-M))) * (Real.log 2)⁻¹ : ℝ) : EReal))
    (hd : ∀ r : Fin 1024, de (ix2 r 0) = ((Fox.del x h (i * 1024 + r) : ℝ) : EReal))
    (hk : ∀ (t : Fin 8192) (d : Fin 128), k (ix2 t d) = ((Fox.k x h t d : ℝ) : EReal))
    (hv : ∀ (t : Fin 8192) (d : Fin 128), v (ix2 t d) = ((Fox.v x h t d : ℝ) : EReal))
    (hb : ∀ (j : Fin 8) (u : Fin 1024), b (ix4 0 j 0 u) = ((-Fox.c x h (j * 1024 + u) : ℝ) : EReal)) :
    Reads x h i (inp q ct lse de k v b) := by
  refine ⟨hq, hct, fun r d => ?_, fun r => ?_, fun r => ?_, hk, hv, hb⟩
  · refine (pay90_at q r d).trans ?_
    rw [hq, ← EReal.coe_mul]; rfl
  · obtain ⟨M, hM⟩ := hl r
    exact ⟨M, (pay91_at lse r).trans hM⟩
  · exact (pay92_at de r).trans (hd r)

variable {x : Fox.Data} (A : Args x (m ((c : Thread nD τ).loc main_arg0)) (m ((c : Thread nD τ).loc main_arg1)) (m ((c : Thread nD τ).loc main_arg2)))
include A

theorem blk1_val (r : Fin 8192) (d : Fin 128) : (iblk m c 1 t : FVec Ideal S8192x128 .bf16) (ix2 r d) = ((Fox.k x (t.val / 8) r d : ℝ) : EReal) := by
  refine ((blk1 m c t r d).trans (A.a _ _)).trans ?_
  show ((x.A r.val ((16 + t.val / 8) * 128 + d.val) : ℝ) : EReal) = _
  rw [show (16 + t.val / 8) * 128 + d.val = 2048 + (t.val / 8 * 128 + d.val) by omega]; rfl

theorem blk2_val (r : Fin 8192) (d : Fin 128) : (iblk m c 2 t : FVec Ideal S8192x128 .bf16) (ix2 r d) = ((Fox.v x (t.val / 8) r d : ℝ) : EReal) := by
  refine ((blk2 m c t r d).trans (A.a _ _)).trans ?_
  show ((x.A r.val ((32 + t.val / 8) * 128 + d.val) : ℝ) : EReal) = _
  rw [show (32 + t.val / 8) * 128 + d.val = 4096 + (t.val / 8 * 128 + d.val) by omega]; rfl

theorem blk6_val (r : Fin 1024) : ∃ M : ℝ, (iblk m c 6 t : FVec Ideal S1024x128 .f32) (ix2 r 0)
    = (((M + Real.log (Fox.W x (t.val / 8) (t.val % 8 * 1024 + r) * Real.exp (-M))) * (Real.log 2)⁻¹ : ℝ) : EReal) := by
  have hN : t.val < 128 := t.isLt
  obtain ⟨M, hM⟩ := lse_val A ⟨t.val / 8, by omega⟩ ⟨t.val % 8 * 1024 + r.val, by omega⟩
  refine ⟨M, (blk6 m c t r 0).trans ((congrFun (V_v44 m c) _).trans ((hLanes_at _ _ _).trans (Eq.trans (congrArg _ ?_) hM)))⟩
  exact (ix3_inj ..).2 ⟨Fin.ext (show (t.val / 8 * 128 + 0) / 128 = t.val / 8 by omega), rfl, rfl⟩

theorem blk5_val (r : Fin 1024) : (iblk m c 5 t : FVec Ideal S1024x128 .f32) (ix2 r 0)
    = ((Fox.del x (t.val / 8) (t.val % 8 * 1024 + r) : ℝ) : EReal) := by
  have hN : t.val < 128 := t.isLt
  refine (blk5 m c t r 0).trans ((congrFun (V_v53 m c) _).trans ((hLanes_at _ _ _).trans
    (Eq.trans (congrArg _ ?_) (delta_val A ⟨t.val / 8, by omega⟩ ⟨t.val % 8 * 1024 + r.val, by omega⟩))))
  exact (ix3_inj ..).2 ⟨Fin.ext (show (t.val / 8 * 128 + 0) / 128 = t.val / 8 by omega), rfl, rfl⟩

/-- The numbers of a point, of the arguments the call was made on. -/
theorem reads : Reads x (t.val / 8) (t.val % 8) (inpAt m c t) :=
  reads_inp (fun r d => (blk0 m c t r d).trans (A.a _ _)) (fun r d => (blk4 m c t r d).trans (A.g _ _)) (blk6_val m c t A) (blk5_val m c t A)
    (blk1_val m c t A) (blk2_val m c t A) (fun j u => (blk3 m c t j u).trans ((congrFun (V_v56 m c) _).trans (bias_val A _ j u)))

end Cert.KernelIdeal.Hand
end
end
-- ==== Proof.Value.lean ====
/- The kernel program's results as arrays of numbers. -/
module

public import proofs.«01_k».proof.Proof.Blocks
public import proofs.«01_k».proof.Proof.Run

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Proof Finset

/-- The gates' gradient of the row sums and the partial column sums. -/
def sGate (rs : FVec Ideal S8192x128 .f32) (db : FVec Ideal S16x8x8x1024 .f32) : FVec Ideal S8192x16 .f32 :=
  subf (extractStridedSlice S8192x16 ![0, 0] rs slices_S8192x128_S8192x16_0_0)
    (transpose S8192x16 [1, 0] (shapeCast S16x8192 (Host.reduceAdd db (constant S_ .f32 0x00000000#32) reducesTo_S16x8x8x1024_S16x8x1024_d2 h_S_)
      shapeCasts_S16x8x1024_S16x8192) transposes_S16x8192_S8192x16_1_0)
def dcArr (x : Fox.Data) : FVec Ideal S8192x16 .f32 := fun i => ((Fox.DC x (i 1).val (i 0).val : ℝ) : EReal)

theorem sGate_at (rs : FVec Ideal S8192x128 .f32) (db : FVec Ideal S16x8x8x1024 .f32) (s : Fin 8192) (h : Fin 16) :
    sGate rs db (ix2 s h) = rs (ix2 s ⟨h.val, by omega⟩) - ∑ ρ : Fin 8, db (ix4 h ⟨s.val / 1024, by omega⟩ ρ ⟨s.val % 1024, by omega⟩) := by
  pointwise [sGate]

/-- A sum over the positions, by residue. -/
theorem sum_residues (f : ℕ → ℝ) (n : ℕ) : ∑ ρ : Fin 8, ∑ a ∈ range n, f (a * 8 + ρ) = ∑ s ∈ range (n * 8), f s := by
  induction n with
  | zero => simp
  | succ n ih =>
    rw [Nat.succ_mul, Finset.sum_range_add, ← ih, Finset.sum_range (fun u => f (n * 8 + u)), ← Finset.sum_add_distrib]
    simp only [Finset.sum_range_succ]

theorem gate_val (x : Fox.Data) : sGate (rsArr x) (dbArr x) = dcArr x := by
  funext i
  obtain ⟨s, h, rfl⟩ : ∃ (s : Fin 8192) (l : Fin 16), i = (ix2 s l : S8192x16.Idx) := ⟨i 0, i 1, eq_ix2 i⟩
  rw [sGate_at]
  show ((if 8 * h.val + s.val / 1024 < 128 then Fox.RS x h s else 0 : ℝ) : EReal)
    - ∑ ρ : Fin 8, ((∑ a ∈ range 1024, Fox.ds x h.val (a * 8 + ρ.val) (s.val / 1024 * 1024 + s.val % 1024) : ℝ) : EReal)
    = ((Fox.DC x h.val s.val : ℝ) : EReal)
  rw [if_pos (by omega), Fox.sum_coe, show s.val / 1024 * 1024 + s.val % 1024 = s.val by omega,
    sum_residues (fun u => Fox.ds x h u s) 1024, ← EReal.coe_sub]
  rfl

variable (m : (ℓ : Loc nD τ sig) → Buf (Elt Ideal) ℓ) (g : Dev nD → PrngReg)

set_option maxHeartbeats 1000000 in
theorem exit10 (c : Dev nD) : Pipeline.withArrays (cfgs 0).spec c (V0 m c) (fun w => (dats m 0 c).arrAt w (cfgs 0).N) (Proc.tc.devRef main_v57_3)
    = (dats m 0 c).arrAt 10 (cfgs 0).N := (dats m 0 c).withArrays_arrAt sharedIn0 (V0 m c) (fun w => rfl) 10

set_option maxHeartbeats 1000000 in
theorem exit11 (c : Dev nD) : Pipeline.withArrays (cfgs 0).spec c (V0 m c) (fun w => (dats m 0 c).arrAt w (cfgs 0).N) (Proc.tc.devRef main_v57_4)
    = (dats m 0 c).arrAt 11 (cfgs 0).N := (dats m 0 c).withArrays_arrAt sharedIn0 (V0 m c) (fun w => rfl) 11

set_option maxHeartbeats 1000000 in
/-- What the lines after the call leave in the gates' gradient. -/
theorem tail_v62 (c : Dev nD) : Pipeline.afterTail₀ cfgs (dats m) 0 (V0 m) [hostOps1] c main_v62
    = sGate ((dats m 0 c).arrAt 11 (cfgs 0).N) ((dats m 0 c).arrAt 10 (cfgs 0).N) := by
  unfold Pipeline.afterTail₀
  simp only [hostOps1, List.flatten_cons, List.flatten_nil, List.append_nil]
  after_results
  rw [exit10, exit11]
  rfl

variable (X : Dev nD → Fox.Data)
    (A : ∀ c : Dev nD, Args (X c) (m ((c : Thread nD τ).loc main_arg0)) (m ((c : Thread nD τ).loc main_arg1)) (m ((c : Thread nD τ).loc main_arg2)))
include A

/-- The kernel program's run. -/
theorem value :
    θ_run (defs (F := Ideal)) (onTc (τ := τ) (main (F := Ideal))) ⟨m, fun _ => 0, g⟩ (fun r => ∀ c : Dev nD,
      r.2.mem ((c : Thread nD τ).loc main_v57_0) = dqArr (X c)
      ∧ r.2.mem ((c : Thread nD τ).loc main_v57_1) = dkArr (X c)
      ∧ r.2.mem ((c : Thread nD τ).loc main_v57_2) = dvArr (X c)
      ∧ r.2.mem ((c : Thread nD τ).loc main_v62) = dcArr (X c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
    have R := fun t => reads m c t (A c)
    ⟨((h.1.1 c).1 7).trans (final7 m c R), ((h.1.1 c).1 8).trans (final8 m c R), ((h.1.1 c).1 9).trans (final9 m c R),
      ((h.1.1 c).2 main_v62 (Pipeline.mem_restRefs_of main_v62 (by decide) (by decide))).trans
        ((tail_v62 m c).trans ((congrArg₂ sGate (final11 m c R) (final10 m c R)).trans (gate_val (X c)))),
      h.2.1 c⟩) (θ_run_and (run m g) (frame m g))

end Cert.KernelIdeal.Hand
end
end
-- ==== Proof.RefHost.lean ====
/- The reference's results as stages of its arguments, and those stages over the ideal numbers. -/
module

public import proofs.«01_k».proof.Proof.Facts
public import proofs.«01_k».proof.Proof.Ref
public import Idealize.ShloMosaic.Lib.Pointwise
public import Idealize.ShloMosaic.Lib.WordCmp
public import Idealize.ShloMosaic.Lib.Claim

@[expose] public section

set_option maxRecDepth 16384

noncomputable section

namespace Cert.ReferenceIdeal.Hand

open Idealize.ShloMosaic Idealize.ShloMosaic.TcCoe
open Cert.ReferenceIdeal Cert.ReferenceIdeal.Facts₀
open Cert.Proof Finset

section Terms

/-- A packed array's heads, and back. -/
def rHeads (a : FVec Ideal S8192x2048 .bf16) : FVec Ideal S16x8192x128 .f32 :=
  transpose S16x8192x128 [1, 0, 2] (shapeCast S8192x16x128 (extf .f32 a bitsLt_bf16_f32) shapeCasts_S8192x2048_S8192x16x128)
    transposes_S8192x16x128_S16x8192x128_1_0_2
def rPack (a : FVec Ideal S16x8192x128 .f32) : FVec Ideal S8192x2048 .bf16 :=
  truncf .bf16 (shapeCast S8192x2048 (transpose S8192x16x128 [1, 0, 2] a transposes_S16x8192x128_S8192x16x128_1_0_2)
    shapeCasts_S8192x16x128_S8192x2048) bitsLt_bf16_f32
/-- A row value, over the row. -/
def rRow (a : FVec Ideal S16x8192x1 .f32) : FVec Ideal S16x8192x8192 .f32 :=
  broadcastInDim S16x8192x8192 ![0, 1, 2] bcast_S16x8192x1_S16x8192x8192_0_1_2 a
def rScale : FVec Ideal S_ .f32 := Host.divf (constant S_ .f32 0x3F800000#32) (Host.sqrt (constant S_ .f32 0x43000000#32))
def rScales : FVec Ideal S16x8192x8192 .f32 := broadcastInDim S16x8192x8192 ![] bcast_S_S16x8192x8192 rScale
def rMask : IVec S16x8192x8192 1 :=
  broadcastInDim S16x8192x8192 ![1, 2] bcast_S8192x8192_S16x8192x8192_1_2
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))

variable (a0 : FVec Ideal S8192x6144 .bf16) (a1 : FVec Ideal S8192x16 .f32) (a2 : FVec Ideal S8192x2048 .bf16)

def rQ : FVec Ideal S16x8192x128 .f32 := rHeads (extractStridedSlice S8192x2048 ![0, 0] a0 slices_S8192x6144_S8192x2048_0_0)
def rK : FVec Ideal S16x8192x128 .f32 := rHeads (extractStridedSlice S8192x2048 ![0, 2048] a0 slices_S8192x6144_S8192x2048_0_2048)
def rV : FVec Ideal S16x8192x128 .f32 := rHeads (extractStridedSlice S8192x2048 ![0, 4096] a0 slices_S8192x6144_S8192x2048_0_4096)
def rGate : FVec Ideal S16x8192 .f32 := transpose S16x8192 [1, 0] a1 transposes_S8192x16_S16x8192_1_0
/-- Masked scores. -/
def rZ : FVec Ideal S16x8192x8192 .f32 :=
  select rMask
    (subf (addf (mulf (Host.dotGeneral dot_S16x8192x128_S16x8192x128_S16x8192x8192_2_2_1_1_0_0 none (rQ a0) (rK a0)) rScales)
        (rRow (broadcastInDim S16x8192x1 ![0, 1] bcast_S16x8192_S16x8192x1_0_1 (rGate a1))))
      (broadcastInDim S16x8192x8192 ![0, 1, 2] bcast_S16x1x8192_S16x8192x8192_0_1_2
        (broadcastInDim S16x1x8192 ![0, 2] bcast_S16x8192_S16x1x8192_0_2 (rGate a1))))
    (broadcastInDim S16x8192x8192 ![] bcast_S_S16x8192x8192 (constant S_ .f32 0xFF800000#32))
/-- Row maxima. -/
def rMax : FVec Ideal S16x8192 .f32 :=
  Host.reduce FloatOps.maximumf (rZ a0 a1) (constant S_ .f32 0xFF800000#32) reducesTo_S16x8192x8192_S16x8192_d2 h_S_
def rTop (T : FVec Ideal S16x8192 .f32) : FVec Ideal S16x8192x1 .f32 :=
  broadcastInDim S16x8192x1 ![0, 1] bcast_S16x8192_S16x8192x1_0_1
    (maximumf (broadcastInDim S16x8192 ![] bcast_S_S16x8192 (constant S_ .f32 0xFF800000#32)) T)
def rM1 : FVec Ideal S16x8192x1 .f32 := rTop (rMax a0 a1)
/-- Exponentials, their row sums, the weights. -/
def rE : FVec Ideal S16x8192x8192 .f32 := Host.exp (subf (rZ a0 a1) (rRow (rM1 a0 a1)))
def rL1 : FVec Ideal S16x8192x1 .f32 :=
  broadcastInDim S16x8192x1 ![0, 1] bcast_S16x8192_S16x8192x1_0_1
    (Host.reduceAdd (rE a0 a1) (constant S_ .f32 0x00000000#32) reducesTo_S16x8192x8192_S16x8192_d2 h_S_)
def rY : FVec Ideal S16x8192x8192 .f32 := Host.divf (rE a0 a1) (rRow (rL1 a0 a1))
/-- The weights' cotangents. -/
def rP : FVec Ideal S16x8192x8192 .f32 :=
  Host.dotGeneral dot_S16x8192x128_S16x8192x128_S16x8192x8192_2_2_1_1_0_0 none (rHeads a2) (rV a0)
/-- The cotangents of the scores, of exponentials `E`, row sums `L` and the weights' cotangents `P`. -/
def rCorr (E P : FVec Ideal S16x8192x8192 .f32) (L : FVec Ideal S16x8192x1 .f32) : FVec Ideal S16x8192 .f32 :=
  Host.reduceAdd (Host.negf (shapeCast S16x8192x1
    (Host.reduceAdd (mulf (mulf P (rRow (Host.divf (broadcastInDim S16x8192x1 ![] bcast_S_S16x8192x1 (constant S_ .f32 0x3F800000#32)) (mulf L L)))) E)
      (constant S_ .f32 0x00000000#32) reducesTo_S16x8192x8192_S16x8192_d2 h_S_) shapeCasts_S16x8192_S16x8192x1))
    (constant S_ .f32 0x00000000#32) reducesTo_S16x8192x1_S16x8192_d2 h_S_
def rD (E P : FVec Ideal S16x8192x8192 .f32) (L : FVec Ideal S16x8192x1 .f32) : FVec Ideal S16x8192x8192 .f32 :=
  select rMask (mulf (addf (Host.divf P (rRow L)) (broadcastInDim S16x8192x8192 ![0, 1] bcast_S16x8192_S16x8192x8192_0_1 (rCorr E P L))) E)
    (broadcastInDim S16x8192x8192 ![] bcast_S_S16x8192x8192 (constant S_ .f32 0x00000000#32))
def rDs : FVec Ideal S16x8192x8192 .f32 := rD (rE a0 a1) (rP a0 a2) (rL1 a0 a1)
/-- The gates' gradient of the scores' cotangents. -/
def rDC (D : FVec Ideal S16x8192x8192 .f32) : FVec Ideal S8192x16 .f32 :=
  transpose S8192x16 [1, 0] (addf
    (Host.reduceAdd (shapeCast S16x1x8192 (Host.reduceAdd (Host.negf D) (constant S_ .f32 0x00000000#32) reducesTo_S16x8192x8192_S16x8192_d1 h_S_)
      shapeCasts_S16x8192_S16x1x8192) (constant S_ .f32 0x00000000#32) reducesTo_S16x1x8192_S16x8192_d1 h_S_)
    (Host.reduceAdd (shapeCast S16x8192x1 (Host.reduceAdd D (constant S_ .f32 0x00000000#32) reducesTo_S16x8192x8192_S16x8192_d2 h_S_)
      shapeCasts_S16x8192_S16x8192x1) (constant S_ .f32 0x00000000#32) reducesTo_S16x8192x1_S16x8192_d2 h_S_)) transposes_S16x8192_S8192x16_1_0
def rDQ (D : FVec Ideal S16x8192x8192 .f32) (K : FVec Ideal S16x8192x128 .f32) : FVec Ideal S8192x2048 .bf16 :=
  rPack (Host.dotGeneral dot_S16x8192x8192_S16x8192x128_S16x8192x128_2_1_1_2_0_0 none (mulf D rScales) K)
def rDK (D : FVec Ideal S16x8192x8192 .f32) (Q : FVec Ideal S16x8192x128 .f32) : FVec Ideal S8192x2048 .bf16 :=
  rPack (Host.dotGeneral dot_S16x8192x8192_S16x8192x128_S16x8192x128_1_1_2_2_0_0 none (mulf D rScales) Q)
def rDV (Y : FVec Ideal S16x8192x8192 .f32) (G : FVec Ideal S16x8192x128 .f32) : FVec Ideal S8192x2048 .bf16 :=
  rPack (transpose S16x8192x128 [0, 2, 1] (Host.dotGeneral dot_S16x8192x128_S16x8192x8192_S16x128x8192_1_1_2_2_0_0 none G Y)
    transposes_S16x128x8192_S16x8192x128_0_2_1)

end Terms

section Readings

theorem rHeads_at (a : FVec Ideal S8192x2048 .bf16) (h : Fin 16) (s : Fin 8192) (d : Fin 128) :
    rHeads a (ix3 h s d) = a (ix2 s ⟨h.val * 128 + d.val, by omega⟩) := by
  pointwise [rHeads]

theorem rPack_at (a : FVec Ideal S16x8192x128 .f32) (s : Fin 8192) (l : Fin 2048) :
    rPack a (ix2 s l) = a (ix3 ⟨l.val / 128, by omega⟩ s ⟨l.val % 128, by omega⟩) := by
  pointwise [rPack]

theorem rRow_at (a : FVec Ideal S16x8192x1 .f32) (h : Fin 16) (s t : Fin 8192) : rRow a (ix3 h s t) = a (ix3 h s 0) := by
  pointwise [rRow]

theorem rScales_at (h : Fin 16) (s t : Fin 8192) : rScales (ix3 h s t) = ((Fox.σ : ℝ) : EReal) := by
  pointwise [rScales, rScale]
  rw [Fox.ofBits_128, Fox.sqrt_128, ← EReal.coe_one, Fox.div_coe_coe _ (by positivity), one_div]; rfl

theorem rTop_at (T : FVec Ideal S16x8192 .f32) (h : Fin 16) (s : Fin 8192) : rTop T (ix3 h s 0) = max ⊥ (T (ix2 h s)) := by
  pointwise [rTop]
  rw [Fox.ofBits_ninf]

theorem rMask_at (a b : FVec Ideal S16x8192x8192 .f32) (h : Fin 16) (s t : Fin 8192) :
    select rMask a b (ix3 h s t) = if t.val ≤ s.val then a (ix3 h s t) else b (ix3 h s t) := by
  pointwise [rMask]
  word_cmp

variable {a0 : FVec Ideal S8192x6144 .bf16} {a1 : FVec Ideal S8192x16 .f32} {a2 : FVec Ideal S8192x2048 .bf16}

/-- The call's arguments hold numbers. -/
structure Args (x : Fox.Data) (a0 : FVec Ideal S8192x6144 .bf16) (a1 : FVec Ideal S8192x16 .f32) (a2 : FVec Ideal S8192x2048 .bf16) : Prop where
  a : ∀ (s : Fin 8192) (l : Fin 6144), a0 (ix2 s l) = ((x.A s l : ℝ) : EReal)
  c : ∀ (s : Fin 8192) (h : Fin 16), a1 (ix2 s h) = ((x.C s h : ℝ) : EReal)
  g : ∀ (s : Fin 8192) (l : Fin 2048), a2 (ix2 s l) = ((x.D s l : ℝ) : EReal)

variable {x : Fox.Data} (A : Args x a0 a1 a2) (h : Fin 16) (s t : Fin 8192) (d : Fin 128)

section OfArgs
include A

theorem rQ_at : rQ a0 (ix3 h s d) = ((Fox.q x h s d : ℝ) : EReal) := by
  pointwise [rQ, rHeads_at]
  rw [A.a]; simp only [Fox.q, Nat.zero_add]

theorem rK_at : rK a0 (ix3 h s d) = ((Fox.k x h s d : ℝ) : EReal) := by
  pointwise [rK, rHeads_at]
  rw [A.a]; rfl

theorem rV_at : rV a0 (ix3 h s d) = ((Fox.v x h s d : ℝ) : EReal) := by
  pointwise [rV, rHeads_at]
  rw [A.a]; rfl

theorem rG_at : rHeads a2 (ix3 h s d) = ((Fox.g x h s d : ℝ) : EReal) := by
  rw [rHeads_at, A.g]; rfl

theorem rGate_at : rGate a1 (ix2 h s) = ((Fox.c x h s : ℝ) : EReal) := by
  pointwise [rGate]
  rw [A.c]; rfl

theorem rZ_at : rZ a0 a1 (ix3 h s t)
    = if t.val ≤ s.val then ((Fox.X x h s t * Fox.σ + Fox.c x h s - Fox.c x h t : ℝ) : EReal) else ⊥ := by
  unfold rZ
  rw [rMask_at]
  pointwise [rQ_at A, rK_at A, rScales_at, rRow_at, rGate_at A]
  rw [Fox.ofBits_ninf]
  simp only [← EReal.coe_mul, Fox.sum_coe, ← EReal.coe_add, ← EReal.coe_sub]
  rfl

theorem rMax_at : ∃ M : ℝ, rMax a0 a1 (ix2 h s) = (M : EReal) := by
  pointwise [rMax]
  rw [Fox.ofBits_ninf]
  refine Fox.fold_max_real _ (fun t => ?_) s ?_
  · rw [rZ_at A]; split
    · exact EReal.coe_ne_top _
    · exact bot_ne_top
  · rw [rZ_at A, if_pos le_rfl]; exact EReal.coe_ne_bot _

theorem rM_at : ∃ M : ℝ, rM1 a0 a1 (ix3 h s 0) = (M : EReal) := by
  obtain ⟨M, hM⟩ := rMax_at A h s
  exact ⟨M, (rTop_at _ h s).trans (by rw [hM, max_eq_right bot_le])⟩

/-- The exponentials and their sums are the weights' and the normaliser's, times one positive number of the row. -/
theorem rE_at : ∃ b : ℝ, 0 < b ∧ (∀ t : Fin 8192, rE a0 a1 (ix3 h s t) = ((Fox.w x h s t * b : ℝ) : EReal))
    ∧ rL1 a0 a1 (ix3 h s 0) = ((Fox.W x h s * b : ℝ) : EReal) := by
  obtain ⟨M, hM⟩ := rM_at A h s
  have hE : ∀ t : Fin 8192, rE a0 a1 (ix3 h s t) = ((Fox.w x h s t * Real.exp (Fox.c x h s - M) : ℝ) : EReal) := fun t => by
    pointwise [rE, rRow_at]
    rw [hM, rZ_at A, Fox.exp_masked]
  refine ⟨_, Real.exp_pos (Fox.c x h s - M), hE, ?_⟩
  pointwise [rL1]
  simp only [hE]
  rw [Fox.sum_fin fun t => Fox.w x h s t * Real.exp (Fox.c x h s - M), Fox.sum_scaled]

theorem rY_at : rY a0 a1 (ix3 h s t) = ((Fox.y x h s t : ℝ) : EReal) := by
  obtain ⟨b, hb, hE, hL⟩ := rE_at A h s
  pointwise [rY, rRow_at]
  rw [hE, hL, Fox.div_coe_coe _ (mul_pos (Fox.W_pos x h s) hb).ne', Fox.y_scaled x h s t hb.ne']

theorem rP_at : rP a0 a2 (ix3 h s t) = ((Fox.dp x h s t : ℝ) : EReal) := by
  pointwise [rP, rG_at A, rV_at A]
  simp only [← EReal.coe_mul, Fox.sum_coe]
  rfl

end OfArgs

theorem rCorr_at (E P : FVec Ideal S16x8192x8192 .f32) (L : FVec Ideal S16x8192x1 .f32) :
    rCorr E P L (ix2 h s) = -∑ t : Fin 8192, P (ix3 h s t) * Ideal.div 1 (L (ix3 h s 0) * L (ix3 h s 0)) * E (ix3 h s t) := by
  pointwise [rCorr, rRow_at]
  rw [Fin.sum_univ_one]

theorem rD_at (E P : FVec Ideal S16x8192x8192 .f32) (L : FVec Ideal S16x8192x1 .f32) :
    rD E P L (ix3 h s t) = if t.val ≤ s.val then (Ideal.div (P (ix3 h s t)) (L (ix3 h s 0)) + rCorr E P L (ix2 h s)) * E (ix3 h s t) else 0 := by
  unfold rD
  rw [rMask_at]
  pointwise [rRow_at]

include A in
theorem rDs_at : rDs a0 a1 a2 (ix3 h s t) = ((Fox.ds x h s t : ℝ) : EReal) := by
  obtain ⟨b, hb, hE, hL⟩ := rE_at A h s
  have hp := (mul_pos (Fox.W_pos x h s) hb).ne'
  unfold rDs
  rw [rD_at, rCorr_at]
  simp only [hE, hL, rP_at A, ← EReal.coe_mul, ← EReal.coe_one, Fox.div_coe_coe _ hp, Fox.div_coe_coe _ (mul_ne_zero hp hp)]
  rw [Fox.sum_fin fun t => Fox.dp x h s t * (1 / (Fox.W x h s * b * (Fox.W x h s * b))) * (Fox.w x h s t * b),
    ← EReal.coe_neg, ← EReal.coe_add, ← EReal.coe_mul, Fox.ds_quot x h s t hb.ne']
  by_cases hts : t.val ≤ s.val
  · rw [if_pos hts]
  · rw [if_neg hts, Fox.ds_zero x (by omega), EReal.coe_zero]

theorem rDQ_at (D : FVec Ideal S16x8192x8192 .f32) (K : FVec Ideal S16x8192x128 .f32) (l : Fin 2048) :
    rDQ D K (ix2 s l) = ∑ t : Fin 8192, D (ix3 ⟨l.val / 128, by omega⟩ s t) * ((Fox.σ : ℝ) : EReal) * K (ix3 ⟨l.val / 128, by omega⟩ t ⟨l.val % 128, by omega⟩) := by
  pointwise [rDQ, rPack_at, rScales_at]

theorem rDK_at (D : FVec Ideal S16x8192x8192 .f32) (Q : FVec Ideal S16x8192x128 .f32) (l : Fin 2048) :
    rDK D Q (ix2 t l) = ∑ s : Fin 8192, D (ix3 ⟨l.val / 128, by omega⟩ s t) * ((Fox.σ : ℝ) : EReal) * Q (ix3 ⟨l.val / 128, by omega⟩ s ⟨l.val % 128, by omega⟩) := by
  pointwise [rDK, rPack_at, rScales_at]

theorem rDV_at (Y : FVec Ideal S16x8192x8192 .f32) (G : FVec Ideal S16x8192x128 .f32) (l : Fin 2048) :
    rDV Y G (ix2 t l) = ∑ s : Fin 8192, G (ix3 ⟨l.val / 128, by omega⟩ s ⟨l.val % 128, by omega⟩) * Y (ix3 ⟨l.val / 128, by omega⟩ s t) := by
  pointwise [rDV, rPack_at]

theorem rDC_at (D : FVec Ideal S16x8192x8192 .f32) :
    rDC D (ix2 t h) = ∑ s : Fin 8192, -D (ix3 h s t) + ∑ u : Fin 8192, D (ix3 h t u) := by
  pointwise [rDC]
  rw [Fin.sum_univ_one, Fin.sum_univ_one]

end Readings

end Cert.ReferenceIdeal.Hand
end
end
-- ==== Proof.RefRun.lean ====
/- The reference's results as arrays of numbers. -/
module

public import proofs.«01_k».proof.Proof.RefHost

@[expose] public section

set_option maxRecDepth 16384

noncomputable section

namespace Cert.ReferenceIdeal.Hand

open Idealize.ShloMosaic Idealize.ShloMosaic.TcCoe Idealize.SL.Sem
open Cert.ReferenceIdeal Cert.ReferenceIdeal.Facts₀
open Cert.Proof Finset

/-- The four gradients as arrays. -/
def dqArr (x : Fox.Data) : FVec Ideal S8192x2048 .bf16 := fun i => ((Fox.DQ x ((i 1).val / 128) (i 0).val ((i 1).val % 128) : ℝ) : EReal)
def dkArr (x : Fox.Data) : FVec Ideal S8192x2048 .bf16 := fun i => ((Fox.DK x ((i 1).val / 128) (i 0).val ((i 1).val % 128) : ℝ) : EReal)
def dvArr (x : Fox.Data) : FVec Ideal S8192x2048 .bf16 := fun i => ((Fox.DV x ((i 1).val / 128) (i 0).val ((i 1).val % 128) : ℝ) : EReal)
def dcArr (x : Fox.Data) : FVec Ideal S8192x16 .f32 := fun i => ((Fox.DC x (i 1).val (i 0).val : ℝ) : EReal)

variable {a0 : FVec Ideal S8192x6144 .bf16} {a1 : FVec Ideal S8192x16 .f32} {a2 : FVec Ideal S8192x2048 .bf16}
  {x : Fox.Data} (A : Args x a0 a1 a2)
include A

theorem dq_val : rDQ (rDs a0 a1 a2) (rK a0) = dqArr x := by
  funext i
  obtain ⟨s, l, rfl⟩ : ∃ (s : Fin 8192) (l : Fin 2048), i = (ix2 s l : S8192x2048.Idx) := ⟨i 0, i 1, eq_ix2 i⟩
  rw [rDQ_at]
  simp only [rDs_at A, rK_at A, ← EReal.coe_mul]
  exact Fox.sum_fin fun t => Fox.ds x (l.val / 128) s t * Fox.σ * Fox.k x (l.val / 128) t (l.val % 128)

theorem dk_val : rDK (rDs a0 a1 a2) (rQ a0) = dkArr x := by
  funext i
  obtain ⟨t, l, rfl⟩ : ∃ (s : Fin 8192) (l : Fin 2048), i = (ix2 s l : S8192x2048.Idx) := ⟨i 0, i 1, eq_ix2 i⟩
  rw [rDK_at]
  simp only [rDs_at A, rQ_at A, ← EReal.coe_mul]
  exact Fox.sum_fin fun s => Fox.ds x (l.val / 128) s t * Fox.σ * Fox.q x (l.val / 128) s (l.val % 128)

theorem dv_val : rDV (rY a0 a1) (rHeads a2) = dvArr x := by
  funext i
  obtain ⟨t, l, rfl⟩ : ∃ (s : Fin 8192) (l : Fin 2048), i = (ix2 s l : S8192x2048.Idx) := ⟨i 0, i 1, eq_ix2 i⟩
  rw [rDV_at]
  simp only [rY_at A, rG_at A, ← EReal.coe_mul]
  refine (Fox.sum_fin fun s => Fox.g x (l.val / 128) s (l.val % 128) * Fox.y x (l.val / 128) s t).trans ?_
  simp only [mul_comm (Fox.g x _ _ _)]
  rfl

theorem dc_val : rDC (rDs a0 a1 a2) = dcArr x := by
  funext i
  obtain ⟨t, h, rfl⟩ : ∃ (s : Fin 8192) (l : Fin 16), i = (ix2 s l : S8192x16.Idx) := ⟨i 0, i 1, eq_ix2 i⟩
  rw [rDC_at]
  simp only [rDs_at A, ← EReal.coe_neg]
  rw [Fox.sum_fin fun s => -Fox.ds x h s t, Fox.sum_fin fun u => Fox.ds x h t u, ← EReal.coe_add, Finset.sum_neg_distrib, neg_add_eq_sub]
  rfl

omit A in
set_option maxHeartbeats 8000000 in
/-- The reference's run. -/
theorem run (m : (ℓ : Loc nD τ sig) → Buf (Elt Ideal) ℓ) (g : Dev nD → PrngReg) (X : Dev nD → Fox.Data)
    (A : ∀ c : Dev nD, Args (X c) (m ((c : Thread nD τ).loc main_arg0)) (m ((c : Thread nD τ).loc main_arg1)) (m ((c : Thread nD τ).loc main_arg2))) :
    θ_run (defs (F := Ideal)) (onTc (τ := τ) (main (F := Ideal))) ⟨m, fun _ => 0, g⟩ (fun r => ∀ c : Dev nD,
      r.2.mem ((c : Thread nD τ).loc main_v102) = dqArr (X c)
      ∧ r.2.mem ((c : Thread nD τ).loc main_v99) = dkArr (X c)
      ∧ r.2.mem ((c : Thread nD τ).loc main_v96) = dvArr (X c)
      ∧ r.2.mem ((c : Thread nD τ).loc main_v93) = dcArr (X c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  hlo_run
  · exact dq_val (A c)
  · exact dk_val (A c)
  · exact dv_val (A c)
  · exact dc_val (A c)

end Cert.ReferenceIdeal.Hand
end
end
-- ==== Proof.Algebra.lean ====
/- The two programs' runs against each other, on arguments that are numbers. -/
module

public import proofs.«01_k».proof.Defs
public import proofs.«01_k».proof.Proof.Finite
public import proofs.«01_k».proof.Proof.Value
public import proofs.«01_k».proof.Proof.RefRun

@[expose] public section

set_option maxRecDepth 16384

noncomputable section

namespace Cert.Proof.Algebra

open Idealize.ShloMosaic Idealize.ShloMosaic.TcCoe Idealize.SL.Sem

/-- A table's entries as numbers, over all positions and columns. -/
def numbers {n k : ℕ} [NeZero n] [NeZero k] (a : (⟨2, ![n, k]⟩ : Shape).Idx → EReal) (s l : ℕ) : ℝ := (a (ix2 (Fin.ofNat n s) (Fin.ofNat k l))).toReal

theorem numbers_at {n k : ℕ} [NeZero n] [NeZero k] (a : (⟨2, ![n, k]⟩ : Shape).Idx → EReal) (s : Fin n) (l : Fin k) :
    numbers a s l = (a (ix2 s l)).toReal := by
  unfold numbers
  rw [Fin.ofNat_val_eq_self, Fin.ofNat_val_eq_self]

section Kernel
open Cert.KernelIdeal Cert.KernelIdeal.Gen

/-- The numbers of a device's arguments. -/
def data (m : (ℓ : Loc nD τ sig) → Buf (Elt Ideal) ℓ) (c : Dev nD) : Fox.Data :=
  ⟨numbers (n := 8192) (k := 6144) (m ((c : Thread nD τ).loc main_arg0)), numbers (n := 8192) (k := 16) (m ((c : Thread nD τ).loc main_arg1)),
    numbers (n := 8192) (k := 2048) (m ((c : Thread nD τ).loc main_arg2))⟩

theorem args (m : (ℓ : Loc nD τ sig) → Buf (Elt Ideal) ℓ) (h : Cert.Pre_KernelIdeal_finite m) (c : Dev nD) :
    Cert.KernelIdeal.Hand.Args (data m c) (m ((c : Thread nD τ).loc main_arg0)) (m ((c : Thread nD τ).loc main_arg1)) (m ((c : Thread nD τ).loc main_arg2)) := by
  obtain ⟨h0, h1, h2⟩ := Finite.fn_at (h c)
  refine ⟨fun s l => (h0 s l).trans ?_, fun s l => (h1 s l).trans ?_, fun s l => (h2 s l).trans ?_⟩
  · exact congrArg _ (numbers_at (n := 8192) (k := 6144) _ s l).symm
  · exact congrArg _ (numbers_at (n := 8192) (k := 16) _ s l).symm
  · exact congrArg _ (numbers_at (n := 8192) (k := 2048) _ s l).symm

end Kernel

theorem algebraic : Cert.algebraic_KernelIdeal_ReferenceIdeal_pre_finite := by
  intro m g m' g' hpre hagree
  have A := args m hpre
  refine ⟨fun c => Cert.KernelIdeal.Hand.dqArr (data m c), fun c => Cert.KernelIdeal.Hand.dkArr (data m c),
    fun c => Cert.KernelIdeal.Hand.dvArr (data m c), fun c => Cert.KernelIdeal.Hand.dcArr (data m c),
    Cert.KernelIdeal.Hand.value m g (data m) A, Cert.ReferenceIdeal.Hand.run m' g' (data m) fun c => ?_⟩
  rw [(hagree c).1, (hagree c).2.1, (hagree c).2.2]
  exact ⟨(A c).a, (A c).c, (A c).g⟩

theorem frame_pi_finite : Cert.quiescent_KernelIdeal_pre_finite := fun m ρ _ => Cert.KernelIdeal.Hand.frame m ρ

theorem frame_ri_finite : Cert.quiescent_ReferenceIdeal_pre_finite := fun m ρ _ => Cert.ReferenceIdeal.Hand.frame_ri m ρ trivial

end Cert.Proof.Algebra

end
-- ==== Proof.Halves.lean ====
/- Sums taken in two halves, and the offsets of a whole block. -/
module

public import Idealize.ShloMosaic.Lib.Pipeline.ValueKit

@[expose] public section

namespace Cert.Proof

/-- A block's zero offsets. -/
theorem zero_offsets : (![0, 0] : Fin 2 → Nat) = fun _ => 0 := funext fun a => by fin_cases a <;> rfl

/-- A sum is the sum of its first half and its second half. -/
theorem sum_halves {M : Type} [AddCommMonoid M] (n : ℕ) (f : Fin (n + n) → M) :
    ∑ k : Fin (n + n), f k = ∑ k : Fin n, f ⟨k.val, by omega⟩ + ∑ k : Fin n, f ⟨n + k.val, by omega⟩ :=
  Fin.sum_univ_add f

end Cert.Proof

end
-- ==== Proof.Product3.lean ====
/- The output projection's gradient of its rows: tiles of a product against the whole product. -/
module

public import proofs.«01_k».proof.Proof.Halves
public import proofs.«01_k».proof.Proof.Gen.Kernel3Ideal.Value
public import proofs.«01_k».proof.Proof.Gen.Reference3Ideal.Run
public import Idealize.ShloMosaic.Lib.Claim

@[expose] public section

set_option maxRecDepth 16384

noncomputable section

namespace Cert.Kernel3Ideal.Hand

open Idealize.ShloMosaic Idealize.ShloMosaic.TcCoe
open Idealize.ShloMosaic.Pipeline (Dat)
open Cert.Kernel3Ideal Cert.Kernel3Ideal.Gen
open Cert.Proof

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- One tile of the product. -/
theorem pay_at (a : FVec Ideal S512x2048 .bf16) (b : FVec Ideal S1024x2048 .bf16) (r : Fin 512) (d : Fin 1024) :
    (k0_pay1 a b : FVec Ideal S512x1024 .f32) (ix2 r d) = ∑ k : Fin 2048, (a (ix2 r k) : EReal) * b (ix2 d k) := by
  pointwise [k0_pay1]

theorem tile_at (a : FVec Ideal S512x2048 .bf16) (b : FVec Ideal S1024x2048 .bf16) (r : Fin 512) (d : Fin 1024) :
    out0_2 (F := Ideal) a b (ix2 r d) = (∑ k : Fin 2048, (a (ix2 r k) : EReal) * b (ix2 d k) : EReal) := by
  unfold out0_2
  rw [View.canon_unit_zero zero_offsets, View.ld_unit_zero (S := S512x2048) zero_offsets, View.ld_unit_zero (S := S1024x2048) zero_offsets]
  exact pay_at a b r d

/-- The rows' gradient: `d` by the transposed weights. -/
def dyArr (d : FVec Ideal S8192x2048 .bf16) (w : FVec Ideal S2048x2048 .bf16) : FVec Ideal S8192x2048 .f32 :=
  fun i => ∑ k : Fin 2048, (d (ix2 (i 0) k) : EReal) * w (ix2 (i 1) k)

/-- The reference's product is the same sum. -/
theorem ref_val (d : FVec Ideal S8192x2048 .bf16) (w : FVec Ideal S2048x2048 .bf16) :
    Host.dotGeneral (F := Ideal) Cert.Reference3Ideal.dot_S8192x2048_S2048x2048_S8192x2048_1_1_0_0_n_n none
      (extf .f32 d Cert.Reference3Ideal.Facts₀.bitsLt_bf16_f32) (extf .f32 w Cert.Reference3Ideal.Facts₀.bitsLt_bf16_f32) = dyArr d w := by
  funext i
  obtain ⟨r, k, rfl⟩ : ∃ (r : Fin 8192) (k : Fin 2048), i = (ix2 r k : S8192x2048.Idx) := ⟨i 0, i 1, eq_ix2 i⟩
  unfold dyArr
  pointwise

variable (m : (ℓ : Loc nD τ sig) → Buf (Elt Ideal) ℓ) (c : Dev nD) (t : Fin cfg0.N)

theorem blk0 (r : Fin 512) (k : Fin 2048) : (iblk m c 0 t : FVec Ideal S512x2048 .bf16) (ix2 r k)
    = (m ((c : Thread nD τ).loc main_arg0) : FVec Ideal S8192x2048 .bf16) (ix2 ⟨t.val / 2 * 512 + r.val, by have : t.val < 32 := t.isLt; omega⟩ k) := by
  blk_ext [iblk, V, idx t]

theorem blk1 (r : Fin 1024) (k : Fin 2048) : (iblk m c 1 t : FVec Ideal S1024x2048 .bf16) (ix2 r k)
    = (m ((c : Thread nD τ).loc main_arg1) : FVec Ideal S2048x2048 .bf16) (ix2 ⟨t.val % 2 * 1024 + r.val, by omega⟩ k) := by
  blk_ext [iblk, V, idx t]

theorem final : (dats m 0 c).arrAt 2 cfg0.N = dyArr (m ((c : Thread nD τ).loc main_arg0)) (m ((c : Thread nD τ).loc main_arg1)) := by
  refine (dats m 0 c).arrAt_eq_of_covers 2 _ (by decide +kernel) fun t hf y => ?_
  have hN : t.val < 32 := t.isLt
  blk_simp
  rw [after0_2]
  obtain ⟨r, d, rfl⟩ : ∃ (r : Fin 512) (d : Fin 1024), y = (ix2 r d : S512x1024.Idx) := ⟨y 0, y 1, eq_ix2 y⟩
  have e0 : ((((View.whole main_v0).slice (win0_2.rect t)).emb (ix2 r d : S512x1024.Idx)) 0).val = t.val / 2 * 512 + r.val := by blk_simp [idx t]
  have e1 : ((((View.whole main_v0).slice (win0_2.rect t)).emb (ix2 r d : S512x1024.Idx)) 1).val = t.val % 2 * 1024 + d.val := by blk_simp [idx t]
  refine (tile_at _ _ r d).trans (Finset.sum_congr rfl fun k _ => congrArg₂ (· * ·) ((blk0 m c t r k).trans ?_) ((blk1 m c t d k).trans ?_))
  · exact congrArg (fun i => (m ((c : Thread nD τ).loc main_arg0) : FVec Ideal S8192x2048 .bf16) (ix2 i k)) (Fin.ext e0.symm)
  · exact congrArg (fun i => (m ((c : Thread nD τ).loc main_arg1) : FVec Ideal S2048x2048 .bf16) (ix2 i k)) (Fin.ext e1.symm)

end Cert.Kernel3Ideal.Hand

end
-- ==== Proof.Product4.lean ====
/- The output projection's gradient of its weights: tiles accumulated over two halves against the whole product. -/
module

public import proofs.«01_k».proof.Proof.Halves
public import proofs.«01_k».proof.Proof.Gen.Kernel4Ideal.Value
public import proofs.«01_k».proof.Proof.Gen.Reference4Ideal.Run
public import Idealize.ShloMosaic.Lib.Claim

@[expose] public section

set_option maxRecDepth 16384

noncomputable section

namespace Cert.Kernel4Ideal.Hand

open Idealize.ShloMosaic Idealize.ShloMosaic.TcCoe
open Idealize.ShloMosaic.Pipeline (Dat)
open Cert.Kernel4Ideal Cert.Kernel4Ideal.Gen
open Cert.Proof

theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- One tile of one half of the product. -/
theorem part_at (a : FVec Ideal S512x4096 .bf16) (b : FVec Ideal S4096x1024 .bf16) (r : Fin 512) (d : Fin 1024) :
    k0_pay1 (F := Ideal) a b (ix2 r d) = (∑ k : Fin 4096, (a (ix2 r k) : EReal) * b (ix2 k d) : EReal) := by
  pointwise [k0_pay1]

theorem first_at (a : FVec Ideal S512x4096 .bf16) (b : FVec Ideal S4096x1024 .bf16) (r : Fin 512) (d : Fin 1024) :
    k0_pay2 (F := Ideal) a b (ix2 r d) = (∑ k : Fin 4096, (a (ix2 r k) : EReal) * b (ix2 k d) : EReal) := by
  pointwise [k0_pay2, k0_pay1]

theorem second_at (a : FVec Ideal S512x4096 .bf16) (b : FVec Ideal S4096x1024 .bf16) (s : FVec Ideal S512x1024 .f32) (r : Fin 512) (d : Fin 1024) :
    k0_pay3 (F := Ideal) a b s (ix2 r d) = ((s (ix2 r d) : EReal) + ∑ k : Fin 4096, (a (ix2 r k) : EReal) * b (ix2 k d) : EReal) := by
  pointwise [k0_pay3, k0_pay1]

section Points
variable (c : Dev nD) (i : grid0.Coords) (a3 : Memref sig .tc .vmem S512x4096 .bf16) (h3 : a3.IsWhole)
  (a4 : Memref sig .tc .vmem S4096x1024 .bf16) (h4 : a4.IsWhole) (a5 : Memref sig .tc .vmem S512x1024 .f32) (h5 : a5.IsWhole)
  (a6 : Memref sig .tc .vmem S512x1024 .f32) (h6 : a6.IsWhole)

/-- The first half leaves its part in the accumulator. -/
theorem first_val (hc0 : cond0_0 i) (hc1 : ¬cond0_1 i) (hc2 : ¬cond0_2 i) (x : FVec Ideal S512x4096 .bf16) (y : FVec Ideal S4096x1024 .bf16) :
    sout0_A_0 (F := Ideal) c i a3 h3 a4 h4 a5 h5 a6 h6 hc0 hc1 hc2 x y = k0_pay2 (F := Ideal) x y := by
  unfold sout0_A_0
  rw [View.read_writes_eq_canon _ _ _ (scover0_A_0 (F := Ideal) c i a3 h3 a4 h4 a5 h5 a6 h6 hc0 hc1 hc2 x y)]
  unfold kernelRun0_A
  dsimp only
  sl_unfold_words
  rw [View.canon_unit_zero zero_offsets]
  simp only [View.readAt_eq_ld, h3.read_unread, h4.read_unread, View.ld_unit_zero (S := S512x4096) zero_offsets, View.ld_unit_zero (S := S4096x1024) zero_offsets]

/-- The second half adds its part and leaves the sum in the result's block. -/
theorem second_val (hc0 : ¬cond0_0 i) (hc1 : cond0_1 i) (hc2 : cond0_2 i) (x : FVec Ideal S512x4096 .bf16) (y : FVec Ideal S4096x1024 .bf16)
    (s : FVec Ideal S512x1024 .f32) :
    out0_B_2 (F := Ideal) c i a3 h3 a4 h4 a5 h5 a6 h6 hc0 hc1 hc2 x y s = k0_pay3 (F := Ideal) x y s := by
  unfold out0_B_2
  rw [View.read_writes_eq_canon _ _ _ (cover0_B_2 (F := Ideal) c i a3 h3 a4 h4 a5 h5 a6 h6 hc0 hc1 hc2 x y s)]
  unfold kernelRun0_B
  dsimp only
  sl_unfold_words
  rw [View.canon_unit_zero zero_offsets, View.readCov_unit_zero (S := S512x1024) _ zero_offsets]
  simp only [View.readAt_eq_ld, h3.read_unread, h4.read_unread, h6.read_unread, View.ld_unit_zero (S := S512x4096) zero_offsets,
    View.ld_unit_zero (S := S4096x1024) zero_offsets, View.ld_unit_zero (S := S512x1024) zero_offsets]

end Points

/-- The weights' gradient, transposed: the rows' gradient, transposed, by the rows. -/
def dwArr (d y : FVec Ideal S8192x2048 .bf16) : FVec Ideal S2048x2048 .f32 :=
  fun i => (∑ k : Fin 8192, (d (ix2 k (i 0)) : EReal) * y (ix2 k (i 1)) : EReal)

/-- The sum over the first half. -/
def lowSum (d y : FVec Ideal S8192x2048 .bf16) (p q : Fin 2048) : EReal :=
  ∑ k : Fin 4096, (d (ix2 ⟨k.val, by omega⟩ p) : EReal) * y (ix2 ⟨k.val, by omega⟩ q)

theorem first_sum {A B : FVec Ideal S8192x2048 .bf16} {x : FVec Ideal S512x4096 .bf16} {y : FVec Ideal S4096x1024 .bf16} {r : Fin 512} {d : Fin 1024}
    {p q : Fin 2048} (hx : ∀ k : Fin 4096, x (ix2 r k) = A (ix2 ⟨k.val, by omega⟩ p)) (hy : ∀ k : Fin 4096, y (ix2 k d) = B (ix2 ⟨k.val, by omega⟩ q)) :
    k0_pay2 (F := Ideal) x y (ix2 r d) = lowSum A B p q :=
  (first_at x y r d).trans (Finset.sum_congr rfl fun k _ => by rw [hx, hy])

theorem second_sum {A B : FVec Ideal S8192x2048 .bf16} {x : FVec Ideal S512x4096 .bf16} {y : FVec Ideal S4096x1024 .bf16} {s : FVec Ideal S512x1024 .f32}
    {r : Fin 512} {d : Fin 1024} {p q : Fin 2048} (hx : ∀ k : Fin 4096, x (ix2 r k) = A (ix2 ⟨4096 + k.val, by omega⟩ p))
    (hy : ∀ k : Fin 4096, y (ix2 k d) = B (ix2 ⟨4096 + k.val, by omega⟩ q)) (hs : s (ix2 r d) = lowSum A B p q) :
    k0_pay3 (F := Ideal) x y s (ix2 r d) = dwArr A B (ix2 p q) := by
  refine (second_at x y s r d).trans (Eq.trans ?_ (sum_halves 4096 _).symm)
  rw [hs]
  exact congrArg₂ (· + ·) rfl (Finset.sum_congr rfl fun k _ => by rw [hx, hy]; rfl)

variable (m : (ℓ : Loc nD τ sig) → Buf (Elt Ideal) ℓ) (c : Dev nD) (t : Fin cfg0.N)

theorem V_v0 : (V m c main_v0 : FVec Ideal S2048x8192 .bf16)
    = transpose S2048x8192 [1, 0] (m ((c : Thread nD τ).loc main_arg0) : FVec Ideal S8192x2048 .bf16) transposes_S8192x2048_S2048x8192_1_0 := by
  entry_read
  simp only [hostOps0]

theorem turn_at (a : FVec Ideal S8192x2048 .bf16) (r : Fin 2048) (k : Fin 8192) :
    transpose S2048x8192 [1, 0] a transposes_S8192x2048_S2048x8192_1_0 (ix2 r k) = a (ix2 k r) := by
  pointwise

theorem blk0 (r : Fin 512) (k : Fin 4096) : (iblk m c 0 t : FVec Ideal S512x4096 .bf16) (ix2 r k)
    = (V m c main_v0 : FVec Ideal S2048x8192 .bf16)
      (ix2 ⟨t.val / 4 * 512 + r.val, by have : t.val < 16 := t.isLt; omega⟩ ⟨t.val % 2 * 4096 + k.val, by omega⟩) := by
  blk_ext [iblk, V, idx t]

theorem blk1 (k : Fin 4096) (d : Fin 1024) : (iblk m c 1 t : FVec Ideal S4096x1024 .bf16) (ix2 k d)
    = (m ((c : Thread nD τ).loc main_arg1) : FVec Ideal S8192x2048 .bf16) (ix2 ⟨t.val % 2 * 4096 + k.val, by omega⟩ ⟨t.val / 2 % 2 * 1024 + d.val, by omega⟩) := by
  blk_ext [iblk, V, idx t]

theorem left_at {r : Fin 512} {k : Fin 4096} {n : Fin 8192} {p : Fin 2048} (hn : t.val % 2 * 4096 + k.val = n.val) (hp : t.val / 4 * 512 + r.val = p.val) :
    (iblk m c 0 t : FVec Ideal S512x4096 .bf16) (ix2 r k) = (m ((c : Thread nD τ).loc main_arg0) : FVec Ideal S8192x2048 .bf16) (ix2 n p) := by
  refine (blk0 m c t r k).trans ((congrFun (V_v0 m c) _).trans ((turn_at _ _ _).trans ?_))
  exact congrArg₂ (fun a b => (m ((c : Thread nD τ).loc main_arg0) : FVec Ideal S8192x2048 .bf16) (ix2 a b)) (Fin.ext hn) (Fin.ext hp)

theorem right_at {k : Fin 4096} {d : Fin 1024} {n : Fin 8192} {q : Fin 2048} (hn : t.val % 2 * 4096 + k.val = n.val) (hq : t.val / 2 % 2 * 1024 + d.val = q.val) :
    (iblk m c 1 t : FVec Ideal S4096x1024 .bf16) (ix2 k d) = (m ((c : Thread nD τ).loc main_arg1) : FVec Ideal S8192x2048 .bf16) (ix2 n q) := by
  refine (blk1 m c t k d).trans ?_
  exact congrArg₂ (fun a b => (m ((c : Thread nD τ).loc main_arg1) : FVec Ideal S8192x2048 .bf16) (ix2 a b)) (Fin.ext hn) (Fin.ext hq)

theorem outs_first (ht : t.val % 2 = 0) : (outsAt0 m c t.val t.isLt).2 = k0_pay2 (F := Ideal) (iblk m c 0 t) (iblk m c 1 t) := by
  rw [outsAt0_A m c t ht (by omega) (by omega)]
  dsimp only
  exact first_val c _ _ _ _ _ _ _ _ _ _ _ _ _ _

theorem outs_second (ht : t.val % 2 = 1) : (outsAt0 m c t.val t.isLt).1
    = k0_pay3 (F := Ideal) (iblk m c 0 t) (iblk m c 1 t) (outsAt0 m c (t.val - 1) (Nat.lt_of_le_of_lt (Nat.sub_le _ _) t.isLt)).2 := by
  rw [outsAt0_B m c t (by omega) ht ht]
  dsimp only
  exact second_val c _ _ _ _ _ _ _ _ _ _ _ _ _ _ _

theorem first_part (ht : t.val % 2 = 0) {r : Fin 512} {d : Fin 1024} {p q : Fin 2048} (hp : t.val / 4 * 512 + r.val = p.val)
    (hq : t.val / 2 % 2 * 1024 + d.val = q.val) : ((outsAt0 m c t.val t.isLt).2 : FVec Ideal S512x1024 .f32) (ix2 r d)
    = lowSum (m ((c : Thread nD τ).loc main_arg0)) (m ((c : Thread nD τ).loc main_arg1)) p q := by
  have hx (k : Fin 4096) := left_at m c t (r := r) (k := k) (n := ⟨k.val, by omega⟩) (by dsimp only; omega) hp
  have hy (k : Fin 4096) := right_at m c t (d := d) (k := k) (n := ⟨k.val, by omega⟩) (by dsimp only; omega) hq
  rw [outs_first m c t ht]
  exact (first_sum (A := m ((c : Thread nD τ).loc main_arg0)) (B := m ((c : Thread nD τ).loc main_arg1)) (x := iblk m c 0 t) (y := iblk m c 1 t) hx hy)

/-- What a flushing point writes: the first half's tile and the second half's. -/
theorem outs_at (ht : t.val % 2 = 1) {r : Fin 512} {d : Fin 1024} {p q : Fin 2048} (hp : t.val / 4 * 512 + r.val = p.val)
    (hq : t.val / 2 % 2 * 1024 + d.val = q.val) : ((outsAt0 m c t.val t.isLt).1 : FVec Ideal S512x1024 .f32) (ix2 r d)
    = dwArr (m ((c : Thread nD τ).loc main_arg0)) (m ((c : Thread nD τ).loc main_arg1)) (ix2 p q) := by
  have hx (k : Fin 4096) := left_at m c t (r := r) (k := k) (n := ⟨4096 + k.val, by omega⟩) (by dsimp only; omega) hp
  have hy (k : Fin 4096) := right_at m c t (d := d) (k := k) (n := ⟨4096 + k.val, by omega⟩) (by dsimp only; omega) hq
  rw [outs_second m c t ht]
  exact (second_sum (A := m ((c : Thread nD τ).loc main_arg0)) (B := m ((c : Thread nD τ).loc main_arg1)) (x := iblk m c 0 t) (y := iblk m c 1 t) hx hy
      (first_part m c ⟨t.val - 1, lt_of_le_of_lt (Nat.sub_le _ _) t.isLt⟩ (by dsimp only; omega) (by dsimp only; omega) (by dsimp only; omega)))

theorem final : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have hN : t.val < 16 := t.isLt
  blk_simp
  rw [after0_2]
  obtain ⟨r, d, rfl⟩ : ∃ (r : Fin 512) (d : Fin 1024), y = (ix2 r d : S512x1024.Idx) := ⟨y 0, y 1, eq_ix2 y⟩
  have e0 : ((((View.whole main_v1).slice (win0_2.rect t)).emb (ix2 r d : S512x1024.Idx)) 0).val = t.val / 4 * 512 + r.val := by blk_simp [idx t]
  have e1 : ((((View.whole main_v1).slice (win0_2.rect t)).emb (ix2 r d : S512x1024.Idx)) 1).val = t.val / 2 % 2 * 1024 + d.val := by blk_simp [idx t]
  exact (outs_at m c t ((flush0_2 t).mp hf) e0.symm e1.symm).trans (congrArg _ (eq_ix2 _).symm)

/-- The reference's product, transposed, is the same sum. -/
theorem ref_val (d y : FVec Ideal S8192x2048 .bf16) :
    transpose S2048x2048 [1, 0] (transpose S2048x2048 [1, 0]
      (Host.dotGeneral (F := Ideal) Cert.Reference4Ideal.dot_S8192x2048_S8192x2048_S2048x2048_0_0_1_1_n_n none
        (extf .f32 d Cert.Reference4Ideal.Facts₀.bitsLt_bf16_f32) (extf .f32 y Cert.Reference4Ideal.Facts₀.bitsLt_bf16_f32))
      Cert.Reference4Ideal.Facts₀.transposes_S2048x2048_S2048x2048_1_0) Cert.Reference4Ideal.Facts₀.transposes_S2048x2048_S2048x2048_1_0 = dwArr d y := by
  funext i
  obtain ⟨r, k, rfl⟩ : ∃ r k : Fin 2048, i = (ix2 r k : S2048x2048.Idx) := ⟨i 0, i 1, eq_ix2 i⟩
  unfold dwArr
  pointwise

end Cert.Kernel4Ideal.Hand

end
-- ==== Proof.Product5.lean ====
/- The convolution mixer's input projection: its rows' gradient, tiles accumulated over two halves against the whole product. -/
module

public import proofs.«01_k».proof.Proof.Halves
public import proofs.«01_k».proof.Proof.Gen.Kernel5Ideal.Value
public import proofs.«01_k».proof.Proof.Gen.Reference5Ideal.Run
public import Idealize.ShloMosaic.Lib.Claim

@[expose] public section

set_option maxRecDepth 16384

noncomputable section

namespace Cert.Kernel5Ideal.Hand

open Idealize.ShloMosaic Idealize.ShloMosaic.TcCoe
open Idealize.ShloMosaic.Pipeline (Dat)
open Cert.Kernel5Ideal Cert.Kernel5Ideal.Gen
open Cert.Proof

theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- One tile of one half of the product. -/
theorem part_at (a : FVec Ideal S512x3072 .bf16) (b : FVec Ideal S1024x3072 .bf16) (r : Fin 512) (d : Fin 1024) :
    k0_pay1 (F := Ideal) a b (ix2 r d) = (∑ k : Fin 3072, (a (ix2 r k) : EReal) * b (ix2 d k) : EReal) := by
  pointwise [k0_pay1]

theorem first_at (a : FVec Ideal S512x3072 .bf16) (b : FVec Ideal S1024x3072 .bf16) (r : Fin 512) (d : Fin 1024) :
    k0_pay2 (F := Ideal) a b (ix2 r d) = (∑ k : Fin 3072, (a (ix2 r k) : EReal) * b (ix2 d k) : EReal) := by
  pointwise [k0_pay2, k0_pay1]

theorem second_at (a : FVec Ideal S512x3072 .bf16) (b : FVec Ideal S1024x3072 .bf16) (s : FVec Ideal S512x1024 .f32) (r : Fin 512) (d : Fin 1024) :
    k0_pay3 (F := Ideal) a b s (ix2 r d) = ((s (ix2 r d) : EReal) + ∑ k : Fin 3072, (a (ix2 r k) : EReal) * b (ix2 d k) : EReal) := by
  pointwise [k0_pay3, k0_pay1]

section Points
variable (c : Dev nD) (i : grid0.Coords) (a3 : Memref sig .tc .vmem S512x3072 .bf16) (h3 : a3.IsWhole)
  (a4 : Memref sig .tc .vmem S1024x3072 .bf16) (h4 : a4.IsWhole) (a5 : Memref sig .tc .vmem S512x1024 .f32) (h5 : a5.IsWhole)
  (a6 : Memref sig .tc .vmem S512x1024 .f32) (h6 : a6.IsWhole)

/-- The first half leaves its part in the accumulator. -/
theorem first_val (hc0 : cond0_0 i) (hc1 : ¬cond0_1 i) (hc2 : ¬cond0_2 i) (x : FVec Ideal S512x3072 .bf16) (y : FVec Ideal S1024x3072 .bf16) :
    sout0_A_0 (F := Ideal) c i a3 h3 a4 h4 a5 h5 a6 h6 hc0 hc1 hc2 x y = k0_pay2 (F := Ideal) x y := by
  unfold sout0_A_0
  rw [View.read_writes_eq_canon _ _ _ (scover0_A_0 (F := Ideal) c i a3 h3 a4 h4 a5 h5 a6 h6 hc0 hc1 hc2 x y)]
  unfold kernelRun0_A
  dsimp only
  sl_unfold_words
  rw [View.canon_unit_zero zero_offsets]
  simp only [View.readAt_eq_ld, h3.read_unread, h4.read_unread, View.ld_unit_zero (S := S512x3072) zero_offsets, View.ld_unit_zero (S := S1024x3072) zero_offsets]

/-- The second half adds its part and leaves the sum in the result's block. -/
theorem second_val (hc0 : ¬cond0_0 i) (hc1 : cond0_1 i) (hc2 : cond0_2 i) (x : FVec Ideal S512x3072 .bf16) (y : FVec Ideal S1024x3072 .bf16)
    (s : FVec Ideal S512x1024 .f32) :
    out0_B_2 (F := Ideal) c i a3 h3 a4 h4 a5 h5 a6 h6 hc0 hc1 hc2 x y s = k0_pay3 (F := Ideal) x y s := by
  unfold out0_B_2
  rw [View.read_writes_eq_canon _ _ _ (cover0_B_2 (F := Ideal) c i a3 h3 a4 h4 a5 h5 a6 h6 hc0 hc1 hc2 x y s)]
  unfold kernelRun0_B
  dsimp only
  sl_unfold_words
  rw [View.canon_unit_zero zero_offsets, View.readCov_unit_zero (S := S512x1024) _ zero_offsets]
  simp only [View.readAt_eq_ld, h3.read_unread, h4.read_unread, h6.read_unread, View.ld_unit_zero (S := S512x3072) zero_offsets,
    View.ld_unit_zero (S := S1024x3072) zero_offsets, View.ld_unit_zero (S := S512x1024) zero_offsets]

end Points

/-- The rows' gradient: the projection's gradient by the transposed weights. -/
def dhArr (d : FVec Ideal S8192x6144 .bf16) (w : FVec Ideal S2048x6144 .bf16) : FVec Ideal S8192x2048 .f32 :=
  fun i => (∑ k : Fin 6144, (d (ix2 (i 0) k) : EReal) * w (ix2 (i 1) k) : EReal)

/-- The sum over the first half. -/
def lowSum (d : FVec Ideal S8192x6144 .bf16) (w : FVec Ideal S2048x6144 .bf16) (p : Fin 8192) (q : Fin 2048) : EReal :=
  ∑ k : Fin 3072, (d (ix2 p ⟨k.val, by omega⟩) : EReal) * w (ix2 q ⟨k.val, by omega⟩)

theorem first_sum {A : FVec Ideal S8192x6144 .bf16} {B : FVec Ideal S2048x6144 .bf16} {x : FVec Ideal S512x3072 .bf16} {y : FVec Ideal S1024x3072 .bf16} {r : Fin 512} {d : Fin 1024}
    {p : Fin 8192} {q : Fin 2048} (hx : ∀ k : Fin 3072, x (ix2 r k) = A (ix2 p ⟨k.val, by omega⟩)) (hy : ∀ k : Fin 3072, y (ix2 d k) = B (ix2 q ⟨k.val, by omega⟩)) :
    k0_pay2 (F := Ideal) x y (ix2 r d) = lowSum A B p q :=
  (first_at x y r d).trans (Finset.sum_congr rfl fun k _ => by rw [hx, hy])

theorem second_sum {A : FVec Ideal S8192x6144 .bf16} {B : FVec Ideal S2048x6144 .bf16} {x : FVec Ideal S512x3072 .bf16} {y : FVec Ideal S1024x3072 .bf16} {s : FVec Ideal S512x1024 .f32}
    {r : Fin 512} {d : Fin 1024} {p : Fin 8192} {q : Fin 2048} (hx : ∀ k : Fin 3072, x (ix2 r k) = A (ix2 p ⟨3072 + k.val, by omega⟩))
    (hy : ∀ k : Fin 3072, y (ix2 d k) = B (ix2 q ⟨3072 + k.val, by omega⟩)) (hs : s (ix2 r d) = lowSum A B p q) :
    k0_pay3 (F := Ideal) x y s (ix2 r d) = dhArr A B (ix2 p q) := by
  refine (second_at x y s r d).trans (Eq.trans ?_ (sum_halves 3072 _).symm)
  rw [hs]
  exact congrArg₂ (· + ·) rfl (Finset.sum_congr rfl fun k _ => by rw [hx, hy]; rfl)

variable (m : (ℓ : Loc nD τ sig) → Buf (Elt Ideal) ℓ) (c : Dev nD) (t : Fin cfg0.N)

theorem blk0 (r : Fin 512) (k : Fin 3072) : (iblk m c 0 t : FVec Ideal S512x3072 .bf16) (ix2 r k)
    = (m ((c : Thread nD τ).loc main_arg0) : FVec Ideal S8192x6144 .bf16)
      (ix2 ⟨t.val / 4 * 512 + r.val, by have : t.val < 64 := t.isLt; omega⟩ ⟨t.val % 2 * 3072 + k.val, by omega⟩) := by
  blk_ext [iblk, V, idx t]

theorem blk1 (d : Fin 1024) (k : Fin 3072) : (iblk m c 1 t : FVec Ideal S1024x3072 .bf16) (ix2 d k)
    = (m ((c : Thread nD τ).loc main_arg1) : FVec Ideal S2048x6144 .bf16) (ix2 ⟨t.val / 2 % 2 * 1024 + d.val, by omega⟩ ⟨t.val % 2 * 3072 + k.val, by omega⟩) := by
  blk_ext [iblk, V, idx t]

theorem left_at {r : Fin 512} {k : Fin 3072} {n : Fin 6144} {p : Fin 8192} (hn : t.val % 2 * 3072 + k.val = n.val) (hp : t.val / 4 * 512 + r.val = p.val) :
    (iblk m c 0 t : FVec Ideal S512x3072 .bf16) (ix2 r k) = (m ((c : Thread nD τ).loc main_arg0) : FVec Ideal S8192x6144 .bf16) (ix2 p n) := by
  refine (blk0 m c t r k).trans ?_
  exact congrArg₂ (fun a b => (m ((c : Thread nD τ).loc main_arg0) : FVec Ideal S8192x6144 .bf16) (ix2 a b)) (Fin.ext hp) (Fin.ext hn)

theorem right_at {k : Fin 3072} {d : Fin 1024} {n : Fin 6144} {q : Fin 2048} (hn : t.val % 2 * 3072 + k.val = n.val) (hq : t.val / 2 % 2 * 1024 + d.val = q.val) :
    (iblk m c 1 t : FVec Ideal S1024x3072 .bf16) (ix2 d k) = (m ((c : Thread nD τ).loc main_arg1) : FVec Ideal S2048x6144 .bf16) (ix2 q n) := by
  refine (blk1 m c t d k).trans ?_
  exact congrArg₂ (fun a b => (m ((c : Thread nD τ).loc main_arg1) : FVec Ideal S2048x6144 .bf16) (ix2 a b)) (Fin.ext hq) (Fin.ext hn)

theorem outs_first (ht : t.val % 2 = 0) : (outsAt0 m c t.val t.isLt).2 = k0_pay2 (F := Ideal) (iblk m c 0 t) (iblk m c 1 t) := by
  rw [outsAt0_A m c t ht (by omega) (by omega)]
  dsimp only
  exact first_val c _ _ _ _ _ _ _ _ _ _ _ _ _ _

theorem outs_second (ht : t.val % 2 = 1) : (outsAt0 m c t.val t.isLt).1
    = k0_pay3 (F := Ideal) (iblk m c 0 t) (iblk m c 1 t) (outsAt0 m c (t.val - 1) (Nat.lt_of_le_of_lt (Nat.sub_le _ _) t.isLt)).2 := by
  rw [outsAt0_B m c t (by omega) ht ht]
  dsimp only
  exact second_val c _ _ _ _ _ _ _ _ _ _ _ _ _ _ _

theorem first_part (ht : t.val % 2 = 0) {r : Fin 512} {d : Fin 1024} {p : Fin 8192} {q : Fin 2048} (hp : t.val / 4 * 512 + r.val = p.val)
    (hq : t.val / 2 % 2 * 1024 + d.val = q.val) : ((outsAt0 m c t.val t.isLt).2 : FVec Ideal S512x1024 .f32) (ix2 r d)
    = lowSum (m ((c : Thread nD τ).loc main_arg0)) (m ((c : Thread nD τ).loc main_arg1)) p q := by
  have hx (k : Fin 3072) := left_at m c t (r := r) (k := k) (n := ⟨k.val, by omega⟩) (by dsimp only; omega) hp
  have hy (k : Fin 3072) := right_at m c t (d := d) (k := k) (n := ⟨k.val, by omega⟩) (by dsimp only; omega) hq
  rw [outs_first m c t ht]
  exact (first_sum (A := m ((c : Thread nD τ).loc main_arg0)) (B := m ((c : Thread nD τ).loc main_arg1)) (x := iblk m c 0 t) (y := iblk m c 1 t) hx hy)

/-- What a flushing point writes: the first half's tile and the second half's. -/
theorem outs_at (ht : t.val % 2 = 1) {r : Fin 512} {d : Fin 1024} {p : Fin 8192} {q : Fin 2048} (hp : t.val / 4 * 512 + r.val = p.val)
    (hq : t.val / 2 % 2 * 1024 + d.val = q.val) : ((outsAt0 m c t.val t.isLt).1 : FVec Ideal S512x1024 .f32) (ix2 r d)
    = dhArr (m ((c : Thread nD τ).loc main_arg0)) (m ((c : Thread nD τ).loc main_arg1)) (ix2 p q) := by
  have hx (k : Fin 3072) := left_at m c t (r := r) (k := k) (n := ⟨3072 + k.val, by omega⟩) (by dsimp only; omega) hp
  have hy (k : Fin 3072) := right_at m c t (d := d) (k := k) (n := ⟨3072 + k.val, by omega⟩) (by dsimp only; omega) hq
  rw [outs_second m c t ht]
  exact (second_sum (A := m ((c : Thread nD τ).loc main_arg0)) (B := m ((c : Thread nD τ).loc main_arg1)) (x := iblk m c 0 t) (y := iblk m c 1 t) hx hy
      (first_part m c ⟨t.val - 1, lt_of_le_of_lt (Nat.sub_le _ _) t.isLt⟩ (by dsimp only; omega) (by dsimp only; omega) (by dsimp only; omega)))

theorem final : (dats m 0 c).arrAt 2 cfg0.N = dhArr (m ((c : Thread nD τ).loc main_arg0)) (m ((c : Thread nD τ).loc main_arg1)) := by
  refine (dats m 0 c).arrAt_eq_of_covers 2 _ (by decide +kernel) fun t hf y => ?_
  have hN : t.val < 64 := t.isLt
  blk_simp
  rw [after0_2]
  obtain ⟨r, d, rfl⟩ : ∃ (r : Fin 512) (d : Fin 1024), y = (ix2 r d : S512x1024.Idx) := ⟨y 0, y 1, eq_ix2 y⟩
  have e0 : ((((View.whole main_v0).slice (win0_2.rect t)).emb (ix2 r d : S512x1024.Idx)) 0).val = t.val / 4 * 512 + r.val := by blk_simp [idx t]
  have e1 : ((((View.whole main_v0).slice (win0_2.rect t)).emb (ix2 r d : S512x1024.Idx)) 1).val = t.val / 2 % 2 * 1024 + d.val := by blk_simp [idx t]
  exact (outs_at m c t ((flush0_2 t).mp hf) e0.symm e1.symm).trans (congrArg _ (eq_ix2 _).symm)

/-- The reference's product is the same sum. -/
theorem ref_val (d : FVec Ideal S8192x6144 .bf16) (w : FVec Ideal S2048x6144 .bf16) :
    Host.dotGeneral (F := Ideal) Cert.Reference5Ideal.dot_S8192x6144_S2048x6144_S8192x2048_1_1_0_0_n_n none
      (extf .f32 d Cert.Reference5Ideal.Facts₀.bitsLt_bf16_f32) (extf .f32 w Cert.Reference5Ideal.Facts₀.bitsLt_bf16_f32) = dhArr d w := by
  funext i
  obtain ⟨r, k, rfl⟩ : ∃ (r : Fin 8192) (k : Fin 2048), i = (ix2 r k : S8192x2048.Idx) := ⟨i 0, i 1, eq_ix2 i⟩
  unfold dhArr
  pointwise

end Cert.Kernel5Ideal.Hand

end
-- ==== Proof.Product6.lean ====
/- The convolution mixer's input projection: its weights' gradient, tiles accumulated over two halves against the whole product. -/
module

public import proofs.«01_k».proof.Proof.Halves
public import proofs.«01_k».proof.Proof.Gen.Kernel6Ideal.Value
public import proofs.«01_k».proof.Proof.Gen.Reference6Ideal.Run
public import Idealize.ShloMosaic.Lib.Claim

@[expose] public section

set_option maxRecDepth 16384

noncomputable section

namespace Cert.Kernel6Ideal.Hand

open Idealize.ShloMosaic Idealize.ShloMosaic.TcCoe
open Idealize.ShloMosaic.Pipeline (Dat)
open Cert.Kernel6Ideal Cert.Kernel6Ideal.Gen
open Cert.Proof

theorem idx : ∀ t : Fin cfg0.N, win0_0.index t = ![t.val / 12, t.val % 2] ∧ win0_1.index t = ![t.val % 2, t.val / 2 % 6]
    ∧ win0_2.index t = ![t.val / 12, t.val / 2 % 6] :=
  (by decide +kernel : ∀ t : Fin grid0.N, _)

/-- One tile of one half of the product. -/
theorem part_at (a : FVec Ideal S512x4096 .bf16) (b : FVec Ideal S4096x1024 .bf16) (r : Fin 512) (d : Fin 1024) :
    k0_pay1 (F := Ideal) a b (ix2 r d) = (∑ k : Fin 4096, (a (ix2 r k) : EReal) * b (ix2 k d) : EReal) := by
  pointwise [k0_pay1]

theorem first_at (a : FVec Ideal S512x4096 .bf16) (b : FVec Ideal S4096x1024 .bf16) (r : Fin 512) (d : Fin 1024) :
    k0_pay2 (F := Ideal) a b (ix2 r d) = (∑ k : Fin 4096, (a (ix2 r k) : EReal) * b (ix2 k d) : EReal) := by
  pointwise [k0_pay2, k0_pay1]

theorem second_at (a : FVec Ideal S512x4096 .bf16) (b : FVec Ideal S4096x1024 .bf16) (s : FVec Ideal S512x1024 .f32) (r : Fin 512) (d : Fin 1024) :
    k0_pay4 (F := Ideal) (k0_pay3 (F := Ideal) a b s) (ix2 r d) = ((s (ix2 r d) : EReal) + ∑ k : Fin 4096, (a (ix2 r k) : EReal) * b (ix2 k d) : EReal) := by
  pointwise [k0_pay4, k0_pay3, k0_pay1]

section Points
variable (c : Dev nD) (i : grid0.Coords) (a3 : Memref sig .tc .vmem S512x4096 .bf16) (h3 : a3.IsWhole)
  (a4 : Memref sig .tc .vmem S4096x1024 .bf16) (h4 : a4.IsWhole) (a5 : Memref sig .tc .vmem S512x1024 .bf16) (h5 : a5.IsWhole)
  (a6 : Memref sig .tc .vmem S512x1024 .f32) (h6 : a6.IsWhole)

/-- The first half leaves its part in the accumulator. -/
theorem first_val (hc0 : cond0_0 i) (hc1 : ¬cond0_1 i) (hc2 : ¬cond0_2 i) (x : FVec Ideal S512x4096 .bf16) (y : FVec Ideal S4096x1024 .bf16) :
    sout0_A_0 (F := Ideal) c i a3 h3 a4 h4 a5 h5 a6 h6 hc0 hc1 hc2 x y = k0_pay2 (F := Ideal) x y := by
  unfold sout0_A_0
  rw [View.read_writes_eq_canon _ _ _ (scover0_A_0 (F := Ideal) c i a3 h3 a4 h4 a5 h5 a6 h6 hc0 hc1 hc2 x y)]
  unfold kernelRun0_A
  dsimp only
  sl_unfold_words
  rw [View.canon_unit_zero zero_offsets]
  simp only [View.readAt_eq_ld, h3.read_unread, h4.read_unread, View.ld_unit_zero (S := S512x4096) zero_offsets, View.ld_unit_zero (S := S4096x1024) zero_offsets]

/-- The second half adds its part and leaves the sum in the result's block. -/
theorem second_val (hc0 : ¬cond0_0 i) (hc1 : cond0_1 i) (hc2 : cond0_2 i) (x : FVec Ideal S512x4096 .bf16) (y : FVec Ideal S4096x1024 .bf16)
    (s : FVec Ideal S512x1024 .f32) :
    out0_B_2 (F := Ideal) c i a3 h3 a4 h4 a5 h5 a6 h6 hc0 hc1 hc2 x y s = k0_pay4 (F := Ideal) (k0_pay3 (F := Ideal) x y s) := by
  unfold out0_B_2
  rw [View.read_writes_eq_canon _ _ _ (cover0_B_2 (F := Ideal) c i a3 h3 a4 h4 a5 h5 a6 h6 hc0 hc1 hc2 x y s)]
  unfold kernelRun0_B
  dsimp only
  sl_unfold_words
  rw [View.canon_unit_zero zero_offsets, View.readCov_unit_zero (S := S512x1024) _ zero_offsets]
  simp only [View.readAt_eq_ld, h3.read_unread, h4.read_unread, h6.read_unread, View.ld_unit_zero (S := S512x4096) zero_offsets,
    View.ld_unit_zero (S := S4096x1024) zero_offsets, View.ld_unit_zero (S := S512x1024) zero_offsets]

end Points

/-- The weights' gradient: the rows, transposed, by the projection's gradient. -/
def dwArr (d : FVec Ideal S8192x2048 .bf16) (y : FVec Ideal S8192x6144 .bf16) : FVec Ideal S2048x6144 .bf16 :=
  fun i => (∑ k : Fin 8192, (d (ix2 k (i 0)) : EReal) * y (ix2 k (i 1)) : EReal)

/-- The sum over the first half. -/
def lowSum (d : FVec Ideal S8192x2048 .bf16) (y : FVec Ideal S8192x6144 .bf16) (p : Fin 2048) (q : Fin 6144) : EReal :=
  ∑ k : Fin 4096, (d (ix2 ⟨k.val, by omega⟩ p) : EReal) * y (ix2 ⟨k.val, by omega⟩ q)

theorem first_sum {A : FVec Ideal S8192x2048 .bf16} {B : FVec Ideal S8192x6144 .bf16} {x : FVec Ideal S512x4096 .bf16} {y : FVec Ideal S4096x1024 .bf16} {r : Fin 512} {d : Fin 1024}
    {p : Fin 2048} {q : Fin 6144} (hx : ∀ k : Fin 4096, x (ix2 r k) = A (ix2 ⟨k.val, by omega⟩ p)) (hy : ∀ k : Fin 4096, y (ix2 k d) = B (ix2 ⟨k.val, by omega⟩ q)) :
    k0_pay2 (F := Ideal) x y (ix2 r d) = lowSum A B p q :=
  (first_at x y r d).trans (Finset.sum_congr rfl fun k _ => by rw [hx, hy])

theorem second_sum {A : FVec Ideal S8192x2048 .bf16} {B : FVec Ideal S8192x6144 .bf16} {x : FVec Ideal S512x4096 .bf16} {y : FVec Ideal S4096x1024 .bf16} {s : FVec Ideal S512x1024 .f32}
    {r : Fin 512} {d : Fin 1024} {p : Fin 2048} {q : Fin 6144} (hx : ∀ k : Fin 4096, x (ix2 r k) = A (ix2 ⟨4096 + k.val, by omega⟩ p))
    (hy : ∀ k : Fin 4096, y (ix2 k d) = B (ix2 ⟨4096 + k.val, by omega⟩ q)) (hs : s (ix2 r d) = lowSum A B p q) :
    k0_pay4 (F := Ideal) (k0_pay3 (F := Ideal) x y s) (ix2 r d) = dwArr A B (ix2 p q) := by
  refine (second_at x y s r d).trans (Eq.trans ?_ (sum_halves 4096 _).symm)
  rw [hs]
  exact congrArg₂ (· + ·) rfl (Finset.sum_congr rfl fun k _ => by rw [hx, hy]; rfl)

variable (m : (ℓ : Loc nD τ sig) → Buf (Elt Ideal) ℓ) (c : Dev nD) (t : Fin cfg0.N)

theorem V_v0 : (V m c main_v0 : FVec Ideal S2048x8192 .bf16)
    = transpose S2048x8192 [1, 0] (m ((c : Thread nD τ).loc main_arg0) : FVec Ideal S8192x2048 .bf16) transposes_S8192x2048_S2048x8192_1_0 := by
  entry_read
  simp only [hostOps0]

theorem turn_at (a : FVec Ideal S8192x2048 .bf16) (r : Fin 2048) (k : Fin 8192) :
    transpose S2048x8192 [1, 0] a transposes_S8192x2048_S2048x8192_1_0 (ix2 r k) = a (ix2 k r) := by
  pointwise

theorem blk0 (r : Fin 512) (k : Fin 4096) : (iblk m c 0 t : FVec Ideal S512x4096 .bf16) (ix2 r k)
    = (V m c main_v0 : FVec Ideal S2048x8192 .bf16)
      (ix2 ⟨t.val / 12 * 512 + r.val, by have : t.val < 48 := t.isLt; omega⟩ ⟨t.val % 2 * 4096 + k.val, by omega⟩) := by
  blk_ext [iblk, V, idx t]

theorem blk1 (k : Fin 4096) (d : Fin 1024) : (iblk m c 1 t : FVec Ideal S4096x1024 .bf16) (ix2 k d)
    = (m ((c : Thread nD τ).loc main_arg1) : FVec Ideal S8192x6144 .bf16) (ix2 ⟨t.val % 2 * 4096 + k.val, by omega⟩ ⟨t.val / 2 % 6 * 1024 + d.val, by omega⟩) := by
  blk_ext [iblk, V, idx t]

theorem left_at {r : Fin 512} {k : Fin 4096} {n : Fin 8192} {p : Fin 2048} (hn : t.val % 2 * 4096 + k.val = n.val) (hp : t.val / 12 * 512 + r.val = p.val) :
    (iblk m c 0 t : FVec Ideal S512x4096 .bf16) (ix2 r k) = (m ((c : Thread nD τ).loc main_arg0) : FVec Ideal S8192x2048 .bf16) (ix2 n p) := by
  refine (blk0 m c t r k).trans ((congrFun (V_v0 m c) _).trans ((turn_at _ _ _).trans ?_))
  exact congrArg₂ (fun a b => (m ((c : Thread nD τ).loc main_arg0) : FVec Ideal S8192x2048 .bf16) (ix2 a b)) (Fin.ext hn) (Fin.ext hp)

theorem right_at {k : Fin 4096} {d : Fin 1024} {n : Fin 8192} {q : Fin 6144} (hn : t.val % 2 * 4096 + k.val = n.val) (hq : t.val / 2 % 6 * 1024 + d.val = q.val) :
    (iblk m c 1 t : FVec Ideal S4096x1024 .bf16) (ix2 k d) = (m ((c : Thread nD τ).loc main_arg1) : FVec Ideal S8192x6144 .bf16) (ix2 n q) := by
  refine (blk1 m c t k d).trans ?_
  exact congrArg₂ (fun a b => (m ((c : Thread nD τ).loc main_arg1) : FVec Ideal S8192x6144 .bf16) (ix2 a b)) (Fin.ext hn) (Fin.ext hq)

theorem outs_first (ht : t.val % 2 = 0) : (outsAt0 m c t.val t.isLt).2 = k0_pay2 (F := Ideal) (iblk m c 0 t) (iblk m c 1 t) := by
  rw [outsAt0_A m c t ht (by omega) (by omega)]
  dsimp only
  exact first_val c _ _ _ _ _ _ _ _ _ _ _ _ _ _

theorem outs_second (ht : t.val % 2 = 1) : (outsAt0 m c t.val t.isLt).1
    = k0_pay4 (F := Ideal) (k0_pay3 (F := Ideal) (iblk m c 0 t) (iblk m c 1 t) (outsAt0 m c (t.val - 1) (Nat.lt_of_le_of_lt (Nat.sub_le _ _) t.isLt)).2) := by
  rw [outsAt0_B m c t (by omega) ht ht]
  dsimp only
  exact second_val c _ _ _ _ _ _ _ _ _ _ _ _ _ _ _

theorem first_part (ht : t.val % 2 = 0) {r : Fin 512} {d : Fin 1024} {p : Fin 2048} {q : Fin 6144} (hp : t.val / 12 * 512 + r.val = p.val)
    (hq : t.val / 2 % 6 * 1024 + d.val = q.val) : ((outsAt0 m c t.val t.isLt).2 : FVec Ideal S512x1024 .f32) (ix2 r d)
    = lowSum (m ((c : Thread nD τ).loc main_arg0)) (m ((c : Thread nD τ).loc main_arg1)) p q := by
  have hx (k : Fin 4096) := left_at m c t (r := r) (k := k) (n := ⟨k.val, by omega⟩) (by dsimp only; omega) hp
  have hy (k : Fin 4096) := right_at m c t (d := d) (k := k) (n := ⟨k.val, by omega⟩) (by dsimp only; omega) hq
  rw [outs_first m c t ht]
  exact (first_sum (A := m ((c : Thread nD τ).loc main_arg0)) (B := m ((c : Thread nD τ).loc main_arg1)) (x := iblk m c 0 t) (y := iblk m c 1 t) hx hy)

/-- What a flushing point writes: the first half's tile and the second half's. -/
theorem outs_at (ht : t.val % 2 = 1) {r : Fin 512} {d : Fin 1024} {p : Fin 2048} {q : Fin 6144} (hp : t.val / 12 * 512 + r.val = p.val)
    (hq : t.val / 2 % 6 * 1024 + d.val = q.val) : ((outsAt0 m c t.val t.isLt).1 : FVec Ideal S512x1024 .bf16) (ix2 r d)
    = dwArr (m ((c : Thread nD τ).loc main_arg0)) (m ((c : Thread nD τ).loc main_arg1)) (ix2 p q) := by
  have hx (k : Fin 4096) := left_at m c t (r := r) (k := k) (n := ⟨4096 + k.val, by omega⟩) (by dsimp only; omega) hp
  have hy (k : Fin 4096) := right_at m c t (d := d) (k := k) (n := ⟨4096 + k.val, by omega⟩) (by dsimp only; omega) hq
  rw [outs_second m c t ht]
  exact (second_sum (A := m ((c : Thread nD τ).loc main_arg0)) (B := m ((c : Thread nD τ).loc main_arg1)) (x := iblk m c 0 t) (y := iblk m c 1 t) hx hy
      (first_part m c ⟨t.val - 1, lt_of_le_of_lt (Nat.sub_le _ _) t.isLt⟩ (by dsimp only; omega) (by dsimp only; omega) (by dsimp only; omega)))

theorem final : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have hN : t.val < 48 := t.isLt
  blk_simp
  rw [after0_2]
  obtain ⟨r, d, rfl⟩ : ∃ (r : Fin 512) (d : Fin 1024), y = (ix2 r d : S512x1024.Idx) := ⟨y 0, y 1, eq_ix2 y⟩
  have e0 : ((((View.whole main_v1).slice (win0_2.rect t)).emb (ix2 r d : S512x1024.Idx)) 0).val = t.val / 12 * 512 + r.val := by blk_simp [idx t]
  have e1 : ((((View.whole main_v1).slice (win0_2.rect t)).emb (ix2 r d : S512x1024.Idx)) 1).val = t.val / 2 % 6 * 1024 + d.val := by blk_simp [idx t]
  exact (outs_at m c t ((flush0_2 t).mp hf) e0.symm e1.symm).trans (congrArg _ (eq_ix2 _).symm)

/-- The reference's product is the same sum. -/
theorem ref_val (d : FVec Ideal S8192x2048 .bf16) (y : FVec Ideal S8192x6144 .bf16) :
    truncf .bf16 (transpose S2048x6144 [1, 0] (Host.dotGeneral (F := Ideal) Cert.Reference6Ideal.dot_S8192x6144_S8192x2048_S6144x2048_0_0_1_1_n_n none
      (extf .f32 y Cert.Reference6Ideal.Facts₀.bitsLt_bf16_f32) (extf .f32 d Cert.Reference6Ideal.Facts₀.bitsLt_bf16_f32)) Cert.Reference6Ideal.Facts₀.transposes_S6144x2048_S2048x6144_1_0)
      Cert.Reference6Ideal.Facts₀.bitsLt_bf16_f32 = dwArr d y := by
  funext i
  obtain ⟨r, k, rfl⟩ : ∃ (r : Fin 2048) (k : Fin 6144), i = (ix2 r k : S2048x6144.Idx) := ⟨i 0, i 1, eq_ix2 i⟩
  unfold dwArr
  pointwise
  exact Finset.sum_congr rfl fun x _ => EReal.mul_comm _ _

end Cert.Kernel6Ideal.Hand

end
-- ==== Proof.Product8.lean ====
/- The convolution mixer's input projection: tiles of a product with a bias against the whole. -/
module

public import proofs.«01_k».proof.Proof.Halves
public import proofs.«01_k».proof.Proof.Gen.Kernel8Ideal.Value
public import proofs.«01_k».proof.Proof.Gen.Reference8Ideal.Run
public import Idealize.ShloMosaic.Lib.Claim

@[expose] public section

set_option maxRecDepth 16384

noncomputable section

namespace Cert.Kernel8Ideal.Hand

open Idealize.ShloMosaic Idealize.ShloMosaic.TcCoe
open Idealize.ShloMosaic.Pipeline (Dat)
open Cert.Kernel8Ideal Cert.Kernel8Ideal.Gen
open Cert.Proof

theorem idx : ∀ t : Fin cfg0.N, win0_0.index t = ![t.val / 6, 0] ∧ win0_1.index t = ![0, t.val % 6]
    ∧ win0_2.index t = ![0, t.val % 6] ∧ win0_3.index t = ![t.val / 6, t.val % 6] :=
  (by decide +kernel : ∀ t : Fin grid0.N, _)

/-- One tile of the product, the bias added. -/
theorem pay_at (a : FVec Ideal S512x2048 .bf16) (b : FVec Ideal S2048x1024 .bf16) (s : FVec Ideal S1x1024 .f32) (r : Fin 512) (d : Fin 1024) :
    (k0_pay1 a b s : FVec Ideal S512x1024 .f32) (ix2 r d) = (∑ k : Fin 2048, (a (ix2 r k) : EReal) * b (ix2 k d)) + s (ix2 0 d) := by
  pointwise [k0_pay1]

theorem tile_at (a : FVec Ideal S512x2048 .bf16) (b : FVec Ideal S2048x1024 .bf16) (s : FVec Ideal S1x1024 .f32) (r : Fin 512) (d : Fin 1024) :
    out0_3 (F := Ideal) a b s (ix2 r d) = ((∑ k : Fin 2048, (a (ix2 r k) : EReal) * b (ix2 k d)) + s (ix2 0 d) : EReal) := by
  unfold out0_3
  rw [View.canon_unit_zero zero_offsets, View.ld_unit_zero (S := S512x2048) zero_offsets, View.ld_unit_zero (S := S2048x1024) zero_offsets,
    View.ld_unit_zero (S := S1x1024) zero_offsets]
  exact pay_at a b s r d

/-- The projection: rows by weights, and the bias. -/
def projArr (h : FVec Ideal S8192x2048 .bf16) (w : FVec Ideal S2048x6144 .bf16) (b : FVec Ideal S1x6144 .f32) : FVec Ideal S8192x6144 .f32 :=
  fun i => (∑ k : Fin 2048, (h (ix2 (i 0) k) : EReal) * w (ix2 k (i 1))) + b (ix2 0 (i 1))

/-- The reference's product with its bias is the same sum. -/
theorem ref_val (h : FVec Ideal S8192x2048 .bf16) (w : FVec Ideal S2048x6144 .bf16) (b : FVec Ideal S1x6144 .f32) :
    addf (Host.dotGeneral (F := Ideal) Cert.Reference8Ideal.dot_S8192x2048_S2048x6144_S8192x6144_1_0_0_1_n_n none
      (extf .f32 h Cert.Reference8Ideal.Facts₀.bitsLt_bf16_f32) (extf .f32 w Cert.Reference8Ideal.Facts₀.bitsLt_bf16_f32))
      (broadcastInDim Cert.Reference8Ideal.S8192x6144 ![0, 1] Cert.Reference8Ideal.Facts₀.bcast_S1x6144_S8192x6144_0_1
        (broadcastInDim Cert.Reference8Ideal.S1x6144 ![1] Cert.Reference8Ideal.Facts₀.bcast_S6144_S1x6144_1
          (shapeCast _ b Cert.Reference8Ideal.Facts₀.shapeCasts_S1x6144_S6144))) = projArr h w b := by
  funext i
  obtain ⟨r, k, rfl⟩ : ∃ (r : Fin 8192) (k : Fin 6144), i = (ix2 r k : S8192x6144.Idx) := ⟨i 0, i 1, eq_ix2 i⟩
  unfold projArr
  pointwise

variable (m : (ℓ : Loc nD τ sig) → Buf (Elt Ideal) ℓ) (c : Dev nD) (t : Fin cfg0.N)

theorem blk0 (r : Fin 512) (k : Fin 2048) : (iblk m c 0 t : FVec Ideal S512x2048 .bf16) (ix2 r k)
    = (m ((c : Thread nD τ).loc main_arg0) : FVec Ideal S8192x2048 .bf16) (ix2 ⟨t.val / 6 * 512 + r.val, by have : t.val < 96 := t.isLt; omega⟩ k) := by
  blk_ext [iblk, V, idx t]

theorem blk1 (k : Fin 2048) (d : Fin 1024) : (iblk m c 1 t : FVec Ideal S2048x1024 .bf16) (ix2 k d)
    = (m ((c : Thread nD τ).loc main_arg1) : FVec Ideal S2048x6144 .bf16) (ix2 k ⟨t.val % 6 * 1024 + d.val, by omega⟩) := by
  blk_ext [iblk, V, idx t]

theorem blk2 (d : Fin 1024) : (iblk m c 2 t : FVec Ideal S1x1024 .f32) (ix2 0 d)
    = (m ((c : Thread nD τ).loc main_arg2) : FVec Ideal S1x6144 .f32) (ix2 0 ⟨t.val % 6 * 1024 + d.val, by omega⟩) := by
  blk_ext [iblk, V, idx t]

theorem final : (dats m 0 c).arrAt 3 cfg0.N
    = projArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 96 := t.isLt
  blk_simp
  rw [after0_3]
  obtain ⟨r, d, rfl⟩ : ∃ (r : Fin 512) (d : Fin 1024), y = (ix2 r d : S512x1024.Idx) := ⟨y 0, y 1, eq_ix2 y⟩
  have e0 : ((((View.whole main_v0).slice (win0_3.rect t)).emb (ix2 r d : S512x1024.Idx)) 0).val = t.val / 6 * 512 + r.val := by blk_simp [idx t]
  have e1 : ((((View.whole main_v0).slice (win0_3.rect t)).emb (ix2 r d : S512x1024.Idx)) 1).val = t.val % 6 * 1024 + d.val := by blk_simp [idx t]
  refine (tile_at _ _ _ r d).trans (congrArg₂ (· + ·) (Finset.sum_congr rfl fun k _ => congrArg₂ (· * ·) ((blk0 m c t r k).trans ?_)
    ((blk1 m c t k d).trans ?_)) ((blk2 m c t d).trans ?_))
  · exact congrArg (fun i => (m ((c : Thread nD τ).loc main_arg0) : FVec Ideal S8192x2048 .bf16) (ix2 i k)) (Fin.ext e0.symm)
  · exact congrArg (fun i => (m ((c : Thread nD τ).loc main_arg1) : FVec Ideal S2048x6144 .bf16) (ix2 k i)) (Fin.ext e1.symm)
  · exact congrArg (fun i => (m ((c : Thread nD τ).loc main_arg2) : FVec Ideal S1x6144 .f32) (ix2 0 i)) (Fin.ext e1.symm)

end Cert.Kernel8Ideal.Hand

end
-- ==== Proof.Product9.lean ====
/- The output projection: tiles of a product added to the residual stream against the whole. -/
module

public import proofs.«01_k».proof.Proof.Halves
public import proofs.«01_k».proof.Proof.Gen.Kernel9Ideal.Value
public import proofs.«01_k».proof.Proof.Gen.Reference9Ideal.Run
public import Idealize.ShloMosaic.Lib.Claim

@[expose] public section

set_option maxRecDepth 16384

noncomputable section

namespace Cert.Kernel9Ideal.Hand

open Idealize.ShloMosaic Idealize.ShloMosaic.TcCoe
open Idealize.ShloMosaic.Pipeline (Dat)
open Cert.Kernel9Ideal Cert.Kernel9Ideal.Gen
open Cert.Proof

theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- One tile of the product, added to the residual stream's. -/
theorem pay_at (a : FVec Ideal S512x2048 .bf16) (b : FVec Ideal S2048x1024 .bf16) (s : FVec Ideal S512x1024 .f32) (r : Fin 512) (d : Fin 1024) :
    (k0_pay1 a b s : FVec Ideal S512x1024 .f32) (ix2 r d) = (∑ k : Fin 2048, (a (ix2 r k) : EReal) * b (ix2 k d)) + s (ix2 r d) := by
  pointwise [k0_pay1]

theorem tile_at (a : FVec Ideal S512x2048 .bf16) (b : FVec Ideal S2048x1024 .bf16) (s : FVec Ideal S512x1024 .f32) (r : Fin 512) (d : Fin 1024) :
    out0_3 (F := Ideal) a b s (ix2 r d) = ((∑ k : Fin 2048, (a (ix2 r k) : EReal) * b (ix2 k d)) + s (ix2 r d) : EReal) := by
  unfold out0_3
  rw [View.canon_unit_zero zero_offsets, View.ld_unit_zero (S := S512x2048) zero_offsets, View.ld_unit_zero (S := S2048x1024) zero_offsets,
    View.ld_unit_zero (S := S512x1024) zero_offsets]
  exact pay_at a b s r d

/-- The layer's output: rows by weights, added to the residual stream. -/
def outArr (y : FVec Ideal S8192x2048 .bf16) (w : FVec Ideal S2048x2048 .bf16) (h : FVec Ideal S8192x2048 .f32) : FVec Ideal S8192x2048 .f32 :=
  fun i => (∑ k : Fin 2048, (y (ix2 (i 0) k) : EReal) * w (ix2 k (i 1))) + h (ix2 (i 0) (i 1))

/-- The reference adds the product on the other side. -/
theorem ref_val (y : FVec Ideal S8192x2048 .bf16) (w : FVec Ideal S2048x2048 .bf16) (h : FVec Ideal S8192x2048 .f32) :
    addf h (Host.dotGeneral (F := Ideal) Cert.Reference9Ideal.dot_S8192x2048_S2048x2048_S8192x2048_1_0_0_1_n_n none
      (extf .f32 y Cert.Reference9Ideal.Facts₀.bitsLt_bf16_f32) (extf .f32 w Cert.Reference9Ideal.Facts₀.bitsLt_bf16_f32)) = outArr y w h := by
  funext i
  obtain ⟨r, k, rfl⟩ : ∃ (r : Fin 8192) (k : Fin 2048), i = (ix2 r k : S8192x2048.Idx) := ⟨i 0, i 1, eq_ix2 i⟩
  unfold outArr
  refine Eq.trans ?_ (add_comm _ _)
  pointwise

variable (m : (ℓ : Loc nD τ sig) → Buf (Elt Ideal) ℓ) (c : Dev nD) (t : Fin cfg0.N)

theorem blk0 (r : Fin 512) (k : Fin 2048) : (iblk m c 0 t : FVec Ideal S512x2048 .bf16) (ix2 r k)
    = (m ((c : Thread nD τ).loc main_arg0) : FVec Ideal S8192x2048 .bf16) (ix2 ⟨t.val / 2 * 512 + r.val, by have : t.val < 32 := t.isLt; omega⟩ k) := by
  blk_ext [iblk, V, idx t]

theorem blk1 (k : Fin 2048) (d : Fin 1024) : (iblk m c 1 t : FVec Ideal S2048x1024 .bf16) (ix2 k d)
    = (m ((c : Thread nD τ).loc main_arg1) : FVec Ideal S2048x2048 .bf16) (ix2 k ⟨t.val % 2 * 1024 + d.val, by omega⟩) := by
  blk_ext [iblk, V, idx t]

theorem blk2 (r : Fin 512) (d : Fin 1024) : (iblk m c 2 t : FVec Ideal S512x1024 .f32) (ix2 r d)
    = (m ((c : Thread nD τ).loc main_arg2) : FVec Ideal S8192x2048 .f32)
      (ix2 ⟨t.val / 2 * 512 + r.val, by have : t.val < 32 := t.isLt; omega⟩ ⟨t.val % 2 * 1024 + d.val, by omega⟩) := by
  blk_ext [iblk, V, idx t]

theorem final : (dats m 0 c).arrAt 3 cfg0.N
    = outArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 32 := t.isLt
  blk_simp
  rw [after0_3]
  obtain ⟨r, d, rfl⟩ : ∃ (r : Fin 512) (d : Fin 1024), y = (ix2 r d : S512x1024.Idx) := ⟨y 0, y 1, eq_ix2 y⟩
  have e0 : ((((View.whole main_v0).slice (win0_3.rect t)).emb (ix2 r d : S512x1024.Idx)) 0).val = t.val / 2 * 512 + r.val := by blk_simp [idx t]
  have e1 : ((((View.whole main_v0).slice (win0_3.rect t)).emb (ix2 r d : S512x1024.Idx)) 1).val = t.val % 2 * 1024 + d.val := by blk_simp [idx t]
  refine (tile_at _ _ _ r d).trans (congrArg₂ (· + ·) (Finset.sum_congr rfl fun k _ => congrArg₂ (· * ·) ((blk0 m c t r k).trans ?_)
    ((blk1 m c t k d).trans ?_)) ((blk2 m c t r d).trans ?_))
  · exact congrArg (fun i => (m ((c : Thread nD τ).loc main_arg0) : FVec Ideal S8192x2048 .bf16) (ix2 i k)) (Fin.ext e0.symm)
  · exact congrArg (fun i => (m ((c : Thread nD τ).loc main_arg1) : FVec Ideal S2048x2048 .bf16) (ix2 k i)) (Fin.ext e1.symm)
  · exact congrArg₂ (fun i j => (m ((c : Thread nD τ).loc main_arg2) : FVec Ideal S8192x2048 .f32) (ix2 i j)) (Fin.ext e0.symm) (Fin.ext e1.symm)

end Cert.Kernel9Ideal.Hand

end
-- ==== Proof.Products.lean ====
/- The plain products against their references: each run's result is the reference's sum. -/
module

public import proofs.«01_k».proof.Defs
public import proofs.«01_k».proof.Proof.Product3
public import proofs.«01_k».proof.Proof.Product4
public import proofs.«01_k».proof.Proof.Product5
public import proofs.«01_k».proof.Proof.Product6
public import proofs.«01_k».proof.Proof.Product8
public import proofs.«01_k».proof.Proof.Product9
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel8.Frame
public import proofs.«01_k».proof.Proof.Gen.Kernel9.Frame
public import Idealize.ShloMosaic.Lib.Quiescent

@[expose] public section

set_option maxRecDepth 16384

noncomputable section

namespace Cert.Proof.Products

open Idealize.ShloMosaic Idealize.ShloMosaic.TcCoe Idealize.SL.Sem

/-! ## The output projection's rows. -/

theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic3 : Cert.algebraic_Kernel3Ideal_Reference3Ideal := by
  intro m g m' g' _ hagree
  refine ⟨fun c => Cert.Kernel3Ideal.Hand.dyArr (m (c.tc.loc Cert.Kernel3Ideal.main_arg0)) (m (c.tc.loc Cert.Kernel3Ideal.main_arg1)), ?_, ?_⟩
  · exact (θ_run Cert.Kernel3Ideal.defs _ _).mono (fun r h c => ⟨(h c).1.trans (Cert.Kernel3Ideal.Hand.final m c), (h c).2⟩)
      (Cert.Kernel3Ideal.Value.run_blocks m g)
  · refine (θ_run Cert.Reference3Ideal.defs _ _).mono (fun r h c => ⟨(h c).1.trans ?_, (h c).2⟩) (Cert.Reference3Ideal.Value.run m' g')
    exact (Cert.Kernel3Ideal.Hand.ref_val _ _).trans (congrArg₂ Cert.Kernel3Ideal.Hand.dyArr (hagree c).1 (hagree c).2)

/-! ## The output projection's weights. -/

theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic4 : Cert.algebraic_Kernel4Ideal_Reference4Ideal := by
  intro m g m' g' _ hagree
  refine ⟨fun c => Cert.Kernel4Ideal.Hand.dwArr (m (c.tc.loc Cert.Kernel4Ideal.main_arg0)) (m (c.tc.loc Cert.Kernel4Ideal.main_arg1)), ?_, ?_⟩
  · exact (θ_run Cert.Kernel4Ideal.defs _ _).mono (fun r h c => ⟨(h c).1.trans (Cert.Kernel4Ideal.Hand.final m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    exact (Cert.Kernel4Ideal.Hand.ref_val _ _).trans (congrArg₂ Cert.Kernel4Ideal.Hand.dwArr (hagree c).1 (hagree c).2)

/-! ## The convolution mixer's input projection, its rows. -/

theorem frame_r5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic5 : Cert.algebraic_Kernel5Ideal_Reference5Ideal := by
  intro m g m' g' _ hagree
  refine ⟨fun c => Cert.Kernel5Ideal.Hand.dhArr (m (c.tc.loc Cert.Kernel5Ideal.main_arg0)) (m (c.tc.loc Cert.Kernel5Ideal.main_arg1)), ?_, ?_⟩
  · exact (θ_run Cert.Kernel5Ideal.defs _ _).mono (fun r h c => ⟨(h c).1.trans (Cert.Kernel5Ideal.Hand.final m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    exact (Cert.Kernel5Ideal.Hand.ref_val _ _).trans (congrArg₂ Cert.Kernel5Ideal.Hand.dhArr (hagree c).1 (hagree c).2)

/-! ## The convolution mixer's input projection, its weights. -/

theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem algebraic6 : Cert.algebraic_Kernel6Ideal_Reference6Ideal := by
  intro m g m' g' _ hagree
  refine ⟨fun c => Cert.Kernel6Ideal.Hand.dwArr (m (c.tc.loc Cert.Kernel6Ideal.main_arg0)) (m (c.tc.loc Cert.Kernel6Ideal.main_arg1)), ?_, ?_⟩
  · exact (θ_run Cert.Kernel6Ideal.defs _ _).mono (fun r h c => ⟨(h c).1.trans (Cert.Kernel6Ideal.Hand.final m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    exact (Cert.Kernel6Ideal.Hand.ref_val _ _).trans (congrArg₂ Cert.Kernel6Ideal.Hand.dwArr (hagree c).1 (hagree c).2)

/-! ## The convolution mixer's input projection, forward. -/

theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem algebraic8 : Cert.algebraic_Kernel8Ideal_Reference8Ideal := by
  intro m g m' g' _ hagree
  refine ⟨fun c => Cert.Kernel8Ideal.Hand.projArr (m (c.tc.loc Cert.Kernel8Ideal.main_arg0)) (m (c.tc.loc Cert.Kernel8Ideal.main_arg1)) (m (c.tc.loc Cert.Kernel8Ideal.main_arg2)), ?_, ?_⟩
  · exact (θ_run Cert.Kernel8Ideal.defs _ _).mono (fun r h c => ⟨(h c).1.trans (Cert.Kernel8Ideal.Hand.final m c), (h c).2⟩)
      (Cert.Kernel8Ideal.Value.run_blocks m g)
  · refine (θ_run Cert.Reference8Ideal.defs _ _).mono (fun r h c => ⟨(h c).1.trans ?_, (h c).2⟩) (Cert.Reference8Ideal.Value.run m' g')
    refine (Cert.Kernel8Ideal.Hand.ref_val _ _ _).trans ?_
    rw [(hagree c).1, (hagree c).2.1, (hagree c).2.2]

/-! ## The output projection, forward. -/

theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem algebraic9 : Cert.algebraic_Kernel9Ideal_Reference9Ideal := by
  intro m g m' g' _ hagree
  refine ⟨fun c => Cert.Kernel9Ideal.Hand.outArr (m (c.tc.loc Cert.Kernel9Ideal.main_arg0)) (m (c.tc.loc Cert.Kernel9Ideal.main_arg1)) (m (c.tc.loc Cert.Kernel9Ideal.main_arg2)), ?_, ?_⟩
  · exact (θ_run Cert.Kernel9Ideal.defs _ _).mono (fun r h c => ⟨(h c).1.trans (Cert.Kernel9Ideal.Hand.final m c), (h c).2⟩)
      (Cert.Kernel9Ideal.Value.run_blocks m g)
  · refine (θ_run Cert.Reference9Ideal.defs _ _).mono (fun r h c => ⟨(h c).1.trans ?_, (h c).2⟩) (Cert.Reference9Ideal.Value.run m' g')
    refine (Cert.Kernel9Ideal.Hand.ref_val _ _ _).trans ?_
    rw [(hagree c).1, (hagree c).2.1, (hagree c).2.2]

end Cert.Proof.Products

end
-- ==== Proof.Fwd.Offsets.lean ====
/- Where each access of the attention-forward kernel lands, in closed form over all grid points and trips.

A pass of the unrolled loop (`k0_t1`) works on key tiles `4 t`, `4 t + 1`, `4 t + 2`, `4 t + 3`; the loop of single
tiles (`k0_t3`) on tile `4 (q / 4) + t`; the tile on the diagonal is tile `q`, with `q` the second grid coordinate. -/
module

public import proofs.«01_k».proof.Proof.Gen.Kernel7Ideal.Frame
public import Idealize.ShloMosaic.Lib.LoopRemainder
public import Idealize.ShloMosaic.Lib.WritesUnit
public import Idealize.ShloMosaic.Lib.WholeRead

@[expose] public section

set_option maxRecDepth 16384

namespace Cert.Kernel7Ideal.Hand

open Idealize.ShloMosaic Idealize.ShloMosaic.TcCoe
open Cert.Kernel7Ideal

theorem t1_trips : ∀ i : grid0.Coords, (k0_t1_loop i).trips = (i 1).val / 4 := by decide +kernel
theorem t2_trips : ∀ i : grid0.Coords, (k0_t2_loop i).trips = 0 := by decide +kernel
theorem t3_trips : ∀ i : grid0.Coords, (k0_t3_loop i).trips = (i 1).val % 4 := by decide +kernel
theorem t4_trips : ∀ i : grid0.Coords, (k0_t4_loop i).trips = 0 := by decide +kernel

theorem off1_0 : ∀ (i : grid0.Coords) (t : Fin (k0_t1_loop i).trips), k0_off1 i t 0#32 = ![(4 * t.val + 0) * 1024, 0] := by
  decide +kernel
theorem off1_1 : ∀ (i : grid0.Coords) (t : Fin (k0_t1_loop i).trips), k0_off1 i t 1#32 = ![(4 * t.val + 1) * 1024, 0] := by
  decide +kernel
theorem off1_2 : ∀ (i : grid0.Coords) (t : Fin (k0_t1_loop i).trips), k0_off1 i t 2#32 = ![(4 * t.val + 2) * 1024, 0] := by
  decide +kernel
theorem off1_3 : ∀ (i : grid0.Coords) (t : Fin (k0_t1_loop i).trips), k0_off1 i t 3#32 = ![(4 * t.val + 3) * 1024, 0] := by
  decide +kernel
theorem off2_0 : ∀ (i : grid0.Coords) (t : Fin (k0_t1_loop i).trips), k0_off2 i t 0#32 = ![0, 4 * t.val + 0, 0, 0] := by
  decide +kernel
theorem off2_1 : ∀ (i : grid0.Coords) (t : Fin (k0_t1_loop i).trips), k0_off2 i t 1#32 = ![0, 4 * t.val + 1, 0, 0] := by
  decide +kernel
theorem off2_2 : ∀ (i : grid0.Coords) (t : Fin (k0_t1_loop i).trips), k0_off2 i t 2#32 = ![0, 4 * t.val + 2, 0, 0] := by
  decide +kernel
theorem off2_3 : ∀ (i : grid0.Coords) (t : Fin (k0_t1_loop i).trips), k0_off2 i t 3#32 = ![0, 4 * t.val + 3, 0, 0] := by
  decide +kernel
theorem off5 : ∀ (i : grid0.Coords) (t : Fin (k0_t3_loop i).trips),
    k0_off5 i t = ![(4 * ((i 1).val / 4) + t.val) * 1024, 0] := by decide +kernel
theorem off6 : ∀ (i : grid0.Coords) (t : Fin (k0_t3_loop i).trips),
    k0_off6 i t = ![0, 4 * ((i 1).val / 4) + t.val, 0, 0] := by decide +kernel
theorem off9 : ∀ i : grid0.Coords, k0_off9 i = ![(i 1).val * 1024, 0] := by decide +kernel
theorem off10 : ∀ i : grid0.Coords, k0_off10 i = ![0, (i 1).val, 0, 0] := by decide +kernel

end Cert.Kernel7Ideal.Hand
end
-- ==== Proof.Fwd.Step.lean ====
/- The attention-forward kernel's accumulation as a function of vectors.

A grid point walks the key tiles `0 … q` of its head, holding per row the largest score so far (`m`), the sum of the
weights below it (`l`) and the weighted sum of the values (`acc`). `tile` is one tile below the diagonal, over the
payloads of the loop of single tiles; `walk b k` is `k` tiles from tile `b` on; `diagAt` is the tile on the diagonal. -/
module

public import proofs.«01_k».proof.Proof.Fwd.Offsets
public import proofs.«01_k».proof.Proof.Gen.Kernel7Ideal.Skeleton
public import Idealize.ShloMosaic.Lib.VecWindow

@[expose] public section

set_option maxRecDepth 16384

noncomputable section

namespace Cert.Kernel7Ideal.Hand

open Idealize.ShloMosaic Idealize.ShloMosaic.TcCoe
open Cert.Kernel7Ideal Cert.Kernel7Ideal.Gen

variable {F : FTy → Type} [FloatOps F] [Named F]

/-- The three accumulators, the first two alike in every lane of a row. -/
@[ext] structure St (F : FTy → Type) where
  /-- the largest score so far -/
  m : Vec F S1024x128 .f32
  /-- the sum of the weights, relative to the largest -/
  l : Vec F S1024x128 .f32
  /-- the weighted sum of the values, relative to the largest -/
  acc : Vec F S1024x128 .f32

/-- What a point reads: the scaled queries of its rows, and the head's keys, values and key bias. -/
structure Inp (F : FTy → Type) where
  qs : FVec F S1024x128 .bf16
  k : Vec F S8192x128 .bf16
  v : Vec F S8192x128 .bf16
  b : Vec F S1x8x1x1024 .f32

theorem rows_in (j : ℕ) (h : j < 8) : ∀ a, (![j * 1024, 0] : Fin 2 → ℕ) a + S1024x128.size a ≤ S8192x128.size a :=
  Fin.forall_fin_two.mpr ⟨show j * 1024 + 1024 ≤ 8192 by omega, show 0 + 128 ≤ 128 by omega⟩

theorem forall_fin_four {P : Fin 4 → Prop} (h0 : P 0) (h1 : P 1) (h2 : P 2) (h3 : P 3) : ∀ a, P a := fun a =>
  match a with
  | 0 => h0
  | 1 => h1
  | 2 => h2
  | 3 => h3

theorem bias_in (j : ℕ) (h : j < 8) : ∀ a, (![0, j, 0, 0] : Fin 4 → ℕ) a + S1x1x1x1024.size a ≤ S1x8x1x1024.size a :=
  forall_fin_four (show 0 + 1 ≤ 1 by omega) (show j + 1 ≤ 8 by omega) (show 0 + 1 ≤ 1 by omega) (show 0 + 1024 ≤ 1024 by omega)

/-- Tile `j`'s rows of a whole-sequence array. -/
abbrev rows {α : Type} (x : S8192x128.Idx → α) (j : ℕ) (h : j < 8) : S1024x128.Idx → α :=
  VecWindow.window x ![j * 1024, 0] S1024x128.size (rows_in j h)
/-- Tile `j`'s key bias. -/
abbrev bias {α : Type} (x : S1x8x1x1024.Idx → α) (j : ℕ) (h : j < 8) : S1x1x1x1024.Idx → α :=
  VecWindow.window x ![0, j, 0, 0] S1x1x1x1024.size (bias_in j h)

/-- A whole tile below the diagonal. -/
def tileAt (I : Inp F) (j : ℕ) (h : j < 8) (s : St F) : St F where
  m := k0_pay90 (k0_pay74 I.qs (rows I.k j h) (bias I.b j h) s.m)
  l := k0_pay77 I.qs (rows I.k j h) (bias I.b j h) s.m s.l
  acc := k0_pay89 (k0_pay78 I.qs (rows I.k j h) (bias I.b j h) s.m s.acc (rows I.v j h))

/-- The same at any number, nothing beyond the last tile. -/
def tile (I : Inp F) (j : ℕ) (s : St F) : St F := if h : j < 8 then tileAt I j h s else s

theorem tile_of_lt (I : Inp F) {j : ℕ} (h : j < 8) (s : St F) : tile I j s = tileAt I j h s := dif_pos h

/-- `k` tiles from tile `b` on. -/
def walk (I : Inp F) (b : ℕ) : ℕ → St F → St F
  | 0, s => s
  | k + 1, s => tile I (b + k) (walk I b k s)

@[simp] theorem walk_zero (I : Inp F) (b : ℕ) (s : St F) : walk I b 0 s = s := rfl
theorem walk_succ (I : Inp F) (b k : ℕ) (s : St F) : walk I b (k + 1) s = tile I (b + k) (walk I b k s) := rfl

theorem walk_four (I : Inp F) (b : ℕ) (s : St F) :
    walk I b 4 s = tile I (b + 3) (tile I (b + 2) (tile I (b + 1) (tile I (b + 0) s))) := rfl

theorem walk_add (I : Inp F) (b k l : ℕ) (s : St F) : walk I b (k + l) s = walk I (b + k) l (walk I b k s) := by
  induction l with
  | zero => rfl
  | succ l ih => rw [← Nat.add_assoc, walk_succ, ih, walk_succ, Nat.add_assoc]

/-- The scores of the diagonal tile before bias and mask. -/
abbrev sD (I : Inp F) (j : ℕ) (h : j < 8) : FVec F S1024x1024 .f32 := k0_pay93 I.qs (rows I.k j h)

/-- The tile on the diagonal. -/
def diagAt (I : Inp F) (j : ℕ) (h : j < 8) (s : St F) : St F where
  m := k0_pay1 (k0_pay95 (sD I j h) (bias I.b j h) s.m)
  l := k0_pay98 (sD I j h) (bias I.b j h) s.m s.l
  acc := k0_pay99 (sD I j h) (bias I.b j h) s.m s.acc (rows I.v j h)

/-- The accumulators a point starts from. -/
def start : St F := ⟨k0_pay85, k0_pay86, k0_pay87⟩

/-- The accumulators after point `i`: cleared, then the tiles below the diagonal, then the one on it. -/
def point (i : grid0.Coords) (I : Inp F) : St F := diagAt I _ (i 1).isLt (walk I 0 (i 1).val start)

end Cert.Kernel7Ideal.Hand
end
end
-- ==== Proof.Fwd.Spec.lean ====
/- The running softmax of one query row, over the extended reals.

`τ` is a score in units of a power of two. `Row k` says what the accumulators of a row hold after `k` key tiles: nothing
before the first, and after it sums of weights and of weighted values, relative to some number `M`. -/
module

public import proofs.«01_k».proof.Proof.Facts

@[expose] public section

noncomputable section

namespace Cert.Proof.Fox

open Idealize.ShloMosaic Finset

variable (x : Data)

/-- The score as a power of two's exponent. -/
def τ (h s t : ℕ) : ℝ := (X x h s t * σ - c x h t) * (Real.log 2)⁻¹
/-- The weights of the first `k` key tiles, and the values under them. -/
def S (h s k : ℕ) : ℝ := ∑ t ∈ range (1024 * k), w x h s t
def V (h s k d : ℕ) : ℝ := ∑ t ∈ range (1024 * k), w x h s t * v x h t d
/-- The attention output, and the row's normaliser as a power of two's exponent. -/
def O (h s d : ℕ) : ℝ := ∑ t ∈ range 8192, y x h s t * v x h t d
def L (h s : ℕ) : ℝ := Real.log (W x h s) * (Real.log 2)⁻¹

theorem log2_ne : Real.log 2 ≠ 0 := (Real.log_pos (by norm_num)).ne'

theorem two_τ {h s t : ℕ} (ht : t ≤ s) : (2 : ℝ) ^ (τ x h s t) = w x h s t := by
  rw [Real.rpow_def_of_pos (by norm_num), τ, mul_comm, mul_assoc, inv_mul_cancel₀ log2_ne, mul_one, w, if_pos ht]

/-- The masked score. -/
def Z (h s t : ℕ) : EReal := if t ≤ s then ((τ x h s t : ℝ) : EReal) else ⊥

theorem Z_ne_top (h s t : ℕ) : Z x h s t ≠ ⊤ := by
  unfold Z; split
  · exact EReal.coe_ne_top _
  · exact bot_ne_top

theorem exp2_masked (h s t : ℕ) (M : ℝ) :
    Ideal.exp2 (Z x h s t - (M : EReal)) = ((w x h s t * (2 : ℝ) ^ (-M) : ℝ) : EReal) := by
  unfold Z
  by_cases hts : t ≤ s
  · rw [if_pos hts, ← EReal.coe_sub, Ideal.exp2_coe, ← two_τ x hts, ← Real.rpow_add (by norm_num), ← sub_eq_add_neg]; rfl
  · rw [if_neg hts, w_zero x (by omega), zero_mul, EReal.bot_sub, Ideal.exp2_bot, EReal.coe_zero]

/-- What a row's accumulators hold after `k` key tiles. -/
def Row (h s k : ℕ) (m l : EReal) (a : Fin 128 → EReal) : Prop :=
  (k = 0 ∧ m = ⊥ ∧ l = 0 ∧ ∀ d, a d = 0) ∨
  ∃ M : ℝ, m = (M : EReal) ∧ l = ((S x h s k * (2 : ℝ) ^ (-M) : ℝ) : EReal)
    ∧ ∀ d : Fin 128, a d = ((V x h s k d * (2 : ℝ) ^ (-M) : ℝ) : EReal)

theorem S_succ (h s k : ℕ) : S x h s (k + 1) = S x h s k + ∑ u : Fin 1024, w x h s (k * 1024 + u) := sum_range_tile _ _ _
theorem V_succ (h s k d : ℕ) : V x h s (k + 1) d = V x h s k d + ∑ u : Fin 1024, w x h s (k * 1024 + u) * v x h (k * 1024 + u) d :=
  sum_range_tile (fun t => w x h s t * v x h t d) _ _

/-- The rescaling of what was there: nothing of nothing. -/
theorem rescale {h s k : ℕ} {m l : EReal} {a : Fin 128 → EReal} (B : Row x h s k m l a) (M : ℝ) :
    Ideal.exp2 (m - (M : EReal)) * l = ((S x h s k * (2 : ℝ) ^ (-M) : ℝ) : EReal)
      ∧ ∀ d : Fin 128, Ideal.exp2 (m - (M : EReal)) * a d = ((V x h s k d * (2 : ℝ) ^ (-M) : ℝ) : EReal) := by
  rcases B with ⟨rfl, rfl, rfl, ha⟩ | ⟨M', rfl, rfl, ha⟩
  · have hS : S x h s 0 = 0 := by simp [S]
    have hV : ∀ d, V x h s 0 d = 0 := fun d => by simp [V]
    refine ⟨by rw [mul_zero, hS, zero_mul, EReal.coe_zero], fun d => by rw [ha, mul_zero, hV, zero_mul, EReal.coe_zero]⟩
  · have e : ∀ z : ℝ, (2 : ℝ) ^ (M' - M) * (z * (2 : ℝ) ^ (-M')) = z * (2 : ℝ) ^ (-M) := fun z => by
      rw [mul_comm, mul_assoc, ← Real.rpow_add (by norm_num)]; congr 2; ring
    refine ⟨?_, fun d => ?_⟩
    · rw [← EReal.coe_sub, Ideal.exp2_coe, ← EReal.coe_mul]; exact congrArg _ (e _)
    · rw [ha, ← EReal.coe_sub, Ideal.exp2_coe, ← EReal.coe_mul]; exact congrArg _ (e _)

/-- One key tile, of scores `z` and values `vt`. -/
theorem Row.next {h s k : ℕ} {m l : EReal} {a : Fin 128 → EReal} (B : Row x h s k m l a) (hk : k * 1024 ≤ s)
    (z : Fin 1024 → EReal) (hz : ∀ u : Fin 1024, z u = Z x h s (k * 1024 + u))
    (vt : Fin 1024 → Fin 128 → EReal) (hv : ∀ u d, vt u d = ((v x h (k * 1024 + u.val) d : ℝ) : EReal)) {m' : EReal}
    (hm : m' = max m (univ.fold max ⊥ z)) :
    Row x h s (k + 1) m' (Ideal.exp2 (m - m') * l + ∑ u : Fin 1024, Ideal.exp2 (z u - m'))
      (fun d => Ideal.exp2 (m - m') * a d + ∑ u : Fin 1024, Ideal.exp2 (z u - m') * vt u d) := by
  obtain ⟨N, hN⟩ := fold_max_real z (fun u => by rw [hz]; exact Z_ne_top x h s _) 0
    (by rw [hz, Z, if_pos (by simpa using hk)]; exact EReal.coe_ne_bot _)
  obtain ⟨M, hM⟩ : ∃ M : ℝ, m' = (M : EReal) := by
    rw [hm, hN]
    rcases B with ⟨-, rfl, -, -⟩ | ⟨M, rfl, -, -⟩
    · exact ⟨N, max_eq_right bot_le⟩
    · exact ⟨max M N, (EReal.coe_strictMono.monotone.map_max).symm⟩
  obtain ⟨h1, h2⟩ := rescale x B M
  refine Or.inr ⟨M, hM, ?_, fun d => ?_⟩
  · rw [hM, h1, S_succ, add_mul, EReal.coe_add, Finset.sum_mul, coe_sum]
    exact congrArg _ (Finset.sum_congr rfl fun u _ => by rw [hz, exp2_masked])
  · rw [hM]
    beta_reduce
    rw [h2, V_succ, add_mul, EReal.coe_add, Finset.sum_mul, coe_sum]
    refine congrArg _ (Finset.sum_congr rfl fun u _ => ?_)
    rw [hz, exp2_masked, hv, ← EReal.coe_mul, mul_right_comm]

/-- Key tiles past the query's add nothing. -/
theorem S_all {h s i : ℕ} (hs : s < 1024 * (i + 1)) (hi : i < 8) : S x h s (i + 1) = W x h s :=
  Finset.sum_subset (fun t ht => by simp only [Finset.mem_range] at ht ⊢; omega) fun t _ ht =>
    w_zero x (by simp only [Finset.mem_range] at ht; omega)

theorem V_all {h s i : ℕ} (d : ℕ) (hs : s < 1024 * (i + 1)) (hi : i < 8) :
    V x h s (i + 1) d = ∑ t ∈ range 8192, w x h s t * v x h t d :=
  Finset.sum_subset (fun t ht => by simp only [Finset.mem_range] at ht ⊢; omega) fun t _ ht => by
    rw [w_zero x (by simp only [Finset.mem_range] at ht; omega), zero_mul]

/-- What a row's accumulators hold after all its tiles gives the attention output and the normaliser. -/
theorem Row.out {h s i : ℕ} {m l : EReal} {a : Fin 128 → EReal} (B : Row x h s (i + 1) m l a) (hs : s < 1024 * (i + 1)) (hi : i < 8) :
    (∀ d : Fin 128, Ideal.div (a d) l = ((O x h s d : ℝ) : EReal))
      ∧ m + Ideal.log l * (((Real.log 2)⁻¹ : ℝ) : EReal) = ((L x h s : ℝ) : EReal) := by
  rcases B with ⟨h0, -⟩ | ⟨M, rfl, rfl, ha⟩
  · exact absurd h0 (Nat.succ_ne_zero i)
  · have h2 : 0 < (2 : ℝ) ^ (-M) := Real.rpow_pos_of_pos (by norm_num) _
    have hW := W_pos x h s
    rw [S_all x hs hi]
    refine ⟨fun d => ?_, ?_⟩
    · rw [ha, V_all x d hs hi, div_coe_coe _ (mul_pos hW h2).ne', mul_div_mul_right _ _ h2.ne', Finset.sum_div]
      refine congrArg _ (Finset.sum_congr rfl fun t _ => ?_)
      unfold y; ring
    · rw [Ideal.log_coe, if_neg (mul_pos hW h2).not_ge, ← EReal.coe_mul, ← EReal.coe_add,
        Real.log_mul hW.ne' h2.ne', Real.log_rpow (by norm_num)]
      refine congrArg _ ?_
      have := log2_ne
      unfold L; field_simp; ring

/-- The gate's factor. -/
def silu (g : EReal) : EReal := g * Ideal.div 1 (1 + Ideal.exp (-g))

/-- The three results as packed arrays: the attention output, the row normaliser over every lane, the gated output. -/
abbrev Packed : Shape := ⟨2, ![8192, 2048]⟩
def oArr : Packed.Idx → EReal := fun i => ((O x ((i 1).val / 128) (i 0).val ((i 1).val % 128) : ℝ) : EReal)
def lArr : Packed.Idx → EReal := fun i => ((L x ((i 1).val / 128) (i 0).val : ℝ) : EReal)
def yArr (g : Packed.Idx → EReal) : Packed.Idx → EReal := fun i => oArr x i * silu (g i)

end Cert.Proof.Fox
end
end
-- ==== Proof.Fwd.Pay.lean ====
/- What the forward kernel's payloads hold at an index, over the ideal numbers. -/
module

public import proofs.«01_k».proof.Proof.Fwd.Step
public import proofs.«01_k».proof.Proof.Fwd.Spec
public import Idealize.ShloMosaic.Lib.Pointwise
public import Idealize.ShloMosaic.Lib.WordCmp

@[expose] public section

set_option maxRecDepth 16384

noncomputable section

namespace Cert.Kernel7Ideal.Hand

open Idealize.ShloMosaic Idealize.ShloMosaic.TcCoe
open Cert.Kernel7Ideal Cert.Kernel7Ideal.Gen
open Cert.Proof Finset

theorem log2e_val : Named.named (F := Ideal) κ "log2e" (φ := .f32) 0x3FB8AA3B#32 = (((Real.log 2)⁻¹ : ℝ) : EReal) :=
  IdealRules.named_const.ideal_named_scalar _ _ _ _ rfl
theorem c1_val : Named.named (F := Ideal) κ "c1" (φ := .f32) 0x3E0293EE#32 = (((Real.sqrt 128)⁻¹ * (Real.log 2)⁻¹ : ℝ) : EReal) :=
  IdealRules.named_const.ideal_named_scalar _ _ _ _ rfl
theorem mask_val : Named.named (F := Ideal) κ "mask" (φ := .f32) 0xF149F2CA#32 = (⊥ : EReal) :=
  IdealRules.named_const.ideal_named_scalar _ _ _ _ rfl

variable (qs kt : FVec Ideal S1024x128 .bf16) (b : FVec Ideal S1x1x1x1024 .f32) (m l acc : FVec Ideal S1024x128 .f32)
  (vt : FVec Ideal S1024x128 .bf16) (A : FVec Ideal S1024x1024 .f32) (r u : Fin 1024) (d : Fin 128)

theorem pay88_at (q : FVec Ideal S1024x128 .bf16) :
    k0_pay88 (F := Ideal) q (ix2 r d) = q (ix2 r d) * (((Real.sqrt 128)⁻¹ * (Real.log 2)⁻¹ : ℝ) : EReal) := by
  pointwise [k0_pay88, c1_val]

theorem pay85_at : k0_pay85 (F := Ideal) (ix2 r d) = (⊥ : EReal) := by
  pointwise [k0_pay85, mask_val]
theorem pay86_at : k0_pay86 (F := Ideal) (ix2 r d) = (0 : EReal) := by
  pointwise [k0_pay86]
theorem pay87_at : k0_pay87 (F := Ideal) (ix2 r d) = (0 : EReal) := by
  pointwise [k0_pay87]

theorem pay73_at :
    k0_pay73 (F := Ideal) qs kt b (ix2 r u)
      = (∑ d : Fin 128, qs (ix2 r d) * kt (ix2 u d)) + b (ix4 0 0 0 u) * (((Real.log 2)⁻¹ : ℝ) : EReal) := by
  pointwise [k0_pay73, log2e_val]

theorem pay74_at :
    k0_pay74 (F := Ideal) qs kt b m (ix2 r d)
      = max (m (ix2 r d)) (univ.fold max ⊥ fun u : Fin 1024 => k0_pay73 (F := Ideal) qs kt b (ix2 r u)) := by
  pointwise [k0_pay74]
  rw [Fox.ofBits_ninf]

theorem pay90_at : k0_pay90 (F := Ideal) m (ix2 r d) = m (ix2 r d) := by
  pointwise [k0_pay90]

theorem pay77_at :
    k0_pay77 (F := Ideal) qs kt b m l (ix2 r d)
      = Ideal.exp2 (m (ix2 r d) - k0_pay74 (F := Ideal) qs kt b m (ix2 r d)) * l (ix2 r d)
        + ∑ u : Fin 1024, Ideal.exp2 (k0_pay73 (F := Ideal) qs kt b (ix2 r u) - k0_pay74 (F := Ideal) qs kt b m (ix2 r 0)) := by
  pointwise [k0_pay77, k0_pay75, k0_pay76]
  rfl

theorem pay78_at :
    k0_pay89 (F := Ideal) (k0_pay78 qs kt b m acc vt) (ix2 r d)
      = Ideal.exp2 (m (ix2 r d) - k0_pay74 (F := Ideal) qs kt b m (ix2 r d)) * acc (ix2 r d)
        + ∑ u : Fin 1024, Ideal.exp2 (k0_pay73 (F := Ideal) qs kt b (ix2 r u) - k0_pay74 (F := Ideal) qs kt b m (ix2 r 0))
            * vt (ix2 u d) := by
  pointwise [k0_pay89, k0_pay78, k0_pay75, k0_pay76]
  rfl

theorem pay93_at : k0_pay93 (F := Ideal) qs kt (ix2 r u) = ∑ d : Fin 128, qs (ix2 r d) * kt (ix2 u d) := by
  pointwise [k0_pay93]

theorem pay94_at :
    k0_pay94 (F := Ideal) A b (ix2 r u)
      = if u.val ≤ r.val then A (ix2 r u) + b (ix4 0 0 0 u) * (((Real.log 2)⁻¹ : ℝ) : EReal) else (⊥ : EReal) := by
  pointwise [k0_pay94, log2e_val, mask_val]
  word_cmp

theorem pay95_at :
    k0_pay95 (F := Ideal) A b m (ix2 r d)
      = max (m (ix2 r d)) (univ.fold max ⊥ fun u : Fin 1024 => k0_pay94 (F := Ideal) A b (ix2 r u)) := by
  pointwise [k0_pay95]
  rw [Fox.ofBits_ninf]

theorem pay1_at : k0_pay1 (F := Ideal) m (ix2 r d) = m (ix2 r d) := by
  pointwise [k0_pay1]

theorem pay98_at :
    k0_pay98 (F := Ideal) A b m l (ix2 r d)
      = Ideal.exp2 (m (ix2 r d) - k0_pay95 (F := Ideal) A b m (ix2 r d)) * l (ix2 r d)
        + ∑ u : Fin 1024, Ideal.exp2 (k0_pay94 (F := Ideal) A b (ix2 r u) - k0_pay95 (F := Ideal) A b m (ix2 r 0)) := by
  pointwise [k0_pay98, k0_pay96, k0_pay97]
  rfl

theorem pay99_at :
    k0_pay99 (F := Ideal) A b m acc vt (ix2 r d)
      = Ideal.exp2 (m (ix2 r d) - k0_pay95 (F := Ideal) A b m (ix2 r d)) * acc (ix2 r d)
        + ∑ u : Fin 1024, Ideal.exp2 (k0_pay94 (F := Ideal) A b (ix2 r u) - k0_pay95 (F := Ideal) A b m (ix2 r 0))
            * vt (ix2 u d) := by
  pointwise [k0_pay99, k0_pay96, k0_pay97]
  rfl

theorem pay2_at : k0_pay2 (F := Ideal) l acc (ix2 r d) = Ideal.div (acc (ix2 r d)) (l (ix2 r d)) := by
  pointwise [k0_pay2]

theorem pay3_at : k0_pay3 (F := Ideal) l m (ix2 r d) = m (ix2 r d) + Ideal.log (l (ix2 r d)) * (((Real.log 2)⁻¹ : ℝ) : EReal) := by
  pointwise [k0_pay3, log2e_val]

theorem pay4_at (g : FVec Ideal S1024x128 .f32) :
    k0_pay4 (F := Ideal) l acc g (ix2 r d) = Ideal.div (acc (ix2 r d)) (l (ix2 r d)) * Fox.silu (g (ix2 r d)) := by
  pointwise [k0_pay4, k0_pay2]
  rw [zero_sub]; rfl

end Cert.Kernel7Ideal.Hand
end
end
-- ==== Proof.Fwd.Tile.lean ====
/- The forward kernel's tiles over the ideal numbers: what the accumulators hold after a point. -/
module

public import proofs.«01_k».proof.Proof.Fwd.Pay

@[expose] public section

set_option maxRecDepth 16384

noncomputable section

namespace Cert.Kernel7Ideal.Hand

open Idealize.ShloMosaic Idealize.ShloMosaic.TcCoe
open Cert.Kernel7Ideal Cert.Kernel7Ideal.Gen
open Cert.Proof Finset

/-- A point's inputs hold the numbers of head `h`, query tile `i`. -/
structure Reads (x : Fox.Data) (h i : ℕ) (I : Inp Ideal) : Prop where
  qs : ∀ (r : Fin 1024) (d : Fin 128), I.qs (ix2 r d) = ((Fox.q x h (i * 1024 + r) d * (Fox.σ * (Real.log 2)⁻¹) : ℝ) : EReal)
  k : ∀ (t : Fin 8192) (d : Fin 128), I.k (ix2 t d) = ((Fox.k x h t d : ℝ) : EReal)
  v : ∀ (t : Fin 8192) (d : Fin 128), I.v (ix2 t d) = ((Fox.v x h t d : ℝ) : EReal)
  b : ∀ (j : Fin 8) (u : Fin 1024), I.b (ix4 0 j 0 u) = ((-Fox.c x h (j * 1024 + u) : ℝ) : EReal)

section Windows

variable {α : Type}

theorem rows_at (x : S8192x128.Idx → α) (j : ℕ) (h : j < 8) (r : Fin 1024) (d : Fin 128) :
    rows x j h (ix2 r d) = x (ix2 ⟨j * 1024 + r.val, by omega⟩ d) := by
  show x _ = x _
  congr 1
  funext a
  match a with
  | 0 => exact Fin.ext (show j * 1024 + 1 * r.val = j * 1024 + r.val by omega)
  | 1 => exact Fin.ext (show 0 + 1 * d.val = d.val by omega)

theorem bias_at (x : S1x8x1x1024.Idx → α) (j : ℕ) (h : j < 8) (u : Fin 1024) :
    bias x j h (ix4 0 0 0 u) = x (ix4 0 ⟨j, h⟩ 0 u) := by
  show x _ = x _
  congr 1
  funext a
  match a with
  | 0 => exact Fin.ext (show 0 + 1 * 0 = 0 by omega)
  | 1 => exact Fin.ext (show j + 1 * 0 = j by omega)
  | 2 => exact Fin.ext (show 0 + 1 * 0 = 0 by omega)
  | 3 => exact Fin.ext (show 0 + 1 * u.val = u.val by omega)

end Windows

/-- The accumulators of a query tile hold every row's running softmax after `k` key tiles, alike in every lane. -/
structure Rows (x : Fox.Data) (h i k : ℕ) (m l acc : FVec Ideal S1024x128 .f32) : Prop where
  lanes : ∀ (r : Fin 1024) (d : Fin 128), m (ix2 r d) = m (ix2 r 0)
  row : ∀ (r : Fin 1024) (d : Fin 128), Fox.Row x h (i * 1024 + r) k (m (ix2 r 0)) (l (ix2 r d)) fun e => acc (ix2 r e)

/-- One tile, of masked scores `z`. -/
theorem Rows.next {x : Fox.Data} {h i k : ℕ} {m l acc : FVec Ideal S1024x128 .f32} (B : Rows x h i k m l acc) (hk : k ≤ i)
    (z : Fin 1024 → Fin 1024 → EReal) (hz : ∀ r u : Fin 1024, z r u = Fox.Z x h (i * 1024 + r) (k * 1024 + u))
    (vt : Fin 1024 → Fin 128 → EReal) (hv : ∀ u d, vt u d = ((Fox.v x h (k * 1024 + u.val) d : ℝ) : EReal))
    {m' l' acc' : FVec Ideal S1024x128 .f32}
    (hm : ∀ (r : Fin 1024) (d : Fin 128), m' (ix2 r d) = max (m (ix2 r d)) (univ.fold max ⊥ (z r)))
    (hl : ∀ (r : Fin 1024) (d : Fin 128), l' (ix2 r d)
      = Ideal.exp2 (m (ix2 r d) - m' (ix2 r d)) * l (ix2 r d) + ∑ u : Fin 1024, Ideal.exp2 (z r u - m' (ix2 r 0)))
    (ha : ∀ (r : Fin 1024) (d : Fin 128), acc' (ix2 r d)
      = Ideal.exp2 (m (ix2 r d) - m' (ix2 r d)) * acc (ix2 r d) + ∑ u : Fin 1024, Ideal.exp2 (z r u - m' (ix2 r 0)) * vt u d) :
    Rows x h i (k + 1) m' l' acc' := by
  have hm0 : ∀ (r : Fin 1024) (d : Fin 128), m' (ix2 r d) = m' (ix2 r 0) := fun r d => by rw [hm, hm, B.lanes]
  refine ⟨hm0, fun r d => ?_⟩
  have N := (B.row r d).next x (by nlinarith [hk]) (z r) (hz r) vt hv (hm r 0)
  have e : (fun e : Fin 128 => acc' (ix2 r e)) = fun e => Ideal.exp2 (m (ix2 r 0) - m' (ix2 r 0)) * acc (ix2 r e)
      + ∑ u : Fin 1024, Ideal.exp2 (z r u - m' (ix2 r 0)) * vt u e := by
    funext e; rw [ha, hm0, B.lanes]
  rw [e, hl, hm0 r d, B.lanes]
  exact N

section Tiles

variable {x : Fox.Data} {h i : ℕ} {I : Inp Ideal} (R : Reads x h i I)
include R

/-- The scores of one tile before its mask. -/
theorem s_at (j : ℕ) (hj : j < 8) (r u : Fin 1024) :
    (∑ d : Fin 128, I.qs (ix2 r d) * rows I.k j hj (ix2 u d)) + bias I.b j hj (ix4 0 0 0 u) * (((Real.log 2)⁻¹ : ℝ) : EReal)
      = ((Fox.τ x h (i * 1024 + r) (j * 1024 + u) : ℝ) : EReal) := by
  have e : ∑ d : Fin 128, I.qs (ix2 r d) * rows I.k j hj (ix2 u d)
      = ((∑ d : Fin 128, Fox.q x h (i * 1024 + r) d * (Fox.σ * (Real.log 2)⁻¹) * Fox.k x h (j * 1024 + u) d : ℝ) : EReal) := by
    rw [Fox.coe_sum]
    refine Finset.sum_congr rfl fun d _ => ?_
    rw [R.qs, rows_at, R.k, ← EReal.coe_mul]
  rw [e, bias_at, R.b, ← EReal.coe_mul, ← EReal.coe_add]
  refine congrArg _ ?_
  unfold Fox.τ Fox.X
  rw [sub_mul, Finset.sum_mul, Finset.sum_mul, sub_eq_add_neg, neg_mul]
  exact congrArg (· + _) (Finset.sum_congr rfl fun d _ => by ring)

/-- Below the diagonal. -/
theorem below (j : ℕ) (hj : j < 8) (hi : j < i) (r u : Fin 1024) :
    k0_pay73 (F := Ideal) I.qs (rows I.k j hj) (bias I.b j hj) (ix2 r u) = Fox.Z x h (i * 1024 + r) (j * 1024 + u) := by
  rw [pay73_at, s_at R, Fox.Z, if_pos (by omega)]

/-- On the diagonal. -/
theorem onDiag (hi : i < 8) (r u : Fin 1024) :
    k0_pay94 (F := Ideal) (sD I i hi) (bias I.b i hi) (ix2 r u) = Fox.Z x h (i * 1024 + r) (i * 1024 + u) := by
  rw [pay94_at, sD, pay93_at, s_at R, Fox.Z]
  exact if_congr (by omega) rfl rfl

theorem tileAt_rows (j : ℕ) (hj : j < 8) (hi : j < i) (s : St Ideal) (B : Rows x h i j s.m s.l s.acc) :
    Rows x h i (j + 1) (tileAt I j hj s).m (tileAt I j hj s).l (tileAt I j hj s).acc :=
  B.next hi.le (fun r u => k0_pay73 (F := Ideal) I.qs (rows I.k j hj) (bias I.b j hj) (ix2 r u)) (below R j hj hi)
    (fun u d => rows I.v j hj (ix2 u d)) (fun u d => (rows_at _ _ _ _ _).trans (R.v _ _))
    (fun r d => (pay90_at _ r d).trans (pay74_at ..))
    (fun r d => (pay77_at ..).trans (by dsimp only [tileAt]; simp only [pay90_at]))
    (fun r d => (pay78_at ..).trans (by dsimp only [tileAt]; simp only [pay90_at]))

theorem diagAt_rows (hi : i < 8) (s : St Ideal) (B : Rows x h i i s.m s.l s.acc) :
    Rows x h i (i + 1) (diagAt I i hi s).m (diagAt I i hi s).l (diagAt I i hi s).acc :=
  B.next le_rfl (fun r u => k0_pay94 (F := Ideal) (sD I i hi) (bias I.b i hi) (ix2 r u)) (onDiag R hi)
    (fun u d => rows I.v i hi (ix2 u d)) (fun u d => (rows_at _ _ _ _ _).trans (R.v _ _))
    (fun r d => (pay1_at _ r d).trans (pay95_at ..))
    (fun r d => (pay98_at ..).trans (by dsimp only [diagAt]; simp only [pay1_at]))
    (fun r d => (pay99_at ..).trans (by dsimp only [diagAt]; simp only [pay1_at]))

theorem walk_rows (hi : i < 8) (k : ℕ) (hk : k ≤ i) :
    Rows x h i k (walk I 0 k start).m (walk I 0 k start).l (walk I 0 k start).acc := by
  induction k with
  | zero => exact ⟨fun r d => (pay85_at r d).trans (pay85_at r 0).symm,
      fun r d => Or.inl ⟨rfl, pay85_at r 0, pay86_at r d, fun e => pay87_at r e⟩⟩
  | succ k ih =>
    rw [walk_succ, Nat.zero_add, tile_of_lt I (show k < 8 by omega)]
    exact tileAt_rows R k _ hk _ (ih (by omega))

/-- After the whole walk. -/
theorem point_rows (hi : i < 8) :
    Rows x h i (i + 1) (diagAt I i hi (walk I 0 i start)).m (diagAt I i hi (walk I 0 i start)).l (diagAt I i hi (walk I 0 i start)).acc :=
  diagAt_rows R hi _ (walk_rows R hi i le_rfl)

end Tiles

end Cert.Kernel7Ideal.Hand
end
end
-- ==== Proof.Fwd.Trip.lean ====
/- One pass of each tile loop of the attention-forward kernel, as `tile`s over the accumulators. -/
module

public import proofs.«01_k».proof.Proof.Fwd.Step
public import Idealize.ShloMosaic.Lib.Exec
public import Idealize.ShloMosaic.Lib.Tactic

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen

variable {F : FTy → Type} [FloatOps F] [Named F]

local notation "𝕄G" => MT nD τ sig Unit (Elt F) ℕ (UR sig nD τ) ℕ

/-- A block whose contents read `x`. -/
abbrev Holds (c : Dev nD) {S : Shape} {e : EltTy} (m : Memref sig .tc .vmem S e) (x : Vec F S e) : sProp 𝕄G :=
  iprop(∃ f, (m.view.loc (c : Thread nD τ) ↦[m.view.set]{fullShare} f) ∗ ⌜m.view.read (Elt F) f = x⌝)

/-- What a tile reads and the three accumulators at `s`. -/
abbrev Res (c : Dev nD) (arg3 arg4 : Memref sig .tc .vmem S8192x128 .bf16) (arg5 : Memref sig .tc .vmem S1x8x1x1024 .f32)
    (arg10 arg11 arg12 : Memref sig .tc .vmem S1024x128 .f32) (I : Inp F) (s : St F) : sProp 𝕄G :=
  iprop(Holds c arg3 I.k ∗ Holds c arg4 I.v ∗ Holds c arg5 I.b ∗ Holds c arg10 s.m ∗ Holds c arg11 s.l ∗ Holds c arg12 s.acc)

variable (𝒱 : Variants) (c : Dev nD) (bd : Option 𝒱.V) (E : Set ℕ) (i : grid0.Coords)
  (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x8x1x1024 .f32) (harg5 : arg5.IsWhole)
  (arg6 : Memref sig .tc .vmem S1024x128 .f32) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)

/-- A pass of the loop of single tiles is `tile` at its tile. -/
theorem trip3 (arg1 v33 c0_i32_15 v56 : BitVec 32) (I : Inp F) (s : St F) (k : Fin (k0_t3_loop i).trips) :
    Res c arg3 arg4 arg5 arg10 arg11 arg12 I s
      ⊢ wp frame (wpE (defs₀ (F := F)) 𝒱 (c : Thread nD τ) bd) E
          (k0_t3_body (F := F) i arg2 harg2 arg3 harg3 arg4 harg4 arg5 harg5 arg6 harg6 arg7 harg7 arg8 harg8 arg9 harg9 arg10 harg10 arg11 harg11 arg12 harg12 arg1 I.qs v33 c0_i32_15 v56 k PUnit.unit)
          (fun _ => Res c arg3 arg4 arg5 arg10 arg11 arg12 I (tile I (4 * ((i 1).val / 4) + k.val) s)) := by
  unfold k0_t3_body
  iintro ⟨⟨%f3, H3, %h3⟩, ⟨%f4, H4, %h4⟩, ⟨%f5, H5, %h5⟩, ⟨%f10, H10, %h10⟩, ⟨%f11, H11, %h11⟩, ⟨%f12, H12, %h12⟩⟩
  sl_exec
  sl_step
  have hj : 4 * ((i 1).val / 4) + k.val < 8 := by
    have h1 := k.isLt
    have h2 := t3_trips i
    have h3 : (i 1).val < 8 := (i 1).isLt
    omega
  rw [tile_of_lt I hj]
  isplitl [H3]; · iexists _; isplitl [H3]; · iexact H3
                  ipureintro; exact h3
  isplitl [H4]; · iexists _; isplitl [H4]; · iexact H4
                  ipureintro; exact h4
  isplitl [H5]; · iexists _; isplitl [H5]; · iexact H5
                  ipureintro; exact h5
  have e3 := (View.readAt_unit arg3.view f3 (k0_off5_inb i k) (off5 i k) (rows_in _ hj)).trans (by rw [h3])
  have e4 := (View.readAt_unit arg4.view f4 (k0_off5_inb i k) (off5 i k) (rows_in _ hj)).trans (by rw [h4])
  have e5 := (View.readAt_unit arg5.view f5 (k0_off6_inb i k) (off6 i k) (bias_in _ hj)).trans (by rw [h5])
  have e10 := (View.readAt_full arg10.view f10 inb_S1024x128_S1024x128_0_0).trans h10
  have e11 := (View.readAt_full arg11.view f11 inb_S1024x128_S1024x128_0_0).trans h11
  have e12 := (View.readAt_full arg12.view f12 inb_S1024x128_S1024x128_0_0).trans h12
  have q0 : trip3.sl.r c i arg3 arg5 arg10 I k f3 f5 f10 = k0_pay74 I.qs (rows I.k _ hj) (bias I.b _ hj) s.m := by
    unfold trip3.sl.r; rw [e3, e5, e10]
  have q1 : trip3.sl.r_1 c i arg3 arg4 arg5 arg10 arg12 I k f3 f4 f5 f10 f12
      = k0_pay78 I.qs (rows I.k _ hj) (bias I.b _ hj) s.m s.acc (rows I.v _ hj) := by
    unfold trip3.sl.r_1; rw [e3, e4, e5, e10, e12]
  isplitl [H10]
  · iexists _; isplitl [H10]; · iexact H10
    ipureintro
    refine (View.read_writes_full arg10.view f10 inb_S1024x128_S1024x128_0_0 _ []).trans ?_
    rw [q0]; rfl
  isplitl [H11]
  · iexists _; isplitl [H11]; · iexact H11
    ipureintro
    refine (View.read_writes_full arg11.view f11 inb_S1024x128_S1024x128_0_0 _ []).trans ?_
    rw [e3, e5, e10, e11]; rfl
  iexists _; isplitl [H12]; · iexact H12
  ipureintro
  refine (View.read_writes_full arg12.view f12 inb_S1024x128_S1024x128_0_0 _ []).trans ?_
  rw [q1]; rfl

set_option maxHeartbeats 2000000 in
/-- A pass of the unrolled loop is four `tile`s. -/
theorem trip1 (arg1 v33 c0_i32_15 : BitVec 32) (I : Inp F) (s : St F) (k : Fin (k0_t1_loop i).trips) :
    Res c arg3 arg4 arg5 arg10 arg11 arg12 I s
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg1 I.qs v33 c0_i32_15 k PUnit.unit)
          (fun _ => Res c arg3 arg4 arg5 arg10 arg11 arg12 I (walk I (4 * k.val) 4 s)) := by
  unfold k0_t1_body
  iintro ⟨⟨%f3, H3, %h3⟩, ⟨%f4, H4, %h4⟩, ⟨%f5, H5, %h5⟩, ⟨%f10, H10, %h10⟩, ⟨%f11, H11, %h11⟩, ⟨%f12, H12, %h12⟩⟩
  sl_exec
  sl_step
  isplitl [H3]; · iexists _; isplitl [H3]; · iexact H3
                  ipureintro; exact h3
  isplitl [H4]; · iexists _; isplitl [H4]; · iexact H4
                  ipureintro; exact h4
  isplitl [H5]; · iexists _; isplitl [H5]; · iexact H5
                  ipureintro; exact h5
  have hk := k.isLt
  have ht := t1_trips i
  have hq : (i 1).val < 8 := (i 1).isLt
  have j0 : 4 * k.val + 0 < 8 := by omega
  have o10 : ∀ a, k0_off1 i k 0#32 a + S1024x128.size a ≤ S8192x128.size a := k0_off1_inb i k 0
  have o20 : ∀ a, k0_off2 i k 0#32 a + S1x1x1x1024.size a ≤ S1x8x1x1024.size a := k0_off2_inb i k 0
  have a30 := (View.readAt_unit arg3.view f3 o10 (off1_0 i k) (rows_in _ j0)).trans (by rw [h3])
  have a40 := (View.readAt_unit arg4.view f4 o10 (off1_0 i k) (rows_in _ j0)).trans (by rw [h4])
  have a50 := (View.readAt_unit arg5.view f5 o20 (off2_0 i k) (bias_in _ j0)).trans (by rw [h5])
  have j1 : 4 * k.val + 1 < 8 := by omega
  have o11 : ∀ a, k0_off1 i k 1#32 a + S1024x128.size a ≤ S8192x128.size a := k0_off1_inb i k 1
  have o21 : ∀ a, k0_off2 i k 1#32 a + S1x1x1x1024.size a ≤ S1x8x1x1024.size a := k0_off2_inb i k 1
  have a31 := (View.readAt_unit arg3.view f3 o11 (off1_1 i k) (rows_in _ j1)).trans (by rw [h3])
  have a41 := (View.readAt_unit arg4.view f4 o11 (off1_1 i k) (rows_in _ j1)).trans (by rw [h4])
  have a51 := (View.readAt_unit arg5.view f5 o21 (off2_1 i k) (bias_in _ j1)).trans (by rw [h5])
  have j2 : 4 * k.val + 2 < 8 := by omega
  have o12 : ∀ a, k0_off1 i k 2#32 a + S1024x128.size a ≤ S8192x128.size a := k0_off1_inb i k 2
  have o22 : ∀ a, k0_off2 i k 2#32 a + S1x1x1x1024.size a ≤ S1x8x1x1024.size a := k0_off2_inb i k 2
  have a32 := (View.readAt_unit arg3.view f3 o12 (off1_2 i k) (rows_in _ j2)).trans (by rw [h3])
  have a42 := (View.readAt_unit arg4.view f4 o12 (off1_2 i k) (rows_in _ j2)).trans (by rw [h4])
  have a52 := (View.readAt_unit arg5.view f5 o22 (off2_2 i k) (bias_in _ j2)).trans (by rw [h5])
  have j3 : 4 * k.val + 3 < 8 := by omega
  have o13 : ∀ a, k0_off1 i k 3#32 a + S1024x128.size a ≤ S8192x128.size a := k0_off1_inb i k 3
  have o23 : ∀ a, k0_off2 i k 3#32 a + S1x1x1x1024.size a ≤ S1x8x1x1024.size a := k0_off2_inb i k 3
  have a33 := (View.readAt_unit arg3.view f3 o13 (off1_3 i k) (rows_in _ j3)).trans (by rw [h3])
  have a43 := (View.readAt_unit arg4.view f4 o13 (off1_3 i k) (rows_in _ j3)).trans (by rw [h4])
  have a53 := (View.readAt_unit arg5.view f5 o23 (off2_3 i k) (bias_in _ j3)).trans (by rw [h5])
  have e10 := (View.readAt_full arg10.view f10 inb_S1024x128_S1024x128_0_0).trans h10
  have e11 := (View.readAt_full arg11.view f11 inb_S1024x128_S1024x128_0_0).trans h11
  have e12 := (View.readAt_full arg12.view f12 inb_S1024x128_S1024x128_0_0).trans h12
  rw [walk_four, tile_of_lt I j3, tile_of_lt I j2, tile_of_lt I j1, tile_of_lt I j0]
  have m1 : trip1.sl.v195 c i arg3 arg5 arg10 I k f3 f5 f10 = (tileAt I _ j0 s).m := by
    unfold trip1.sl.v195 trip1.sl.H10_1 trip1.sl.r; rw [View.readCov_full, a30, a50, e10]; rfl
  have l1 : trip1.sl.v206 c i arg3 arg5 arg10 arg11 I k f3 f5 f10 f11 = (tileAt I _ j0 s).l := by
    unfold trip1.sl.v206 trip1.sl.H11_1; rw [View.readCov_full, a30, a50, e10, e11]; rfl
  have c1 : trip1.sl.v215 c i arg3 arg4 arg5 arg10 arg12 I k f3 f4 f5 f10 f12 = (tileAt I _ j0 s).acc := by
    unfold trip1.sl.v215 trip1.sl.H12_1 trip1.sl.r_1 trip1.sl.r_2; rw [View.readCov_full, a30, a40, a50, e10, e12]; rfl
  generalize tileAt I _ j0 s = s1 at m1 l1 c1 ⊢
  have m2 : trip1.sl.v242 c i arg3 arg5 arg10 I k f3 f5 f10 = (tileAt I _ j1 s1).m := by
    unfold trip1.sl.v242 trip1.sl.H10_2 trip1.sl.r_3; rw [View.readCov_full, a31, a51, m1]; rfl
  have l2 : trip1.sl.v253 c i arg3 arg5 arg10 arg11 I k f3 f5 f10 f11 = (tileAt I _ j1 s1).l := by
    unfold trip1.sl.v253 trip1.sl.H11_2 trip1.sl.r_6 trip1.sl.r_7; rw [View.readCov_full, a31, a51, m1, l1]; rfl
  have c2 : trip1.sl.v262 c i arg3 arg4 arg5 arg10 arg12 I k f3 f4 f5 f10 f12 = (tileAt I _ j1 s1).acc := by
    unfold trip1.sl.v262 trip1.sl.H12_2 trip1.sl.r_4 trip1.sl.r_5; rw [View.readCov_full, a31, a41, a51, m1, c1]; rfl
  generalize tileAt I _ j1 s1 = s2 at m2 l2 c2 ⊢
  have r8 : trip1.sl.r_8 c i arg3 arg5 I k f3 f5 = k0_pay23 I.qs (rows I.k _ j2) (bias I.b _ j2) := by
    unfold trip1.sl.r_8; rw [a32, a52]
  have r9 : trip1.sl.r_9 c i arg3 arg5 I k f3 f5 = k0_pay24 I.qs (rows I.k _ j2) (bias I.b _ j2) := by
    unfold trip1.sl.r_9; rw [a32, a52]
  have n3 : trip1.sl.v246 c i arg3 arg5 arg10 I k f3 f5 f10 = k0_pay74 I.qs (rows I.k _ j2) (bias I.b _ j2) s2.m := by
    unfold trip1.sl.v246 trip1.sl.v245; rw [r9, m2]; rfl
  have p3 : trip1.sl.v252 c i arg3 arg5 arg10 I k f3 f5 f10 = k0_pay76 I.qs (rows I.k _ j2) (bias I.b _ j2) s2.m := by
    unfold trip1.sl.v252 trip1.sl.v251 trip1.sl.v250 trip1.sl.v249; rw [r8, n3]; rfl
  have w3 : trip1.sl.v248 c i arg3 arg5 arg10 I k f3 f5 f10 = k0_pay75 I.qs (rows I.k _ j2) (bias I.b _ j2) s2.m := by
    unfold trip1.sl.v248 trip1.sl.v247; rw [n3, m2]; rfl
  have m3 : trip1.sl.v289 c i arg3 arg5 arg10 I k f3 f5 f10 = (tileAt I _ j2 s2).m := by
    unfold trip1.sl.v289 trip1.sl.H10_3 trip1.sl.v274; rw [View.readCov_full, n3]; rfl
  have l3 : trip1.sl.v300 c i arg3 arg5 arg10 arg11 I k f3 f5 f10 f11 = (tileAt I _ j2 s2).l := by
    unfold trip1.sl.v300 trip1.sl.H11_3 trip1.sl.v261 trip1.sl.v258 trip1.sl.v257 trip1.sl.v256 trip1.sl.v255 trip1.sl.v254
    rw [View.readCov_full, w3, p3, l2]; rfl
  have c3 : trip1.sl.v309 c i arg3 arg4 arg5 arg10 arg12 I k f3 f4 f5 f10 f12 = (tileAt I _ j2 s2).acc := by
    unfold trip1.sl.v309 trip1.sl.H12_3 trip1.sl.v271 trip1.sl.v268 trip1.sl.v267 trip1.sl.v264 trip1.sl.v263
    rw [View.readCov_full, w3, p3, a42, c2]; rfl
  generalize tileAt I _ j2 s2 = s3 at m3 l3 c3 ⊢
  have d3 : trip1.sl.v281 c i arg3 I k f3 = k0_pay93 I.qs (rows I.k _ j3) := by
    unfold trip1.sl.v281; rw [a33]; rfl
  isplitl [H10]
  · iexists _; isplitl [H10]; · iexact H10
    ipureintro
    refine (View.read_writes_full arg10.view f10 inb_S1024x128_S1024x128_0_0 _ _).trans ?_
    unfold trip1.sl.r_10
    rw [d3, a53, m3]; rfl
  isplitl [H11]
  · iexists _; isplitl [H11]; · iexact H11
    ipureintro
    refine (View.read_writes_full arg11.view f11 inb_S1024x128_S1024x128_0_0 _ _).trans ?_
    rw [d3, a53, m3, l3]; rfl
  iexists _; isplitl [H12]; · iexact H12
  ipureintro
  refine (View.read_writes_full arg12.view f12 inb_S1024x128_S1024x128_0_0 _ _).trans ?_
  rw [d3, a43, a53, m3, c3]; rfl

end Cert.Kernel7Ideal.Hand

end
-- ==== Proof.Fwd.Parts.lean ====
/- The stretches of the attention-forward kernel's body: the clearing, the two tile loops, the diagonal tile. -/
module

public import proofs.«01_k».proof.Proof.Fwd.Trip
public import Idealize.ShloMosaic.Lib.Exec
public import Idealize.ShloMosaic.Lib.Tactic

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x8x1x1024 .f32) (harg5 : arg5.IsWhole)
  (arg6 : Memref sig .tc .vmem S1024x128 .f32) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)

/-- The unrolled loop takes the tiles before the last multiple of four. -/
theorem loop1 (arg1 v33 c0_i32_15 : BitVec 32) (I : Inp F) (s : St F) :
    Res c arg3 arg4 arg5 arg10 arg11 arg12 I s
      ⊢ wp frame (wpE (defs₀ (F := F)) 𝒱 (c : Thread nD τ) bd) E (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 arg1 I.qs v33 c0_i32_15))
          (fun _ => Res c arg3 arg4 arg5 arg10 arg11 arg12 I (walk I 0 (4 * ((i 1).val / 4)) s)) := by
  iintro H
  iapply (Scf.wp_for frame (wpE (defs₀ (F := F)) 𝒱 (c : Thread nD τ) bd) E _ _ _ (k0_t1_ok i) _ _
    (fun k _ => Res c arg3 arg4 arg5 arg10 arg11 arg12 I (walk I 0 (4 * k) s))
    (fun k acc => (trip1 𝒱 c bd E i arg2 harg2 arg3 harg3 arg4 harg4 arg5 harg5 arg6 harg6 arg7 harg7 arg8 harg8 arg9 harg9 arg10 harg10 arg11 harg11 arg12 harg12 arg1 v33 c0_i32_15 I (walk I 0 (4 * k.val) s) k).trans
      (wp_mono _ _ _ fun _ => by
        rw [show 4 * (k.val + 1) = 4 * k.val + 4 by omega, walk_add, Nat.zero_add])))
  isplitl [H]
  · iexact H
  · iintro %_ H
    rw [show Scf.trips (k0_t1_loop i).lb (k0_t1_loop i).ub (k0_t1_loop i).st = (i 1).val / 4 from t1_trips i]
    iexact H

/-- The loop of single tiles takes the rest of the tiles before the diagonal one. -/
theorem loop3 (arg1 v33 c0_i32_15 v56 : BitVec 32) (I : Inp F) (s : St F) :
    Res c arg3 arg4 arg5 arg10 arg11 arg12 I s
      ⊢ wp frame (wpE (defs₀ (F := F)) 𝒱 (c : Thread nD τ) bd) E (Scf.Loop.for (k0_t3_loop i) (k0_t3_ok i) ⟨⟩ (k0_t3_body (F := F) i arg2 harg2 arg3 harg3 arg4 harg4 arg5 harg5 arg6 harg6 arg7 harg7 arg8 harg8 arg9 harg9 arg10 harg10 arg11 harg11 arg12 harg12 arg1 I.qs v33 c0_i32_15 v56))
          (fun _ => Res c arg3 arg4 arg5 arg10 arg11 arg12 I (walk I (4 * ((i 1).val / 4)) ((i 1).val % 4) s)) := by
  iintro H
  iapply (Scf.wp_for frame (wpE (defs₀ (F := F)) 𝒱 (c : Thread nD τ) bd) E _ _ _ (k0_t3_ok i) _ _
    (fun k _ => Res c arg3 arg4 arg5 arg10 arg11 arg12 I (walk I (4 * ((i 1).val / 4)) k s))
    (fun k acc => (trip3 𝒱 c bd E i arg2 harg2 arg3 harg3 arg4 harg4 arg5 harg5 arg6 harg6 arg7 harg7 arg8 harg8 arg9 harg9 arg10 harg10 arg11 harg11 arg12 harg12 arg1 v33 c0_i32_15 v56 I (walk I (4 * ((i 1).val / 4)) k.val s) k).trans
      (wp_mono _ _ _ fun _ => by rw [walk_succ])))
  isplitl [H]
  · iexact H
  · iintro %_ H
    rw [show Scf.trips (k0_t3_loop i).lb (k0_t3_loop i).ub (k0_t3_loop i).st = (i 1).val % 4 from t3_trips i]
    iexact H

theorem loop2 (arg1 v33 c0_i32_15 v38 : BitVec 32) (v16 : FVec F S1024x128 .bf16) (P : sProp 𝕄G) :
    P ⊢ wp frame (wpE (defs₀ (F := F)) 𝒱 (c : Thread nD τ) bd) E (Scf.Loop.for (k0_t2_loop i) (k0_t2_ok i) ⟨⟩ (k0_t2_body (F := F) i arg2 harg2 arg3 harg3 arg4 harg4 arg5 harg5 arg6 harg6 arg7 harg7 arg8 harg8 arg9 harg9 arg10 harg10 arg11 harg11 arg12 harg12 arg1 v16 v33 c0_i32_15 v38))
          (fun _ => P) := by
  iintro H
  iapply (Scf.wp_for frame (wpE (defs₀ (F := F)) 𝒱 (c : Thread nD τ) bd) E _ _ _ (k0_t2_ok i) _ _
    (fun _ _ => P) (fun k _ => absurd k.isLt (by have h : Scf.trips (k0_t2_loop i).lb (k0_t2_loop i).ub (k0_t2_loop i).st = 0 := t2_trips i
                                                 omega)))
  isplitl [H]
  · iexact H
  · iintro %_ H; iexact H

theorem loop4 (arg1 v33 c0_i32_15 v61 : BitVec 32) (v16 : FVec F S1024x128 .bf16) (P : sProp 𝕄G) :
    P ⊢ wp frame (wpE (defs₀ (F := F)) 𝒱 (c : Thread nD τ) bd) E (Scf.Loop.for (k0_t4_loop i) (k0_t4_ok i) ⟨⟩ (k0_t4_body (F := F) i arg2 harg2 arg3 harg3 arg4 harg4 arg5 harg5 arg6 harg6 arg7 harg7 arg8 harg8 arg9 harg9 arg10 harg10 arg11 harg11 arg12 harg12 arg1 v16 v33 c0_i32_15 v61))
          (fun _ => P) := by
  iintro H
  iapply (Scf.wp_for frame (wpE (defs₀ (F := F)) 𝒱 (c : Thread nD τ) bd) E _ _ _ (k0_t4_ok i) _ _
    (fun _ _ => P) (fun k _ => absurd k.isLt (by have h : Scf.trips (k0_t4_loop i).lb (k0_t4_loop i).ub (k0_t4_loop i).st = 0 := t4_trips i
                                                 omega)))
  isplitl [H]
  · iexact H
  · iintro %_ H; iexact H

/-- What a point reads: the queries scaled, the keys, the values, the key bias. -/
abbrev inp (q : Vec F S1024x128 .bf16) (k v : Vec F S8192x128 .bf16) (b : Vec F S1x8x1x1024 .f32) : Inp F := ⟨k0_pay88 q, k, v, b⟩

/-- The accumulators are cleared, the queries scaled. -/
theorem part13 (q : Vec F S1024x128 .bf16) (k v : Vec F S8192x128 .bf16) (b : Vec F S1x8x1x1024 .f32) (s : St F) :
    iprop(Holds c arg2 q ∗ Res c arg3 arg4 arg5 arg10 arg11 arg12 (inp q k v b) s)
      ⊢ wp frame (wpE (defs₀ (F := F)) 𝒱 (c : Thread nD τ) bd) E (k0_part13 (F := F) i arg2 harg2 arg3 harg3 arg4 harg4 arg5 harg5 arg6 harg6 arg7 harg7 arg8 harg8 arg9 harg9 arg10 harg10 arg11 harg11 arg12 harg12)
          (fun r => iprop((∃ v33 : BitVec 32, ⌜r = ⟨BitVec.ofNat 32 (i 1).val, k0_pay88 q, v33, 0#32⟩⌝)
            ∗ Holds c arg2 q ∗ Res c arg3 arg4 arg5 arg10 arg11 arg12 (inp q k v b) start)) := by
  rw [k0_part13_eq_skeleton]; unfold k0_part13_skel
  iintro ⟨⟨%f2, H2, %h2⟩, H3, H4, H5, ⟨%f10, H10, %h10⟩, ⟨%f11, H11, %h11⟩, ⟨%f12, H12, %h12⟩⟩
  have e2 := (View.readAt_full arg2.view f2 inb_S1024x128_S1024x128_0_0).trans h2
  sl_exec
  sl_step
  isplitr
  · iexists _; ipureintro; rfl
  isplitl [H2]; · iexists _; isplitl [H2]; · iexact H2
                  ipureintro; exact h2
  isplitl [H3]; · iexact H3
  isplitl [H4]; · iexact H4
  isplitl [H5]; · iexact H5
  isplitl [H10]
  · iexists _; isplitl [H10]; · iexact H10
    ipureintro
    exact View.read_writes_full arg10.view f10 inb_S1024x128_S1024x128_0_0 _ []
  isplitl [H11]
  · iexists _; isplitl [H11]; · iexact H11
    ipureintro
    exact View.read_writes_full arg11.view f11 inb_S1024x128_S1024x128_0_0 _ []
  iexists _; isplitl [H12]; · iexact H12
  ipureintro
  exact View.read_writes_full arg12.view f12 inb_S1024x128_S1024x128_0_0 _ []

set_option maxHeartbeats 2000000 in
/-- The tiles below the diagonal, and the scores of the one on it. -/
theorem part14 (arg1 v33 c0_i32_15 : BitVec 32) (I : Inp F) (s : St F) :
    Res c arg3 arg4 arg5 arg10 arg11 arg12 I s
      ⊢ wp frame (wpE (defs₀ (F := F)) 𝒱 (c : Thread nD τ) bd) E (k0_part14 (F := F) i arg2 harg2 arg3 harg3 arg4 harg4 arg5 harg5 arg6 harg6 arg7 harg7 arg8 harg8 arg9 harg9 arg10 harg10 arg11 harg11 arg12 harg12 arg1 I.qs v33 c0_i32_15)
          (fun r => iprop(⌜r.2.1 = sD I _ (i 1).isLt⌝ ∗ ⌜r.2.2 = bias I.b _ (i 1).isLt⌝
            ∗ Res c arg3 arg4 arg5 arg10 arg11 arg12 I (walk I (4 * ((i 1).val / 4)) ((i 1).val % 4) (walk I 0 (4 * ((i 1).val / 4)) s)))) := by
  rw [k0_part14_eq_skeleton]; unfold k0_part14_skel
  rw [wp_bind]
  refine (loop1 𝒱 c bd E i arg2 harg2 arg3 harg3 arg4 harg4 arg5 harg5 arg6 harg6 arg7 harg7 arg8 harg8 arg9 harg9 arg10 harg10 arg11 harg11 arg12 harg12 arg1 v33 c0_i32_15 I s).trans (wp_mono _ _ _ fun _ => ?_)
  rw [wp_bind]
  refine (loop2 𝒱 c bd E i arg2 harg2 arg3 harg3 arg4 harg4 arg5 harg5 arg6 harg6 arg7 harg7 arg8 harg8 arg9 harg9 arg10 harg10 arg11 harg11 arg12 harg12 arg1 v33 c0_i32_15 _ I.qs _).trans (wp_mono _ _ _ fun _ => ?_)
  rw [wp_bind]
  refine (loop3 𝒱 c bd E i arg2 harg2 arg3 harg3 arg4 harg4 arg5 harg5 arg6 harg6 arg7 harg7 arg8 harg8 arg9 harg9 arg10 harg10 arg11 harg11 arg12 harg12 arg1 v33 c0_i32_15 _ I _).trans (wp_mono _ _ _ fun _ => ?_)
  rw [wp_bind]
  refine (loop4 𝒱 c bd E i arg2 harg2 arg3 harg3 arg4 harg4 arg5 harg5 arg6 harg6 arg7 harg7 arg8 harg8 arg9 harg9 arg10 harg10 arg11 harg11 arg12 harg12 arg1 v33 c0_i32_15 _ I.qs _).trans (wp_mono _ _ _ fun _ => ?_)
  generalize walk I (4 * ((i 1).val / 4)) ((i 1).val % 4) _ = s'
  iintro ⟨⟨%f3, H3, %h3⟩, H4, ⟨%f5, H5, %h5⟩, H10, H11, H12⟩
  sl_exec
  sl_step
  have e3 := (View.readAt_unit arg3.view f3 (k0_off9_inb i) (off9 i) (rows_in _ (i 1).isLt)).trans (by rw [h3])
  have e5 := (View.readAt_unit arg5.view f5 (k0_off10_inb i) (off10 i) (bias_in _ (i 1).isLt)).trans (by rw [h5])
  isplitr
  · ipureintro; show k0_pay93 _ _ = _; rw [e3]
  isplitr
  · ipureintro; exact e5
  isplitl [H3]; · iexists _; isplitl [H3]; · iexact H3
                  ipureintro; exact h3
  isplitl [H4]; · iexact H4
  isplitl [H5]; · iexists _; isplitl [H5]; · iexact H5
                  ipureintro; exact h5
  isplitl [H10]; · iexact H10
  isplitl [H11]; · iexact H11
  iexact H12

/-- The diagonal tile, its largest score not yet stored. -/
theorem part15 (v63 : BitVec 32) (I : Inp F) (s : St F) :
    Res c arg3 arg4 arg5 arg10 arg11 arg12 I s
      ⊢ wp frame (wpE (defs₀ (F := F)) 𝒱 (c : Thread nD τ) bd) E (k0_part15 (F := F) i arg2 harg2 arg3 harg3 arg4 harg4 arg5 harg5 arg6 harg6 arg7 harg7 arg8 harg8 arg9 harg9 arg10 harg10 arg11 harg11 arg12 harg12 v63 (sD I _ (i 1).isLt) (bias I.b _ (i 1).isLt))
          (fun r => iprop(⌜k0_pay1 r = (diagAt I _ (i 1).isLt s).m⌝
            ∗ Res c arg3 arg4 arg5 arg10 arg11 arg12 I ⟨s.m, (diagAt I _ (i 1).isLt s).l, (diagAt I _ (i 1).isLt s).acc⟩)) := by
  rw [k0_part15_eq_skeleton]; unfold k0_part15_skel
  iintro ⟨H3, ⟨%f4, H4, %h4⟩, H5, ⟨%f10, H10, %h10⟩, ⟨%f11, H11, %h11⟩, ⟨%f12, H12, %h12⟩⟩
  sl_exec
  sl_step
  have e4 := (View.readAt_unit arg4.view f4 (k0_off9_inb i) (off9 i) (rows_in _ (i 1).isLt)).trans (by rw [h4])
  have e10 := (View.readAt_full arg10.view f10 inb_S1024x128_S1024x128_0_0).trans h10
  have e11 := (View.readAt_full arg11.view f11 inb_S1024x128_S1024x128_0_0).trans h11
  have e12 := (View.readAt_full arg12.view f12 inb_S1024x128_S1024x128_0_0).trans h12
  isplitr
  · ipureintro; rw [e10]; rfl
  isplitl [H3]; · iexact H3
  isplitl [H4]; · iexists _; isplitl [H4]; · iexact H4
                  ipureintro; exact h4
  isplitl [H5]; · iexact H5
  isplitl [H10]; · iexists _; isplitl [H10]; · iexact H10
                   ipureintro; exact h10
  isplitl [H11]
  · iexists _; isplitl [H11]; · iexact H11
    ipureintro
    refine (View.read_writes_full arg11.view f11 inb_S1024x128_S1024x128_0_0 _ []).trans ?_
    rw [e10, e11]; rfl
  iexists _; isplitl [H12]; · iexact H12
  ipureintro
  refine (View.read_writes_full arg12.view f12 inb_S1024x128_S1024x128_0_0 _ []).trans ?_
  rw [e4, e10, e12]; rfl

end Cert.Kernel7Ideal.Hand

end
-- ==== Proof.Fwd.Body.lean ====
/- The attention-forward kernel's body at a point of its grid. -/
module

public import proofs.«01_k».proof.Proof.Fwd.Parts
public import Idealize.ShloMosaic.Lib.Exec
public import Idealize.ShloMosaic.Lib.Tactic

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x8x1x1024 .f32) (harg5 : arg5.IsWhole)
  (arg6 : Memref sig .tc .vmem S1024x128 .f32) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)

set_option maxHeartbeats 2000000 in
/-- The body at a point. -/
theorem body (q : Vec F S1024x128 .bf16) (k v : Vec F S8192x128 .bf16) (b : Vec F S1x8x1x1024 .f32) (g : Vec F S1024x128 .f32) (s : St F) :
    iprop((Holds c arg2 q ∗ Res c arg3 arg4 arg5 arg10 arg11 arg12 (inp q k v b) s)
        ∗ Holds c arg6 g ∗ (∃ x7, Holds c arg7 x7) ∗ (∃ x8, Holds c arg8 x8) ∗ (∃ x9, Holds c arg9 x9))
      ⊢ wp frame (wpE (defs₀ (F := F)) 𝒱 (c : Thread nD τ) bd) E (cc0_flash_fwd (F := F) i arg2 harg2 arg3 harg3 arg4 harg4 arg5 harg5 arg6 harg6 arg7 harg7 arg8 harg8 arg9 harg9 arg10 harg10 arg11 harg11 arg12 harg12)
          (fun _ => iprop((Holds c arg2 q ∗ Res c arg3 arg4 arg5 arg10 arg11 arg12 (inp q k v b) (point i (inp q k v b)))
            ∗ Holds c arg6 g ∗ Holds c arg7 (k0_pay4 (point i (inp q k v b)).l (point i (inp q k v b)).acc g)
            ∗ Holds c arg8 (k0_pay2 (point i (inp q k v b)).l (point i (inp q k v b)).acc) ∗ Holds c arg9 (k0_pay3 (point i (inp q k v b)).l (point i (inp q k v b)).m))) := by
  rw [cc0_flash_fwd_eq_skeleton]; unfold cc0_flash_fwd_skel
  iintro ⟨H, Ho⟩
  rw [wp_bind]
  iapply (wp_wand_r frame (wpE (defs₀ (F := F)) 𝒱 (c : Thread nD τ) bd) E)
  isplitl [H]
  · iapply (part13 𝒱 c bd E i arg2 harg2 arg3 harg3 arg4 harg4 arg5 harg5 arg6 harg6 arg7 harg7 arg8 harg8 arg9 harg9 arg10 harg10 arg11 harg11 arg12 harg12 q k v b s); iexact H
  iintro %r ⟨⟨%v33, %hr⟩, H2, H⟩
  subst hr
  dsimp only
  rw [wp_bind]
  iapply (wp_wand_r frame (wpE (defs₀ (F := F)) 𝒱 (c : Thread nD τ) bd) E)
  isplitl [H]
  · iapply (part14 𝒱 c bd E i arg2 harg2 arg3 harg3 arg4 harg4 arg5 harg5 arg6 harg6 arg7 harg7 arg8 harg8 arg9 harg9 arg10 harg10 arg11 harg11 arg12 harg12 _ _ _ (inp q k v b) start); iexact H
  rw [show walk (inp q k v b) (4 * ((i 1).val / 4)) ((i 1).val % 4) (walk (inp q k v b) 0 (4 * ((i 1).val / 4)) start) = walk (inp q k v b) 0 (i 1).val start by
    have h := walk_add (inp q k v b) 0 (4 * ((i 1).val / 4)) ((i 1).val % 4) start
    rw [Nat.zero_add] at h
    rw [← h, Nat.div_add_mod]]
  iintro %r ⟨%h66, %h68, H⟩
  obtain ⟨v63, v66, v68⟩ := r
  dsimp only at h66 h68 ⊢
  subst h66 h68
  rw [wp_bind]
  iapply (wp_wand_r frame (wpE (defs₀ (F := F)) 𝒱 (c : Thread nD τ) bd) E)
  isplitl [H]
  · iapply (part15 𝒱 c bd E i arg2 harg2 arg3 harg3 arg4 harg4 arg5 harg5 arg6 harg6 arg7 harg7 arg8 harg8 arg9 harg9 arg10 harg10 arg11 harg11 arg12 harg12 v63 (inp q k v b) (walk (inp q k v b) 0 (i 1).val start)); iexact H
  iintro %r ⟨%hr, H⟩
  rw [show diagAt (inp q k v b) _ (i 1).isLt (walk (inp q k v b) 0 (i 1).val start) = point i (inp q k v b) from rfl] at hr ⊢
  generalize point i (inp q k v b) = s' at hr ⊢
  icases Ho with ⟨⟨%f6, H6, %h6⟩, ⟨%x7, %f7, H7, %h7⟩, ⟨%x8, %f8, H8, %h8⟩, ⟨%x9, %f9, H9, %h9⟩⟩
  icases H with ⟨H3, H4, H5, ⟨%f10, H10, %h10⟩, ⟨%f11, H11, %h11⟩, ⟨%f12, H12, %h12⟩⟩
  have e6 := (View.readAt_full arg6.view f6 inb_S1024x128_S1024x128_0_0).trans h6
  have e11 := (View.readAt_full arg11.view f11 inb_S1024x128_S1024x128_0_0).trans h11
  have e12 := (View.readAt_full arg12.view f12 inb_S1024x128_S1024x128_0_0).trans h12
  sl_exec
  sl_step
  isplitr [H6 H7 H8 H9]
  · isplitl [H2]; · iexact H2
    isplitl [H3]; · iexact H3
    isplitl [H4]; · iexact H4
    isplitl [H5]; · iexact H5
    isplitl [H10]
    · iexists _; isplitl [H10]; · iexact H10
      ipureintro
      exact (View.read_writes_full arg10.view f10 inb_S1024x128_S1024x128_0_0 _ []).trans hr
    isplitl [H11]
    · iexists _; isplitl [H11]; · iexact H11
      ipureintro; exact h11
    iexists _; isplitl [H12]; · iexact H12
    ipureintro; exact h12
  isplitl [H6]; · iexists _; isplitl [H6]; · iexact H6
                  ipureintro; exact h6
  isplitl [H7]
  · iexists _; isplitl [H7]; · iexact H7
    ipureintro
    refine (View.read_writes_full arg7.view f7 inb_S1024x128_S1024x128_0_0 _ []).trans ?_
    rfl
  isplitl [H8]
  · iexists _; isplitl [H8]; · iexact H8
    ipureintro
    refine (View.read_writes_full arg8.view f8 inb_S1024x128_S1024x128_0_0 _ []).trans ?_
    rfl
  iexists _; isplitl [H9]; · iexact H9
  ipureintro
  refine (View.read_writes_full arg9.view f9 inb_S1024x128_S1024x128_0_0 _ []).trans ?_
  unfold body.sl.v117 body.sl.H10_1
  rw [View.readCov_full, hr]

end Cert.Kernel7Ideal.Hand

end
-- ==== Proof.Fwd.Oblig.lean ====
/- The attention-forward kernel's body at a point, over the blocks of its windows. -/
module

public import proofs.«01_k».proof.Proof.Fwd.Body

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel7Ideal Cert.Kernel7Ideal.Gen

variable {F : FTy → Type} [FloatOps F] [Named F]

local notation "𝕄G" => MT nD τ sig Unit (Elt F) ℕ (UR sig nD τ) ℕ

variable (m : (ℓ : Loc nD τ sig) → Buf (Elt F) ℓ)

/-- What point `t` reads, from the blocks of its windows. -/
def inpAt (c : Dev nD) (t : Fin cfg0.N) : Inp F :=
  inp (iblk m c 0 t : Vec F S1024x128 .bf16) (iblk m c 1 t : Vec F S8192x128 .bf16) (iblk m c 2 t : Vec F S8192x128 .bf16)
    (iblk m c 3 t : Vec F S1x8x1x1024 .f32)

/-- The accumulators point `t` leaves. -/
def stAt (c : Dev nD) (t : Fin cfg0.N) : St F := point (grid0.coords t) (inpAt m c t)

/-- The proof data: the arrays as launched, what each window's block holds after a point; nothing is kept between points. -/
def dat (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => k0_pay4 (stAt m c t).l (stAt m c t).acc (iblk m c 4 t : Vec F S1024x128 .f32)
    | 6 => fun t => k0_pay2 (stAt m c t).l (stAt m c t).acc
    | 7 => fun t => k0_pay3 (stAt m c t).l (stAt m c t).m
  Φ _ := Pipeline.ΦA spec0 c
  q w := Pipeline.shareOf spec0 w
  owed _ := 0

theorem before0 (c : Dev nD) (t : Fin cfg0.N) (d) : (dat m 0 c).before 0 t d = iblk m c 0 t :=
  before0_0_of m (dat m 0 c) rfl (fun _ => by dsimp only [dat]) t d
theorem before1 (c : Dev nD) (t : Fin cfg0.N) (d) : (dat m 0 c).before 1 t d = iblk m c 1 t :=
  before0_1_of m (dat m 0 c) rfl (fun _ => by dsimp only [dat]) t d
theorem before2 (c : Dev nD) (t : Fin cfg0.N) (d) : (dat m 0 c).before 2 t d = iblk m c 2 t :=
  before0_2_of m (dat m 0 c) rfl (fun _ => by dsimp only [dat]) t d
theorem before3 (c : Dev nD) (t : Fin cfg0.N) (d) : (dat m 0 c).before 3 t d = iblk m c 3 t :=
  before0_3_of m (dat m 0 c) rfl (fun _ => by dsimp only [dat]) t d
theorem before4 (c : Dev nD) (t : Fin cfg0.N) (d) : (dat m 0 c).before 4 t d = iblk m c 4 t :=
  before0_4_of m (dat m 0 c) rfl (fun _ => by dsimp only [dat]) t d

/-- A block held reads its contents: the two ways round. -/
theorem holds_of_owns (c : Dev nD) {S : Shape} {e : EltTy} (a : Memref sig .tc .vmem S e) (x : Vec F S e) :
    owns (c : Thread nD τ) a fullShare x ⊢ (Holds c a x : sProp 𝕄G) := by
  unfold owns
  iintro ⟨%f, %h, H⟩
  iexists f; isplitl [H]; · iexact H
  ipureintro; exact h

theorem owns_of_holds (c : Dev nD) {S : Shape} {e : EltTy} (a : Memref sig .tc .vmem S e) (x : Vec F S e) :
    (Holds c a x : sProp 𝕄G) ⊢ owns (c : Thread nD τ) a fullShare x := by
  unfold owns
  iintro ⟨%f, H, %h⟩
  iexists f; isplitr; · ipureintro; exact h
  iexact H

/-- The scratch, whatever it holds. -/
def Scr (c : Dev nD) : sProp 𝕄G :=
  iprop(((∃ x, Holds c (Memref.whole cc0_scratch0) x) ∗ (∃ x, Holds c (Memref.whole cc0_scratch1) x)
    ∗ (∃ x, Holds c (Memref.whole cc0_scratch2) x)) ∗ ∃ r, prngReg c r)

theorem scr_in (c : Dev nD) : (Pipeline.ΦA spec0 c : sProp 𝕄G) ⊢ Scr c := by
  unfold Pipeline.ΦA Scr
  rw [scopedRest0_eq]
  unfold Holds
  simp only [owns, Memref.view_whole, View.read_whole, View.set_whole]
  iintro ⟨⟨⟨%f0, H0⟩, ⟨%f1, H1⟩, ⟨%f2, H2⟩⟩, Hr⟩
  isplitr [Hr]
  · isplitl [H0]; · iexists f0, f0; isplitl [H0]; · iexact H0
                    ipureintro; rfl
    isplitl [H1]; · iexists f1, f1; isplitl [H1]; · iexact H1
                    ipureintro; rfl
    iexists f2, f2; isplitl [H2]; · iexact H2
    ipureintro; rfl
  iexact Hr

theorem scr_out (c : Dev nD) : (Scr c : sProp 𝕄G) ⊢ Pipeline.ΦA spec0 c := by
  unfold Pipeline.ΦA Scr
  rw [scopedRest0_eq]
  unfold Holds
  simp only [owns, Memref.view_whole, View.read_whole, View.set_whole]
  iintro ⟨⟨⟨%x0, %f0, H0, -⟩, ⟨%x1, %f1, H1, -⟩, ⟨%x2, %f2, H2, -⟩⟩, Hr⟩
  isplitr [Hr]
  · isplitl [H0]; · iexists f0; iexact H0
    isplitl [H1]; · iexists f1; iexact H1
    iexists f2; iexact H2
  iexact Hr

/-- A window that is never idle is handed back at what the body leaves. -/
theorem leaves_of (c : Dev nD) (t : Fin cfg0.N) (w : Fin cfg0.W) (hi : cfg0.idle w (cfg0.grid.coords t) = false) :
    owns (c : Thread nD τ) ((cfg0.win w).stage (cfg0.slots t w)) fullShare ((dat m 0 c).after w t) ⊢ ((dat m 0 c).leavesExact w t : sProp 𝕄G) := by
  unfold Dat.leavesExact; rw [hi]

set_option maxHeartbeats 1000000 in
/-- The body over the blocks it is handed. -/
theorem body_obl (c : Dev nD) : BodyObligation (dat m 0 c) (defs₀ (F := F)) Variants.none () Set.univ := fun t => by
  rw [bigSep_W0]
  rw [show (dat m 0 c).owesAt () t.succ = (dat m 0 c).owesAt () t.castSucc from rfl,
    show (dat m 0 c).Φ t.castSucc = Pipeline.ΦA spec0 c by dsimp only [dat],
    show (dat m 0 c).Φ t.succ = Pipeline.ΦA spec0 c by dsimp only [dat]]
  rw [show (defs₀ (F := F)) .tc cfg0.body (cfg0.bodyArgs t (cfg0.slots t)) = bodyAt0 t from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := scr_in c $$ HΦ
  unfold Scr
  icases HΦ with ⟨⟨⟨%x10, H10⟩, ⟨%x11, H11⟩, ⟨%x12, H12⟩⟩, Hr⟩
  rw [before0, before1, before2, before3, before4]
  have hb := body (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) ⟨x10, x11, x12⟩
  change _ ⊢ wp _ _ _ (bodyAt0 t) _ at hb
  have hst : point (grid0.coords t) (inpAt m c t) = stAt m c t := rfl
  unfold inpAt at hst
  rw [hst] at hb
  dsimp only [inp] at hb
  iapply (wp_wand_r Idealize.ShloMosaic.frame (wpE (defs₀ (F := F)) Variants.none (c : Thread nD τ) none) Set.univ)
  isplitl [H0 H1 H2 H3 H4 H5 H6 H7 H10 H11 H12]
  · iapply hb
    isplitr [H4 H5 H6 H7]
    · isplitl [H0]; · iapply holds_of_owns c (st0_0 t); iexact H0
      isplitl [H1]; · iapply holds_of_owns c (st0_1 t); iexact H1
      isplitl [H2]; · iapply holds_of_owns c (st0_2 t); iexact H2
      isplitl [H3]; · iapply holds_of_owns c (st0_3 t); iexact H3
      isplitl [H10]; · iexact H10
      isplitl [H11]; · iexact H11
      iexact H12
    isplitl [H4]; · iapply holds_of_owns c (st0_4 t); iexact H4
    isplitl [H5]; · iexists _; iapply holds_of_owns c (st0_5 t); iexact H5
    isplitl [H6]; · iexists _; iapply holds_of_owns c (st0_6 t); iexact H6
    iexists _; iapply holds_of_owns c (st0_7 t); iexact H7
  iintro %_ ⟨⟨H0, H1, H2, H3, H10, H11, H12⟩, H4, H5, H6, H7⟩
  isplitl [H10 H11 H12 Hr]
  · iapply scr_out c
    unfold Scr
    isplitr [Hr]
    · isplitl [H10]; · iexists _; iexact H10
      isplitl [H11]; · iexists _; iexact H11
      iexists _; iexact H12
    iexact Hr
  isplitl [Ho]; · iexact Ho
  iapply (show (bigSep Finset.univ fun w : Fin cfg0.W => (dat m 0 c).leavesExact w t) ⊢ _ from .rfl)
  rw [bigSep_W0]
  isplitl [H0]
  · iapply leaves_of m c t 0 rfl; dsimp only [dat]; iapply owns_of_holds c (st0_0 t); iexact H0
  isplitl [H1]
  · iapply leaves_of m c t 1 rfl; dsimp only [dat]; iapply owns_of_holds c (st0_1 t); iexact H1
  isplitl [H2]
  · iapply leaves_of m c t 2 rfl; dsimp only [dat]; iapply owns_of_holds c (st0_2 t); iexact H2
  isplitl [H3]
  · iapply leaves_of m c t 3 rfl; dsimp only [dat]; iapply owns_of_holds c (st0_3 t); iexact H3
  isplitl [H4]
  · iapply leaves_of m c t 4 rfl; dsimp only [dat]; iapply owns_of_holds c (st0_4 t); iexact H4
  isplitl [H5]
  · iapply leaves_of m c t 5 rfl; dsimp only [dat]; iapply owns_of_holds c (st0_5 t); iexact H5
  isplitl [H6]
  · iapply leaves_of m c t 6 rfl; dsimp only [dat]; iapply owns_of_holds c (st0_6 t); iexact H6
  iapply leaves_of m c t 7 rfl; dsimp only [dat]; iapply owns_of_holds c (st0_7 t); iexact H7

variable (ρ : Dev nD → PrngReg)

/-- The program's run: every window's array at what the points wrote, every other buffer as launched or as the lines
    before the call leave it, every semaphore counter at zero. -/
theorem run : θ_run defs (onTc (τ := τ) (main (F := F))) (s₀ m ρ) (fun r => Pipeline.FramePost cfgs (dat m) 0 (V m) r ∧ r.2.sem = fun _ => 0) :=
  Pipeline.θ_run_frame_shared (Q' := _) cfgs (dat m) (0 : Fin 1) launch₀0 defs₀ Variants.none m ρ main
    (hbody := fun c => (body_obl m c).loose) (hq := fun _ _ _ => rfl)
    (howed := fun _ _ => rfl) (V := V m) (hmain := hmain m Variants.none) (hA := fun c w => by dsimp only [dat]) (hΦ := fun _ _ => rfl)

end Cert.Kernel7Ideal.Hand

end
-- ==== Proof.Fwd.Blocks.lean ====
/- The blocks a forward point reads hold the numbers of its head and query tile, and what it leaves. -/
module

public import proofs.«01_k».proof.Proof.Fwd.Tile
public import proofs.«01_k».proof.Proof.Fwd.Oblig
public import Idealize.ShloMosaic.Lib.Pipeline.ValueKit
public import Idealize.ShloMosaic.Lib.Claim

@[expose] public section

set_option maxRecDepth 16384

noncomputable section

namespace Cert.Kernel7Ideal.Hand

open Idealize.ShloMosaic Idealize.ShloMosaic.TcCoe
open Cert.Kernel7Ideal Cert.Kernel7Ideal.Gen
open Cert.Proof Finset

/-- The key bias of the cumulated gates. -/
def hBias (a : FVec Ideal S8192x16 .f32) : FVec Ideal S16x8x1x1024 .f32 :=
  shapeCast S16x8x1x1024 (transpose S16x8192 [1, 0] (Host.negf a) transposes_S8192x16_S16x8192_1_0) shapeCasts_S16x8192_S16x8x1x1024

/-- The call's arguments hold numbers; the gates may hold anything. -/
structure Args (x : Fox.Data) (a0 : FVec Ideal S8192x6144 .bf16) (a2 : FVec Ideal S8192x16 .f32) : Prop where
  a : ∀ (s : Fin 8192) (l : Fin 6144), a0 (ix2 s l) = ((x.A s l : ℝ) : EReal)
  c : ∀ (s : Fin 8192) (h : Fin 16), a2 (ix2 s h) = ((x.C s h : ℝ) : EReal)

theorem bias_val {x : Fox.Data} {a0 : FVec Ideal S8192x6144 .bf16} {a2 : FVec Ideal S8192x16 .f32} (A : Args x a0 a2) (h : Fin 16) (j : Fin 8)
    (u : Fin 1024) : hBias a2 (ix4 h j 0 u) = ((-Fox.c x h (j * 1024 + u) : ℝ) : EReal) := by
  pointwise [hBias]
  rw [A.c, EReal.coe_neg]
  unfold Fox.c; congr 3

variable (m : (ℓ : Loc nD τ sig) → Buf (Elt Ideal) ℓ) (c : Dev nD)

theorem V_v2 : V m c main_v2 = hBias (m ((c : Thread nD τ).loc main_arg2)) := by
  entry_read
  rfl

theorem idx : ∀ t : Fin cfg0.N, win0_0.index t = ![t.val % 8, t.val / 8] ∧ win0_1.index t = ![0, 16 + t.val / 8] ∧ win0_2.index t = ![0, 32 + t.val / 8]
    ∧ win0_3.index t = ![t.val / 8, 0, 0, 0] ∧ win0_4.index t = ![t.val % 8, t.val / 8] ∧ win0_5.index t = ![t.val % 8, t.val / 8]
    ∧ win0_6.index t = ![t.val % 8, t.val / 8] ∧ win0_7.index t = ![t.val % 8, t.val / 8] ∧ (grid0.coords t 1).val = t.val % 8 :=
  (by decide +kernel : ∀ t : Fin grid0.N, _)

variable (t : Fin cfg0.N)

theorem blk0 (r : Fin 1024) (d : Fin 128) : (iblk m c 0 t : FVec Ideal S1024x128 .bf16) (ix2 r d)
    = (m ((c : Thread nD τ).loc main_arg0) : FVec Ideal S8192x6144 .bf16) (ix2 ⟨t.val % 8 * 1024 + r.val, by omega⟩ ⟨t.val / 8 * 128 + d.val, by have : t.val < 128 := t.isLt; omega⟩) := by
  blk_ext [iblk, V, idx t]
theorem blk1 (r : Fin 8192) (d : Fin 128) : (iblk m c 1 t : FVec Ideal S8192x128 .bf16) (ix2 r d)
    = (m ((c : Thread nD τ).loc main_arg0) : FVec Ideal S8192x6144 .bf16) (ix2 r ⟨(16 + t.val / 8) * 128 + d.val, by have : t.val < 128 := t.isLt; omega⟩) := by
  blk_ext [iblk, V, idx t]
theorem blk2 (r : Fin 8192) (d : Fin 128) : (iblk m c 2 t : FVec Ideal S8192x128 .bf16) (ix2 r d)
    = (m ((c : Thread nD τ).loc main_arg0) : FVec Ideal S8192x6144 .bf16) (ix2 r ⟨(32 + t.val / 8) * 128 + d.val, by have : t.val < 128 := t.isLt; omega⟩) := by
  blk_ext [iblk, V, idx t]
theorem blk3 (j : Fin 8) (u : Fin 1024) : (iblk m c 3 t : FVec Ideal S1x8x1x1024 .f32) (ix4 0 j 0 u)
    = (V m c main_v2 : FVec Ideal S16x8x1x1024 .f32) (ix4 ⟨t.val / 8, by have : t.val < 128 := t.isLt; omega⟩ j 0 u) := by
  blk_ext [iblk, V, idx t]
theorem blk4 (r : Fin 1024) (d : Fin 128) : (iblk m c 4 t : FVec Ideal S1024x128 .f32) (ix2 r d)
    = (m ((c : Thread nD τ).loc main_arg1) : FVec Ideal S8192x2048 .f32) (ix2 ⟨t.val % 8 * 1024 + r.val, by omega⟩ ⟨t.val / 8 * 128 + d.val, by have : t.val < 128 := t.isLt; omega⟩) := by
  blk_ext [iblk, V, idx t]

/-- A point's inputs from its blocks. -/
theorem reads_inp {x : Fox.Data} {h i : ℕ} {q : FVec Ideal S1024x128 .bf16} {k v : FVec Ideal S8192x128 .bf16} {b : FVec Ideal S1x8x1x1024 .f32}
    (hq : ∀ (r : Fin 1024) (d : Fin 128), q (ix2 r d) = ((Fox.q x h (i * 1024 + r) d : ℝ) : EReal))
    (hk : ∀ (t : Fin 8192) (d : Fin 128), k (ix2 t d) = ((Fox.k x h t d : ℝ) : EReal))
    (hv : ∀ (t : Fin 8192) (d : Fin 128), v (ix2 t d) = ((Fox.v x h t d : ℝ) : EReal))
    (hb : ∀ (j : Fin 8) (u : Fin 1024), b (ix4 0 j 0 u) = ((-Fox.c x h (j * 1024 + u) : ℝ) : EReal)) :
    Reads x h i (inp q k v b) := by
  refine ⟨fun r d => ?_, hk, hv, hb⟩
  refine (pay88_at r d q).trans ?_
  rw [hq, ← EReal.coe_mul]; rfl

variable {x : Fox.Data} (A : Args x (m ((c : Thread nD τ).loc main_arg0)) (m ((c : Thread nD τ).loc main_arg2)))
include A

theorem blk1_val (r : Fin 8192) (d : Fin 128) : (iblk m c 1 t : FVec Ideal S8192x128 .bf16) (ix2 r d) = ((Fox.k x (t.val / 8) r d : ℝ) : EReal) := by
  refine ((blk1 m c t r d).trans (A.a _ _)).trans ?_
  show ((x.A r.val ((16 + t.val / 8) * 128 + d.val) : ℝ) : EReal) = _
  rw [show (16 + t.val / 8) * 128 + d.val = 2048 + (t.val / 8 * 128 + d.val) by omega]; rfl

theorem blk2_val (r : Fin 8192) (d : Fin 128) : (iblk m c 2 t : FVec Ideal S8192x128 .bf16) (ix2 r d) = ((Fox.v x (t.val / 8) r d : ℝ) : EReal) := by
  refine ((blk2 m c t r d).trans (A.a _ _)).trans ?_
  show ((x.A r.val ((32 + t.val / 8) * 128 + d.val) : ℝ) : EReal) = _
  rw [show (32 + t.val / 8) * 128 + d.val = 4096 + (t.val / 8 * 128 + d.val) by omega]; rfl

/-- The numbers of a point, of the arguments the call was made on. -/
theorem reads : Reads x (t.val / 8) (t.val % 8) (inpAt m c t) :=
  reads_inp (fun r d => (blk0 m c t r d).trans (A.a _ _)) (blk1_val m c t A) (blk2_val m c t A)
    (fun j u => (blk3 m c t j u).trans ((congrFun (V_v2 m c) _).trans (bias_val A _ j u)))

omit A in
/-- A point's walk at an equal tile number. -/
theorem diag_congr (I : Inp Ideal) {a b : ℕ} (h : a = b) (ha : a < 8) (hb : b < 8) :
    diagAt I a ha (walk I 0 a start) = diagAt I b hb (walk I 0 b start) := by
  subst h; rfl

/-- The accumulators a point leaves. -/
theorem stAt_rows : Rows x (t.val / 8) (t.val % 8) (t.val % 8 + 1) (stAt m c t).m (stAt m c t).l (stAt m c t).acc := by
  have e : stAt m c t = diagAt (inpAt m c t) (t.val % 8) (by omega) (walk (inpAt m c t) 0 (t.val % 8) start) :=
    diag_congr _ (idx t).2.2.2.2.2.2.2.2 _ _
  rw [e]
  exact point_rows (reads m c t A) (by omega)

theorem o_at (r : Fin 1024) (d : Fin 128) : k0_pay2 (F := Ideal) (stAt m c t).l (stAt m c t).acc (ix2 r d)
    = ((Fox.O x (t.val / 8) (t.val % 8 * 1024 + r) d : ℝ) : EReal) :=
  (pay2_at ..).trans ((((stAt_rows m c t A).row r d).out x (by omega) (by omega)).1 d)

theorem lse_at (r : Fin 1024) (d : Fin 128) : k0_pay3 (F := Ideal) (stAt m c t).l (stAt m c t).m (ix2 r d)
    = ((Fox.L x (t.val / 8) (t.val % 8 * 1024 + r) : ℝ) : EReal) :=
  (pay3_at ..).trans (((congrArg (· + _) ((stAt_rows m c t A).lanes r d))).trans (((stAt_rows m c t A).row r d).out x (by omega) (by omega)).2)

theorem y_at (r : Fin 1024) (d : Fin 128) : k0_pay4 (F := Ideal) (stAt m c t).l (stAt m c t).acc (iblk m c 4 t : FVec Ideal S1024x128 .f32) (ix2 r d)
    = ((Fox.O x (t.val / 8) (t.val % 8 * 1024 + r) d : ℝ) : EReal)
      * Fox.silu ((m ((c : Thread nD τ).loc main_arg1) : FVec Ideal S8192x2048 .f32) (ix2 ⟨t.val % 8 * 1024 + r.val, by omega⟩ ⟨t.val / 8 * 128 + d.val, by have : t.val < 128 := t.isLt; omega⟩)) :=
  (pay4_at ..).trans (congrArg₂ (· * ·) ((((stAt_rows m c t A).row r d).out x (by omega) (by omega)).1 d) (congrArg Fox.silu (blk4 m c t r d)))

end Cert.Kernel7Ideal.Hand
end
end
-- ==== Proof.Fwd.Value.lean ====
/- The forward kernel's result arrays after the grid, over the ideal numbers, and its run. -/
module

public import proofs.«01_k».proof.Proof.Fwd.Blocks

@[expose] public section

set_option maxRecDepth 16384

noncomputable section

namespace Cert.Kernel7Ideal.Hand

open Idealize.ShloMosaic Idealize.ShloMosaic.TcCoe Idealize.SL.Sem
open Idealize.ShloMosaic.Pipeline (Dat)
open Cert.Kernel7Ideal Cert.Kernel7Ideal.Gen
open Cert.Proof Finset

variable (m : (ℓ : Loc nD τ sig) → Buf (Elt Ideal) ℓ) (c : Dev nD)

section Final

variable {x : Fox.Data} (A : Args x (m ((c : Thread nD τ).loc main_arg0)) (m ((c : Thread nD τ).loc main_arg2)))
include A

theorem final6 : (dat m 0 c).arrAt 6 (cfgs 0).N = (Fox.oArr x : FVec Ideal S8192x2048 .f32) := by
  refine (dat m 0 c).arrAt_eq_of_covers 6 _ (by decide +kernel) fun t hf y => ?_
  have hN : t.val < 128 := t.isLt
  blk_simp
  dsimp only [dat]
  obtain ⟨r, d, rfl⟩ : ∃ (r : Fin 1024) (d : Fin 128), y = (ix2 r d : S1024x128.Idx) := ⟨y 0, y 1, eq_ix2 y⟩
  refine (o_at m c t A r d).trans ?_
  unfold Fox.oArr
  have e0 : ((((View.whole main_v3_1).slice (win0_6.rect t)).emb (ix2 r d : S1024x128.Idx)) 0).val = t.val % 8 * 1024 + r.val := by blk_simp [idx t]
  have e1 : ((((View.whole main_v3_1).slice (win0_6.rect t)).emb (ix2 r d : S1024x128.Idx)) 1).val = t.val / 8 * 128 + d.val := by blk_simp [idx t]
  dsimp only
  rw [e0, e1, show (t.val / 8 * 128 + d.val) / 128 = t.val / 8 by omega, show (t.val / 8 * 128 + d.val) % 128 = d.val by omega]

theorem final7 : (dat m 0 c).arrAt 7 (cfgs 0).N = (Fox.lArr x : FVec Ideal S8192x2048 .f32) := by
  refine (dat m 0 c).arrAt_eq_of_covers 7 _ (by decide +kernel) fun t hf y => ?_
  have hN : t.val < 128 := t.isLt
  blk_simp
  dsimp only [dat]
  obtain ⟨r, d, rfl⟩ : ∃ (r : Fin 1024) (d : Fin 128), y = (ix2 r d : S1024x128.Idx) := ⟨y 0, y 1, eq_ix2 y⟩
  refine (lse_at m c t A r d).trans ?_
  unfold Fox.lArr
  have e0 : ((((View.whole main_v3_2).slice (win0_7.rect t)).emb (ix2 r d : S1024x128.Idx)) 0).val = t.val % 8 * 1024 + r.val := by blk_simp [idx t]
  have e1 : ((((View.whole main_v3_2).slice (win0_7.rect t)).emb (ix2 r d : S1024x128.Idx)) 1).val = t.val / 8 * 128 + d.val := by blk_simp [idx t]
  dsimp only
  rw [e0, e1, show (t.val / 8 * 128 + d.val) / 128 = t.val / 8 by omega]

theorem final5 : (dat m 0 c).arrAt 5 (cfgs 0).N
    = (Fox.yArr x (m ((c : Thread nD τ).loc main_arg1) : FVec Ideal S8192x2048 .f32) : FVec Ideal S8192x2048 .bf16) := by
  refine (dat m 0 c).arrAt_eq_of_covers 5 _ (by decide +kernel) fun t hf y => ?_
  have hN : t.val < 128 := t.isLt
  blk_simp
  dsimp only [dat]
  obtain ⟨r, d, rfl⟩ : ∃ (r : Fin 1024) (d : Fin 128), y = (ix2 r d : S1024x128.Idx) := ⟨y 0, y 1, eq_ix2 y⟩
  refine (y_at m c t A r d).trans ?_
  unfold Fox.yArr Fox.oArr
  have e0 : ((((View.whole main_v3_0).slice (win0_5.rect t)).emb (ix2 r d : S1024x128.Idx)) 0).val = t.val % 8 * 1024 + r.val := by blk_simp [idx t]
  have e1 : ((((View.whole main_v3_0).slice (win0_5.rect t)).emb (ix2 r d : S1024x128.Idx)) 1).val = t.val / 8 * 128 + d.val := by blk_simp [idx t]
  have e : ((View.whole main_v3_0).slice (win0_5.rect t)).emb (ix2 r d : S1024x128.Idx)
      = (ix2 ⟨t.val % 8 * 1024 + r.val, by omega⟩ ⟨t.val / 8 * 128 + d.val, by omega⟩ : S8192x2048.Idx) :=
    (eq_ix2 _).trans ((ix2_inj ..).2 ⟨Fin.ext e0, Fin.ext e1⟩)
  dsimp only
  rw [e]
  dsimp only [ix2_0, ix2_1]
  rw [show (t.val / 8 * 128 + d.val) / 128 = t.val / 8 by omega, show (t.val / 8 * 128 + d.val) % 128 = d.val by omega]

end Final

variable (g : Dev nD → PrngReg) (X : Dev nD → Fox.Data)
    (A : ∀ c : Dev nD, Args (X c) (m ((c : Thread nD τ).loc main_arg0)) (m ((c : Thread nD τ).loc main_arg2)))
include A

/-- The kernel program's run. -/
theorem value :
    θ_run (defs (F := Ideal)) (onTc (τ := τ) (main (F := Ideal))) ⟨m, fun _ => 0, g⟩ (fun r => ∀ c : Dev nD,
      r.2.mem ((c : Thread nD τ).loc main_v3_0) = (Fox.yArr (X c) (m ((c : Thread nD τ).loc main_arg1) : FVec Ideal S8192x2048 .f32) : FVec Ideal S8192x2048 .bf16)
      ∧ r.2.mem ((c : Thread nD τ).loc main_v3_1) = (Fox.oArr (X c) : FVec Ideal S8192x2048 .f32)
      ∧ r.2.mem ((c : Thread nD τ).loc main_v3_2) = (Fox.lArr (X c) : FVec Ideal S8192x2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
    ⟨((h.1.1 c).1 5).trans (final5 m c (A c)), ((h.1.1 c).1 6).trans (final6 m c (A c)), ((h.1.1 c).1 7).trans (final7 m c (A c)), h.2.1 c⟩)
    (θ_run_and (run m g) (frame m g))

end Cert.Kernel7Ideal.Hand
end
end
-- ==== Proof.Fwd.Ref.lean ====
/- The attention-forward reference's run, its results as stages, and those stages over the ideal numbers. -/
module

public import proofs.«01_k».proof.Proof.RefHost
public import proofs.«01_k».proof.Proof.Fwd.Spec

@[expose] public section

set_option maxRecDepth 16384

noncomputable section

namespace Cert.Reference7Ideal.Hand

open Idealize.ShloMosaic Idealize.ShloMosaic.TcCoe Idealize.SL.Sem

/-- The shape facts that the reference states. -/
instance facts₀ : Cert.Reference7Ideal.Facts₀ := by constructor <;> decide
instance facts : Cert.Reference7Ideal.Facts where

open Cert.Reference7Ideal Cert.Reference7Ideal.Facts₀
open Cert.ReferenceIdeal.Hand (rQ rK rV rGate rRow rScales rMask rY)
open Cert.Proof Finset

section Terms

variable (a0 : FVec Ideal S8192x6144 .bf16) (a1 : FVec Ideal S8192x2048 .f32) (a2 : FVec Ideal S8192x16 .f32)

/-- The attention output, packed. -/
def fO : FVec Ideal S8192x2048 .f32 :=
  shapeCast S8192x2048 (transpose S8192x16x128 [1, 0, 2]
    (Host.dotGeneral dot_S16x8192x8192_S16x8192x128_S16x8192x128_2_1_1_2_0_0 none (rY a0 a2) (rV a0)) transposes_S16x8192x128_S8192x16x128_1_0_2)
    shapeCasts_S8192x16x128_S8192x2048
/-- The gate's factor. -/
def fSilu : FVec Ideal S8192x2048 .f32 :=
  mulf a1 (Host.divf (broadcastInDim S8192x2048 ![] bcast_S_S8192x2048 (constant S_ .f32 0x3F800000#32))
    (addf (broadcastInDim S8192x2048 ![] bcast_S_S8192x2048 (constant S_ .f32 0x3F800000#32)) (Host.exp (Host.negf a1))))
def fY (o : FVec Ideal S8192x2048 .f32) : FVec Ideal S8192x2048 .bf16 := truncf .bf16 (mulf o (fSilu a1)) bitsLt_bf16_f32
/-- Masked scores without the query's own gate. -/
def fZ : FVec Ideal S16x8192x8192 .f32 :=
  select rMask
    (subf (mulf (Host.dotGeneral dot_S16x8192x128_S16x8192x128_S16x8192x8192_2_2_1_1_0_0 none (rQ a0) (rK a0)) rScales)
      (broadcastInDim S16x8192x8192 ![0, 1, 2] bcast_S16x1x8192_S16x8192x8192_0_1_2
        (broadcastInDim S16x1x8192 ![0, 2] bcast_S16x8192_S16x1x8192_0_2 (rGate a2))))
    (broadcastInDim S16x8192x8192 ![] bcast_S_S16x8192x8192 (constant S_ .f32 0xFF800000#32))
/-- Row maxima, exponentials, row sums. -/
def fMax : FVec Ideal S16x8192 .f32 :=
  Host.reduce FloatOps.maximumf (fZ a0 a2) (constant S_ .f32 0xFF800000#32) reducesTo_S16x8192x8192_S16x8192_d2 h_S_
def fE (M : FVec Ideal S16x8192 .f32) : FVec Ideal S16x8192x8192 .f32 :=
  Host.exp (subf (fZ a0 a2) (rRow (broadcastInDim S16x8192x1 ![0, 1] bcast_S16x8192_S16x8192x1_0_1 M)))
def fSum (E : FVec Ideal S16x8192x8192 .f32) : FVec Ideal S16x8192 .f32 :=
  Host.reduceAdd E (constant S_ .f32 0x00000000#32) reducesTo_S16x8192x8192_S16x8192_d2 h_S_
/-- The row normaliser over the packed columns, of row maxima and row sums. -/
def fLse (M S : FVec Ideal S16x8192 .f32) : FVec Ideal S8192x2048 .f32 :=
  shapeCast S8192x2048 (broadcastInDim S8192x16x128 ![0, 1] bcast_S8192x16_S8192x16x128_0_1
    (transpose S8192x16 [1, 0] (Host.divf (addf M (Host.log S))
      (broadcastInDim S16x8192 ![] bcast_S_S16x8192 (Host.log (constant S_ .f32 0x40000000#32)))) transposes_S16x8192_S8192x16_1_0))
    shapeCasts_S8192x16x128_S8192x2048

end Terms

section Readings

theorem fY_at (a1 : FVec Ideal S8192x2048 .f32) (o : FVec Ideal S8192x2048 .f32) (s : Fin 8192) (l : Fin 2048) :
    fY a1 o (ix2 s l) = o (ix2 s l) * Fox.silu (a1 (ix2 s l)) := by
  pointwise [fY, fSilu]
  rfl

theorem fLse_at (M S : FVec Ideal S16x8192 .f32) (s : Fin 8192) (l : Fin 2048) :
    fLse M S (ix2 s l) = Ideal.div (M (ix2 ⟨l.val / 128, by omega⟩ s) + Ideal.log (S (ix2 ⟨l.val / 128, by omega⟩ s)))
      (Ideal.log (Ideal.ofBits .f32 0x40000000#32)) := by
  pointwise [fLse]

theorem fSum_at (E : FVec Ideal S16x8192x8192 .f32) (h : Fin 16) (s : Fin 8192) : fSum E (ix2 h s) = ∑ t : Fin 8192, E (ix3 h s t) := by
  pointwise [fSum]

variable {a0 : FVec Ideal S8192x6144 .bf16} {a2 : FVec Ideal S8192x16 .f32} {g : FVec Ideal S8192x2048 .bf16} {x : Fox.Data}
  (A : Cert.ReferenceIdeal.Hand.Args x a0 a2 g) (h : Fin 16) (s t : Fin 8192)
include A

theorem fO_at (l : Fin 2048) : fO a0 a2 (ix2 s l) = ((Fox.O x (l.val / 128) s (l.val % 128) : ℝ) : EReal) := by
  pointwise [fO]
  simp only [Cert.ReferenceIdeal.Hand.rY_at A, Cert.ReferenceIdeal.Hand.rV_at A, ← EReal.coe_mul]
  exact Fox.sum_fin fun t => Fox.y x (l.val / 128) s t * Fox.v x (l.val / 128) t (l.val % 128)

theorem fZ_at : fZ a0 a2 (ix3 h s t) = if t.val ≤ s.val then ((Fox.X x h s t * Fox.σ + 0 - Fox.c x h t : ℝ) : EReal) else ⊥ := by
  unfold fZ
  rw [Cert.ReferenceIdeal.Hand.rMask_at]
  pointwise [Cert.ReferenceIdeal.Hand.rQ_at A, Cert.ReferenceIdeal.Hand.rK_at A, Cert.ReferenceIdeal.Hand.rScales_at, Cert.ReferenceIdeal.Hand.rGate_at A]
  rw [Fox.ofBits_ninf]
  simp only [← EReal.coe_mul, Fox.sum_coe, ← EReal.coe_sub]
  rfl

theorem fMax_at : ∃ M : ℝ, fMax a0 a2 (ix2 h s) = (M : EReal) := by
  pointwise [fMax]
  rw [Fox.ofBits_ninf]
  refine Fox.fold_max_real _ (fun t => ?_) s ?_
  · rw [fZ_at A]; split
    · exact EReal.coe_ne_top _
    · exact bot_ne_top
  · rw [fZ_at A, if_pos le_rfl]; exact EReal.coe_ne_bot _

theorem fE_at {M : ℝ} (hM : fMax a0 a2 (ix2 h s) = (M : EReal)) :
    fE a0 a2 (fMax a0 a2) (ix3 h s t) = ((Fox.w x h s t * Real.exp (0 - M) : ℝ) : EReal) := by
  pointwise [fE, Cert.ReferenceIdeal.Hand.rRow_at]
  rw [hM, fZ_at A, Fox.exp_masked]

theorem lse_at (l : Fin 2048) : fLse (fMax a0 a2) (fSum (fE a0 a2 (fMax a0 a2))) (ix2 s l) = ((Fox.L x (l.val / 128) s : ℝ) : EReal) := by
  have hl : l.val / 128 < 16 := by omega
  obtain ⟨M, hM⟩ := fMax_at A ⟨l.val / 128, hl⟩ s
  have hp : 0 < Fox.W x (l.val / 128) s * Real.exp (0 - M) := mul_pos (Fox.W_pos x _ s) (Real.exp_pos _)
  rw [fLse_at, hM, fSum_at]
  simp only [fE_at A _ s _ hM]
  rw [Fox.sum_fin fun t => Fox.w x (l.val / 128) s t * Real.exp (0 - M), Fox.sum_scaled, Fox.ofBits_2, Fox.log_two, Ideal.log_coe,
    if_neg hp.not_ge, ← EReal.coe_add, Fox.div_coe_coe _ Fox.log2_ne, Real.log_mul (Fox.W_pos x _ s).ne' (Real.exp_pos _).ne', Real.log_exp]
  have e : ∀ a b c : ℝ, (a + (b + (0 - a))) / c = b * c⁻¹ := fun a b c => by
    rw [zero_sub, ← sub_eq_add_neg, add_sub_cancel, div_eq_mul_inv]
  exact congrArg _ (e _ _ _)

end Readings

section Results

variable {a0 : FVec Ideal S8192x6144 .bf16} {a1 : FVec Ideal S8192x2048 .f32} {a2 : FVec Ideal S8192x16 .f32} {g : FVec Ideal S8192x2048 .bf16}
  {x : Fox.Data} (A : Cert.ReferenceIdeal.Hand.Args x a0 a2 g)
include A

theorem o_val : fO a0 a2 = (Fox.oArr x : FVec Ideal S8192x2048 .f32) := by
  funext i
  obtain ⟨s, l, rfl⟩ : ∃ (s : Fin 8192) (l : Fin 2048), i = (ix2 s l : S8192x2048.Idx) := ⟨i 0, i 1, eq_ix2 i⟩
  exact fO_at A s l

theorem lse_val : fLse (fMax a0 a2) (fSum (fE a0 a2 (fMax a0 a2))) = (Fox.lArr x : FVec Ideal S8192x2048 .f32) := by
  funext i
  obtain ⟨s, l, rfl⟩ : ∃ (s : Fin 8192) (l : Fin 2048), i = (ix2 s l : S8192x2048.Idx) := ⟨i 0, i 1, eq_ix2 i⟩
  exact lse_at A s l

theorem y_val : fY a1 (fO a0 a2) = (Fox.yArr x a1 : FVec Ideal S8192x2048 .bf16) := by
  funext i
  obtain ⟨s, l, rfl⟩ : ∃ (s : Fin 8192) (l : Fin 2048), i = (ix2 s l : S8192x2048.Idx) := ⟨i 0, i 1, eq_ix2 i⟩
  exact (fY_at a1 _ s l).trans (congrArg (· * _) (fO_at A s l))

omit A in
set_option maxHeartbeats 8000000 in
/-- The reference's run. -/
theorem run (m : (ℓ : Loc nD τ sig) → Buf (Elt Ideal) ℓ) (g : Dev nD → PrngReg) (X : Dev nD → Fox.Data) (G : Dev nD → FVec Ideal S8192x2048 .bf16)
    (A : ∀ c : Dev nD, Cert.ReferenceIdeal.Hand.Args (X c) (m ((c : Thread nD τ).loc main_arg0)) (m ((c : Thread nD τ).loc main_arg2)) (G c)) :
    θ_run (defs (F := Ideal)) (onTc (τ := τ) (main (F := Ideal))) ⟨m, fun _ => 0, g⟩ (fun r => ∀ c : Dev nD,
      r.2.mem ((c : Thread nD τ).loc main_v47) = (Fox.yArr (X c) (m ((c : Thread nD τ).loc main_arg1)) : FVec Ideal S8192x2048 .bf16)
      ∧ r.2.mem ((c : Thread nD τ).loc main_v44) = (Fox.oArr (X c) : FVec Ideal S8192x2048 .f32)
      ∧ r.2.mem ((c : Thread nD τ).loc main_v83) = (Fox.lArr (X c) : FVec Ideal S8192x2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  hlo_run
  · exact y_val (A c)
  · exact o_val (A c)
  · exact lse_val (A c)

set_option maxHeartbeats 4000000 in
omit A in
/-- The reference runs and leaves its arguments; it has no semaphore. -/
theorem frame : Cert.quiescent_Reference7Ideal := by
  intro m g _
  have h : θ_run (defs (F := Ideal)) (onTc (τ := τ) (main (F := Ideal))) ⟨m, fun _ => 0, g⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
    hlo_run
  exact (θ_run defs _ _).mono (fun r h => ⟨fun c => h c, sem_eq_zero_of_no_sems (by decide) r.2⟩) h

end Results

end Cert.Reference7Ideal.Hand
end
end
-- ==== Proof.Fwd.Claims.lean ====
/- The attention-forward call's claims: its frames, its named constants, its values on arguments that are numbers. -/
module

public import proofs.«01_k».proof.Defs
public import proofs.«01_k».proof.Proof.Algebra
public import proofs.«01_k».proof.Proof.Fwd.Value
public import proofs.«01_k».proof.Proof.Fwd.Ref
public import proofs.«01_k».proof.Proof.Gen.Kernel7.Frame

@[expose] public section

set_option maxRecDepth 16384

noncomputable section

namespace Cert.Proof.Fwd

open Idealize.ShloMosaic Idealize.ShloMosaic.TcCoe Idealize.SL.Sem

instance finite : Cert.Pre_finite7.Facts := by constructor <;> decide

section Finite
open Cert.Pre_finite7 Cert.Pre_finite7.Facts

/-- What the finiteness precondition says: every element of the packed operand and of the gates' sums is a number. -/
theorem fn_at {a0 : FVec Ideal S8192x6144 .bf16} {a1 : FVec Ideal S8192x2048 .f32} {a2 : FVec Ideal S8192x16 .f32}
    (h : Cert.Pre_finite7.fn (F := Ideal) a0 a1 a2 = fun _ => 1#1) :
    (∀ (s : Fin 8192) (l : Fin 6144), a0 (ix2 s l) = (((a0 (ix2 s l) : EReal).toReal : ℝ) : EReal))
    ∧ (∀ (s : Fin 8192) (l : Fin 16), a2 (ix2 s l) = (((a2 (ix2 s l) : EReal).toReal : ℝ) : EReal)) := by
  have h0 := congrFun h ix0
  unfold Cert.Pre_finite7.fn at h0
  dsimp only at h0
  pointwise at h0
  rw [Finite.top_bf16, Finite.top_f32] at h0
  obtain ⟨h1, h2⟩ := Finite.and_one.mp h0
  refine ⟨fun s l => ?_, fun s l => ?_⟩
  · have h := Finite.fold_univ h1 (s, l)
    exact Finite.real_of h
  · have h := Finite.fold_univ h2 (s, l)
    exact Finite.real_of h

end Finite

section Kernel
open Cert.Kernel7Ideal Cert.Kernel7Ideal.Gen

/-- The numbers of a device's arguments. -/
def data (m : (ℓ : Loc nD τ sig) → Buf (Elt Ideal) ℓ) (c : Dev nD) : Fox.Data :=
  ⟨Algebra.numbers (n := 8192) (k := 6144) (m ((c : Thread nD τ).loc main_arg0)), Algebra.numbers (n := 8192) (k := 16) (m ((c : Thread nD τ).loc main_arg2)),
    fun _ _ => 0⟩

theorem args (m : (ℓ : Loc nD τ sig) → Buf (Elt Ideal) ℓ) (h : Cert.Pre_Kernel7Ideal_finite7 m) (c : Dev nD) :
    Cert.Kernel7Ideal.Hand.Args (data m c) (m ((c : Thread nD τ).loc main_arg0)) (m ((c : Thread nD τ).loc main_arg2)) := by
  obtain ⟨h0, h1⟩ := fn_at (h c)
  refine ⟨fun s l => (h0 s l).trans ?_, fun s l => (h1 s l).trans ?_⟩
  · exact congrArg _ (Algebra.numbers_at (n := 8192) (k := 6144) _ s l).symm
  · exact congrArg _ (Algebra.numbers_at (n := 8192) (k := 16) _ s l).symm

end Kernel

theorem algebraic : Cert.algebraic_Kernel7Ideal_Reference7Ideal_pre_finite7 := by
  intro m g m' g' hpre hagree
  have A := args m hpre
  refine ⟨fun c => Fox.yArr (data m c) (m' ((c : Thread Cert.Reference7Ideal.nD Cert.Reference7Ideal.τ).loc Cert.Reference7Ideal.main_arg1)),
    fun c => Fox.oArr (data m c), fun c => Fox.lArr (data m c), ?_,
    Cert.Reference7Ideal.Hand.run m' g' (data m) (fun _ => fun _ => ((0 : ℝ) : EReal)) fun c => ?_⟩
  · refine (θ_run Cert.Kernel7Ideal.defs _ _).mono (fun r h c => ⟨(h c).1.trans ?_, (h c).2⟩) (Cert.Kernel7Ideal.Hand.value m g (data m) A)
    exact congrArg (Fox.yArr (data m c)) (hagree c).2.1.symm
  · rw [(hagree c).1, (hagree c).2.2]
    exact ⟨(A c).a, (A c).c, fun _ _ => rfl⟩

/-- The constants' names, by the certificate's table. -/
theorem preserves : Cert.preserves_Kernel7_Kernel7Ideal :=
  ⟨IdealRules.named_const.statement Cert.Kernel7Ideal.κ "mask" .f32 0xF149F2CA#32 ⊥ rfl,
    IdealRules.named_const.statement Cert.Kernel7Ideal.κ "c1" .f32 0x3E0293EE#32 (((Real.sqrt 128)⁻¹ * (Real.log 2)⁻¹ : ℝ) : EReal) rfl,
    IdealRules.named_const.statement Cert.Kernel7Ideal.κ "log2e" .f32 0x3FB8AA3B#32 (((Real.log 2)⁻¹ : ℝ) : EReal) rfl⟩

theorem frame_p : Cert.quiescent_Kernel7 := fun m ρ _ => Cert.Kernel7.Gen.frame m ρ
theorem frame_pi : Cert.quiescent_Kernel7Ideal := fun m ρ _ => Cert.Kernel7Ideal.Gen.frame m ρ
theorem frame_pi_finite : Cert.quiescent_Kernel7Ideal_pre_finite7 := fun m ρ _ => Cert.Kernel7Ideal.Gen.frame m ρ
theorem frame_ri_finite : Cert.quiescent_Reference7Ideal_pre_finite7 := fun m ρ _ => Cert.Reference7Ideal.Hand.frame m ρ trivial

end Cert.Proof.Fwd

end
-- ==== Proof.Gate.lean ====
/- The gradient of the attention's output gate: row blocks against the derivative of `o * silu(gate)`. -/
module

public import proofs.«01_k».proof.Defs
public import proofs.«01_k».proof.Proof.Halves
public import proofs.«01_k».proof.Proof.Finite
public import proofs.«01_k».proof.Proof.Fwd.Spec
public import proofs.«01_k».proof.Proof.Gen.Kernel2Ideal.Frame
public import Idealize.ShloMosaic.Lib.Pipeline.Value
public import Idealize.ShloMosaic.Lib.Pipeline.ValueKit
public import proofs.«01_k».proof.Proof.Gen.Kernel2.Frame
public import proofs.«01_k».proof.Proof.Gen.Reference2Ideal.Run
public import Idealize.ShloMosaic.Lib.Claim
public import Idealize.ShloMosaic.Lib.Quiescent

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen
open Cert.Proof

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-! ## One element of each result, of the element's `dy`, `o` and `gate`. -/

/-- The gate's sigmoid. -/
def sigm (g : EReal) : EReal := Ideal.div 1 (1 + Ideal.exp (-g))
/-- The gate's derivative, as the kernel factors it. -/
def slope (g : EReal) : EReal := sigm g * (1 + g * (1 - sigm g))

section Elements
variable (a o g : FVec Ideal S256x2048 .f32) (r : Fin 256) (d : Fin 2048)

theorem sigm_at : k0_pay3 (F := Ideal) g (ix2 r d) = sigm (g (ix2 r d)) := by
  pointwise [k0_pay3]
  rw [zero_sub]; rfl

theorem do_at : k0_pay4 (F := Ideal) a g (ix2 r d) = (a (ix2 r d) : EReal) * Fox.silu (g (ix2 r d)) := by
  pointwise [k0_pay4, sigm_at]
  rfl

theorem dg_at : k0_pay5 (F := Ideal) a g o (ix2 r d) = (a (ix2 r d) : EReal) * o (ix2 r d) * slope (g (ix2 r d)) := by
  pointwise [k0_pay5, sigm_at]
  rfl

theorem prod_at : k0_pay6 (F := Ideal) a g o (ix2 r d) = (a (ix2 r d) : EReal) * Fox.silu (g (ix2 r d)) * o (ix2 r d) := by
  pointwise [k0_pay6, do_at]

end Elements

/-- A head's columns summed along the row and spread over the head. -/
def stripe (n : ℕ) (h : S256x2048.Slices ![0, n] S256x128) (v : FVec Ideal S256x2048 .f32) : FVec Ideal S256x128 .f32 :=
  broadcastTo S256x128 (shapeCast S256x1 (shapeCast S256x1 (multiReduction .add [1] S256 (extractStridedSlice S256x128 ![0, n] v h) 0x00000000#32
    Facts₀.reduces_S256x128_S256 (.inl rfl) rfl) Facts₀.shapeCasts_S256_S256x1) Facts₀.shapeCasts_S256x1_S256x1) Facts₀.broadcasts_S256x1_S256x128

/-- What every column of a row block's third result holds: its head's row sum. -/
def headSum (v : FVec Ideal S256x2048 .f32) : FVec Ideal S256x2048 .f32 :=
  fun y => ∑ k : Fin 128, (v (ix2 (y 0) ⟨(y 1).val / 128 * 128 + k.val, by have : (y 1).val < 2048 := (y 1).isLt; omega⟩) : EReal)

theorem stripe_at (n : ℕ) (hn : n + 128 ≤ 2048) (h : S256x2048.Slices ![0, n] S256x128) (v : FVec Ideal S256x2048 .f32) (r : Fin 256) (d : Fin 128) :
    stripe n h v (ix2 r d) = (∑ k : Fin 128, (v (ix2 r ⟨n + k.val, by omega⟩) : EReal) : EReal) := by
  pointwise [stripe]

theorem stripe_emb (q : ℕ) (hq : q < 16) (h : S256x2048.Slices ![0, q * 128] S256x128) (inb : ∀ a, (![0, q * 128] : Fin 2 → ℕ) a + S256x128.size a ≤ S256x2048.size a)
    (v : FVec Ideal S256x2048 .f32) (x : S256x128.Idx) :
    stripe (q * 128) h v x = headSum v ((Rect.unit (s := S256x2048) ![0, q * 128] S256x128.size inb).emb x) := by
  obtain ⟨r, d, rfl⟩ : ∃ (r : Fin 256) (d : Fin 128), x = (ix2 r d : S256x128.Idx) := ⟨x 0, x 1, eq_ix2 x⟩
  rw [stripe_at _ (by omega)]
  have e0 : ((Rect.unit (s := S256x2048) ![0, q * 128] S256x128.size inb).emb (ix2 r d) 0).val = r.val := by
    show 0 + 1 * r.val = _; omega
  have e1 : ((Rect.unit (s := S256x2048) ![0, q * 128] S256x128.size inb).emb (ix2 r d) 1).val = q * 128 + d.val := by
    show q * 128 + 1 * d.val = _; omega
  exact Finset.sum_congr rfl fun k _ => congrArg v (congrArg₂ ix2 (Fin.ext e0.symm) (Fin.ext (by dsimp only; rw [e1]; omega)))

section Blocks
variable (a o g : FVec Ideal S256x2048 .f32)

theorem out3_at : out0_3 (F := Ideal) a o g = k0_pay4 (F := Ideal) a g := by
  unfold out0_3
  rw [View.canon_unit_zero zero_offsets, View.ld_unit_zero (S := S256x2048) zero_offsets, View.ld_unit_zero (S := S256x2048) zero_offsets]

theorem out4_at : out0_4 (F := Ideal) a o g = k0_pay5 (F := Ideal) a g o := by
  unfold out0_4
  rw [View.canon_unit_zero zero_offsets, View.ld_unit_zero (S := S256x2048) zero_offsets, View.ld_unit_zero (S := S256x2048) zero_offsets,
    View.ld_unit_zero (S := S256x2048) zero_offsets]

/-- The sixteen stores of the third result leave every head's row sum in the head's columns. -/
theorem out5_at : out0_5 (F := Ideal) a o g = headSum (k0_pay6 (F := Ideal) a g o) := by
  have e : k0_pay21 (F := Ideal) a o g = k0_pay6 (F := Ideal) a g o := by
    unfold k0_pay21
    rw [View.ld_unit_zero (S := S256x2048) zero_offsets, View.ld_unit_zero (S := S256x2048) zero_offsets, View.ld_unit_zero (S := S256x2048) zero_offsets]
  funext y
  unfold out0_5
  refine View.canon_apply_of_pieces (Val := Elt Ideal) (headSum (k0_pay6 (F := Ideal) a g o)) _ ?_ y (cover0_5 ..)
  rw [e, View.ld_unit_zero (S := S256x2048) zero_offsets, View.ld_unit_zero (S := S256x2048) zero_offsets, View.ld_unit_zero (S := S256x2048) zero_offsets]
  simp only [List.forall_mem_cons]
  exact ⟨fun x => stripe_emb 15 (by omega) _ _ _ x, fun x => stripe_emb 14 (by omega) _ _ _ x, fun x => stripe_emb 13 (by omega) _ _ _ x,
    fun x => stripe_emb 12 (by omega) _ _ _ x, fun x => stripe_emb 11 (by omega) _ _ _ x, fun x => stripe_emb 10 (by omega) _ _ _ x,
    fun x => stripe_emb 9 (by omega) _ _ _ x, fun x => stripe_emb 8 (by omega) _ _ _ x, fun x => stripe_emb 7 (by omega) _ _ _ x,
    fun x => stripe_emb 6 (by omega) _ _ _ x, fun x => stripe_emb 5 (by omega) _ _ _ x, fun x => stripe_emb 4 (by omega) _ _ _ x,
    fun x => stripe_emb 3 (by omega) _ _ _ x, fun x => stripe_emb 2 (by omega) _ _ _ x, fun x => stripe_emb 1 (by omega) _ _ _ x,
    fun x => stripe_emb 0 (by omega) _ _ _ x, fun _ h => absurd h List.not_mem_nil⟩

end Blocks

/-! ## The arrays. -/

def doArr (a g : FVec Ideal S8192x2048 .f32) : FVec Ideal S8192x2048 .bf16 := fun i => (a i : EReal) * Fox.silu (g i)
def dgArr (a o g : FVec Ideal S8192x2048 .f32) : FVec Ideal S8192x2048 .bf16 := fun i => (a i : EReal) * o i * slope (g i)
/-- Column `n` of the head that holds column `l`. -/
def col (l : Fin 2048) (k : Fin 128) : Fin 2048 := ⟨l.val / 128 * 128 + k.val, by omega⟩
def delArr (a o g : FVec Ideal S8192x2048 .f32) : FVec Ideal S8192x2048 .f32 :=
  fun i => ∑ k : Fin 128, ((a (ix2 (i 0) (col (i 1) k)) : EReal) * Fox.silu (g (ix2 (i 0) (col (i 1) k))) * o (ix2 (i 0) (col (i 1) k)))

variable (m : (ℓ : Loc nD τ sig) → Buf (Elt Ideal) ℓ) (c : Dev nD) (t : Fin cfg0.N)

abbrev A0 : FVec Ideal S8192x2048 .f32 := m ((c : Thread nD τ).loc main_arg0)
abbrev A1 : FVec Ideal S8192x2048 .f32 := m ((c : Thread nD τ).loc main_arg1)
abbrev A2 : FVec Ideal S8192x2048 .f32 := m ((c : Thread nD τ).loc main_arg2)

/-- The array row of a block's row. -/
def row (r : Fin 256) : Fin 8192 := ⟨t.val * 256 + r.val, by have : t.val < 32 := t.isLt; omega⟩

theorem blk0 (r : Fin 256) (d : Fin 2048) : (iblk m c 0 t : FVec Ideal S256x2048 .f32) (ix2 r d) = A0 m c (ix2 (row t r) d) := by
  unfold row; blk_ext [iblk, V, idx t]
theorem blk1 (r : Fin 256) (d : Fin 2048) : (iblk m c 1 t : FVec Ideal S256x2048 .f32) (ix2 r d) = A1 m c (ix2 (row t r) d) := by
  unfold row; blk_ext [iblk, V, idx t]
theorem blk2 (r : Fin 256) (d : Fin 2048) : (iblk m c 2 t : FVec Ideal S256x2048 .f32) (ix2 r d) = A2 m c (ix2 (row t r) d) := by
  unfold row; blk_ext [iblk, V, idx t]

theorem final3 : (dats m 0 c).arrAt 3 cfg0.N = doArr (A0 m c) (A2 m c) := by
  refine (dats m 0 c).arrAt_eq_of_covers 3 _ (by decide +kernel) fun t hf y => ?_
  blk_simp
  rw [after0_3]
  obtain ⟨r, d, rfl⟩ : ∃ (r : Fin 256) (d : Fin 2048), y = (ix2 r d : S256x2048.Idx) := ⟨y 0, y 1, eq_ix2 y⟩
  have e0 : ((((View.whole main_v0_0).slice (win0_3.rect t)).emb (ix2 r d : S256x2048.Idx)) 0).val = t.val * 256 + r.val := by blk_simp [idx t]
  have e1 : ((((View.whole main_v0_0).slice (win0_3.rect t)).emb (ix2 r d : S256x2048.Idx)) 1).val = d.val := by blk_simp [idx t]
  refine (congrFun (out3_at _ _ _) _).trans ((do_at _ _ r d).trans ?_)
  rw [blk0, blk2]
  exact congrArg (doArr (A0 m c) (A2 m c)) ((congrArg₂ ix2 (Fin.ext e0.symm) (Fin.ext e1.symm)).trans (eq_ix2 _).symm)

theorem final4 : (dats m 0 c).arrAt 4 cfg0.N = dgArr (A0 m c) (A1 m c) (A2 m c) := by
  refine (dats m 0 c).arrAt_eq_of_covers 4 _ (by decide +kernel) fun t hf y => ?_
  blk_simp
  rw [after0_4]
  obtain ⟨r, d, rfl⟩ : ∃ (r : Fin 256) (d : Fin 2048), y = (ix2 r d : S256x2048.Idx) := ⟨y 0, y 1, eq_ix2 y⟩
  have e0 : ((((View.whole main_v0_1).slice (win0_4.rect t)).emb (ix2 r d : S256x2048.Idx)) 0).val = t.val * 256 + r.val := by blk_simp [idx t]
  have e1 : ((((View.whole main_v0_1).slice (win0_4.rect t)).emb (ix2 r d : S256x2048.Idx)) 1).val = d.val := by blk_simp [idx t]
  refine (congrFun (out4_at _ _ _) _).trans ((dg_at _ _ _ r d).trans ?_)
  rw [blk0, blk1, blk2]
  exact congrArg (dgArr (A0 m c) (A1 m c) (A2 m c)) ((congrArg₂ ix2 (Fin.ext e0.symm) (Fin.ext e1.symm)).trans (eq_ix2 _).symm)

theorem headSum_at (v : FVec Ideal S256x2048 .f32) (r : Fin 256) (d : Fin 2048) :
    headSum v (ix2 r d) = (∑ k : Fin 128, (v (ix2 r (col d k)) : EReal) : EReal) := rfl

theorem delArr_at (a o g : FVec Ideal S8192x2048 .f32) (r : Fin 8192) (d : Fin 2048) :
    delArr a o g (ix2 r d) = (∑ k : Fin 128, ((a (ix2 r (col d k)) : EReal) * Fox.silu (g (ix2 r (col d k))) * o (ix2 r (col d k))) : EReal) := rfl

theorem del_blk (r : Fin 256) (d : Fin 2048) :
    headSum (k0_pay6 (F := Ideal) (iblk m c 0 t) (iblk m c 2 t) (iblk m c 1 t)) (ix2 r d) = delArr (A0 m c) (A1 m c) (A2 m c) (ix2 (row t r) d) := by
  rw [headSum_at, delArr_at]
  refine Finset.sum_congr rfl fun k _ => (prod_at _ _ _ r (col d k)).trans ?_
  rw [blk0, blk1, blk2]

theorem final5 : (dats m 0 c).arrAt 5 cfg0.N = delArr (A0 m c) (A1 m c) (A2 m c) := by
  refine (dats m 0 c).arrAt_eq_of_covers 5 _ (by decide +kernel) fun t hf y => ?_
  blk_simp
  rw [after0_5]
  obtain ⟨r, d, rfl⟩ : ∃ (r : Fin 256) (d : Fin 2048), y = (ix2 r d : S256x2048.Idx) := ⟨y 0, y 1, eq_ix2 y⟩
  have e0 : ((((View.whole main_v0_2).slice (win0_5.rect t)).emb (ix2 r d : S256x2048.Idx)) 0).val = t.val * 256 + r.val := by blk_simp [idx t]
  have e1 : ((((View.whole main_v0_2).slice (win0_5.rect t)).emb (ix2 r d : S256x2048.Idx)) 1).val = d.val := by blk_simp [idx t]
  refine (congrFun (out5_at _ _ _) _).trans ((del_blk m c t r d).trans ?_)
  exact congrArg (delArr (A0 m c) (A1 m c) (A2 m c)) ((congrArg₂ ix2 (Fin.ext e0.symm) (Fin.ext e1.symm)).trans (eq_ix2 _).symm)

/-- The kernel's run: its three results and its arguments kept. -/
theorem value (ρ : Dev nD → PrngReg) : θ_run defs (onTc (τ := τ) (main (F := Ideal))) ⟨m, fun _ => 0, ρ⟩ fun r => ∀ c : Dev nD,
    r.2.mem ((c : Thread nD τ).loc main_v0_0) = doArr (A0 m c) (A2 m c)
    ∧ r.2.mem ((c : Thread nD τ).loc main_v0_1) = dgArr (A0 m c) (A1 m c) (A2 m c)
    ∧ r.2.mem ((c : Thread nD τ).loc main_v0_2) = delArr (A0 m c) (A1 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

/-! ## The reference's terms. -/

section Ref
open Cert.Reference2Ideal.Facts₀
variable (a o g : FVec Ideal S8192x2048 .f32)

abbrev rOne : FVec Ideal S8192x2048 .f32 := broadcastInDim Cert.Reference2Ideal.S8192x2048 ![] bcast_S_S8192x2048 (constant Cert.Reference2Ideal.S_ .f32 0x3F800000#32)
abbrev rSig : FVec Ideal S8192x2048 .f32 := Host.divf rOne (addf rOne (Host.exp (Host.negf g)))
abbrev rDo : FVec Ideal S8192x2048 .f32 := mulf a (mulf g (rSig g))

theorem rDo_at (s : Fin 8192) (l : Fin 2048) : rDo a g (ix2 s l) = (a (ix2 s l) : EReal) * Fox.silu (g (ix2 s l)) := by
  pointwise [rDo, rSig, rOne]
  rfl

theorem ref_do : truncf .bf16 (rDo a g) Cert.Reference2Ideal.Facts₀.bitsLt_bf16_f32 = doArr a g := by
  funext i
  obtain ⟨s, l, rfl⟩ : ∃ (s : Fin 8192) (l : Fin 2048), i = (ix2 s l : S8192x2048.Idx) := ⟨i 0, i 1, eq_ix2 i⟩
  exact rDo_at a g s l

theorem ref_del : shapeCast Cert.Reference2Ideal.S8192x2048 (broadcastInDim Cert.Reference2Ideal.S8192x16x128 ![0, 1] bcast_S8192x16_S8192x16x128_0_1
    (Host.reduceAdd (shapeCast Cert.Reference2Ideal.S8192x16x128 (mulf (rDo a g) o) shapeCasts_S8192x2048_S8192x16x128)
      (constant Cert.Reference2Ideal.S_ .f32 0x00000000#32) reducesTo_S8192x16x128_S8192x16_d2 h_S_)) shapeCasts_S8192x16x128_S8192x2048 = delArr a o g := by
  funext i
  obtain ⟨s, l, rfl⟩ : ∃ (s : Fin 8192) (l : Fin 2048), i = (ix2 s l : S8192x2048.Idx) := ⟨i 0, i 1, eq_ix2 i⟩
  rw [delArr_at]
  pointwise [rDo_at]
  rfl

/-- Over numbers the sigmoid is a number. -/
theorem sigm_real (g : ℝ) : sigm (g : EReal) = (((1 + Real.exp (-g))⁻¹ : ℝ) : EReal) := by
  have h : (1 + Real.exp (-g)) ≠ 0 := (add_pos one_pos (Real.exp_pos _)).ne'
  unfold sigm
  rw [← EReal.coe_neg, Ideal.exp_coe, ← EReal.coe_one, ← EReal.coe_add, Fox.div_coe_coe _ h, one_div]

/-- At an infinite gate the sigmoid is 1 or 0. -/
theorem sigm_top : sigm ⊤ = 1 := by
  unfold sigm
  rw [EReal.neg_top, Ideal.exp_bot, add_zero]
  exact (Fox.div_coe_coe 1 one_ne_zero).trans (by rw [div_one, EReal.coe_one])

theorem sigm_bot : sigm ⊥ = 0 := by
  unfold sigm Ideal.div
  rw [EReal.neg_bot, Ideal.exp_top, ← EReal.coe_one, EReal.coe_add_top, if_neg EReal.top_ne_zero, EReal.inv_top, mul_zero]

theorem one_sub_one : (1 : EReal) - 1 = 0 := by
  rw [← EReal.coe_one, ← EReal.coe_sub, sub_self, EReal.coe_zero]

/-- The reference's two summands are the kernel's one product, whatever the gate. -/
theorem slope_eq (a o : ℝ) (g : EReal) : ((o : EReal) * a) * sigm g + (g * ((o : EReal) * a)) * (sigm g * (1 - sigm g)) = (a : EReal) * o * slope g := by
  unfold slope
  induction g with
  | bot => rw [sigm_bot, zero_mul, zero_mul, mul_zero, mul_zero, mul_zero, add_zero]
  | top => rw [sigm_top, one_sub_one, one_mul, mul_zero, mul_zero, mul_one, add_zero, add_zero, mul_one, mul_comm (o : EReal), mul_one]
  | coe g =>
    rw [sigm_real]
    generalize (1 + Real.exp (-g))⁻¹ = s
    rw [← EReal.coe_one]
    simp only [← EReal.coe_mul, ← EReal.coe_sub, ← EReal.coe_add]
    exact congrArg Real.toEReal (by ring)

theorem ref_dg (ha : ∀ s l, a (ix2 s l) = (((a (ix2 s l) : EReal).toReal : ℝ) : EReal)) (ho : ∀ s l, o (ix2 s l) = (((o (ix2 s l) : EReal).toReal : ℝ) : EReal)) :
    truncf .bf16 (addf (mulf (mulf o a) (rSig g)) (mulf (mulf g (mulf o a)) (mulf (rSig g) (subf rOne (rSig g))))) Cert.Reference2Ideal.Facts₀.bitsLt_bf16_f32 = dgArr a o g := by
  funext i
  obtain ⟨s, l, rfl⟩ : ∃ (s : Fin 8192) (l : Fin 2048), i = (ix2 s l : S8192x2048.Idx) := ⟨i 0, i 1, eq_ix2 i⟩
  have e := slope_eq (a (ix2 s l) : EReal).toReal (o (ix2 s l) : EReal).toReal (g (ix2 s l))
  rw [← ha, ← ho] at e
  refine Eq.trans ?_ e
  pointwise [rSig, rOne]
  rfl

end Ref

end Cert.Kernel2Ideal.Hand

namespace Cert.Proof.Gate

open Idealize.ShloMosaic Idealize.ShloMosaic.TcCoe Idealize.SL.Sem

instance finite : Cert.Pre_finite2.Facts := by constructor <;> decide

section Finite
open Cert.Pre_finite2 Cert.Pre_finite2.Facts

/-- What the precondition says: the gradient and the attention's output are numbers. -/
theorem fn_at {a0 a1 a2 : FVec Ideal S8192x2048 .f32} (h : Cert.Pre_finite2.fn (F := Ideal) a0 a1 a2 = fun _ => 1#1) :
    (∀ (s : Fin 8192) (l : Fin 2048), a0 (ix2 s l) = (((a0 (ix2 s l) : EReal).toReal : ℝ) : EReal))
    ∧ (∀ (s : Fin 8192) (l : Fin 2048), a1 (ix2 s l) = (((a1 (ix2 s l) : EReal).toReal : ℝ) : EReal)) := by
  have h0 := congrFun h ix0
  unfold Cert.Pre_finite2.fn at h0
  dsimp only at h0
  pointwise at h0
  rw [Finite.top_f32] at h0
  obtain ⟨h1, h2⟩ := Finite.and_one.mp h0
  refine ⟨fun s l => ?_, fun s l => ?_⟩
  · have h := Finite.fold_univ h1 (s, l)
    exact Finite.real_of h
  · have h := Finite.fold_univ h2 (s, l)
    exact Finite.real_of h

end Finite

theorem algebraic : Cert.algebraic_Kernel2Ideal_Reference2Ideal_pre_finite2 := by
  intro m g m' g' hpre hagree
  refine ⟨fun c => Cert.Kernel2Ideal.Hand.doArr (Cert.Kernel2Ideal.Hand.A0 m c) (Cert.Kernel2Ideal.Hand.A2 m c),
    fun c => Cert.Kernel2Ideal.Hand.dgArr (Cert.Kernel2Ideal.Hand.A0 m c) (Cert.Kernel2Ideal.Hand.A1 m c) (Cert.Kernel2Ideal.Hand.A2 m c),
    fun c => Cert.Kernel2Ideal.Hand.delArr (Cert.Kernel2Ideal.Hand.A0 m c) (Cert.Kernel2Ideal.Hand.A1 m c) (Cert.Kernel2Ideal.Hand.A2 m c),
    Cert.Kernel2Ideal.Hand.value m g, ?_⟩
  refine (θ_run Cert.Reference2Ideal.defs _ _).mono (fun r h c => ?_) (Cert.Reference2Ideal.Value.run m' g')
  obtain ⟨h0, h1, h2, hk⟩ := h c
  obtain ⟨f0, f1⟩ := fn_at (hpre c)
  refine ⟨h0.trans ?_, h1.trans ?_, h2.trans ?_, hk⟩
  · rw [(hagree c).1, (hagree c).2.2]
    exact Cert.Kernel2Ideal.Hand.ref_do _ _
  · rw [(hagree c).1, (hagree c).2.1, (hagree c).2.2]
    exact Cert.Kernel2Ideal.Hand.ref_dg _ _ _ f0 f1
  · rw [(hagree c).1, (hagree c).2.1, (hagree c).2.2]
    exact Cert.Kernel2Ideal.Hand.ref_del _ _ _

theorem frame_r : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

end Cert.Proof.Gate

end
-- ==== Proof.Norm.lean ====
/- The gradient of the norm: what the kernel's grid leaves in its three layouts of the rows' gradient and in the weight's. -/
module

public import proofs.«01_k».proof.Defs
public import proofs.«01_k».proof.Proof.Halves
public import proofs.«01_k».proof.Proof.Gen.Kernel10Ideal.Frame
public import Idealize.ShloMosaic.Lib.Pipeline.Value
public import Idealize.ShloMosaic.Lib.Pipeline.ValueKit

@[expose] public section

set_option maxRecDepth 16384

noncomputable section

namespace Cert.Kernel10Ideal.Hand

open Idealize.ShloMosaic Idealize.ShloMosaic.TcCoe Idealize.SL.Sem
open Idealize.ShloMosaic.Pipeline (Dat)
open Cert.Kernel10Ideal Cert.Kernel10Ideal.Gen
open Cert.Proof
open Finset (range)

/-! ## The arrays, of the rows, the weight, the normed rows' gradient and the residual stream's. -/

/-- A row's scale: one over the root of its mean square. -/
def rowScale (x : Fin 2048 → EReal) : EReal :=
  Ideal.rsqrt (Ideal.div (∑ k : Fin 2048, x k * x k) (Ideal.ofBits .f32 0x45000000#32) + Ideal.ofBits .f32 0x358637BD#32)

/-- One entry of the rows' gradient: of the row, its weighted gradient, the residual stream's entry, and the column. -/
def rowGrad (x t : Fin 2048 → EReal) (e : EReal) (l : Fin 2048) : EReal :=
  e + rowScale x * (t l - x l * rowScale x * Ideal.div (∑ k : Fin 2048, t k * (x k * rowScale x)) (Ideal.ofBits .f32 0x45000000#32))

section Arrays
variable (h : FVec Ideal S8192x2048 .f32) (g : FVec Ideal S1x2048 .f32) (dy e : FVec Ideal S8192x2048 .f32)

def row (s : Fin 8192) : Fin 2048 → EReal := fun k => h (ix2 s k)
def wrow (s : Fin 8192) : Fin 2048 → EReal := fun k => (dy (ix2 s k) : EReal) * g (ix2 0 k)

def dxArr : FVec Ideal S8192x2048 .f32 := fun i => rowGrad (row h (i 0)) (wrow g dy (i 0)) (e i) (i 1)
def dx16Arr : FVec Ideal S8192x2048 .bf16 := fun i => rowGrad (row h (i 0)) (wrow g dy (i 0)) (e i) (i 1)
def dxTArr : FVec Ideal S2048x8192 .bf16 := fun i => rowGrad (row h (i 1)) (wrow g dy (i 1)) (e (ix2 (i 1) (i 0))) (i 0)

/-- One row's part of the weight's gradient. -/
def wTerm (d : Fin 2048) (n : ℕ) : EReal :=
  if hn : n < 8192 then (dy (ix2 ⟨n, hn⟩ d) : EReal) * ((h (ix2 ⟨n, hn⟩ d) : EReal) * rowScale (row h ⟨n, hn⟩)) else 0

/-- The weight's gradient, its rows summed by residue modulo eight. -/
def dgArr : FVec Ideal S8x2048 .f32 := fun i => (∑ a ∈ range 1024, wTerm h dy (i 1) (a * 8 + (i 0).val) : EReal)

end Arrays

/-! ## The payloads, entry by entry. -/

section Pay
variable (x dy e : FVec Ideal S256x2048 .f32) (g : FVec Ideal S1x2048 .f32) (r : Fin 256) (d : Fin 2048)

theorem rs_at : k0_pay2 (F := Ideal) x (ix2 r 0) = rowScale (fun k => x (ix2 r k)) := by
  unfold rowScale
  pointwise [k0_pay2]

theorem dx_at : k0_pay4 (F := Ideal) x g dy e (ix2 r d)
    = rowGrad (fun k => x (ix2 r k)) (fun k => (dy (ix2 r k) : EReal) * g (ix2 0 k)) (e (ix2 r d)) d := by
  unfold rowGrad
  rw [← rs_at]
  pointwise [k0_pay4, k0_pay3]

theorem dx16_at : k0_pay5 (F := Ideal) x g dy e (ix2 r d) = k0_pay4 (F := Ideal) x g dy e (ix2 r d) := by
  pointwise [k0_pay5]

theorem dxT_at : k0_pay6 (F := Ideal) x g dy e (ix2 d r) = k0_pay4 (F := Ideal) x g dy e (ix2 r d) := by
  pointwise [k0_pay6]

theorem dg_at (q : Fin 8) : k0_pay7 (F := Ideal) x dy (ix2 q d)
    = (∑ a : Fin 32, (dy (ix2 ⟨a.val * 8 + q.val, by omega⟩ d) : EReal)
      * ((x (ix2 ⟨a.val * 8 + q.val, by omega⟩ d) : EReal) * rowScale (fun k => x (ix2 ⟨a.val * 8 + q.val, by omega⟩ k))) : EReal) := by
  simp only [← rs_at]
  pointwise [k0_pay7, k0_pay3]

theorem add_at (p a : FVec Ideal S8x2048 .f32) (q : Fin 8) : k0_pay1 (F := Ideal) p a (ix2 q d) = ((a (ix2 q d) : EReal) + p (ix2 q d) : EReal) := by
  pointwise [k0_pay1]

end Pay

/-! ## What a grid point leaves. -/

section Points
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S256x2048 .bf16) (h6 : a6.IsWhole) (a7 : Memref sig .tc .vmem S2048x256 .bf16) (h7 : a7.IsWhole)
  (a8 : Memref sig .tc .vmem S8x2048 .f32) (h8 : a8.IsWhole)
  (x : FVec Ideal S256x2048 .f32) (g : FVec Ideal S1x2048 .f32) (dy e : FVec Ideal S256x2048 .f32)

section First
variable (hc0 : cond0_0 i) (hc1 : ¬cond0_1 i)

theorem firstA4 : out0_A_4 (F := Ideal) c i a1 h1 a2 h2 a3 h3 a4 h4 a5 h5 a6 h6 a7 h7 a8 h8 hc0 hc1 x g dy e = k0_pay4 (F := Ideal) x g dy e := by
  unfold out0_A_4
  rw [View.read_writes_eq_canon _ _ _ (cover0_A_4 (F := Ideal) c i a1 h1 a2 h2 a3 h3 a4 h4 a5 h5 a6 h6 a7 h7 a8 h8 hc0 hc1 x g dy e)]
  unfold kernelRun0_A
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

theorem firstA5 : out0_A_5 (F := Ideal) c i a1 h1 a2 h2 a3 h3 a4 h4 a5 h5 a6 h6 a7 h7 a8 h8 hc0 hc1 x g dy e = k0_pay5 (F := Ideal) x g dy e := by
  unfold out0_A_5
  rw [View.read_writes_eq_canon _ _ _ (cover0_A_5 (F := Ideal) c i a1 h1 a2 h2 a3 h3 a4 h4 a5 h5 a6 h6 a7 h7 a8 h8 hc0 hc1 x g dy e)]
  unfold kernelRun0_A
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

theorem firstA6 : out0_A_6 (F := Ideal) c i a1 h1 a2 h2 a3 h3 a4 h4 a5 h5 a6 h6 a7 h7 a8 h8 hc0 hc1 x g dy e = k0_pay6 (F := Ideal) x g dy e := by
  unfold out0_A_6
  rw [View.read_writes_eq_canon _ _ _ (cover0_A_6 (F := Ideal) c i a1 h1 a2 h2 a3 h3 a4 h4 a5 h5 a6 h6 a7 h7 a8 h8 hc0 hc1 x g dy e)]
  unfold kernelRun0_A
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

theorem firstA7 : out0_A_7 (F := Ideal) c i a1 h1 a2 h2 a3 h3 a4 h4 a5 h5 a6 h6 a7 h7 a8 h8 hc0 hc1 x g dy e = k0_pay7 (F := Ideal) x dy := by
  unfold out0_A_7
  rw [View.read_writes_eq_canon _ _ _ (cover0_A_7 (F := Ideal) c i a1 h1 a2 h2 a3 h3 a4 h4 a5 h5 a6 h6 a7 h7 a8 h8 hc0 hc1 x g dy e)]
  unfold kernelRun0_A
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

end First

section Later
variable (hc0 : ¬cond0_0 i) (hc1 : cond0_1 i) (o : FVec Ideal S8x2048 .f32)

theorem laterB4 : out0_B_4 (F := Ideal) c i a1 h1 a2 h2 a3 h3 a4 h4 a5 h5 a6 h6 a7 h7 a8 h8 hc0 hc1 x g dy e o = k0_pay4 (F := Ideal) x g dy e := by
  unfold out0_B_4
  rw [View.read_writes_eq_canon _ _ _ (cover0_B_4 (F := Ideal) c i a1 h1 a2 h2 a3 h3 a4 h4 a5 h5 a6 h6 a7 h7 a8 h8 hc0 hc1 x g dy e o)]
  unfold kernelRun0_B
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

theorem laterB5 : out0_B_5 (F := Ideal) c i a1 h1 a2 h2 a3 h3 a4 h4 a5 h5 a6 h6 a7 h7 a8 h8 hc0 hc1 x g dy e o = k0_pay5 (F := Ideal) x g dy e := by
  unfold out0_B_5
  rw [View.read_writes_eq_canon _ _ _ (cover0_B_5 (F := Ideal) c i a1 h1 a2 h2 a3 h3 a4 h4 a5 h5 a6 h6 a7 h7 a8 h8 hc0 hc1 x g dy e o)]
  unfold kernelRun0_B
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

theorem laterB6 : out0_B_6 (F := Ideal) c i a1 h1 a2 h2 a3 h3 a4 h4 a5 h5 a6 h6 a7 h7 a8 h8 hc0 hc1 x g dy e o = k0_pay6 (F := Ideal) x g dy e := by
  unfold out0_B_6
  rw [View.read_writes_eq_canon _ _ _ (cover0_B_6 (F := Ideal) c i a1 h1 a2 h2 a3 h3 a4 h4 a5 h5 a6 h6 a7 h7 a8 h8 hc0 hc1 x g dy e o)]
  unfold kernelRun0_B
  dsimp only
  sl_unfold_words
  rw [View.canon_unit_zero zero_offsets]
  simp only [View.readAt_eq_ld, h1.read_unread, h2.read_unread, h3.read_unread, h4.read_unread,
    View.ld_unit_zero (S := S256x2048) zero_offsets, View.ld_unit_zero (S := S1x2048) zero_offsets]

/-- A later point adds its part to the weight's gradient so far. -/
theorem laterB7 : out0_B_7 (F := Ideal) c i a1 h1 a2 h2 a3 h3 a4 h4 a5 h5 a6 h6 a7 h7 a8 h8 hc0 hc1 x g dy e o
    = k0_pay1 (F := Ideal) (k0_pay7 (F := Ideal) x dy) o := by
  unfold out0_B_7
  rw [View.read_writes_eq_canon _ _ _ (cover0_B_7 (F := Ideal) c i a1 h1 a2 h2 a3 h3 a4 h4 a5 h5 a6 h6 a7 h7 a8 h8 hc0 hc1 x g dy e o)]
  unfold kernelRun0_B
  dsimp only
  sl_unfold_words
  rw [View.canon_unit_zero zero_offsets]
  simp only [View.readAt_eq_ld, h1.read_unread, h2.read_unread, h3.read_unread, h4.read_unread, h8.read_unread,
    View.ld_unit_zero (S := S256x2048) zero_offsets, View.ld_unit_zero (S := S1x2048) zero_offsets, View.ld_unit_zero (S := S8x2048) zero_offsets]

end Later
end Points

variable (m : (ℓ : Loc nD τ sig) → Buf (Elt Ideal) ℓ) (c : Dev nD) (t : Fin cfg0.N)

theorem outs4 : (outsAt0 m c t.val t.isLt).1 = k0_pay4 (F := Ideal) (iblk m c 0 t) (iblk m c 1 t) (iblk m c 2 t) (iblk m c 3 t) := by
  have hN : t.val < 32 := t.isLt
  by_cases h : t.val = 0
  · rw [outsAt0_A m c t (by omega) (by omega)]
    dsimp only
    exact firstA4 c _ _ _ _ _ _ _ _ _ _ _ _ _ _ _ _ _ _ _ _ _ _ _
  · rw [outsAt0_B m c t (by omega) (by omega)]
    dsimp only
    exact laterB4 c _ _ _ _ _ _ _ _ _ _ _ _ _ _ _ _ _ _ _ _ _ _ _ _

theorem outs5 : (outsAt0 m c t.val t.isLt).2.1 = k0_pay5 (F := Ideal) (iblk m c 0 t) (iblk m c 1 t) (iblk m c 2 t) (iblk m c 3 t) := by
  have hN : t.val < 32 := t.isLt
  by_cases h : t.val = 0
  · rw [outsAt0_A m c t (by omega) (by omega)]
    dsimp only
    exact firstA5 c _ _ _ _ _ _ _ _ _ _ _ _ _ _ _ _ _ _ _ _ _ _ _
  · rw [outsAt0_B m c t (by omega) (by omega)]
    dsimp only
    exact laterB5 c _ _ _ _ _ _ _ _ _ _ _ _ _ _ _ _ _ _ _ _ _ _ _ _

theorem outs6 : (outsAt0 m c t.val t.isLt).2.2.1 = k0_pay6 (F := Ideal) (iblk m c 0 t) (iblk m c 1 t) (iblk m c 2 t) (iblk m c 3 t) := by
  have hN : t.val < 32 := t.isLt
  by_cases h : t.val = 0
  · rw [outsAt0_A m c t (by omega) (by omega)]
    dsimp only
    exact firstA6 c _ _ _ _ _ _ _ _ _ _ _ _ _ _ _ _ _ _ _ _ _ _ _
  · rw [outsAt0_B m c t (by omega) (by omega)]
    dsimp only
    exact laterB6 c _ _ _ _ _ _ _ _ _ _ _ _ _ _ _ _ _ _ _ _ _ _ _ _

theorem outs7_first (h : t.val = 0) : (outsAt0 m c t.val t.isLt).2.2.2 = k0_pay7 (F := Ideal) (iblk m c 0 t) (iblk m c 2 t) := by
  rw [outsAt0_A m c t (by omega) (by omega)]
  dsimp only
  exact firstA7 c _ _ _ _ _ _ _ _ _ _ _ _ _ _ _ _ _ _ _ _ _ _ _

theorem outs7_later (h : t.val ≠ 0) : (outsAt0 m c t.val t.isLt).2.2.2 = k0_pay1 (F := Ideal) (k0_pay7 (F := Ideal) (iblk m c 0 t) (iblk m c 2 t))
    (outsAt0 m c (t.val - 1) (Nat.lt_of_le_of_lt (Nat.sub_le _ _) t.isLt)).2.2.2 := by
  have hN : t.val < 32 := t.isLt
  rw [outsAt0_B m c t (by omega) (by omega)]
  dsimp only
  exact laterB7 c _ _ _ _ _ _ _ _ _ _ _ _ _ _ _ _ _ _ _ _ _ _ _ _

/-! ## The blocks and the arrays. -/

abbrev A0 : FVec Ideal S8192x2048 .f32 := m ((c : Thread nD τ).loc main_arg0)
abbrev A1 : FVec Ideal S1x2048 .f32 := m ((c : Thread nD τ).loc main_arg1)
abbrev A2 : FVec Ideal S8192x2048 .f32 := m ((c : Thread nD τ).loc main_arg2)
abbrev A3 : FVec Ideal S8192x2048 .f32 := m ((c : Thread nD τ).loc main_arg3)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, t.val] ∧ win0_7.index t = ![0, 0] :=
  (by decide +kernel : ∀ t : Fin grid0.N, _)

def pos (r : Fin 256) : Fin 8192 := ⟨t.val * 256 + r.val, by have : t.val < 32 := t.isLt; omega⟩

theorem blk0 (r : Fin 256) (d : Fin 2048) : (iblk m c 0 t : FVec Ideal S256x2048 .f32) (ix2 r d) = A0 m c (ix2 (pos t r) d) := by
  unfold pos
  blk_ext [iblk, V, idx t]
theorem blk1 (d : Fin 2048) : (iblk m c 1 t : FVec Ideal S1x2048 .f32) (ix2 0 d) = A1 m c (ix2 0 d) := by
  blk_ext [iblk, V, idx t]
theorem blk2 (r : Fin 256) (d : Fin 2048) : (iblk m c 2 t : FVec Ideal S256x2048 .f32) (ix2 r d) = A2 m c (ix2 (pos t r) d) := by
  unfold pos
  blk_ext [iblk, V, idx t]
theorem blk3 (r : Fin 256) (d : Fin 2048) : (iblk m c 3 t : FVec Ideal S256x2048 .f32) (ix2 r d) = A3 m c (ix2 (pos t r) d) := by
  unfold pos
  blk_ext [iblk, V, idx t]

/-- A tile of the rows' gradient. -/
theorem dx_blk (r : Fin 256) (d : Fin 2048) : k0_pay4 (F := Ideal) (iblk m c 0 t) (iblk m c 1 t) (iblk m c 2 t) (iblk m c 3 t) (ix2 r d)
    = rowGrad (row (A0 m c) (pos t r)) (wrow (A1 m c) (A2 m c) (pos t r)) (A3 m c (ix2 (pos t r) d)) d := by
  refine (dx_at _ _ _ _ r d).trans ?_
  rw [blk3]
  simp only [blk0, blk1, blk2]
  rfl

theorem final4 : (dats m 0 c).arrAt 4 cfg0.N = dxArr (A0 m c) (A1 m c) (A2 m c) (A3 m c) := by
  refine (dats m 0 c).arrAt_eq_of_covers 4 _ (by decide +kernel) fun t hf y => ?_
  blk_simp
  rw [after0_4]
  obtain ⟨r, d, rfl⟩ : ∃ (r : Fin 256) (d : Fin 2048), y = (ix2 r d : S256x2048.Idx) := ⟨y 0, y 1, eq_ix2 y⟩
  have e0 : ((((View.whole main_v0_0).slice (win0_4.rect t)).emb (ix2 r d : S256x2048.Idx)) 0).val = (pos t r).val := by unfold pos; blk_simp [idx t]
  have e1 : ((((View.whole main_v0_0).slice (win0_4.rect t)).emb (ix2 r d : S256x2048.Idx)) 1).val = d.val := by blk_simp [idx t]
  refine (congrFun (outs4 m c t) _).trans ((dx_blk m c t r d).trans ?_)
  exact congrArg (dxArr (A0 m c) (A1 m c) (A2 m c) (A3 m c)) ((congrArg₂ ix2 (Fin.ext e0.symm) (Fin.ext e1.symm)).trans (eq_ix2 _).symm)

theorem final5 : (dats m 0 c).arrAt 5 cfg0.N = dx16Arr (A0 m c) (A1 m c) (A2 m c) (A3 m c) := by
  refine (dats m 0 c).arrAt_eq_of_covers 5 _ (by decide +kernel) fun t hf y => ?_
  blk_simp
  rw [after0_5]
  obtain ⟨r, d, rfl⟩ : ∃ (r : Fin 256) (d : Fin 2048), y = (ix2 r d : S256x2048.Idx) := ⟨y 0, y 1, eq_ix2 y⟩
  have e0 : ((((View.whole main_v0_1).slice (win0_5.rect t)).emb (ix2 r d : S256x2048.Idx)) 0).val = (pos t r).val := by unfold pos; blk_simp [idx t]
  have e1 : ((((View.whole main_v0_1).slice (win0_5.rect t)).emb (ix2 r d : S256x2048.Idx)) 1).val = d.val := by blk_simp [idx t]
  refine (congrFun (outs5 m c t) _).trans ((dx16_at _ _ _ _ r d).trans ((dx_blk m c t r d).trans ?_))
  exact congrArg (dx16Arr (A0 m c) (A1 m c) (A2 m c) (A3 m c)) ((congrArg₂ ix2 (Fin.ext e0.symm) (Fin.ext e1.symm)).trans (eq_ix2 _).symm)

theorem final6 : (dats m 0 c).arrAt 6 cfg0.N = dxTArr (A0 m c) (A1 m c) (A2 m c) (A3 m c) := by
  refine (dats m 0 c).arrAt_eq_of_covers 6 _ (by decide +kernel) fun t hf y => ?_
  blk_simp
  rw [after0_6]
  obtain ⟨d, r, rfl⟩ : ∃ (d : Fin 2048) (r : Fin 256), y = (ix2 d r : S2048x256.Idx) := ⟨y 0, y 1, eq_ix2 y⟩
  have e0 : ((((View.whole main_v0_2).slice (win0_6.rect t)).emb (ix2 d r : S2048x256.Idx)) 0).val = d.val := by blk_simp [idx t]
  have e1 : ((((View.whole main_v0_2).slice (win0_6.rect t)).emb (ix2 d r : S2048x256.Idx)) 1).val = (pos t r).val := by unfold pos; blk_simp [idx t]
  refine (congrFun (outs6 m c t) _).trans ((dxT_at _ _ _ _ r d).trans ((dx_blk m c t r d).trans ?_))
  exact congrArg (dxTArr (A0 m c) (A1 m c) (A2 m c) (A3 m c)) ((congrArg₂ ix2 (Fin.ext e0.symm) (Fin.ext e1.symm)).trans (eq_ix2 _).symm)

/-! ## The weight's gradient, accumulated over the tiles. -/

/-- One tile's part. -/
theorem dg_blk (q : Fin 8) (d : Fin 2048) : k0_pay7 (F := Ideal) (iblk m c 0 t) (iblk m c 2 t) (ix2 q d)
    = (∑ a ∈ range 32, wTerm (A0 m c) (A2 m c) d ((t.val * 32 + a) * 8 + q.val) : EReal) := by
  have hN : t.val < 32 := t.isLt
  rw [dg_at, Finset.sum_range]
  refine Finset.sum_congr rfl fun a _ => ?_
  have hp : pos t ⟨a.val * 8 + q.val, by omega⟩ = (⟨(t.val * 32 + a.val) * 8 + q.val, by omega⟩ : Fin 8192) := Fin.ext (by unfold pos; dsimp only; omega)
  unfold wTerm
  rw [dif_pos (by omega)]
  simp only [blk0, blk2, hp]
  rfl

/-- What has been accumulated after a point: the tiles so far. -/
theorem acc_at (q : Fin 8) (d : Fin 2048) : ∀ (n : ℕ) (hn : n < cfg0.N), ((outsAt0 m c n hn).2.2.2 : FVec Ideal S8x2048 .f32) (ix2 q d)
    = (∑ a ∈ range ((n + 1) * 32), wTerm (A0 m c) (A2 m c) d (a * 8 + q.val) : EReal)
  | 0, hn => by
    refine (congrFun (outs7_first m c ⟨0, hn⟩ rfl) _).trans ((dg_blk m c ⟨0, hn⟩ q d).trans ?_)
    simp only [Nat.zero_mul, Nat.zero_add, Nat.one_mul]
  | n + 1, hn => by
    refine (congrFun (outs7_later m c ⟨n + 1, hn⟩ (Nat.succ_ne_zero n)) _).trans ((add_at d _ _ q).trans ?_)
    rw [dg_blk, Nat.succ_mul (n + 1), Finset.sum_range_add]
    exact congrArg₂ (· + ·) (acc_at q d n _) rfl

theorem final7 : (dats m 0 c).arrAt 7 cfg0.N = dgArr (A0 m c) (A2 m c) := by
  refine (dats m 0 c).arrAt_eq_of_covers 7 _ (by decide +kernel) fun t hf y => ?_
  have hN : t.val < 32 := t.isLt
  blk_simp
  rw [after0_7]
  obtain ⟨q, d, rfl⟩ : ∃ (q : Fin 8) (d : Fin 2048), y = (ix2 q d : S8x2048.Idx) := ⟨y 0, y 1, eq_ix2 y⟩
  have e0 : ((((View.whole main_v0_3).slice (win0_7.rect t)).emb (ix2 q d : S8x2048.Idx)) 0).val = q.val := by blk_simp [idx t]
  have e1 : ((((View.whole main_v0_3).slice (win0_7.rect t)).emb (ix2 q d : S8x2048.Idx)) 1).val = d.val := by blk_simp [idx t]
  have ht := (flush0_7 t).mp hf
  refine (acc_at m c q d t.val t.isLt).trans ?_
  rw [show (t.val + 1) * 32 = 1024 by omega]
  exact congrArg (dgArr (A0 m c) (A2 m c)) ((congrArg₂ ix2 (Fin.ext e0.symm) (Fin.ext e1.symm)).trans (eq_ix2 _).symm)

/-! ## The host's sum and the run. -/

/-- The weight's gradient: every row's part. -/
def gArr (h dy : FVec Ideal S8192x2048 .f32) : FVec Ideal S2048 .f32 := fun i => (∑ n ∈ range 8192, wTerm h dy (i 0) n : EReal)

def hostSum (p : FVec Ideal S8x2048 .f32) : FVec Ideal S2048 .f32 :=
  Host.reduceAdd p (constant (F := Ideal) S_ .f32 0x00000000#32) reducesTo_S8x2048_S2048_d0 h_S_

/-- A sum over the rows, by residue. -/
theorem sum_residues (f : ℕ → EReal) (n : ℕ) : ∑ ρ : Fin 8, ∑ a ∈ range n, f (a * 8 + ρ) = ∑ s ∈ range (n * 8), f s := by
  induction n with
  | zero => simp
  | succ n ih =>
    rw [Nat.succ_mul, Finset.sum_range_add, ← ih, Finset.sum_range (fun u => f (n * 8 + u)), ← Finset.sum_add_distrib]
    simp only [Finset.sum_range_succ]

theorem hostSum_at (p : FVec Ideal S8x2048 .f32) (d : Fin 2048) : hostSum p (ix1 d) = (∑ q : Fin 8, (p (ix2 q d) : EReal) : EReal) := by
  pointwise [hostSum]

theorem hostSum_val (h dy : FVec Ideal S8192x2048 .f32) : hostSum (dgArr h dy) = gArr h dy := by
  funext i
  obtain ⟨d, rfl⟩ : ∃ d : Fin 2048, i = (ix1 d : S2048.Idx) := ⟨i 0, eq_ix1 i⟩
  rw [hostSum_at]
  exact sum_residues (fun n => wTerm h dy d n) 1024

set_option maxHeartbeats 1000000 in
theorem exit7 : Pipeline.withArrays (cfgs 0).spec c (V0 m c) (fun w => (dats m 0 c).arrAt w (cfgs 0).N) (Proc.tc.devRef main_v0_3)
    = (dats m 0 c).arrAt 7 (cfgs 0).N := Pipeline.withArrays_arr spec0 (by decide) c (V0 m c) (fun w => (dats m 0 c).arrAt w (cfgs 0).N) 7

set_option maxHeartbeats 1000000 in
/-- What the line after the call leaves in the weight's gradient. -/
theorem tail_v1 : Pipeline.afterTail₀ cfgs (dats m) 0 (V0 m) [hostOps1] c main_v1 = hostSum ((dats m 0 c).arrAt 7 (cfgs 0).N) := by
  unfold Pipeline.afterTail₀
  simp only [hostOps1, List.flatten_cons, List.flatten_nil, List.append_nil]
  after_results
  rw [exit7]
  rfl

/-- The kernel program's run: its four results and its arguments kept. -/
theorem value (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = dxArr (A0 m c) (A1 m c) (A2 m c) (A3 m c)
      ∧ r.2.mem ((c : Thread nD τ).loc main_v0_1) = dx16Arr (A0 m c) (A1 m c) (A2 m c) (A3 m c)
      ∧ r.2.mem ((c : Thread nD τ).loc main_v0_2) = dxTArr (A0 m c) (A1 m c) (A2 m c) (A3 m c)
      ∧ r.2.mem ((c : Thread nD τ).loc main_v1) = gArr (A0 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨((h c).1 4).trans (final4 m c), ((h c).1 5).trans (final5 m c), ((h c).1 6).trans (final6 m c),
      ((h c).2 main_v1 (Pipeline.mem_restRefs_of main_v1 (by decide) (by decide))).trans
        ((tail_v1 m c).trans ((congrArg hostSum (final7 m c)).trans (hostSum_val _ _))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.Kernel10Ideal.Hand

end
-- ==== Proof.NormRef.lean ====
/- The gradient of the norm: the reference's terms are the kernel's, and the claim. -/
module

public import proofs.«01_k».proof.Proof.Norm
public import proofs.«01_k».proof.Proof.Gen.Kernel10.Frame
public import proofs.«01_k».proof.Proof.Gen.Reference10Ideal.Run
public import Idealize.ShloMosaic.Lib.Claim

@[expose] public section

set_option maxRecDepth 16384

noncomputable section

namespace Cert.Kernel10Ideal.Hand

open Idealize.ShloMosaic Idealize.ShloMosaic.TcCoe Idealize.SL.Sem
open Cert.Proof
open Finset (range)

/-! ## The scale and its slope, over the extended reals. -/

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : ∃ ε : ℝ, 0 < ε ∧ Ideal.ofBits .f32 0x358637BD#32 = (ε : EReal) := by
  refine ⟨8796093 / 8796093022208, by norm_num, ?_⟩
  simp [Ideal.ofBits, Ideal.ieee, -EReal.coe_mul]; norm_num

theorem div_2048 (y : EReal) : Ideal.div y (Ideal.ofBits .f32 0x45000000#32) = y * ((2048⁻¹ : ℝ) : EReal) := by
  rw [ofBits_2048]
  unfold Ideal.div
  rw [if_neg (by exact_mod_cast (by norm_num : (2048 : ℝ) ≠ 0)), EReal.coe_inv]

theorem sq_nonneg (y : EReal) : 0 ≤ y * y := by
  induction y with
  | bot => simp
  | top => simp
  | coe r => exact_mod_cast mul_self_nonneg r

/-- The mean square, kept off zero. -/
def meanSq (x : Fin 2048 → EReal) : EReal :=
  Ideal.div (∑ k : Fin 2048, x k * x k) (Ideal.ofBits .f32 0x45000000#32) + Ideal.ofBits .f32 0x358637BD#32

theorem meanSq_pos (x : Fin 2048 → EReal) : 0 < meanSq x := by
  obtain ⟨ε, hε, e⟩ := ofBits_eps
  unfold meanSq
  rw [div_2048, e]
  refine lt_of_lt_of_le (by exact_mod_cast hε) (le_add_of_nonneg_left (mul_nonneg (Finset.sum_nonneg fun k _ => sq_nonneg _) ?_))
  exact_mod_cast (by norm_num : (0 : ℝ) ≤ 2048⁻¹)

/-- The scale is a real, and its quotient by the mean square its cube; where the mean square is infinite, both are zero. -/
theorem scale_real (x : Fin 2048 → EReal) : ∃ p : ℝ, 0 ≤ p ∧ rowScale x = (p : EReal) ∧ Ideal.div (rowScale x) (meanSq x) = ((p * p * p : ℝ) : EReal) := by
  have hv := meanSq_pos x
  have hr : rowScale x = Ideal.rsqrt (meanSq x) := rfl
  rw [hr]
  generalize meanSq x = v at hv
  induction v with
  | bot => exact absurd hv (by simp)
  | top => exact ⟨0, le_rfl, by simp, by simp [Ideal.div]⟩
  | coe v =>
    have hv : 0 < v := by exact_mod_cast hv
    refine ⟨(Real.sqrt v)⁻¹, by positivity, ?_, ?_⟩
    · rw [Ideal.rsqrt_coe, if_neg hv.not_gt, if_neg hv.ne']
    · rw [Ideal.rsqrt_coe, if_neg hv.not_gt, if_neg hv.ne']
      unfold Ideal.div
      rw [if_neg (by exact_mod_cast hv.ne'), ← EReal.coe_inv, ← EReal.coe_mul]
      refine congrArg Real.toEReal ?_
      rw [mul_assoc, ← mul_inv (Real.sqrt v) (Real.sqrt v), Real.mul_self_sqrt hv.le]

theorem mul_sum_real {p : ℝ} (hp : 0 ≤ p) (f : Fin 2048 → EReal) (s : Finset (Fin 2048)) : (p : EReal) * ∑ k ∈ s, f k = ∑ k ∈ s, (p : EReal) * f k := by
  induction s using Finset.induction_on with
  | empty => simp
  | insert a s ha ih =>
    rw [Finset.sum_insert ha, Finset.sum_insert ha, EReal.left_distrib_of_nonneg_of_ne_top (by exact_mod_cast hp) (EReal.coe_ne_top p), ih]

/-- The reference's gradient of the mean square's argument, halved: of the row and its weighted gradient. -/
def rowSlope (x t : Fin 2048 → EReal) : EReal :=
  Ideal.div ((∑ k : Fin 2048, x k * t k) * (Ideal.ofBits .f32 0xBF000000#32 * Ideal.div (rowScale x) (meanSq x))) (Ideal.ofBits .f32 0x45000000#32)

/-- The two forms of the gradient agree at every extended real. -/
theorem grad_eq (x t : Fin 2048 → EReal) (e : EReal) (l : Fin 2048) :
    e + t l * rowScale x + x l * rowSlope x t + rowSlope x t * x l = rowGrad x t e l := by
  obtain ⟨p, hp, hr, hd⟩ := scale_real x
  have hs : ∑ k : Fin 2048, t k * (x k * (p : EReal)) = (p : EReal) * ∑ k : Fin 2048, x k * t k := by
    rw [mul_sum_real hp]
    exact Finset.sum_congr rfl fun k _ => by rw [mul_comm (x k) (p : EReal), mul_left_comm, mul_comm (t k)]
  unfold rowGrad rowSlope
  rw [div_2048, div_2048, hd, hr, hs, ofBits_neg_half]
  generalize (∑ k : Fin 2048, x k * t k) = M
  have hc : (0 : EReal) ≤ ((1 / 2 * (p * p * p) * 2048⁻¹ : ℝ) : EReal) := by exact_mod_cast (by positivity)
  have h1 : x l * (M * (((-(1 / 2) : ℝ) : EReal) * ((p * p * p : ℝ) : EReal)) * ((2048⁻¹ : ℝ) : EReal))
      = ((1 / 2 * (p * p * p) * 2048⁻¹ : ℝ) : EReal) * -(x l * M) := by
    rw [← EReal.coe_mul, mul_assoc M, ← EReal.coe_mul, ← mul_assoc, mul_comm (x l * M), mul_neg, ← neg_mul, ← EReal.coe_neg]
    exact congrArg (fun u : ℝ => (u : EReal) * (x l * M)) (by ring)
  have h2 : (p : EReal) * (t l - x l * p * ((p : EReal) * M * ((2048⁻¹ : ℝ) : EReal)))
      = t l * p + ((1 / 2 * (p * p * p) * 2048⁻¹ : ℝ) + (1 / 2 * (p * p * p) * 2048⁻¹ : ℝ) : EReal) * -(x l * M) := by
    rw [sub_eq_add_neg, EReal.left_distrib_of_nonneg_of_ne_top (by exact_mod_cast hp) (EReal.coe_ne_top p), mul_comm (p : EReal) (t l),
      mul_neg, mul_neg, ← EReal.coe_add]
    refine congrArg (fun u : EReal => t l * p + -u) ?_
    have : (p : EReal) * (x l * p * ((p : EReal) * M * ((2048⁻¹ : ℝ) : EReal))) = ((p : EReal) * p * p * ((2048⁻¹ : ℝ) : EReal)) * (x l * M) := by ac_rfl
    rw [this, ← EReal.coe_mul, ← EReal.coe_mul, ← EReal.coe_mul]
    exact congrArg (fun u : ℝ => (u : EReal) * (x l * M)) (by ring)
  rw [h2, EReal.right_distrib_of_nonneg hc hc, mul_comm _ (x l), h1, add_assoc, add_assoc]

/-! ## The reference's terms. -/

section Ref
open Cert.Reference10Ideal.Facts₀
open Cert.Reference10Ideal (S_ S8192x1 S8192 S2048)
variable (h : FVec Ideal S8192x2048 .f32) (g : FVec Ideal S1x2048 .f32) (dy e : FVec Ideal S8192x2048 .f32)

def rMean : FVec Ideal S8192x1 .f32 :=
  addf (Host.divf (broadcastInDim S8192x1 ![0] bcast_S8192_S8192x1_0 (Host.reduceAdd (mulf h h) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))

def rScale : FVec Ideal S8192x1 .f32 := Host.rsqrt (rMean h)

def rWeighted : FVec Ideal S8192x2048 .f32 :=
  mulf dy (broadcastInDim S8192x2048 ![0, 1] bcast_S1x2048_S8192x2048_0_1 (broadcastInDim S1x2048 ![1] bcast_S2048_S1x2048_1 (shapeCast S2048 g shapeCasts_S1x2048_S2048)))

def rSlope (t : FVec Ideal S8192x2048 .f32) : FVec Ideal S8192x2048 .f32 :=
  broadcastInDim S8192x2048 ![0] bcast_S8192_S8192x2048_0 (Host.reduceAdd (Host.divf
    (mulf (shapeCast S8192x1 (Host.reduceAdd (mulf h t) (constant S_ .f32 0x00000000#32) reducesTo_S8192x2048_S8192_d1 h_S_) shapeCasts_S8192_S8192x1)
      (mulf (broadcastInDim S8192x1 ![] bcast_S_S8192x1 (constant S_ .f32 0xBF000000#32)) (Host.divf (rScale h) (rMean h))))
    (broadcastInDim S8192x1 ![] bcast_S_S8192x1 (constant S_ .f32 0x45000000#32))) (constant S_ .f32 0x00000000#32) reducesTo_S8192x1_S8192_d1 h_S_)

def rGrad : FVec Ideal S8192x2048 .f32 :=
  addf (addf (addf e (mulf (rWeighted g dy) (broadcastInDim S8192x2048 ![0, 1] bcast_S8192x1_S8192x2048_0_1 (rScale h)))) (mulf h (rSlope h (rWeighted g dy))))
    (mulf (rSlope h (rWeighted g dy)) h)

def rWeight : FVec Ideal S2048 .f32 :=
  Host.reduceAdd (shapeCast _ (Host.reduceAdd (mulf (mulf h (broadcastInDim S8192x2048 ![0, 1] bcast_S8192x1_S8192x2048_0_1 (rScale h))) dy)
    (constant S_ .f32 0x00000000#32) reducesTo_S8192x2048_S2048_d0 h_S_) shapeCasts_S2048_S1x2048) (constant S_ .f32 0x00000000#32) reducesTo_S1x2048_S2048_d0 h_S_

theorem rMean_at (s : Fin 8192) : rMean h (ix2 s 0) = meanSq (row h s) := by
  unfold meanSq row
  pointwise [rMean]

theorem rScale_at (s : Fin 8192) : rScale h (ix2 s 0) = rowScale (row h s) := by
  refine Eq.trans ?_ (congrArg Ideal.rsqrt (rMean_at h s))
  pointwise [rScale]

theorem rWeighted_at (s : Fin 8192) (l : Fin 2048) : rWeighted g dy (ix2 s l) = wrow g dy s l := by
  unfold wrow
  pointwise [rWeighted]

theorem rSlope_at (t : FVec Ideal S8192x2048 .f32) (s : Fin 8192) (l : Fin 2048) : rSlope h t (ix2 s l) = rowSlope (row h s) (row t s) := by
  unfold rowSlope
  rw [← rMean_at, ← rScale_at]
  unfold row
  pointwise [rSlope]
  exact Fin.sum_univ_one _

theorem rGrad_at (s : Fin 8192) (l : Fin 2048) : rGrad h g dy e (ix2 s l) = rowGrad (row h s) (wrow g dy s) (e (ix2 s l)) l := by
  rw [← grad_eq, ← rScale_at, ← rWeighted_at, show wrow g dy s = row (rWeighted g dy) s from funext fun k => (rWeighted_at g dy s k).symm,
    ← rSlope_at h _ s l]
  unfold row
  pointwise [rGrad]

theorem rWeight_at (d : Fin 2048) : rWeight h dy (ix1 d)
    = (∑ s : Fin 8192, (h (ix2 s d) : EReal) * rScale h (ix2 s 0) * dy (ix2 s d) : EReal) := by
  pointwise [rWeight]
  exact Fin.sum_univ_one _

theorem ref_dx : rGrad h g dy e = dxArr h g dy e := by
  funext i
  obtain ⟨s, l, rfl⟩ : ∃ (s : Fin 8192) (l : Fin 2048), i = (ix2 s l : S8192x2048.Idx) := ⟨i 0, i 1, eq_ix2 i⟩
  exact rGrad_at h g dy e s l

theorem ref_dx16 : truncf .bf16 (rGrad h g dy e) Cert.Reference10Ideal.Facts₀.bitsLt_bf16_f32 = dx16Arr h g dy e := by
  rw [ref_dx]
  rfl

theorem ref_dxT : truncf .bf16 (transpose Cert.Reference10Ideal.S2048x8192 [1, 0] (rGrad h g dy e) transposes_S8192x2048_S2048x8192_1_0)
    Cert.Reference10Ideal.Facts₀.bitsLt_bf16_f32 = dxTArr h g dy e := by
  funext i
  obtain ⟨l, s, rfl⟩ : ∃ (l : Fin 2048) (s : Fin 8192), i = (ix2 l s : S2048x8192.Idx) := ⟨i 0, i 1, eq_ix2 i⟩
  refine Eq.trans ?_ (rGrad_at h g dy e s l)
  pointwise

theorem ref_dg : rWeight h dy = gArr h dy := by
  funext i
  obtain ⟨d, rfl⟩ : ∃ d : Fin 2048, i = (ix1 d : S2048.Idx) := ⟨i 0, eq_ix1 i⟩
  refine (rWeight_at h dy d).trans (Eq.trans ?_ (Finset.sum_range _).symm)
  refine Finset.sum_congr rfl fun s _ => ?_
  unfold wTerm
  rw [dif_pos s.isLt, rScale_at]
  exact mul_comm _ _

end Ref

end Cert.Kernel10Ideal.Hand

namespace Cert.Proof.Norm

open Idealize.ShloMosaic Idealize.ShloMosaic.TcCoe Idealize.SL.Sem Cert.Kernel10Ideal.Hand

/-- The norm's gradient: the rows' in three layouts and the weight's. -/
theorem algebraic : Cert.algebraic_Kernel10Ideal_Reference10Ideal := by
  intro m g m' g' _ hagree
  refine ⟨fun c => dxArr (A0 m c) (A1 m c) (A2 m c) (A3 m c), fun c => dx16Arr (A0 m c) (A1 m c) (A2 m c) (A3 m c),
    fun c => dxTArr (A0 m c) (A1 m c) (A2 m c) (A3 m c), fun c => gArr (A0 m c) (A2 m c), value m g, ?_⟩
  refine (θ_run Cert.Reference10Ideal.defs _ _).mono (fun r h c => ?_) (Cert.Reference10Ideal.Value.run m' g')
  have e0 := (hagree c).1
  have e1 := (hagree c).2.1
  have e2 := (hagree c).2.2.1
  have e3 := (hagree c).2.2.2
  refine ⟨(h c).1.trans ?_, (h c).2.1.trans ?_, (h c).2.2.1.trans ?_, (h c).2.2.2.1.trans ?_, (h c).2.2.2.2⟩
  · unfold Cert.Reference10Ideal.Value.res_main_v37
    rw [e0, e1, e2, e3]
    exact ref_dx _ _ _ _
  · unfold Cert.Reference10Ideal.Value.res_main_v38
    rw [e0, e1, e2, e3]
    exact ref_dx16 _ _ _ _
  · unfold Cert.Reference10Ideal.Value.res_main_v40
    rw [e0, e1, e2, e3]
    exact ref_dxT _ _ _ _
  · rw [e0, e2]
    exact ref_dg _ _

theorem frame_r : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

end Cert.Proof.Norm

end
-- ==== Proof.Loss.lean ====
/- The loss and the last norm's gradient: what the kernel's grid leaves in the loss, the rows' gradient and the weight's. -/
module

public import proofs.«01_k».proof.Defs
public import proofs.«01_k».proof.Proof.Norm
public import proofs.«01_k».proof.Proof.Gen.Kernel11Ideal.Frame
public import Idealize.ShloMosaic.Lib.Pipeline.Value
public import Idealize.ShloMosaic.Lib.Pipeline.ValueKit

@[expose] public section

set_option maxRecDepth 16384

noncomputable section

namespace Cert.Kernel11Ideal.Hand

open Idealize.ShloMosaic Idealize.ShloMosaic.TcCoe Idealize.SL.Sem
open Idealize.ShloMosaic.Pipeline (Dat)
open Cert.Kernel11Ideal Cert.Kernel11Ideal.Gen
open Cert.Kernel10Ideal.Hand (rowScale rowGrad row wrow dxArr dx16Arr dxTArr wTerm dgArr gArr hostSum_val sum_residues)
open Cert.Proof
open Finset (range)

/-! ## The arrays, of the rows, the weight and the target. -/

/-- One entry's error: the normed row less the target. -/
def err (x g y : Fin 2048 → EReal) (k : Fin 2048) : EReal := x k * rowScale x * g k - y k

/-- One row's loss: half its mean square error. -/
def rowLoss (x g y : Fin 2048 → EReal) : EReal :=
  Ideal.ofBits .f32 0x3F000000#32 * Ideal.div (∑ k : Fin 2048, err x g y k * err x g y k) (Ideal.ofBits .f32 0x45000000#32)

section Arrays
variable (h : FVec Ideal S8192x2048 .f32) (g : FVec Ideal S1x2048 .f32) (y : FVec Ideal S8192x2048 .f32)

def wvec : Fin 2048 → EReal := fun k => g (ix2 0 k)

/-- The loss's gradient at the normed rows. -/
def dyArr : FVec Ideal S8192x2048 .f32 := fun i => err (row h (i 0)) (wvec g) (row y (i 0)) (i 1) * Ideal.ofBits .f32 0x3A000000#32

/-- No gradient comes from anywhere else. -/
def zeroArr : FVec Ideal S8192x2048 .f32 := fun _ => (0 : EReal)

/-- One row's part of the loss. -/
def lTerm (n : ℕ) : EReal := if hn : n < 8192 then rowLoss (row h ⟨n, hn⟩) (wvec g) (row y ⟨n, hn⟩) else 0

/-- The loss, its rows summed by residue modulo eight, along every column. -/
def lossArr : FVec Ideal S8x128 .f32 := fun i => (∑ a ∈ range 1024, lTerm h g y (a * 8 + (i 0).val) : EReal)

/-- The loss: every row's part. -/
def lArr : FVec Ideal S_ .f32 := fun _ => (∑ n ∈ range 8192, lTerm h g y n : EReal)

end Arrays

/-! ## The payloads, entry by entry. -/

section Pay
variable (x : FVec Ideal S256x2048 .f32) (g : FVec Ideal S1x2048 .f32) (y : FVec Ideal S256x2048 .f32) (r : Fin 256) (d : Fin 2048)

/-- The grid point's tile of the rows' gradient, in its three layouts. -/
abbrev tile : FVec Ideal S256x2048 .f32 :=
  k0_pay1 (F := Ideal) (k0_pay11 (F := Ideal) x) (k0_pay12 (F := Ideal) x) (k0_pay13 (F := Ideal) x g y) (k0_pay14 (F := Ideal) x g y) (k0_pay15 (F := Ideal))
abbrev tile16 : FVec Ideal S256x2048 .bf16 :=
  k0_pay2 (F := Ideal) (k0_pay11 (F := Ideal) x) (k0_pay12 (F := Ideal) x) (k0_pay13 (F := Ideal) x g y) (k0_pay14 (F := Ideal) x g y) (k0_pay15 (F := Ideal))
abbrev tileT : FVec Ideal S2048x256 .bf16 :=
  k0_pay3 (F := Ideal) (k0_pay11 (F := Ideal) x) (k0_pay12 (F := Ideal) x) (k0_pay13 (F := Ideal) x g y) (k0_pay14 (F := Ideal) x g y) (k0_pay15 (F := Ideal))
/-- Its parts of the weight's gradient and of the loss. -/
abbrev wPart : FVec Ideal S8x2048 .f32 := k0_pay4 (F := Ideal) (k0_pay10 (F := Ideal) x g y) (k0_pay12 (F := Ideal) x)
abbrev lPart : FVec Ideal S8x128 .f32 := k0_pay5 (F := Ideal) (k0_pay9 (F := Ideal) x g y)

theorem rs_at : k0_pay11 (F := Ideal) x (ix2 r 0) = rowScale (fun k => x (ix2 r k)) := by
  unfold rowScale
  pointwise [k0_pay11]

theorem err_at : k0_pay8 (F := Ideal) x g y (ix2 r d) = err (fun k => x (ix2 r k)) (fun k => g (ix2 0 k)) (fun k => y (ix2 r k)) d := by
  unfold err rowScale
  pointwise [k0_pay8]

theorem dy_at : k0_pay10 (F := Ideal) x g y (ix2 r d)
    = err (fun k => x (ix2 r k)) (fun k => g (ix2 0 k)) (fun k => y (ix2 r k)) d * Ideal.ofBits .f32 0x3A000000#32 := by
  rw [← err_at]
  pointwise [k0_pay10]

theorem xs_at : k0_pay12 (F := Ideal) x (ix2 r d) = ((x (ix2 r d) : EReal) * rowScale (fun k => x (ix2 r k)) : EReal) := by
  rw [← rs_at]
  pointwise [k0_pay12]

theorem dyg_at : k0_pay13 (F := Ideal) x g y (ix2 r d) = ((k0_pay10 (F := Ideal) x g y (ix2 r d) : EReal) * g (ix2 0 d) : EReal) := by
  pointwise [k0_pay13]

theorem dx_at : tile x g y (ix2 r d)
    = rowGrad (fun k => x (ix2 r k)) (fun k => (k0_pay10 (F := Ideal) x g y (ix2 r k) : EReal) * g (ix2 0 k)) 0 d := by
  unfold rowGrad
  simp only [zero_add, ← dyg_at, ← xs_at]
  rw [← rs_at]
  pointwise [tile, k0_pay1, k0_pay14, k0_pay15]

theorem dx16_at : tile16 x g y (ix2 r d) = tile x g y (ix2 r d) := by
  pointwise [tile16, k0_pay2]

theorem dxT_at : tileT x g y (ix2 d r) = tile x g y (ix2 r d) := by
  pointwise [tileT, k0_pay3]

theorem dg_at (q : Fin 8) : wPart x g y (ix2 q d)
    = (∑ a : Fin 32, (k0_pay10 (F := Ideal) x g y (ix2 ⟨a.val * 8 + q.val, by omega⟩ d) : EReal)
      * k0_pay12 (F := Ideal) x (ix2 ⟨a.val * 8 + q.val, by omega⟩ d) : EReal) := by
  pointwise [wPart, k0_pay4]

theorem rl_at : k0_pay9 (F := Ideal) x g y (ix2 r 0) = rowLoss (fun k => x (ix2 r k)) (fun k => g (ix2 0 k)) (fun k => y (ix2 r k)) := by
  unfold rowLoss
  simp only [← err_at]
  pointwise [k0_pay9]

theorem loss_at (q : Fin 8) (l : Fin 128) : lPart x g y (ix2 q l)
    = (∑ a : Fin 32, k0_pay9 (F := Ideal) x g y (ix2 ⟨a.val * 8 + q.val, by omega⟩ 0) : EReal) := by
  pointwise [lPart, k0_pay5]

theorem addW_at (v p : FVec Ideal S256x2048 .f32) (a : FVec Ideal S8x2048 .f32) (q : Fin 8) :
    k0_pay6 (F := Ideal) v p a (ix2 q d) = ((a (ix2 q d) : EReal) + k0_pay4 (F := Ideal) v p (ix2 q d) : EReal) := by
  pointwise [k0_pay6]

theorem addL_at (v : FVec Ideal S256x1 .f32) (a : FVec Ideal S8x128 .f32) (q : Fin 8) (l : Fin 128) :
    k0_pay7 (F := Ideal) v a (ix2 q l) = ((a (ix2 q l) : EReal) + k0_pay5 (F := Ideal) v (ix2 q l) : EReal) := by
  pointwise [k0_pay7]

end Pay

/-! ## What a grid point leaves. -/

section Points
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .bf16) (h5 : a5.IsWhole)
  (a6 : Memref sig .tc .vmem S2048x256 .bf16) (h6 : a6.IsWhole) (a7 : Memref sig .tc .vmem S8x128 .f32) (h7 : a7.IsWhole)
  (a8 : Memref sig .tc .vmem S8x2048 .f32) (h8 : a8.IsWhole)
  (x : FVec Ideal S256x2048 .f32) (g : FVec Ideal S1x2048 .f32) (y : FVec Ideal S256x2048 .f32)

section First
variable (hc0 : cond0_0 i) (hc1 : ¬cond0_1 i)

theorem firstA3 : out0_A_3 (F := Ideal) c i a1 h1 a2 h2 a3 h3 a4 h4 a5 h5 a6 h6 a7 h7 a8 h8 hc0 hc1 x g y = tile x g y := by
  unfold out0_A_3
  rw [View.read_writes_eq_canon _ _ _ (cover0_A_3 (F := Ideal) c i a1 h1 a2 h2 a3 h3 a4 h4 a5 h5 a6 h6 a7 h7 a8 h8 hc0 hc1 x g y)]
  unfold kernelRun0_A
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

theorem firstA4 : out0_A_4 (F := Ideal) c i a1 h1 a2 h2 a3 h3 a4 h4 a5 h5 a6 h6 a7 h7 a8 h8 hc0 hc1 x g y = tile16 x g y := by
  unfold out0_A_4
  rw [View.read_writes_eq_canon _ _ _ (cover0_A_4 (F := Ideal) c i a1 h1 a2 h2 a3 h3 a4 h4 a5 h5 a6 h6 a7 h7 a8 h8 hc0 hc1 x g y)]
  unfold kernelRun0_A
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

theorem firstA5 : out0_A_5 (F := Ideal) c i a1 h1 a2 h2 a3 h3 a4 h4 a5 h5 a6 h6 a7 h7 a8 h8 hc0 hc1 x g y = tileT x g y := by
  unfold out0_A_5
  rw [View.read_writes_eq_canon _ _ _ (cover0_A_5 (F := Ideal) c i a1 h1 a2 h2 a3 h3 a4 h4 a5 h5 a6 h6 a7 h7 a8 h8 hc0 hc1 x g y)]
  unfold kernelRun0_A
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

theorem firstA6 : out0_A_6 (F := Ideal) c i a1 h1 a2 h2 a3 h3 a4 h4 a5 h5 a6 h6 a7 h7 a8 h8 hc0 hc1 x g y = lPart x g y := by
  unfold out0_A_6
  rw [View.read_writes_eq_canon _ _ _ (cover0_A_6 (F := Ideal) c i a1 h1 a2 h2 a3 h3 a4 h4 a5 h5 a6 h6 a7 h7 a8 h8 hc0 hc1 x g y)]
  unfold kernelRun0_A
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

theorem firstA7 : out0_A_7 (F := Ideal) c i a1 h1 a2 h2 a3 h3 a4 h4 a5 h5 a6 h6 a7 h7 a8 h8 hc0 hc1 x g y = wPart x g y := by
  unfold out0_A_7
  rw [View.read_writes_eq_canon _ _ _ (cover0_A_7 (F := Ideal) c i a1 h1 a2 h2 a3 h3 a4 h4 a5 h5 a6 h6 a7 h7 a8 h8 hc0 hc1 x g y)]
  unfold kernelRun0_A
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

end First

section Later
variable (hc0 : ¬cond0_0 i) (hc1 : cond0_1 i) (ol : FVec Ideal S8x128 .f32) (ow : FVec Ideal S8x2048 .f32)

theorem laterB3 : out0_B_3 (F := Ideal) c i a1 h1 a2 h2 a3 h3 a4 h4 a5 h5 a6 h6 a7 h7 a8 h8 hc0 hc1 x g y ol ow = tile x g y := by
  unfold out0_B_3
  rw [View.read_writes_eq_canon _ _ _ (cover0_B_3 (F := Ideal) c i a1 h1 a2 h2 a3 h3 a4 h4 a5 h5 a6 h6 a7 h7 a8 h8 hc0 hc1 x g y ol ow)]
  unfold kernelRun0_B
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

theorem laterB4 : out0_B_4 (F := Ideal) c i a1 h1 a2 h2 a3 h3 a4 h4 a5 h5 a6 h6 a7 h7 a8 h8 hc0 hc1 x g y ol ow = tile16 x g y := by
  unfold out0_B_4
  rw [View.read_writes_eq_canon _ _ _ (cover0_B_4 (F := Ideal) c i a1 h1 a2 h2 a3 h3 a4 h4 a5 h5 a6 h6 a7 h7 a8 h8 hc0 hc1 x g y ol ow)]
  unfold kernelRun0_B
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

theorem laterB5 : out0_B_5 (F := Ideal) c i a1 h1 a2 h2 a3 h3 a4 h4 a5 h5 a6 h6 a7 h7 a8 h8 hc0 hc1 x g y ol ow = tileT x g y := by
  unfold out0_B_5
  rw [View.read_writes_eq_canon _ _ _ (cover0_B_5 (F := Ideal) c i a1 h1 a2 h2 a3 h3 a4 h4 a5 h5 a6 h6 a7 h7 a8 h8 hc0 hc1 x g y ol ow)]
  unfold kernelRun0_B
  dsimp only
  sl_unfold_words
  rw [View.canon_unit_zero zero_offsets]
  simp only [View.readAt_eq_ld, h1.read_unread, h2.read_unread, h3.read_unread,
    View.ld_unit_zero (S := S256x2048) zero_offsets, View.ld_unit_zero (S := S1x2048) zero_offsets]

/-- A later point adds its part to the loss so far, and to the weight's gradient so far. -/
theorem laterB6 : out0_B_6 (F := Ideal) c i a1 h1 a2 h2 a3 h3 a4 h4 a5 h5 a6 h6 a7 h7 a8 h8 hc0 hc1 x g y ol ow = k0_pay7 (F := Ideal) (k0_pay9 (F := Ideal) x g y) ol := by
  unfold out0_B_6
  rw [View.read_writes_eq_canon _ _ _ (cover0_B_6 (F := Ideal) c i a1 h1 a2 h2 a3 h3 a4 h4 a5 h5 a6 h6 a7 h7 a8 h8 hc0 hc1 x g y ol ow)]
  unfold kernelRun0_B
  dsimp only
  sl_unfold_words
  rw [View.canon_unit_zero zero_offsets]
  simp only [View.readAt_eq_ld, h1.read_unread, h2.read_unread, h3.read_unread, h7.read_unread, h8.read_unread,
    View.ld_unit_zero (S := S256x2048) zero_offsets, View.ld_unit_zero (S := S1x2048) zero_offsets, View.ld_unit_zero (S := S8x128) zero_offsets]

theorem laterB7 : out0_B_7 (F := Ideal) c i a1 h1 a2 h2 a3 h3 a4 h4 a5 h5 a6 h6 a7 h7 a8 h8 hc0 hc1 x g y ol ow = k0_pay6 (F := Ideal) (k0_pay10 (F := Ideal) x g y) (k0_pay12 (F := Ideal) x) ow := by
  unfold out0_B_7
  rw [View.read_writes_eq_canon _ _ _ (cover0_B_7 (F := Ideal) c i a1 h1 a2 h2 a3 h3 a4 h4 a5 h5 a6 h6 a7 h7 a8 h8 hc0 hc1 x g y ol ow)]
  unfold kernelRun0_B
  dsimp only
  sl_unfold_words
  rw [View.canon_unit_zero zero_offsets]
  simp only [View.readAt_eq_ld, h1.read_unread, h2.read_unread, h3.read_unread, h7.read_unread, h8.read_unread,
    View.ld_unit_zero (S := S256x2048) zero_offsets, View.ld_unit_zero (S := S1x2048) zero_offsets, View.ld_unit_zero (S := S8x2048) zero_offsets]

end Later
end Points

variable (m : (ℓ : Loc nD τ sig) → Buf (Elt Ideal) ℓ) (c : Dev nD) (t : Fin cfg0.N)

theorem outs3 : (outsAt0 m c t.val t.isLt).1 = tile (iblk m c 0 t) (iblk m c 1 t) (iblk m c 2 t) := by
  have hN : t.val < 32 := t.isLt
  by_cases h : t.val = 0
  · rw [outsAt0_A m c t (by omega) (by omega)]
    dsimp only
    exact firstA3 c _ _ _ _ _ _ _ _ _ _ _ _ _ _ _ _ _ _ _ _ _ _
  · rw [outsAt0_B m c t (by omega) (by omega)]
    dsimp only
    exact laterB3 c _ _ _ _ _ _ _ _ _ _ _ _ _ _ _ _ _ _ _ _ _ _ _ _

theorem outs4 : (outsAt0 m c t.val t.isLt).2.1 = tile16 (iblk m c 0 t) (iblk m c 1 t) (iblk m c 2 t) := by
  have hN : t.val < 32 := t.isLt
  by_cases h : t.val = 0
  · rw [outsAt0_A m c t (by omega) (by omega)]
    dsimp only
    exact firstA4 c _ _ _ _ _ _ _ _ _ _ _ _ _ _ _ _ _ _ _ _ _ _
  · rw [outsAt0_B m c t (by omega) (by omega)]
    dsimp only
    exact laterB4 c _ _ _ _ _ _ _ _ _ _ _ _ _ _ _ _ _ _ _ _ _ _ _ _

theorem outs5 : (outsAt0 m c t.val t.isLt).2.2.1 = tileT (iblk m c 0 t) (iblk m c 1 t) (iblk m c 2 t) := by
  have hN : t.val < 32 := t.isLt
  by_cases h : t.val = 0
  · rw [outsAt0_A m c t (by omega) (by omega)]
    dsimp only
    exact firstA5 c _ _ _ _ _ _ _ _ _ _ _ _ _ _ _ _ _ _ _ _ _ _
  · rw [outsAt0_B m c t (by omega) (by omega)]
    dsimp only
    exact laterB5 c _ _ _ _ _ _ _ _ _ _ _ _ _ _ _ _ _ _ _ _ _ _ _ _

theorem outs6_first (h : t.val = 0) : (outsAt0 m c t.val t.isLt).2.2.2.1 = lPart (iblk m c 0 t) (iblk m c 1 t) (iblk m c 2 t) := by
  rw [outsAt0_A m c t (by omega) (by omega)]
  dsimp only
  exact firstA6 c _ _ _ _ _ _ _ _ _ _ _ _ _ _ _ _ _ _ _ _ _ _

theorem outs6_later (h : t.val ≠ 0) : (outsAt0 m c t.val t.isLt).2.2.2.1 = k0_pay7 (F := Ideal) (k0_pay9 (F := Ideal) (iblk m c 0 t) (iblk m c 1 t) (iblk m c 2 t))
    (outsAt0 m c (t.val - 1) (Nat.lt_of_le_of_lt (Nat.sub_le _ _) t.isLt)).2.2.2.1 := by
  have hN : t.val < 32 := t.isLt
  rw [outsAt0_B m c t (by omega) (by omega)]
  dsimp only
  exact laterB6 c _ _ _ _ _ _ _ _ _ _ _ _ _ _ _ _ _ _ _ _ _ _ _ _

theorem outs7_first (h : t.val = 0) : (outsAt0 m c t.val t.isLt).2.2.2.2 = wPart (iblk m c 0 t) (iblk m c 1 t) (iblk m c 2 t) := by
  rw [outsAt0_A m c t (by omega) (by omega)]
  dsimp only
  exact firstA7 c _ _ _ _ _ _ _ _ _ _ _ _ _ _ _ _ _ _ _ _ _ _

theorem outs7_later (h : t.val ≠ 0) : (outsAt0 m c t.val t.isLt).2.2.2.2 = k0_pay6 (F := Ideal) (k0_pay10 (F := Ideal) (iblk m c 0 t) (iblk m c 1 t) (iblk m c 2 t)) (k0_pay12 (F := Ideal) (iblk m c 0 t))
    (outsAt0 m c (t.val - 1) (Nat.lt_of_le_of_lt (Nat.sub_le _ _) t.isLt)).2.2.2.2 := by
  have hN : t.val < 32 := t.isLt
  rw [outsAt0_B m c t (by omega) (by omega)]
  dsimp only
  exact laterB7 c _ _ _ _ _ _ _ _ _ _ _ _ _ _ _ _ _ _ _ _ _ _ _ _

/-! ## The blocks and the arrays. -/

abbrev A0 : FVec Ideal S8192x2048 .f32 := m ((c : Thread nD τ).loc main_arg0)
abbrev A1 : FVec Ideal S1x2048 .f32 := m ((c : Thread nD τ).loc main_arg1)
abbrev A2 : FVec Ideal S8192x2048 .f32 := m ((c : Thread nD τ).loc main_arg2)
abbrev DY : FVec Ideal S8192x2048 .f32 := dyArr (A0 m c) (A1 m c) (A2 m c)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, t.val] ∧ win0_6.index t = ![0, 0] ∧ win0_7.index t = ![0, 0] :=
  (by decide +kernel : ∀ t : Fin grid0.N, _)

def pos (r : Fin 256) : Fin 8192 := ⟨t.val * 256 + r.val, by have : t.val < 32 := t.isLt; omega⟩

theorem blk0 (r : Fin 256) (d : Fin 2048) : (iblk m c 0 t : FVec Ideal S256x2048 .f32) (ix2 r d) = A0 m c (ix2 (pos t r) d) := by
  unfold pos
  blk_ext [iblk, V, idx t]
theorem blk1 (d : Fin 2048) : (iblk m c 1 t : FVec Ideal S1x2048 .f32) (ix2 0 d) = A1 m c (ix2 0 d) := by
  blk_ext [iblk, V, idx t]
theorem blk2 (r : Fin 256) (d : Fin 2048) : (iblk m c 2 t : FVec Ideal S256x2048 .f32) (ix2 r d) = A2 m c (ix2 (pos t r) d) := by
  unfold pos
  blk_ext [iblk, V, idx t]

/-- A tile of the gradient at the normed rows, of the scaled rows, and of the rows' gradient. -/
theorem dy_blk (r : Fin 256) (d : Fin 2048) : k0_pay10 (F := Ideal) (iblk m c 0 t) (iblk m c 1 t) (iblk m c 2 t) (ix2 r d) = DY m c (ix2 (pos t r) d) := by
  refine (dy_at _ _ _ r d).trans ?_
  simp only [blk0, blk1, blk2]
  rfl

theorem xs_blk (r : Fin 256) (d : Fin 2048) : k0_pay12 (F := Ideal) (iblk m c 0 t) (ix2 r d)
    = ((A0 m c (ix2 (pos t r) d) : EReal) * rowScale (row (A0 m c) (pos t r)) : EReal) := by
  refine (xs_at _ r d).trans ?_
  simp only [blk0]
  rfl

theorem dx_blk (r : Fin 256) (d : Fin 2048) : tile (iblk m c 0 t) (iblk m c 1 t) (iblk m c 2 t) (ix2 r d)
    = rowGrad (row (A0 m c) (pos t r)) (wrow (A1 m c) (DY m c) (pos t r)) 0 d := by
  refine (dx_at _ _ _ r d).trans ?_
  simp only [dy_blk, blk0, blk1]
  rfl

theorem rl_blk (r : Fin 256) : k0_pay9 (F := Ideal) (iblk m c 0 t) (iblk m c 1 t) (iblk m c 2 t) (ix2 r 0)
    = rowLoss (row (A0 m c) (pos t r)) (wvec (A1 m c)) (row (A2 m c) (pos t r)) := by
  refine (rl_at _ _ _ r).trans ?_
  simp only [blk0, blk1, blk2]
  rfl

/-- The same tile as the arrays' entries. -/
theorem dx_arr (r : Fin 256) (d : Fin 2048) : tile (iblk m c 0 t) (iblk m c 1 t) (iblk m c 2 t) (ix2 r d)
    = dxArr (A0 m c) (A1 m c) (DY m c) zeroArr (ix2 (pos t r) d) := by
  rw [dx_blk]
  generalize DY m c = dy
  rfl

theorem dxT_arr (r : Fin 256) (d : Fin 2048) : tile (iblk m c 0 t) (iblk m c 1 t) (iblk m c 2 t) (ix2 r d)
    = dxTArr (A0 m c) (A1 m c) (DY m c) zeroArr (ix2 d (pos t r)) := by
  rw [dx_blk]
  generalize DY m c = dy
  rfl

theorem final3 : (dats m 0 c).arrAt 3 cfg0.N = dxArr (A0 m c) (A1 m c) (DY m c) zeroArr := by
  refine (dats m 0 c).arrAt_eq_of_covers 3 _ (by decide +kernel) fun t hf y => ?_
  blk_simp
  rw [after0_3]
  obtain ⟨r, d, rfl⟩ : ∃ (r : Fin 256) (d : Fin 2048), y = (ix2 r d : S256x2048.Idx) := ⟨y 0, y 1, eq_ix2 y⟩
  have e0 : ((((View.whole main_v0_0).slice (win0_3.rect t)).emb (ix2 r d : S256x2048.Idx)) 0).val = (pos t r).val := by unfold pos; blk_simp [idx t]
  have e1 : ((((View.whole main_v0_0).slice (win0_3.rect t)).emb (ix2 r d : S256x2048.Idx)) 1).val = d.val := by blk_simp [idx t]
  refine (congrFun (outs3 m c t) _).trans ((dx_arr m c t r d).trans ?_)
  exact congrArg (dxArr (A0 m c) (A1 m c) (DY m c) zeroArr) ((congrArg₂ ix2 (Fin.ext e0.symm) (Fin.ext e1.symm)).trans (eq_ix2 _).symm)

theorem final4 : (dats m 0 c).arrAt 4 cfg0.N = dx16Arr (A0 m c) (A1 m c) (DY m c) zeroArr := by
  refine (dats m 0 c).arrAt_eq_of_covers 4 _ (by decide +kernel) fun t hf y => ?_
  blk_simp
  rw [after0_4]
  obtain ⟨r, d, rfl⟩ : ∃ (r : Fin 256) (d : Fin 2048), y = (ix2 r d : S256x2048.Idx) := ⟨y 0, y 1, eq_ix2 y⟩
  have e0 : ((((View.whole main_v0_1).slice (win0_4.rect t)).emb (ix2 r d : S256x2048.Idx)) 0).val = (pos t r).val := by unfold pos; blk_simp [idx t]
  have e1 : ((((View.whole main_v0_1).slice (win0_4.rect t)).emb (ix2 r d : S256x2048.Idx)) 1).val = d.val := by blk_simp [idx t]
  refine (congrFun (outs4 m c t) _).trans ((dx16_at _ _ _ r d).trans ((dx_arr m c t r d).trans ?_))
  exact congrArg (dx16Arr (A0 m c) (A1 m c) (DY m c) zeroArr) ((congrArg₂ ix2 (Fin.ext e0.symm) (Fin.ext e1.symm)).trans (eq_ix2 _).symm)

theorem final5 : (dats m 0 c).arrAt 5 cfg0.N = dxTArr (A0 m c) (A1 m c) (DY m c) zeroArr := by
  refine (dats m 0 c).arrAt_eq_of_covers 5 _ (by decide +kernel) fun t hf y => ?_
  blk_simp
  rw [after0_5]
  obtain ⟨d, r, rfl⟩ : ∃ (d : Fin 2048) (r : Fin 256), y = (ix2 d r : S2048x256.Idx) := ⟨y 0, y 1, eq_ix2 y⟩
  have e0 : ((((View.whole main_v0_2).slice (win0_5.rect t)).emb (ix2 d r : S2048x256.Idx)) 0).val = d.val := by blk_simp [idx t]
  have e1 : ((((View.whole main_v0_2).slice (win0_5.rect t)).emb (ix2 d r : S2048x256.Idx)) 1).val = (pos t r).val := by unfold pos; blk_simp [idx t]
  refine (congrFun (outs5 m c t) _).trans ((dxT_at _ _ _ r d).trans ((dxT_arr m c t r d).trans ?_))
  exact congrArg (dxTArr (A0 m c) (A1 m c) (DY m c) zeroArr) ((congrArg₂ ix2 (Fin.ext e0.symm) (Fin.ext e1.symm)).trans (eq_ix2 _).symm)

/-! ## The loss and the weight's gradient, accumulated over the tiles. -/

theorem hpos (t : Fin cfg0.N) (a : Fin 32) (q : Fin 8) : pos t ⟨a.val * 8 + q.val, by omega⟩
    = (⟨(t.val * 32 + a.val) * 8 + q.val, by have : t.val < 32 := t.isLt; omega⟩ : Fin 8192) :=
  Fin.ext (by unfold pos; dsimp only; omega)

/-- One tile's parts. -/
theorem loss_blk (q : Fin 8) (l : Fin 128) : lPart (iblk m c 0 t) (iblk m c 1 t) (iblk m c 2 t) (ix2 q l)
    = (∑ a ∈ range 32, lTerm (A0 m c) (A1 m c) (A2 m c) ((t.val * 32 + a) * 8 + q.val) : EReal) := by
  have hN : t.val < 32 := t.isLt
  rw [loss_at, Finset.sum_range]
  refine Finset.sum_congr rfl fun a _ => ?_
  unfold lTerm
  rw [dif_pos (by omega), rl_blk, hpos]

theorem dg_blk (q : Fin 8) (d : Fin 2048) : wPart (iblk m c 0 t) (iblk m c 1 t) (iblk m c 2 t) (ix2 q d)
    = (∑ a ∈ range 32, wTerm (A0 m c) (DY m c) d ((t.val * 32 + a) * 8 + q.val) : EReal) := by
  have hN : t.val < 32 := t.isLt
  rw [dg_at, Finset.sum_range]
  refine Finset.sum_congr rfl fun a _ => ?_
  unfold wTerm
  rw [dif_pos (by omega), dy_blk, xs_blk, hpos]

/-- What has been accumulated after a point: the tiles so far. -/
theorem accL_at (q : Fin 8) (l : Fin 128) : ∀ (n : ℕ) (hn : n < cfg0.N), ((outsAt0 m c n hn).2.2.2.1 : FVec Ideal S8x128 .f32) (ix2 q l)
    = (∑ a ∈ range ((n + 1) * 32), lTerm (A0 m c) (A1 m c) (A2 m c) (a * 8 + q.val) : EReal)
  | 0, hn => by
    refine (congrFun (outs6_first m c ⟨0, hn⟩ rfl) _).trans ((loss_blk m c ⟨0, hn⟩ q l).trans ?_)
    simp only [Nat.zero_mul, Nat.zero_add, Nat.one_mul]
  | n + 1, hn => by
    refine (congrFun (outs6_later m c ⟨n + 1, hn⟩ (Nat.succ_ne_zero n)) _).trans ((addL_at _ _ q l).trans ?_)
    rw [Nat.succ_mul (n + 1), Finset.sum_range_add]
    exact congrArg₂ (· + ·) (accL_at q l n _) (loss_blk m c ⟨n + 1, hn⟩ q l)

theorem accW_at (q : Fin 8) (d : Fin 2048) : ∀ (n : ℕ) (hn : n < cfg0.N), ((outsAt0 m c n hn).2.2.2.2 : FVec Ideal S8x2048 .f32) (ix2 q d)
    = (∑ a ∈ range ((n + 1) * 32), wTerm (A0 m c) (DY m c) d (a * 8 + q.val) : EReal)
  | 0, hn => by
    refine (congrFun (outs7_first m c ⟨0, hn⟩ rfl) _).trans ((dg_blk m c ⟨0, hn⟩ q d).trans ?_)
    simp only [Nat.zero_mul, Nat.zero_add, Nat.one_mul]
  | n + 1, hn => by
    refine (congrFun (outs7_later m c ⟨n + 1, hn⟩ (Nat.succ_ne_zero n)) _).trans ((addW_at d _ _ _ q).trans ?_)
    rw [Nat.succ_mul (n + 1), Finset.sum_range_add]
    exact congrArg₂ (· + ·) (accW_at q d n _) (dg_blk m c ⟨n + 1, hn⟩ q d)

theorem final6 : (dats m 0 c).arrAt 6 cfg0.N = lossArr (A0 m c) (A1 m c) (A2 m c) := by
  refine (dats m 0 c).arrAt_eq_of_covers 6 _ (by decide +kernel) fun t hf y => ?_
  have hN : t.val < 32 := t.isLt
  blk_simp
  rw [after0_6]
  obtain ⟨q, d, rfl⟩ : ∃ (q : Fin 8) (d : Fin 128), y = (ix2 q d : S8x128.Idx) := ⟨y 0, y 1, eq_ix2 y⟩
  have e0 : ((((View.whole main_v0_3).slice (win0_6.rect t)).emb (ix2 q d : S8x128.Idx)) 0).val = q.val := by blk_simp [idx t]
  have e1 : ((((View.whole main_v0_3).slice (win0_6.rect t)).emb (ix2 q d : S8x128.Idx)) 1).val = d.val := by blk_simp [idx t]
  have ht := (flush0_6 t).mp hf
  refine (accL_at m c q d t.val t.isLt).trans ?_
  rw [show (t.val + 1) * 32 = 1024 by omega]
  exact congrArg (lossArr (A0 m c) (A1 m c) (A2 m c)) ((congrArg₂ ix2 (Fin.ext e0.symm) (Fin.ext e1.symm)).trans (eq_ix2 _).symm)

theorem final7 : (dats m 0 c).arrAt 7 cfg0.N = dgArr (A0 m c) (DY m c) := by
  refine (dats m 0 c).arrAt_eq_of_covers 7 _ (by decide +kernel) fun t hf y => ?_
  have hN : t.val < 32 := t.isLt
  blk_simp
  rw [after0_7]
  obtain ⟨q, d, rfl⟩ : ∃ (q : Fin 8) (d : Fin 2048), y = (ix2 q d : S8x2048.Idx) := ⟨y 0, y 1, eq_ix2 y⟩
  have e0 : ((((View.whole main_v0_4).slice (win0_7.rect t)).emb (ix2 q d : S8x2048.Idx)) 0).val = q.val := by blk_simp [idx t]
  have e1 : ((((View.whole main_v0_4).slice (win0_7.rect t)).emb (ix2 q d : S8x2048.Idx)) 1).val = d.val := by blk_simp [idx t]
  have ht := (flush0_7 t).mp hf
  refine (accW_at m c q d t.val t.isLt).trans ?_
  rw [show (t.val + 1) * 32 = 1024 by omega]
  exact congrArg (dgArr (A0 m c) (DY m c)) ((congrArg₂ ix2 (Fin.ext e0.symm) (Fin.ext e1.symm)).trans (eq_ix2 _).symm)

/-! ## The host's sums and the run. -/

def hostLoss (p : FVec Ideal S8x128 .f32) : FVec Ideal S_ .f32 :=
  Host.reduceAdd (shapeCast S8 (extractStridedSlice S8x1 ![0, 0] p slices_S8x128_S8x1_0_0) shapeCasts_S8x1_S8)
    (constant (F := Ideal) S_ .f32 0x00000000#32) reducesTo_S8_S_d0 h_S_

def hostSum (p : FVec Ideal S8x2048 .f32) : FVec Ideal S2048 .f32 :=
  Host.reduceAdd p (constant (F := Ideal) S_ .f32 0x00000000#32) reducesTo_S8x2048_S2048_d0 h_S_

theorem hostLoss_at (p : FVec Ideal S8x128 .f32) : hostLoss p ix0 = (∑ q : Fin 8, (p (ix2 q 0) : EReal) : EReal) := by
  pointwise [hostLoss]

theorem hostLoss_val (h : FVec Ideal S8192x2048 .f32) (g : FVec Ideal S1x2048 .f32) (y : FVec Ideal S8192x2048 .f32) :
    hostLoss (lossArr h g y) = lArr h g y := by
  funext i
  rw [show i = ix0 from Subsingleton.elim _ _, hostLoss_at]
  exact sum_residues (fun n => lTerm h g y n) 1024

set_option maxHeartbeats 1000000 in
theorem exit6 : Pipeline.withArrays (cfgs 0).spec c (V0 m c) (fun w => (dats m 0 c).arrAt w (cfgs 0).N) (Proc.tc.devRef main_v0_3)
    = (dats m 0 c).arrAt 6 (cfgs 0).N := Pipeline.withArrays_arr spec0 (by decide) c (V0 m c) (fun w => (dats m 0 c).arrAt w (cfgs 0).N) 6

set_option maxHeartbeats 1000000 in
theorem exit7 : Pipeline.withArrays (cfgs 0).spec c (V0 m c) (fun w => (dats m 0 c).arrAt w (cfgs 0).N) (Proc.tc.devRef main_v0_4)
    = (dats m 0 c).arrAt 7 (cfgs 0).N := Pipeline.withArrays_arr spec0 (by decide) c (V0 m c) (fun w => (dats m 0 c).arrAt w (cfgs 0).N) 7

set_option maxHeartbeats 1000000 in
/-- What the lines after the call leave in the loss, and in the weight's gradient. -/
theorem tail_v3 : Pipeline.afterTail₀ cfgs (dats m) 0 (V0 m) [hostOps1] c main_v3 = hostLoss ((dats m 0 c).arrAt 6 (cfgs 0).N) := by
  unfold Pipeline.afterTail₀
  simp only [hostOps1, List.flatten_cons, List.flatten_nil, List.append_nil]
  after_results
  rw [exit6]
  rfl

set_option maxHeartbeats 1000000 in
theorem tail_v4 : Pipeline.afterTail₀ cfgs (dats m) 0 (V0 m) [hostOps1] c main_v4 = hostSum ((dats m 0 c).arrAt 7 (cfgs 0).N) := by
  unfold Pipeline.afterTail₀
  simp only [hostOps1, List.flatten_cons, List.flatten_nil, List.append_nil]
  after_results
  rw [exit7]
  rfl

/-- The kernel program's run: its five results and its arguments kept. -/
theorem value (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = dxArr (A0 m c) (A1 m c) (DY m c) zeroArr
      ∧ r.2.mem ((c : Thread nD τ).loc main_v0_1) = dx16Arr (A0 m c) (A1 m c) (DY m c) zeroArr
      ∧ r.2.mem ((c : Thread nD τ).loc main_v0_2) = dxTArr (A0 m c) (A1 m c) (DY m c) zeroArr
      ∧ r.2.mem ((c : Thread nD τ).loc main_v3) = lArr (A0 m c) (A1 m c) (A2 m c)
      ∧ r.2.mem ((c : Thread nD τ).loc main_v4) = gArr (A0 m c) (DY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h c).1 3).trans (final3 m c), ((h c).1 4).trans (final4 m c), ((h c).1 5).trans (final5 m c),
      ((h c).2 main_v3 (Pipeline.mem_restRefs_of main_v3 (by decide) (by decide))).trans
        ((tail_v3 m c).trans ((congrArg hostLoss (final6 m c)).trans (hostLoss_val _ _ _))),
      ((h c).2 main_v4 (Pipeline.mem_restRefs_of main_v4 (by decide) (by decide))).trans
        ((tail_v4 m c).trans ((congrArg hostSum (final7 m c)).trans (hostSum_val _ _))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Kernel11Ideal.Hand

end
-- ==== Proof.LossRef.lean ====
/- The loss and the last norm's gradient: the reference's terms are the kernel's, and the claim. -/
module

public import proofs.«01_k».proof.Proof.Loss
public import proofs.«01_k».proof.Proof.NormRef
public import proofs.«01_k».proof.Proof.Gen.Kernel11.Frame
public import proofs.«01_k».proof.Proof.Gen.Reference11Ideal.Run
public import Idealize.ShloMosaic.Lib.Claim

@[expose] public section

set_option maxRecDepth 16384

noncomputable section

namespace Cert.Kernel11Ideal.Hand

open Idealize.ShloMosaic Idealize.ShloMosaic.TcCoe Idealize.SL.Sem
open Cert.Kernel10Ideal.Hand (rowScale rowGrad row wrow dxArr dx16Arr dxTArr gArr rScale rScale_at rWeighted rSlope rWeight rGrad ref_dx ref_dg ofBits_2048 div_2048)
open Cert.Proof
open Finset (range)

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv_2048 : Ideal.ofBits .f32 0x3A000000#32 = ((2048⁻¹ : ℝ) : EReal) := by
  simp [Ideal.ofBits, Ideal.ieee, -EReal.coe_mul]; norm_num

/-- Half the mean, times the square's two, is the mean. -/
theorem scale_eq (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  rw [div_2048, ofBits_half, ofBits_one, ofBits_two, ofBits_inv_2048, ← EReal.coe_mul, ← EReal.coe_mul, ← mul_assoc, ← EReal.coe_mul, mul_comm]
  exact congrArg (fun u : ℝ => e * (u : EReal)) (by ring)

/-- A half goes into a sum. -/
theorem half_sum (f : ℕ → EReal) (s : Finset ℕ) : Ideal.ofBits .f32 0x3F000000#32 * ∑ k ∈ s, f k = ∑ k ∈ s, Ideal.ofBits .f32 0x3F000000#32 * f k := by
  rw [ofBits_half]
  induction s using Finset.induction_on with
  | empty => simp
  | insert a s ha ih =>
    rw [Finset.sum_insert ha, Finset.sum_insert ha,
      EReal.left_distrib_of_nonneg_of_ne_top (by exact_mod_cast (by norm_num : (0 : ℝ) ≤ 1 / 2)) (EReal.coe_ne_top _), ih]

/-! ## The reference's terms. -/

section Ref
open Cert.Reference11Ideal.Facts₀
open Cert.Reference11Ideal (S_ S8192x1 S8192 S2048)
variable (h : FVec Ideal S8192x2048 .f32) (g : FVec Ideal S1x2048 .f32) (y : FVec Ideal S8192x2048 .f32)

def rErr : FVec Ideal S8192x2048 .f32 :=
  subf (mulf (mulf h (broadcastInDim S8192x2048 ![0, 1] bcast_S8192x1_S8192x2048_0_1 (rScale h)))
    (broadcastInDim S8192x2048 ![0, 1] bcast_S1x2048_S8192x2048_0_1 (broadcastInDim S1x2048 ![1] bcast_S2048_S1x2048_1 (shapeCast S2048 g shapeCasts_S1x2048_S2048)))) y

def rLoss : FVec Ideal S_ .f32 :=
  mulf (constant S_ .f32 0x3F000000#32) (Host.reduceAdd (Host.divf
    (Host.reduceAdd (mulf (rErr h g y) (rErr h g y)) (constant S_ .f32 0x00000000#32) reducesTo_S8192x2048_S8192_d1 h_S_)
    (broadcastInDim S8192 ![] bcast_S_S8192 (constant S_ .f32 0x45000000#32))) (constant S_ .f32 0x00000000#32) reducesTo_S8192_S_d0 h_S_)

def rDy : FVec Ideal S8192x2048 .f32 :=
  mulf (broadcastInDim S8192x2048 ![0] bcast_S8192_S8192x2048_0 (Host.divf
    (broadcastInDim S8192 ![] bcast_S_S8192 (mulf (constant S_ .f32 0x3F000000#32) (constant S_ .f32 0x3F800000#32)))
    (broadcastInDim S8192 ![] bcast_S_S8192 (constant S_ .f32 0x45000000#32))))
    (mulf (broadcastInDim S8192x2048 ![] bcast_S_S8192x2048 (constant S_ .f32 0x40000000#32)) (rErr h g y))

/-- The rows' gradient, of the gradient at the normed rows. -/
def rDx (dy : FVec Ideal S8192x2048 .f32) : FVec Ideal S8192x2048 .f32 :=
  addf (addf (mulf (rWeighted g dy) (broadcastInDim S8192x2048 ![0, 1] bcast_S8192x1_S8192x2048_0_1 (rScale h))) (mulf h (rSlope h (rWeighted g dy))))
    (mulf (rSlope h (rWeighted g dy)) h)

theorem rErr_at (s : Fin 8192) (l : Fin 2048) : rErr h g y (ix2 s l) = err (row h s) (wvec g) (row y s) l := by
  unfold err
  rw [← rScale_at]
  unfold row wvec
  pointwise [rErr]

theorem rDy_eq : rDy h g y = dyArr h g y := by
  funext i
  obtain ⟨s, l, rfl⟩ : ∃ (s : Fin 8192) (l : Fin 2048), i = (ix2 s l : S8192x2048.Idx) := ⟨i 0, i 1, eq_ix2 i⟩
  refine Eq.trans ?_ (scale_eq (err (row h s) (wvec g) (row y s) l))
  rw [← rErr_at]
  pointwise [rDy]

theorem rDx_eq (dy : FVec Ideal S8192x2048 .f32) : rDx h g dy = dxArr h g dy zeroArr := by
  rw [← ref_dx]
  funext i
  obtain ⟨s, l, rfl⟩ : ∃ (s : Fin 8192) (l : Fin 2048), i = (ix2 s l : S8192x2048.Idx) := ⟨i 0, i 1, eq_ix2 i⟩
  pointwise [rDx, rGrad]
  unfold zeroArr
  exact congrArg (fun u : EReal => u + (h (ix2 s l) : EReal) * rSlope h (rWeighted g dy) (ix2 s l) + rSlope h (rWeighted g dy) (ix2 s l) * h (ix2 s l))
    (zero_add _).symm

theorem ref_dx16 (dy : FVec Ideal S8192x2048 .f32) : truncf .bf16 (rDx h g dy) Cert.Reference11Ideal.Facts₀.bitsLt_bf16_f32 = dx16Arr h g dy zeroArr := by
  rw [rDx_eq]
  rfl

theorem ref_dxT (dy : FVec Ideal S8192x2048 .f32) :
    truncf .bf16 (transpose Cert.Reference11Ideal.S2048x8192 [1, 0] (rDx h g dy) transposes_S8192x2048_S2048x8192_1_0)
      Cert.Reference11Ideal.Facts₀.bitsLt_bf16_f32 = dxTArr h g dy zeroArr := by
  rw [rDx_eq]
  exact (congrArg (fun a : FVec Ideal S8192x2048 .f32 => (truncf .bf16 (transpose Cert.Reference11Ideal.S2048x8192 [1, 0] a transposes_S8192x2048_S2048x8192_1_0)
    Cert.Reference11Ideal.Facts₀.bitsLt_bf16_f32 : FVec Ideal S2048x8192 .bf16)) (ref_dx h g dy zeroArr).symm).trans (Cert.Kernel10Ideal.Hand.ref_dxT h g dy zeroArr)

theorem rLoss_at : rLoss h g y ix0 = (Ideal.ofBits .f32 0x3F000000#32
    * ∑ s : Fin 8192, Ideal.div (∑ k : Fin 2048, rErr h g y (ix2 s k) * rErr h g y (ix2 s k)) (Ideal.ofBits .f32 0x45000000#32) : EReal) := by
  pointwise [rLoss]

theorem ref_loss : rLoss h g y = lArr h g y := by
  funext i
  rw [show i = ix0 from Subsingleton.elim _ _, rLoss_at]
  have e : ∀ n : ℕ, lTerm h g y n = Ideal.ofBits .f32 0x3F000000#32 * (if hn : n < 8192 then
      Ideal.div (∑ k : Fin 2048, err (row h ⟨n, hn⟩) (wvec g) (row y ⟨n, hn⟩) k * err (row h ⟨n, hn⟩) (wvec g) (row y ⟨n, hn⟩) k) (Ideal.ofBits .f32 0x45000000#32) else 0) := by
    intro n
    unfold lTerm rowLoss
    by_cases hn : n < 8192
    · rw [dif_pos hn, dif_pos hn]
    · rw [dif_neg hn, dif_neg hn, mul_zero]
  unfold lArr
  simp only [e]
  rw [← half_sum, Finset.sum_range]
  refine congrArg (Ideal.ofBits .f32 0x3F000000#32 * ·) (Finset.sum_congr rfl fun s _ => ?_)
  rw [dif_pos s.isLt]
  simp only [rErr_at]

end Ref

end Cert.Kernel11Ideal.Hand

namespace Cert.Proof.Loss

open Idealize.ShloMosaic Idealize.ShloMosaic.TcCoe Idealize.SL.Sem Cert.Kernel11Ideal.Hand
open Cert.Kernel10Ideal.Hand (dxArr dx16Arr dxTArr gArr rWeight ref_dg)

/-- The loss, and its gradient at the last norm's rows, in three layouts, and at its weight. -/
theorem algebraic : Cert.algebraic_Kernel11Ideal_Reference11Ideal := by
  intro m g m' g' _ hagree
  refine ⟨fun c => dxArr (A0 m c) (A1 m c) (DY m c) zeroArr, fun c => dx16Arr (A0 m c) (A1 m c) (DY m c) zeroArr,
    fun c => dxTArr (A0 m c) (A1 m c) (DY m c) zeroArr, fun c => lArr (A0 m c) (A1 m c) (A2 m c), fun c => gArr (A0 m c) (DY m c), value m g, ?_⟩
  refine (θ_run Cert.Reference11Ideal.defs _ _).mono (fun r h c => ?_) (Cert.Reference11Ideal.Value.run m' g')
  have e0 := (hagree c).1
  have e1 := (hagree c).2.1
  have e2 := (hagree c).2.2
  have ed : DY m c = rDy (A0 m c) (A1 m c) (A2 m c) := (rDy_eq _ _ _).symm
  refine ⟨(h c).1.trans ?_, (h c).2.1.trans ?_, (h c).2.2.1.trans ?_, (h c).2.2.2.1.trans ?_, (h c).2.2.2.2.1.trans ?_, (h c).2.2.2.2.2⟩
  · beta_reduce
    rw [ed]
    unfold Cert.Reference11Ideal.Value.res_main_v51
    rw [e0, e1, e2]
    exact rDx_eq _ _ _
  · beta_reduce
    rw [ed]
    unfold Cert.Reference11Ideal.Value.res_main_v52
    rw [e0, e1, e2]
    exact ref_dx16 _ _ _
  · beta_reduce
    rw [ed]
    unfold Cert.Reference11Ideal.Value.res_main_v54
    rw [e0, e1, e2]
    exact ref_dxT _ _ _
  · rw [e0, e1, e2]
    exact ref_loss _ _ _
  · beta_reduce
    rw [ed, e0, e1, e2]
    exact ref_dg _ _

theorem frame_r : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run m ρ)

end Cert.Proof.Loss

end
-- ==== Proof.Update.lean ====
/- The optimiser's update of a weight's rows: the gradient summed over the parts, the step and the two moments. -/
module

public import proofs.«01_k».proof.Defs
public import proofs.«01_k».proof.Proof.NormRef
public import proofs.«01_k».proof.Proof.Gen.Kernel12Ideal.Frame
public import proofs.«01_k».proof.Proof.Gen.Kernel12.Frame
public import proofs.«01_k».proof.Proof.Gen.Reference12Ideal.Run

@[expose] public section

set_option maxRecDepth 16384

noncomputable section

namespace Cert.Kernel12Ideal.Hand

open Idealize.ShloMosaic Idealize.ShloMosaic.TcCoe Idealize.SL.Sem
open Idealize.ShloMosaic.Pipeline (Dat)
open Cert.Kernel12Ideal Cert.Kernel12Ideal.Gen
open Cert.Proof

/-! ## One entry: of its gradient, its weight and its two moments. -/

def mom (g m : EReal) : EReal := Ideal.ofBits .f32 0x3F666666#32 * m + Ideal.ofBits .f32 0x3DCCCCCD#32 * g
def vel (g v : EReal) : EReal := Ideal.ofBits .f32 0x3F7FBE77#32 * v + Ideal.ofBits .f32 0x3A83126F#32 * (g * g)
def step (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

section Arrays
variable (p : FVec Ideal S8x512x2048 .bf16) (w m v : FVec Ideal S512x2048 .f32)

def gradArr : FVec Ideal S512x2048 .f32 := fun i => (∑ q : Fin 8, (p (ix3 q (i 0) (i 1)) : EReal) : EReal)
def stepArr : FVec Ideal S512x2048 .f32 := fun i => step (gradArr p i) (w i) (m i) (v i)
def momArr : FVec Ideal S512x2048 .f32 := fun i => mom (gradArr p i) (m i)
def velArr : FVec Ideal S512x2048 .f32 := fun i => vel (gradArr p i) (v i)

end Arrays

/-! ## What a grid point leaves. -/

section Pay
variable (p : FVec Ideal S8x256x2048 .bf16) (w m v : FVec Ideal S256x2048 .f32) (r : Fin 256) (d : Fin 2048)

theorem grad_at : k0_pay5 (F := Ideal) p w m v (ix2 r d) = (∑ q : Fin 8, (p (ix3 q r d) : EReal) : EReal) := by
  rw [Fin.sum_univ_eight]
  pointwise [k0_pay5, k0_pay4]

theorem mom_at (g : FVec Ideal S256x2048 .f32) : k0_pay1 (F := Ideal) g m (Scalar.ofBits (F := Ideal) .f32 0x3F666666#32) (ix2 r d)
    = mom (g (ix2 r d)) (m (ix2 r d)) := by
  unfold mom
  pointwise [k0_pay1]

theorem vel_at (g : FVec Ideal S256x2048 .f32) : k0_pay2 (F := Ideal) g v (ix2 r d) = vel (g (ix2 r d)) (v (ix2 r d)) := by
  unfold vel
  pointwise [k0_pay2]

theorem step_at (g : FVec Ideal S256x2048 .f32) : k0_pay3 (F := Ideal) g m (Scalar.ofBits (F := Ideal) .f32 0x3F666666#32) v w (ix2 r d)
    = step (g (ix2 r d)) (w (ix2 r d)) (m (ix2 r d)) (v (ix2 r d)) := by
  unfold step
  rw [← mom_at, ← vel_at]
  pointwise [k0_pay3]

theorem out4_at : out0_4 (F := Ideal) p w m v = k0_pay5 (F := Ideal) p w m v := by
  unfold out0_4
  rw [View.canon_unit_zero zero_offsets]

theorem out5_at : out0_5 (F := Ideal) p w m v = k0_pay3 (F := Ideal) (k0_pay5 (F := Ideal) p w m v) m (Scalar.ofBits (F := Ideal) .f32 0x3F666666#32) v w := by
  unfold out0_5
  rw [View.canon_unit_zero zero_offsets]
  simp only [View.ld_unit_zero (S := S256x2048) zero_offsets]

theorem out6_at : out0_6 (F := Ideal) p w m v = k0_pay1 (F := Ideal) (k0_pay5 (F := Ideal) p w m v) m (Scalar.ofBits (F := Ideal) .f32 0x3F666666#32) := by
  unfold out0_6
  rw [View.canon_unit_zero zero_offsets]
  simp only [View.ld_unit_zero (S := S256x2048) zero_offsets]

theorem out7_at : out0_7 (F := Ideal) p w m v = k0_pay2 (F := Ideal) (k0_pay5 (F := Ideal) p w m v) v := by
  unfold out0_7
  rw [View.canon_unit_zero zero_offsets]
  simp only [View.ld_unit_zero (S := S256x2048) zero_offsets]

end Pay

/-! ## The arrays and the run. -/

variable (m : (ℓ : Loc nD τ sig) → Buf (Elt Ideal) ℓ) (c : Dev nD) (t : Fin cfg0.N)

abbrev A0 : FVec Ideal S8x512x2048 .bf16 := m ((c : Thread nD τ).loc main_arg0)
abbrev A1 : FVec Ideal S512x2048 .f32 := m ((c : Thread nD τ).loc main_arg1)
abbrev A2 : FVec Ideal S512x2048 .f32 := m ((c : Thread nD τ).loc main_arg2)
abbrev A3 : FVec Ideal S512x2048 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

def pos (r : Fin 256) : Fin 512 := ⟨t.val * 256 + r.val, by have : t.val < 2 := t.isLt; omega⟩

theorem blk0 (q : Fin 8) (r : Fin 256) (d : Fin 2048) : (iblk m c 0 t : FVec Ideal S8x256x2048 .bf16) (ix3 q r d) = A0 m c (ix3 q (pos t r) d) := by
  unfold pos
  blk_ext [iblk, V, idx t]
theorem blk1 (r : Fin 256) (d : Fin 2048) : (iblk m c 1 t : FVec Ideal S256x2048 .f32) (ix2 r d) = A1 m c (ix2 (pos t r) d) := by
  unfold pos
  blk_ext [iblk, V, idx t]
theorem blk2 (r : Fin 256) (d : Fin 2048) : (iblk m c 2 t : FVec Ideal S256x2048 .f32) (ix2 r d) = A2 m c (ix2 (pos t r) d) := by
  unfold pos
  blk_ext [iblk, V, idx t]
theorem blk3 (r : Fin 256) (d : Fin 2048) : (iblk m c 3 t : FVec Ideal S256x2048 .f32) (ix2 r d) = A3 m c (ix2 (pos t r) d) := by
  unfold pos
  blk_ext [iblk, V, idx t]

/-- A tile of the gradient. -/
theorem grad_blk (r : Fin 256) (d : Fin 2048) : k0_pay5 (F := Ideal) (iblk m c 0 t) (iblk m c 1 t) (iblk m c 2 t) (iblk m c 3 t) (ix2 r d)
    = gradArr (A0 m c) (ix2 (pos t r) d) := by
  refine (grad_at _ _ _ _ r d).trans ?_
  simp only [blk0]
  rfl

theorem final4 : (dats m 0 c).arrAt 4 cfg0.N = gradArr (A0 m c) := by
  refine (dats m 0 c).arrAt_eq_of_covers 4 _ (by decide +kernel) fun t hf y => ?_
  blk_simp
  rw [after0_4]
  obtain ⟨r, d, rfl⟩ : ∃ (r : Fin 256) (d : Fin 2048), y = (ix2 r d : S256x2048.Idx) := ⟨y 0, y 1, eq_ix2 y⟩
  have e0 : ((((View.whole main_v0_0).slice (win0_4.rect t)).emb (ix2 r d : S256x2048.Idx)) 0).val = (pos t r).val := by unfold pos; blk_simp [idx t]
  have e1 : ((((View.whole main_v0_0).slice (win0_4.rect t)).emb (ix2 r d : S256x2048.Idx)) 1).val = d.val := by blk_simp [idx t]
  refine (congrFun (out4_at _ _ _ _) _).trans ((grad_blk m c t r d).trans ?_)
  exact congrArg (gradArr (A0 m c)) ((congrArg₂ ix2 (Fin.ext e0.symm) (Fin.ext e1.symm)).trans (eq_ix2 _).symm)

theorem final5 : (dats m 0 c).arrAt 5 cfg0.N = stepArr (A0 m c) (A1 m c) (A2 m c) (A3 m c) := by
  refine (dats m 0 c).arrAt_eq_of_covers 5 _ (by decide +kernel) fun t hf y => ?_
  blk_simp
  rw [after0_5]
  obtain ⟨r, d, rfl⟩ : ∃ (r : Fin 256) (d : Fin 2048), y = (ix2 r d : S256x2048.Idx) := ⟨y 0, y 1, eq_ix2 y⟩
  have e0 : ((((View.whole main_v0_1).slice (win0_5.rect t)).emb (ix2 r d : S256x2048.Idx)) 0).val = (pos t r).val := by unfold pos; blk_simp [idx t]
  have e1 : ((((View.whole main_v0_1).slice (win0_5.rect t)).emb (ix2 r d : S256x2048.Idx)) 1).val = d.val := by blk_simp [idx t]
  refine (congrFun (out5_at _ _ _ _) _).trans ((step_at _ _ _ r d _).trans ?_)
  rw [grad_blk, blk1, blk2, blk3]
  exact congrArg (stepArr (A0 m c) (A1 m c) (A2 m c) (A3 m c)) ((congrArg₂ ix2 (Fin.ext e0.symm) (Fin.ext e1.symm)).trans (eq_ix2 _).symm)

theorem final6 : (dats m 0 c).arrAt 6 cfg0.N = momArr (A0 m c) (A2 m c) := by
  refine (dats m 0 c).arrAt_eq_of_covers 6 _ (by decide +kernel) fun t hf y => ?_
  blk_simp
  rw [after0_6]
  obtain ⟨r, d, rfl⟩ : ∃ (r : Fin 256) (d : Fin 2048), y = (ix2 r d : S256x2048.Idx) := ⟨y 0, y 1, eq_ix2 y⟩
  have e0 : ((((View.whole main_v0_2).slice (win0_6.rect t)).emb (ix2 r d : S256x2048.Idx)) 0).val = (pos t r).val := by unfold pos; blk_simp [idx t]
  have e1 : ((((View.whole main_v0_2).slice (win0_6.rect t)).emb (ix2 r d : S256x2048.Idx)) 1).val = d.val := by blk_simp [idx t]
  refine (congrFun (out6_at _ _ _ _) _).trans ((mom_at _ r d _).trans ?_)
  rw [grad_blk, blk2]
  exact congrArg (momArr (A0 m c) (A2 m c)) ((congrArg₂ ix2 (Fin.ext e0.symm) (Fin.ext e1.symm)).trans (eq_ix2 _).symm)

theorem final7 : (dats m 0 c).arrAt 7 cfg0.N = velArr (A0 m c) (A3 m c) := by
  refine (dats m 0 c).arrAt_eq_of_covers 7 _ (by decide +kernel) fun t hf y => ?_
  blk_simp
  rw [after0_7]
  obtain ⟨r, d, rfl⟩ : ∃ (r : Fin 256) (d : Fin 2048), y = (ix2 r d : S256x2048.Idx) := ⟨y 0, y 1, eq_ix2 y⟩
  have e0 : ((((View.whole main_v0_3).slice (win0_7.rect t)).emb (ix2 r d : S256x2048.Idx)) 0).val = (pos t r).val := by unfold pos; blk_simp [idx t]
  have e1 : ((((View.whole main_v0_3).slice (win0_7.rect t)).emb (ix2 r d : S256x2048.Idx)) 1).val = d.val := by blk_simp [idx t]
  refine (congrFun (out7_at _ _ _ _) _).trans ((vel_at _ r d _).trans ?_)
  rw [grad_blk, blk3]
  exact congrArg (velArr (A0 m c) (A3 m c)) ((congrArg₂ ix2 (Fin.ext e0.symm) (Fin.ext e1.symm)).trans (eq_ix2 _).symm)

/-- The kernel program's run: its four results and its arguments kept. -/
theorem value (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = gradArr (A0 m c)
      ∧ r.2.mem ((c : Thread nD τ).loc main_v0_1) = stepArr (A0 m c) (A1 m c) (A2 m c) (A3 m c)
      ∧ r.2.mem ((c : Thread nD τ).loc main_v0_2) = momArr (A0 m c) (A2 m c)
      ∧ r.2.mem ((c : Thread nD τ).loc main_v0_3) = velArr (A0 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨((h c).1 4).trans (final4 m c), ((h c).1 5).trans (final5 m c), ((h c).1 6).trans (final6 m c),
      ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

/-! ## The reference's terms. -/

section Ref
open Cert.Reference12Ideal.Facts₀
variable (p : FVec Ideal S8x512x2048 .bf16) (w m v : FVec Ideal S512x2048 .f32)

/-- One literal, at every entry. -/
abbrev rLit (b : BitVec 32) : FVec Ideal S512x2048 .f32 :=
  broadcastInDim Cert.Reference12Ideal.S512x2048 ![] bcast_S_S512x2048 (constant Cert.Reference12Ideal.S_ .f32 b)

def rGrad : FVec Ideal S512x2048 .f32 :=
  Host.reduceAdd (extf .f32 p Cert.Reference12Ideal.Facts₀.bitsLt_bf16_f32) (constant Cert.Reference12Ideal.S_ .f32 0x00000000#32) reducesTo_S8x512x2048_S512x2048_d0 h_S_
def rMom : FVec Ideal S512x2048 .f32 := addf (mulf (rLit 0x3F666666#32) m) (mulf (rLit 0x3DCCCCCD#32) (rGrad p))
def rVel : FVec Ideal S512x2048 .f32 := addf (mulf (rLit 0x3F7FBE77#32) v) (mulf (rLit 0x3A83126F#32) (mulf (rGrad p) (rGrad p)))
def rStep : FVec Ideal S512x2048 .f32 :=
  mulf (rLit 0xBA83126F#32) (addf (Host.divf (Host.divf (rMom p m) (rLit 0x3F26BD02#32))
    (addf (Host.sqrt (Host.divf (rVel p v) (rLit 0x3C231ACC#32))) (rLit 0x322BCC77#32))) (mulf (rLit 0x3C23D70A#32) w))

theorem ref_grad : rGrad p = gradArr p := by
  funext i
  obtain ⟨s, l, rfl⟩ : ∃ (s : Fin 512) (l : Fin 2048), i = (ix2 s l : S512x2048.Idx) := ⟨i 0, i 1, eq_ix2 i⟩
  unfold gradArr
  pointwise [rGrad]

theorem ref_mom : rMom p m = momArr p m := by
  funext i
  obtain ⟨s, l, rfl⟩ : ∃ (s : Fin 512) (l : Fin 2048), i = (ix2 s l : S512x2048.Idx) := ⟨i 0, i 1, eq_ix2 i⟩
  unfold momArr mom
  rw [← ref_grad]
  pointwise [rMom]

theorem ref_vel : rVel p v = velArr p v := by
  funext i
  obtain ⟨s, l, rfl⟩ : ∃ (s : Fin 512) (l : Fin 2048), i = (ix2 s l : S512x2048.Idx) := ⟨i 0, i 1, eq_ix2 i⟩
  unfold velArr vel
  rw [← ref_grad]
  pointwise [rVel]

theorem ref_step : rStep p w m v = stepArr p w m v := by
  funext i
  obtain ⟨s, l, rfl⟩ : ∃ (s : Fin 512) (l : Fin 2048), i = (ix2 s l : S512x2048.Idx) := ⟨i 0, i 1, eq_ix2 i⟩
  have e1 : mom (gradArr p (ix2 s l)) (m (ix2 s l)) = rMom p m (ix2 s l) := (congrFun (ref_mom p m) _).symm
  have e2 : vel (gradArr p (ix2 s l)) (v (ix2 s l)) = rVel p v (ix2 s l) := (congrFun (ref_vel p v) _).symm
  unfold stepArr step
  rw [e1, e2]
  pointwise [rStep]

end Ref

end Cert.Kernel12Ideal.Hand

namespace Cert.Proof.Update

open Idealize.ShloMosaic Idealize.ShloMosaic.TcCoe Idealize.SL.Sem Cert.Kernel12Ideal.Hand

/-- The update: the summed gradient, the step, and the two moments. -/
theorem algebraic : Cert.algebraic_Kernel12Ideal_Reference12Ideal := by
  intro m g m' g' _ hagree
  refine ⟨fun c => gradArr (A0 m c), fun c => stepArr (A0 m c) (A1 m c) (A2 m c) (A3 m c), fun c => momArr (A0 m c) (A2 m c),
    fun c => velArr (A0 m c) (A3 m c), value m g, ?_⟩
  refine (θ_run Cert.Reference12Ideal.defs _ _).mono (fun r h c => ?_) (Cert.Reference12Ideal.Value.run m' g')
  have e0 := (hagree c).1
  have e1 := (hagree c).2.1
  have e2 := (hagree c).2.2.1
  have e3 := (hagree c).2.2.2
  refine ⟨(h c).1.trans ?_, (h c).2.1.trans ?_, (h c).2.2.1.trans ?_, (h c).2.2.2.1.trans ?_, (h c).2.2.2.2⟩
  · rw [e0]
    exact ref_grad _
  · rw [e0, e1, e2, e3]
    exact ref_step _ _ _ _
  · rw [e0, e2]
    exact ref_mom _ _
  · rw [e0, e3]
    exact ref_vel _ _

theorem frame_r : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

end Cert.Proof.Update

end
-- ==== Proof.NormFwd.lean ====
/- The norm forward: rows and their transpose. -/
module

public import proofs.«01_k».proof.Defs
public import proofs.«01_k».proof.Proof.NormRef
public import proofs.«01_k».proof.Proof.Gen.Kernel13Ideal.Frame
public import proofs.«01_k».proof.Proof.Gen.Kernel13.Frame
public import proofs.«01_k».proof.Proof.Gen.Reference13Ideal.Run

@[expose] public section

set_option maxRecDepth 16384

noncomputable section

namespace Cert.Kernel13Ideal.Hand

open Idealize.ShloMosaic Idealize.ShloMosaic.TcCoe Idealize.SL.Sem
open Idealize.ShloMosaic.Pipeline (Dat)
open Cert.Kernel13Ideal Cert.Kernel13Ideal.Gen
open Cert.Kernel10Ideal.Hand (rowScale row rScale rScale_at)
open Cert.Proof

/-- The normed rows: every entry times its row's scale and its column's weight. -/
def yArr (h : FVec Ideal S8192x2048 .f32) (g : FVec Ideal S1x2048 .f32) : FVec Ideal S8192x2048 .bf16 :=
  fun i => (h i : EReal) * rowScale (row h (i 0)) * g (ix2 0 (i 1))
def yTArr (h : FVec Ideal S8192x2048 .f32) (g : FVec Ideal S1x2048 .f32) : FVec Ideal S2048x8192 .bf16 :=
  fun i => (h (ix2 (i 1) (i 0)) : EReal) * rowScale (row h (i 1)) * g (ix2 0 (i 0))

/-! ## What a grid point leaves. -/

section Pay
variable (x : FVec Ideal S512x2048 .f32) (g : FVec Ideal S1x2048 .f32) (r : Fin 512) (d : Fin 2048)

theorem y_at : k0_pay2 (F := Ideal) x g (ix2 r d) = ((x (ix2 r d) : EReal) * rowScale (fun k => x (ix2 r k)) * g (ix2 0 d) : EReal) := by
  unfold rowScale
  pointwise [k0_pay2, k0_pay1]

theorem yT_at : k0_pay3 (F := Ideal) x g (ix2 d r) = ((x (ix2 r d) : EReal) * rowScale (fun k => x (ix2 r k)) * g (ix2 0 d) : EReal) := by
  unfold rowScale
  pointwise [k0_pay3, k0_pay1]

theorem out2_at : out0_2 (F := Ideal) x g = k0_pay2 (F := Ideal) x g := by
  unfold out0_2
  rw [View.canon_unit_zero zero_offsets, View.ld_unit_zero (S := S512x2048) zero_offsets, View.ld_unit_zero (S := S1x2048) zero_offsets]

theorem out3_at : out0_3 (F := Ideal) x g = k0_pay3 (F := Ideal) x g := by
  unfold out0_3
  rw [View.canon_unit_zero zero_offsets, View.ld_unit_zero (S := S512x2048) zero_offsets, View.ld_unit_zero (S := S1x2048) zero_offsets]

end Pay

/-! ## The arrays and the run. -/

variable (m : (ℓ : Loc nD τ sig) → Buf (Elt Ideal) ℓ) (c : Dev nD) (t : Fin cfg0.N)

abbrev A0 : FVec Ideal S8192x2048 .f32 := m ((c : Thread nD τ).loc main_arg0)
abbrev A1 : FVec Ideal S1x2048 .f32 := m ((c : Thread nD τ).loc main_arg1)

theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

def pos (r : Fin 512) : Fin 8192 := ⟨t.val * 512 + r.val, by have : t.val < 16 := t.isLt; omega⟩

theorem blk0 (r : Fin 512) (d : Fin 2048) : (iblk m c 0 t : FVec Ideal S512x2048 .f32) (ix2 r d) = A0 m c (ix2 (pos t r) d) := by
  unfold pos
  blk_ext [iblk, V, idx t]
theorem blk1 (d : Fin 2048) : (iblk m c 1 t : FVec Ideal S1x2048 .f32) (ix2 0 d) = A1 m c (ix2 0 d) := by
  blk_ext [iblk, V, idx t]

theorem final2 : (dats m 0 c).arrAt 2 cfg0.N = yArr (A0 m c) (A1 m c) := by
  refine (dats m 0 c).arrAt_eq_of_covers 2 _ (by decide +kernel) fun t hf y => ?_
  blk_simp
  rw [after0_2]
  obtain ⟨r, d, rfl⟩ : ∃ (r : Fin 512) (d : Fin 2048), y = (ix2 r d : S512x2048.Idx) := ⟨y 0, y 1, eq_ix2 y⟩
  have e0 : ((((View.whole main_v0_0).slice (win0_2.rect t)).emb (ix2 r d : S512x2048.Idx)) 0).val = (pos t r).val := by unfold pos; blk_simp [idx t]
  have e1 : ((((View.whole main_v0_0).slice (win0_2.rect t)).emb (ix2 r d : S512x2048.Idx)) 1).val = d.val := by blk_simp [idx t]
  refine (congrFun (out2_at _ _) _).trans ((y_at _ _ r d).trans ?_)
  simp only [blk0, blk1]
  exact congrArg (yArr (A0 m c) (A1 m c)) ((congrArg₂ ix2 (Fin.ext e0.symm) (Fin.ext e1.symm)).trans (eq_ix2 _).symm)

theorem final3 : (dats m 0 c).arrAt 3 cfg0.N = yTArr (A0 m c) (A1 m c) := by
  refine (dats m 0 c).arrAt_eq_of_covers 3 _ (by decide +kernel) fun t hf y => ?_
  blk_simp
  rw [after0_3]
  obtain ⟨d, r, rfl⟩ : ∃ (d : Fin 2048) (r : Fin 512), y = (ix2 d r : S2048x512.Idx) := ⟨y 0, y 1, eq_ix2 y⟩
  have e0 : ((((View.whole main_v0_1).slice (win0_3.rect t)).emb (ix2 d r : S2048x512.Idx)) 0).val = d.val := by blk_simp [idx t]
  have e1 : ((((View.whole main_v0_1).slice (win0_3.rect t)).emb (ix2 d r : S2048x512.Idx)) 1).val = (pos t r).val := by unfold pos; blk_simp [idx t]
  refine (congrFun (out3_at _ _) _).trans ((yT_at _ _ r d).trans ?_)
  simp only [blk0, blk1]
  exact congrArg (yTArr (A0 m c) (A1 m c)) ((congrArg₂ ix2 (Fin.ext e0.symm) (Fin.ext e1.symm)).trans (eq_ix2 _).symm)

/-- The kernel program's run: its two results and its arguments kept. -/
theorem value (ρ : Dev nD → PrngReg) :
    θ_run (defs (F := Ideal)) (onTc (τ := τ) (main (F := Ideal))) ⟨m, fun _ => 0, ρ⟩ (fun r => ∀ c : Dev nD,
      r.2.mem ((c : Thread nD τ).loc main_v0_0) = yArr (A0 m c) (A1 m c)
      ∧ r.2.mem ((c : Thread nD τ).loc main_v0_1) = yTArr (A0 m c) (A1 m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-! ## The reference's terms. -/

section Ref
open Cert.Reference13Ideal.Facts₀
variable (h : FVec Ideal S8192x2048 .f32) (g : FVec Ideal S1x2048 .f32)

def rY : FVec Ideal S8192x2048 .f32 :=
  mulf (mulf h (broadcastInDim Cert.Reference13Ideal.S8192x2048 ![0, 1] bcast_S8192x1_S8192x2048_0_1 (rScale h)))
    (broadcastInDim Cert.Reference13Ideal.S8192x2048 ![0, 1] bcast_S1x2048_S8192x2048_0_1
      (broadcastInDim Cert.Reference13Ideal.S1x2048 ![1] bcast_S2048_S1x2048_1 (shapeCast Cert.Reference13Ideal.S2048 g shapeCasts_S1x2048_S2048)))

theorem rY_at (s : Fin 8192) (l : Fin 2048) : rY h g (ix2 s l) = ((h (ix2 s l) : EReal) * rowScale (row h s) * g (ix2 0 l) : EReal) := by
  rw [← rScale_at]
  pointwise [rY]

theorem ref_y : truncf .bf16 (rY h g) Cert.Reference13Ideal.Facts₀.bitsLt_bf16_f32 = yArr h g := by
  funext i
  obtain ⟨s, l, rfl⟩ : ∃ (s : Fin 8192) (l : Fin 2048), i = (ix2 s l : S8192x2048.Idx) := ⟨i 0, i 1, eq_ix2 i⟩
  exact rY_at h g s l

theorem ref_yT : truncf .bf16 (transpose Cert.Reference13Ideal.S2048x8192 [1, 0] (rY h g) transposes_S8192x2048_S2048x8192_1_0)
    Cert.Reference13Ideal.Facts₀.bitsLt_bf16_f32 = yTArr h g := by
  funext i
  obtain ⟨l, s, rfl⟩ : ∃ (l : Fin 2048) (s : Fin 8192), i = (ix2 l s : S2048x8192.Idx) := ⟨i 0, i 1, eq_ix2 i⟩
  refine Eq.trans ?_ (rY_at h g s l)
  pointwise

end Ref

end Cert.Kernel13Ideal.Hand

namespace Cert.Proof.NormFwd

open Idealize.ShloMosaic Idealize.ShloMosaic.TcCoe Idealize.SL.Sem Cert.Kernel13Ideal.Hand

/-- The norm forward: the rows and their transpose. -/
theorem algebraic : Cert.algebraic_Kernel13Ideal_Reference13Ideal := by
  intro m g m' g' _ hagree
  refine ⟨fun c => yArr (A0 m c) (A1 m c), fun c => yTArr (A0 m c) (A1 m c), value m g, ?_⟩
  refine (θ_run Cert.Reference13Ideal.defs _ _).mono (fun r h c => ?_) (Cert.Reference13Ideal.Value.run m' g')
  have e0 := (hagree c).1
  have e1 := (hagree c).2
  refine ⟨(h c).1.trans ?_, (h c).2.1.trans ?_, (h c).2.2⟩
  · rw [e0, e1]
    exact ref_y _ _
  · rw [e0, e1]
    exact ref_yT _ _

theorem frame_r : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run m ρ)

end Cert.Proof.NormFwd

end
-- ==== Proof.lean ====
module

public import proofs.«01_k».proof.Defs
public import proofs.«01_k».proof.Proof.Frames
public import proofs.«01_k».proof.Proof.Ref
public import proofs.«01_k».proof.Proof.Algebra
public import proofs.«01_k».proof.Proof.Products
public import proofs.«01_k».proof.Proof.Fwd.Claims
public import proofs.«01_k».proof.Proof.Gate
public import proofs.«01_k».proof.Proof.NormRef
public import proofs.«01_k».proof.Proof.LossRef
public import proofs.«01_k».proof.Proof.Update
public import proofs.«01_k».proof.Proof.NormFwd
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Hand.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Hand.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Finite.facts, Gate.finite, Fwd.finite,
    Frames.frame_p, Frames.frame_pi, Algebra.frame_pi_finite, Cert.ReferenceIdeal.Hand.frame_ri, Algebra.frame_ri_finite,
    fun m ρ _ => Cert.Kernel2.Gen.frame m ρ, fun m ρ _ => Cert.Kernel2Ideal.Gen.frame m ρ, fun m ρ _ => Cert.Kernel2Ideal.Gen.frame m ρ,
    Gate.frame_r, fun m ρ _ => Gate.frame_r m ρ trivial,
    fun m ρ _ => Cert.Kernel3.Gen.frame m ρ, fun m ρ _ => Cert.Kernel3Ideal.Gen.frame m ρ, Products.frame_r3,
    fun m ρ _ => Cert.Kernel4.Gen.frame m ρ, fun m ρ _ => Cert.Kernel4Ideal.Gen.frame m ρ, Products.frame_r4,
    fun m ρ _ => Cert.Kernel5.Gen.frame m ρ, fun m ρ _ => Cert.Kernel5Ideal.Gen.frame m ρ, Products.frame_r5,
    fun m ρ _ => Cert.Kernel6.Gen.frame m ρ, fun m ρ _ => Cert.Kernel6Ideal.Gen.frame m ρ, Products.frame_r6,
    Fwd.frame_p, Fwd.frame_pi, Fwd.frame_pi_finite, Cert.Reference7Ideal.Hand.frame, Fwd.frame_ri_finite,
    fun m ρ _ => Cert.Kernel8.Gen.frame m ρ, fun m ρ _ => Cert.Kernel8Ideal.Gen.frame m ρ, Products.frame_r8,
    fun m ρ _ => Cert.Kernel9.Gen.frame m ρ, fun m ρ _ => Cert.Kernel9Ideal.Gen.frame m ρ, Products.frame_r9,
    fun m ρ _ => Cert.Kernel10.Gen.frame m ρ, fun m ρ _ => Cert.Kernel10Ideal.Gen.frame m ρ, Norm.frame_r,
    fun m ρ _ => Cert.Kernel11.Gen.frame m ρ, fun m ρ _ => Cert.Kernel11Ideal.Gen.frame m ρ, Loss.frame_r,
    fun m ρ _ => Cert.Kernel12.Gen.frame m ρ, fun m ρ _ => Cert.Kernel12Ideal.Gen.frame m ρ, Update.frame_r,
    fun m ρ _ => Cert.Kernel13.Gen.frame m ρ, fun m ρ _ => Cert.Kernel13Ideal.Gen.frame m ρ, NormFwd.frame_r,
    Frames.preserves, Algebra.algebraic, trivial, Gate.algebraic,
    trivial, Products.algebraic3, trivial, Products.algebraic4, trivial, Products.algebraic5, trivial, Products.algebraic6,
    Fwd.preserves, Fwd.algebraic, trivial, Products.algebraic8, trivial, Products.algebraic9, trivial, Norm.algebraic,
    trivial, Loss.algebraic, trivial, Update.algebraic, trivial, NormFwd.algebraic⟩

end Cert.Proof

end
